-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_NormSRefIdeal (m : (ℓ : Loc Cert.NormSRefIdeal.nD Cert.NormSRefIdeal.τ Cert.NormSRefIdeal.sig) → Buf (Elt Ideal) ℓ) : Prop :=
  True

def Pre_WinS (m : (ℓ : Loc Cert.WinS.nD Cert.WinS.τ Cert.WinS.sig) → Buf (Elt Bits) ℓ) : Prop :=
  True

def Pre_WinSIdeal (m : (ℓ : Loc Cert.WinSIdeal.nD Cert.WinSIdeal.τ Cert.WinSIdeal.sig) → Buf (Elt Ideal) ℓ) : Prop :=
  True

def Pre_WinSRefIdeal (m : (ℓ : Loc Cert.WinSRefIdeal.nD Cert.WinSRefIdeal.τ Cert.WinSRefIdeal.sig) → Buf (Elt Ideal) ℓ) : Prop :=
  True

def Pre_WoutS (m : (ℓ : Loc Cert.WoutS.nD Cert.WoutS.τ Cert.WoutS.sig) → Buf (Elt Bits) ℓ) : Prop :=
  True

def Pre_WoutSIdeal (m : (ℓ : Loc Cert.WoutSIdeal.nD Cert.WoutSIdeal.τ Cert.WoutSIdeal.sig) → Buf (Elt Ideal) ℓ) : Prop :=
  True

def Pre_WoutSRefIdeal (m : (ℓ : Loc Cert.WoutSRefIdeal.nD Cert.WoutSRefIdeal.τ Cert.WoutSRefIdeal.sig) → Buf (Elt Ideal) ℓ) : Prop :=
  True

def Pre_DownS (m : (ℓ : Loc Cert.DownS.nD Cert.DownS.τ Cert.DownS.sig) → Buf (Elt Bits) ℓ) : Prop :=
  True

def Pre_DownSIdeal (m : (ℓ : Loc Cert.DownSIdeal.nD Cert.DownSIdeal.τ Cert.DownSIdeal.sig) → Buf (Elt Ideal) ℓ) : Prop :=
  True

def Pre_DownSRefIdeal (m : (ℓ : Loc Cert.DownSRefIdeal.nD Cert.DownSRefIdeal.τ Cert.DownSRefIdeal.sig) → Buf (Elt Ideal) ℓ) : Prop :=
  True

def Pre_SguS (m : (ℓ : Loc Cert.SguS.nD Cert.SguS.τ Cert.SguS.sig) → Buf (Elt Bits) ℓ) : Prop :=
  True

def Pre_SguSIdeal (m : (ℓ : Loc Cert.SguSIdeal.nD Cert.SguSIdeal.τ Cert.SguSIdeal.sig) → Buf (Elt Ideal) ℓ) : Prop :=
  True

def Pre_SguSRefIdeal (m : (ℓ : Loc Cert.SguSRefIdeal.nD Cert.SguSRefIdeal.τ Cert.SguSRefIdeal.sig) → Buf (Elt Ideal) ℓ) : Prop :=
  True

def Pre_UpS (m : (ℓ : Loc Cert.UpS.nD Cert.UpS.τ Cert.UpS.sig) → Buf (Elt Bits) ℓ) : Prop :=
  True

def Pre_UpSIdeal (m : (ℓ : Loc Cert.UpSIdeal.nD Cert.UpSIdeal.τ Cert.UpSIdeal.sig) → Buf (Elt Ideal) ℓ) : Prop :=
  True

def Pre_UpSRefIdeal (m : (ℓ : Loc Cert.UpSRefIdeal.nD Cert.UpSRefIdeal.τ Cert.UpSRefIdeal.sig) → Buf (Elt Ideal) ℓ) : Prop :=
  True

def Pre_GateS (m : (ℓ : Loc Cert.GateS.nD Cert.GateS.τ Cert.GateS.sig) → Buf (Elt Bits) ℓ) : Prop :=
  True

def Pre_GateSIdeal (m : (ℓ : Loc Cert.GateSIdeal.nD Cert.GateSIdeal.τ Cert.GateSIdeal.sig) → Buf (Elt Ideal) ℓ) : Prop :=
  True

def Pre_GateSRefIdeal (m : (ℓ : Loc Cert.GateSRefIdeal.nD Cert.GateSRefIdeal.τ Cert.GateSRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3)
      ∧ r.2.mem ((c.tc : Thread Cert.Wout.nD Cert.Wout.τ).loc Cert.Wout.main_arg4) = m ((c.tc : Thread Cert.Wout.nD Cert.Wout.τ).loc Cert.Wout.main_arg4))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
      ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3)
      ∧ r.2.mem ((c.tc : Thread Cert.WoutRefIdeal.nD Cert.WoutRefIdeal.τ).loc Cert.WoutRefIdeal.main_arg4) = m ((c.tc : Thread Cert.WoutRefIdeal.nD Cert.WoutRefIdeal.τ).loc Cert.WoutRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_NormSRefIdeal [hNormSRefIdeal : Cert.NormSRefIdeal.Facts] : Prop :=
  ∀ (m : (ℓ : Loc Cert.NormSRefIdeal.nD Cert.NormSRefIdeal.τ Cert.NormSRefIdeal.sig) → Buf (Elt Ideal) ℓ) (g : Dev Cert.NormSRefIdeal.nD → PrngReg), Pre_NormSRefIdeal m →
    θ_run (Cert.NormSRefIdeal.defs (F := Ideal)) (onTc (τ := Cert.NormSRefIdeal.τ) (Cert.NormSRefIdeal.main (F := Ideal))) ⟨m, fun _ => 0, g⟩ (fun r => (∀ c : Dev Cert.NormSRefIdeal.nD,
      r.2.mem ((c.tc : Thread Cert.NormSRefIdeal.nD Cert.NormSRefIdeal.τ).loc Cert.NormSRefIdeal.main_arg0) = m ((c.tc : Thread Cert.NormSRefIdeal.nD Cert.NormSRefIdeal.τ).loc Cert.NormSRefIdeal.main_arg0)
      ∧ r.2.mem ((c.tc : Thread Cert.NormSRefIdeal.nD Cert.NormSRefIdeal.τ).loc Cert.NormSRefIdeal.main_arg1) = m ((c.tc : Thread Cert.NormSRefIdeal.nD Cert.NormSRefIdeal.τ).loc Cert.NormSRefIdeal.main_arg1))
      ∧ r.2.sem = fun _ => 0)

def quiescent_WinS [hWinS : Cert.WinS.Facts] : Prop :=
  ∀ (m : (ℓ : Loc Cert.WinS.nD Cert.WinS.τ Cert.WinS.sig) → Buf (Elt Bits) ℓ) (g : Dev Cert.WinS.nD → PrngReg), Pre_WinS m →
    θ_run (Cert.WinS.defs (F := Bits)) (onTc (τ := Cert.WinS.τ) (Cert.WinS.main (F := Bits))) ⟨m, fun _ => 0, g⟩ (fun r => (∀ c : Dev Cert.WinS.nD,
      r.2.mem ((c.tc : Thread Cert.WinS.nD Cert.WinS.τ).loc Cert.WinS.main_arg0) = m ((c.tc : Thread Cert.WinS.nD Cert.WinS.τ).loc Cert.WinS.main_arg0)
      ∧ r.2.mem ((c.tc : Thread Cert.WinS.nD Cert.WinS.τ).loc Cert.WinS.main_arg1) = m ((c.tc : Thread Cert.WinS.nD Cert.WinS.τ).loc Cert.WinS.main_arg1))
      ∧ r.2.sem = fun _ => 0)

def quiescent_WinSIdeal [hWinSIdeal : Cert.WinSIdeal.Facts] : Prop :=
  ∀ (m : (ℓ : Loc Cert.WinSIdeal.nD Cert.WinSIdeal.τ Cert.WinSIdeal.sig) → Buf (Elt Ideal) ℓ) (g : Dev Cert.WinSIdeal.nD → PrngReg), Pre_WinSIdeal m →
    θ_run (Cert.WinSIdeal.defs (F := Ideal)) (onTc (τ := Cert.WinSIdeal.τ) (Cert.WinSIdeal.main (F := Ideal))) ⟨m, fun _ => 0, g⟩ (fun r => (∀ c : Dev Cert.WinSIdeal.nD,
      r.2.mem ((c.tc : Thread Cert.WinSIdeal.nD Cert.WinSIdeal.τ).loc Cert.WinSIdeal.main_arg0) = m ((c.tc : Thread Cert.WinSIdeal.nD Cert.WinSIdeal.τ).loc Cert.WinSIdeal.main_arg0)
      ∧ r.2.mem ((c.tc : Thread Cert.WinSIdeal.nD Cert.WinSIdeal.τ).loc Cert.WinSIdeal.main_arg1) = m ((c.tc : Thread Cert.WinSIdeal.nD Cert.WinSIdeal.τ).loc Cert.WinSIdeal.main_arg1))
      ∧ r.2.sem = fun _ => 0)

def quiescent_WinSRefIdeal [hWinSRefIdeal : Cert.WinSRefIdeal.Facts] : Prop :=
  ∀ (m : (ℓ : Loc Cert.WinSRefIdeal.nD Cert.WinSRefIdeal.τ Cert.WinSRefIdeal.sig) → Buf (Elt Ideal) ℓ) (g : Dev Cert.WinSRefIdeal.nD → PrngReg), Pre_WinSRefIdeal m →
    θ_run (Cert.WinSRefIdeal.defs (F := Ideal)) (onTc (τ := Cert.WinSRefIdeal.τ) (Cert.WinSRefIdeal.main (F := Ideal))) ⟨m, fun _ => 0, g⟩ (fun r => (∀ c : Dev Cert.WinSRefIdeal.nD,
      r.2.mem ((c.tc : Thread Cert.WinSRefIdeal.nD Cert.WinSRefIdeal.τ).loc Cert.WinSRefIdeal.main_arg0) = m ((c.tc : Thread Cert.WinSRefIdeal.nD Cert.WinSRefIdeal.τ).loc Cert.WinSRefIdeal.main_arg0)
      ∧ r.2.mem ((c.tc : Thread Cert.WinSRefIdeal.nD Cert.WinSRefIdeal.τ).loc Cert.WinSRefIdeal.main_arg1) = m ((c.tc : Thread Cert.WinSRefIdeal.nD Cert.WinSRefIdeal.τ).loc Cert.WinSRefIdeal.main_arg1))
      ∧ r.2.sem = fun _ => 0)

def quiescent_WoutS [hWoutS : Cert.WoutS.Facts] : Prop :=
  ∀ (m : (ℓ : Loc Cert.WoutS.nD Cert.WoutS.τ Cert.WoutS.sig) → Buf (Elt Bits) ℓ) (g : Dev Cert.WoutS.nD → PrngReg), Pre_WoutS m →
    θ_run (Cert.WoutS.defs (F := Bits)) (onTc (τ := Cert.WoutS.τ) (Cert.WoutS.main (F := Bits))) ⟨m, fun _ => 0, g⟩ (fun r => (∀ c : Dev Cert.WoutS.nD,
      r.2.mem ((c.tc : Thread Cert.WoutS.nD Cert.WoutS.τ).loc Cert.WoutS.main_arg0) = m ((c.tc : Thread Cert.WoutS.nD Cert.WoutS.τ).loc Cert.WoutS.main_arg0)
      ∧ r.2.mem ((c.tc : Thread Cert.WoutS.nD Cert.WoutS.τ).loc Cert.WoutS.main_arg1) = m ((c.tc : Thread Cert.WoutS.nD Cert.WoutS.τ).loc Cert.WoutS.main_arg1)
      ∧ r.2.mem ((c.tc : Thread Cert.WoutS.nD Cert.WoutS.τ).loc Cert.WoutS.main_arg2) = m ((c.tc : Thread Cert.WoutS.nD Cert.WoutS.τ).loc Cert.WoutS.main_arg2)
      ∧ r.2.mem ((c.tc : Thread Cert.WoutS.nD Cert.WoutS.τ).loc Cert.WoutS.main_arg3) = m ((c.tc : Thread Cert.WoutS.nD Cert.WoutS.τ).loc Cert.WoutS.main_arg3)
      ∧ r.2.mem ((c.tc : Thread Cert.WoutS.nD Cert.WoutS.τ).loc Cert.WoutS.main_arg4) = m ((c.tc : Thread Cert.WoutS.nD Cert.WoutS.τ).loc Cert.WoutS.main_arg4))
      ∧ r.2.sem = fun _ => 0)

def quiescent_WoutSIdeal [hWoutSIdeal : Cert.WoutSIdeal.Facts] : Prop :=
  ∀ (m : (ℓ : Loc Cert.WoutSIdeal.nD Cert.WoutSIdeal.τ Cert.WoutSIdeal.sig) → Buf (Elt Ideal) ℓ) (g : Dev Cert.WoutSIdeal.nD → PrngReg), Pre_WoutSIdeal m →
    θ_run (Cert.WoutSIdeal.defs (F := Ideal)) (onTc (τ := Cert.WoutSIdeal.τ) (Cert.WoutSIdeal.main (F := Ideal))) ⟨m, fun _ => 0, g⟩ (fun r => (∀ c : Dev Cert.WoutSIdeal.nD,
      r.2.mem ((c.tc : Thread Cert.WoutSIdeal.nD Cert.WoutSIdeal.τ).loc Cert.WoutSIdeal.main_arg0) = m ((c.tc : Thread Cert.WoutSIdeal.nD Cert.WoutSIdeal.τ).loc Cert.WoutSIdeal.main_arg0)
      ∧ r.2.mem ((c.tc : Thread Cert.WoutSIdeal.nD Cert.WoutSIdeal.τ).loc Cert.WoutSIdeal.main_arg1) = m ((c.tc : Thread Cert.WoutSIdeal.nD Cert.WoutSIdeal.τ).loc Cert.WoutSIdeal.main_arg1)
      ∧ r.2.mem ((c.tc : Thread Cert.WoutSIdeal.nD Cert.WoutSIdeal.τ).loc Cert.WoutSIdeal.main_arg2) = m ((c.tc : Thread Cert.WoutSIdeal.nD Cert.WoutSIdeal.τ).loc Cert.WoutSIdeal.main_arg2)
      ∧ r.2.mem ((c.tc : Thread Cert.WoutSIdeal.nD Cert.WoutSIdeal.τ).loc Cert.WoutSIdeal.main_arg3) = m ((c.tc : Thread Cert.WoutSIdeal.nD Cert.WoutSIdeal.τ).loc Cert.WoutSIdeal.main_arg3)
      ∧ r.2.mem ((c.tc : Thread Cert.WoutSIdeal.nD Cert.WoutSIdeal.τ).loc Cert.WoutSIdeal.main_arg4) = m ((c.tc : Thread Cert.WoutSIdeal.nD Cert.WoutSIdeal.τ).loc Cert.WoutSIdeal.main_arg4))
      ∧ r.2.sem = fun _ => 0)

def quiescent_WoutSRefIdeal [hWoutSRefIdeal : Cert.WoutSRefIdeal.Facts] : Prop :=
  ∀ (m : (ℓ : Loc Cert.WoutSRefIdeal.nD Cert.WoutSRefIdeal.τ Cert.WoutSRefIdeal.sig) → Buf (Elt Ideal) ℓ) (g : Dev Cert.WoutSRefIdeal.nD → PrngReg), Pre_WoutSRefIdeal m →
    θ_run (Cert.WoutSRefIdeal.defs (F := Ideal)) (onTc (τ := Cert.WoutSRefIdeal.τ) (Cert.WoutSRefIdeal.main (F := Ideal))) ⟨m, fun _ => 0, g⟩ (fun r => (∀ c : Dev Cert.WoutSRefIdeal.nD,
      r.2.mem ((c.tc : Thread Cert.WoutSRefIdeal.nD Cert.WoutSRefIdeal.τ).loc Cert.WoutSRefIdeal.main_arg0) = m ((c.tc : Thread Cert.WoutSRefIdeal.nD Cert.WoutSRefIdeal.τ).loc Cert.WoutSRefIdeal.main_arg0)
      ∧ r.2.mem ((c.tc : Thread Cert.WoutSRefIdeal.nD Cert.WoutSRefIdeal.τ).loc Cert.WoutSRefIdeal.main_arg1) = m ((c.tc : Thread Cert.WoutSRefIdeal.nD Cert.WoutSRefIdeal.τ).loc Cert.WoutSRefIdeal.main_arg1)
      ∧ r.2.mem ((c.tc : Thread Cert.WoutSRefIdeal.nD Cert.WoutSRefIdeal.τ).loc Cert.WoutSRefIdeal.main_arg2) = m ((c.tc : Thread Cert.WoutSRefIdeal.nD Cert.WoutSRefIdeal.τ).loc Cert.WoutSRefIdeal.main_arg2)
      ∧ r.2.mem ((c.tc : Thread Cert.WoutSRefIdeal.nD Cert.WoutSRefIdeal.τ).loc Cert.WoutSRefIdeal.main_arg3) = m ((c.tc : Thread Cert.WoutSRefIdeal.nD Cert.WoutSRefIdeal.τ).loc Cert.WoutSRefIdeal.main_arg3)
      ∧ r.2.mem ((c.tc : Thread Cert.WoutSRefIdeal.nD Cert.WoutSRefIdeal.τ).loc Cert.WoutSRefIdeal.main_arg4) = m ((c.tc : Thread Cert.WoutSRefIdeal.nD Cert.WoutSRefIdeal.τ).loc Cert.WoutSRefIdeal.main_arg4))
      ∧ r.2.sem = fun _ => 0)

def quiescent_DownS [hDownS : Cert.DownS.Facts] : Prop :=
  ∀ (m : (ℓ : Loc Cert.DownS.nD Cert.DownS.τ Cert.DownS.sig) → Buf (Elt Bits) ℓ) (g : Dev Cert.DownS.nD → PrngReg), Pre_DownS m →
    θ_run (Cert.DownS.defs (F := Bits)) (onTc (τ := Cert.DownS.τ) (Cert.DownS.main (F := Bits))) ⟨m, fun _ => 0, g⟩ (fun r => (∀ c : Dev Cert.DownS.nD,
      r.2.mem ((c.tc : Thread Cert.DownS.nD Cert.DownS.τ).loc Cert.DownS.main_arg0) = m ((c.tc : Thread Cert.DownS.nD Cert.DownS.τ).loc Cert.DownS.main_arg0)
      ∧ r.2.mem ((c.tc : Thread Cert.DownS.nD Cert.DownS.τ).loc Cert.DownS.main_arg1) = m ((c.tc : Thread Cert.DownS.nD Cert.DownS.τ).loc Cert.DownS.main_arg1)
      ∧ r.2.mem ((c.tc : Thread Cert.DownS.nD Cert.DownS.τ).loc Cert.DownS.main_arg2) = m ((c.tc : Thread Cert.DownS.nD Cert.DownS.τ).loc Cert.DownS.main_arg2)
      ∧ r.2.mem ((c.tc : Thread Cert.DownS.nD Cert.DownS.τ).loc Cert.DownS.main_arg3) = m ((c.tc : Thread Cert.DownS.nD Cert.DownS.τ).loc Cert.DownS.main_arg3))
      ∧ r.2.sem = fun _ => 0)

def quiescent_DownSIdeal [hDownSIdeal : Cert.DownSIdeal.Facts] : Prop :=
  ∀ (m : (ℓ : Loc Cert.DownSIdeal.nD Cert.DownSIdeal.τ Cert.DownSIdeal.sig) → Buf (Elt Ideal) ℓ) (g : Dev Cert.DownSIdeal.nD → PrngReg), Pre_DownSIdeal m →
    θ_run (Cert.DownSIdeal.defs (F := Ideal)) (onTc (τ := Cert.DownSIdeal.τ) (Cert.DownSIdeal.main (F := Ideal))) ⟨m, fun _ => 0, g⟩ (fun r => (∀ c : Dev Cert.DownSIdeal.nD,
      r.2.mem ((c.tc : Thread Cert.DownSIdeal.nD Cert.DownSIdeal.τ).loc Cert.DownSIdeal.main_arg0) = m ((c.tc : Thread Cert.DownSIdeal.nD Cert.DownSIdeal.τ).loc Cert.DownSIdeal.main_arg0)
      ∧ r.2.mem ((c.tc : Thread Cert.DownSIdeal.nD Cert.DownSIdeal.τ).loc Cert.DownSIdeal.main_arg1) = m ((c.tc : Thread Cert.DownSIdeal.nD Cert.DownSIdeal.τ).loc Cert.DownSIdeal.main_arg1)
      ∧ r.2.mem ((c.tc : Thread Cert.DownSIdeal.nD Cert.DownSIdeal.τ).loc Cert.DownSIdeal.main_arg2) = m ((c.tc : Thread Cert.DownSIdeal.nD Cert.DownSIdeal.τ).loc Cert.DownSIdeal.main_arg2)
      ∧ r.2.mem ((c.tc : Thread Cert.DownSIdeal.nD Cert.DownSIdeal.τ).loc Cert.DownSIdeal.main_arg3) = m ((c.tc : Thread Cert.DownSIdeal.nD Cert.DownSIdeal.τ).loc Cert.DownSIdeal.main_arg3))
      ∧ r.2.sem = fun _ => 0)

def quiescent_DownSRefIdeal [hDownSRefIdeal : Cert.DownSRefIdeal.Facts] : Prop :=
  ∀ (m : (ℓ : Loc Cert.DownSRefIdeal.nD Cert.DownSRefIdeal.τ Cert.DownSRefIdeal.sig) → Buf (Elt Ideal) ℓ) (g : Dev Cert.DownSRefIdeal.nD → PrngReg), Pre_DownSRefIdeal m →
    θ_run (Cert.DownSRefIdeal.defs (F := Ideal)) (onTc (τ := Cert.DownSRefIdeal.τ) (Cert.DownSRefIdeal.main (F := Ideal))) ⟨m, fun _ => 0, g⟩ (fun r => (∀ c : Dev Cert.DownSRefIdeal.nD,
      r.2.mem ((c.tc : Thread Cert.DownSRefIdeal.nD Cert.DownSRefIdeal.τ).loc Cert.DownSRefIdeal.main_arg0) = m ((c.tc : Thread Cert.DownSRefIdeal.nD Cert.DownSRefIdeal.τ).loc Cert.DownSRefIdeal.main_arg0)
      ∧ r.2.mem ((c.tc : Thread Cert.DownSRefIdeal.nD Cert.DownSRefIdeal.τ).loc Cert.DownSRefIdeal.main_arg1) = m ((c.tc : Thread Cert.DownSRefIdeal.nD Cert.DownSRefIdeal.τ).loc Cert.DownSRefIdeal.main_arg1)
      ∧ r.2.mem ((c.tc : Thread Cert.DownSRefIdeal.nD Cert.DownSRefIdeal.τ).loc Cert.DownSRefIdeal.main_arg2) = m ((c.tc : Thread Cert.DownSRefIdeal.nD Cert.DownSRefIdeal.τ).loc Cert.DownSRefIdeal.main_arg2)
      ∧ r.2.mem ((c.tc : Thread Cert.DownSRefIdeal.nD Cert.DownSRefIdeal.τ).loc Cert.DownSRefIdeal.main_arg3) = m ((c.tc : Thread Cert.DownSRefIdeal.nD Cert.DownSRefIdeal.τ).loc Cert.DownSRefIdeal.main_arg3))
      ∧ r.2.sem = fun _ => 0)

def quiescent_SguS [hSguS : Cert.SguS.Facts] : Prop :=
  ∀ (m : (ℓ : Loc Cert.SguS.nD Cert.SguS.τ Cert.SguS.sig) → Buf (Elt Bits) ℓ) (g : Dev Cert.SguS.nD → PrngReg), Pre_SguS m →
    θ_run (Cert.SguS.defs (F := Bits)) (onTc (τ := Cert.SguS.τ) (Cert.SguS.main (F := Bits))) ⟨m, fun _ => 0, g⟩ (fun r => (∀ c : Dev Cert.SguS.nD,
      r.2.mem ((c.tc : Thread Cert.SguS.nD Cert.SguS.τ).loc Cert.SguS.main_arg0) = m ((c.tc : Thread Cert.SguS.nD Cert.SguS.τ).loc Cert.SguS.main_arg0)
      ∧ r.2.mem ((c.tc : Thread Cert.SguS.nD Cert.SguS.τ).loc Cert.SguS.main_arg1) = m ((c.tc : Thread Cert.SguS.nD Cert.SguS.τ).loc Cert.SguS.main_arg1)
      ∧ r.2.mem ((c.tc : Thread Cert.SguS.nD Cert.SguS.τ).loc Cert.SguS.main_arg2) = m ((c.tc : Thread Cert.SguS.nD Cert.SguS.τ).loc Cert.SguS.main_arg2)
      ∧ r.2.mem ((c.tc : Thread Cert.SguS.nD Cert.SguS.τ).loc Cert.SguS.main_arg3) = m ((c.tc : Thread Cert.SguS.nD Cert.SguS.τ).loc Cert.SguS.main_arg3)
      ∧ r.2.mem ((c.tc : Thread Cert.SguS.nD Cert.SguS.τ).loc Cert.SguS.main_arg4) = m ((c.tc : Thread Cert.SguS.nD Cert.SguS.τ).loc Cert.SguS.main_arg4))
      ∧ r.2.sem = fun _ => 0)

def quiescent_SguSIdeal [hSguSIdeal : Cert.SguSIdeal.Facts] : Prop :=
  ∀ (m : (ℓ : Loc Cert.SguSIdeal.nD Cert.SguSIdeal.τ Cert.SguSIdeal.sig) → Buf (Elt Ideal) ℓ) (g : Dev Cert.SguSIdeal.nD → PrngReg), Pre_SguSIdeal m →
    θ_run (Cert.SguSIdeal.defs (F := Ideal)) (onTc (τ := Cert.SguSIdeal.τ) (Cert.SguSIdeal.main (F := Ideal))) ⟨m, fun _ => 0, g⟩ (fun r => (∀ c : Dev Cert.SguSIdeal.nD,
      r.2.mem ((c.tc : Thread Cert.SguSIdeal.nD Cert.SguSIdeal.τ).loc Cert.SguSIdeal.main_arg0) = m ((c.tc : Thread Cert.SguSIdeal.nD Cert.SguSIdeal.τ).loc Cert.SguSIdeal.main_arg0)
      ∧ r.2.mem ((c.tc : Thread Cert.SguSIdeal.nD Cert.SguSIdeal.τ).loc Cert.SguSIdeal.main_arg1) = m ((c.tc : Thread Cert.SguSIdeal.nD Cert.SguSIdeal.τ).loc Cert.SguSIdeal.main_arg1)
      ∧ r.2.mem ((c.tc : Thread Cert.SguSIdeal.nD Cert.SguSIdeal.τ).loc Cert.SguSIdeal.main_arg2) = m ((c.tc : Thread Cert.SguSIdeal.nD Cert.SguSIdeal.τ).loc Cert.SguSIdeal.main_arg2)
      ∧ r.2.mem ((c.tc : Thread Cert.SguSIdeal.nD Cert.SguSIdeal.τ).loc Cert.SguSIdeal.main_arg3) = m ((c.tc : Thread Cert.SguSIdeal.nD Cert.SguSIdeal.τ).loc Cert.SguSIdeal.main_arg3)
      ∧ r.2.mem ((c.tc : Thread Cert.SguSIdeal.nD Cert.SguSIdeal.τ).loc Cert.SguSIdeal.main_arg4) = m ((c.tc : Thread Cert.SguSIdeal.nD Cert.SguSIdeal.τ).loc Cert.SguSIdeal.main_arg4))
      ∧ r.2.sem = fun _ => 0)

def quiescent_SguSRefIdeal [hSguSRefIdeal : Cert.SguSRefIdeal.Facts] : Prop :=
  ∀ (m : (ℓ : Loc Cert.SguSRefIdeal.nD Cert.SguSRefIdeal.τ Cert.SguSRefIdeal.sig) → Buf (Elt Ideal) ℓ) (g : Dev Cert.SguSRefIdeal.nD → PrngReg), Pre_SguSRefIdeal m →
    θ_run (Cert.SguSRefIdeal.defs (F := Ideal)) (onTc (τ := Cert.SguSRefIdeal.τ) (Cert.SguSRefIdeal.main (F := Ideal))) ⟨m, fun _ => 0, g⟩ (fun r => (∀ c : Dev Cert.SguSRefIdeal.nD,
      r.2.mem ((c.tc : Thread Cert.SguSRefIdeal.nD Cert.SguSRefIdeal.τ).loc Cert.SguSRefIdeal.main_arg0) = m ((c.tc : Thread Cert.SguSRefIdeal.nD Cert.SguSRefIdeal.τ).loc Cert.SguSRefIdeal.main_arg0)
      ∧ r.2.mem ((c.tc : Thread Cert.SguSRefIdeal.nD Cert.SguSRefIdeal.τ).loc Cert.SguSRefIdeal.main_arg1) = m ((c.tc : Thread Cert.SguSRefIdeal.nD Cert.SguSRefIdeal.τ).loc Cert.SguSRefIdeal.main_arg1)
      ∧ r.2.mem ((c.tc : Thread Cert.SguSRefIdeal.nD Cert.SguSRefIdeal.τ).loc Cert.SguSRefIdeal.main_arg2) = m ((c.tc : Thread Cert.SguSRefIdeal.nD Cert.SguSRefIdeal.τ).loc Cert.SguSRefIdeal.main_arg2)
      ∧ r.2.mem ((c.tc : Thread Cert.SguSRefIdeal.nD Cert.SguSRefIdeal.τ).loc Cert.SguSRefIdeal.main_arg3) = m ((c.tc : Thread Cert.SguSRefIdeal.nD Cert.SguSRefIdeal.τ).loc Cert.SguSRefIdeal.main_arg3)
      ∧ r.2.mem ((c.tc : Thread Cert.SguSRefIdeal.nD Cert.SguSRefIdeal.τ).loc Cert.SguSRefIdeal.main_arg4) = m ((c.tc : Thread Cert.SguSRefIdeal.nD Cert.SguSRefIdeal.τ).loc Cert.SguSRefIdeal.main_arg4))
      ∧ r.2.sem = fun _ => 0)

def quiescent_UpS [hUpS : Cert.UpS.Facts] : Prop :=
  ∀ (m : (ℓ : Loc Cert.UpS.nD Cert.UpS.τ Cert.UpS.sig) → Buf (Elt Bits) ℓ) (g : Dev Cert.UpS.nD → PrngReg), Pre_UpS m →
    θ_run (Cert.UpS.defs (F := Bits)) (onTc (τ := Cert.UpS.τ) (Cert.UpS.main (F := Bits))) ⟨m, fun _ => 0, g⟩ (fun r => (∀ c : Dev Cert.UpS.nD,
      r.2.mem ((c.tc : Thread Cert.UpS.nD Cert.UpS.τ).loc Cert.UpS.main_arg0) = m ((c.tc : Thread Cert.UpS.nD Cert.UpS.τ).loc Cert.UpS.main_arg0)
      ∧ r.2.mem ((c.tc : Thread Cert.UpS.nD Cert.UpS.τ).loc Cert.UpS.main_arg1) = m ((c.tc : Thread Cert.UpS.nD Cert.UpS.τ).loc Cert.UpS.main_arg1)
      ∧ r.2.mem ((c.tc : Thread Cert.UpS.nD Cert.UpS.τ).loc Cert.UpS.main_arg2) = m ((c.tc : Thread Cert.UpS.nD Cert.UpS.τ).loc Cert.UpS.main_arg2)
      ∧ r.2.mem ((c.tc : Thread Cert.UpS.nD Cert.UpS.τ).loc Cert.UpS.main_arg3) = m ((c.tc : Thread Cert.UpS.nD Cert.UpS.τ).loc Cert.UpS.main_arg3)
      ∧ r.2.mem ((c.tc : Thread Cert.UpS.nD Cert.UpS.τ).loc Cert.UpS.main_arg4) = m ((c.tc : Thread Cert.UpS.nD Cert.UpS.τ).loc Cert.UpS.main_arg4)
      ∧ r.2.mem ((c.tc : Thread Cert.UpS.nD Cert.UpS.τ).loc Cert.UpS.main_arg5) = m ((c.tc : Thread Cert.UpS.nD Cert.UpS.τ).loc Cert.UpS.main_arg5)
      ∧ r.2.mem ((c.tc : Thread Cert.UpS.nD Cert.UpS.τ).loc Cert.UpS.main_arg6) = m ((c.tc : Thread Cert.UpS.nD Cert.UpS.τ).loc Cert.UpS.main_arg6))
      ∧ r.2.sem = fun _ => 0)

def quiescent_UpSIdeal [hUpSIdeal : Cert.UpSIdeal.Facts] : Prop :=
  ∀ (m : (ℓ : Loc Cert.UpSIdeal.nD Cert.UpSIdeal.τ Cert.UpSIdeal.sig) → Buf (Elt Ideal) ℓ) (g : Dev Cert.UpSIdeal.nD → PrngReg), Pre_UpSIdeal m →
    θ_run (Cert.UpSIdeal.defs (F := Ideal)) (onTc (τ := Cert.UpSIdeal.τ) (Cert.UpSIdeal.main (F := Ideal))) ⟨m, fun _ => 0, g⟩ (fun r => (∀ c : Dev Cert.UpSIdeal.nD,
      r.2.mem ((c.tc : Thread Cert.UpSIdeal.nD Cert.UpSIdeal.τ).loc Cert.UpSIdeal.main_arg0) = m ((c.tc : Thread Cert.UpSIdeal.nD Cert.UpSIdeal.τ).loc Cert.UpSIdeal.main_arg0)
      ∧ r.2.mem ((c.tc : Thread Cert.UpSIdeal.nD Cert.UpSIdeal.τ).loc Cert.UpSIdeal.main_arg1) = m ((c.tc : Thread Cert.UpSIdeal.nD Cert.UpSIdeal.τ).loc Cert.UpSIdeal.main_arg1)
      ∧ r.2.mem ((c.tc : Thread Cert.UpSIdeal.nD Cert.UpSIdeal.τ).loc Cert.UpSIdeal.main_arg2) = m ((c.tc : Thread Cert.UpSIdeal.nD Cert.UpSIdeal.τ).loc Cert.UpSIdeal.main_arg2)
      ∧ r.2.mem ((c.tc : Thread Cert.UpSIdeal.nD Cert.UpSIdeal.τ).loc Cert.UpSIdeal.main_arg3) = m ((c.tc : Thread Cert.UpSIdeal.nD Cert.UpSIdeal.τ).loc Cert.UpSIdeal.main_arg3)
      ∧ r.2.mem ((c.tc : Thread Cert.UpSIdeal.nD Cert.UpSIdeal.τ).loc Cert.UpSIdeal.main_arg4) = m ((c.tc : Thread Cert.UpSIdeal.nD Cert.UpSIdeal.τ).loc Cert.UpSIdeal.main_arg4)
      ∧ r.2.mem ((c.tc : Thread Cert.UpSIdeal.nD Cert.UpSIdeal.τ).loc Cert.UpSIdeal.main_arg5) = m ((c.tc : Thread Cert.UpSIdeal.nD Cert.UpSIdeal.τ).loc Cert.UpSIdeal.main_arg5)
      ∧ r.2.mem ((c.tc : Thread Cert.UpSIdeal.nD Cert.UpSIdeal.τ).loc Cert.UpSIdeal.main_arg6) = m ((c.tc : Thread Cert.UpSIdeal.nD Cert.UpSIdeal.τ).loc Cert.UpSIdeal.main_arg6))
      ∧ r.2.sem = fun _ => 0)

def quiescent_UpSRefIdeal [hUpSRefIdeal : Cert.UpSRefIdeal.Facts] : Prop :=
  ∀ (m : (ℓ : Loc Cert.UpSRefIdeal.nD Cert.UpSRefIdeal.τ Cert.UpSRefIdeal.sig) → Buf (Elt Ideal) ℓ) (g : Dev Cert.UpSRefIdeal.nD → PrngReg), Pre_UpSRefIdeal m →
    θ_run (Cert.UpSRefIdeal.defs (F := Ideal)) (onTc (τ := Cert.UpSRefIdeal.τ) (Cert.UpSRefIdeal.main (F := Ideal))) ⟨m, fun _ => 0, g⟩ (fun r => (∀ c : Dev Cert.UpSRefIdeal.nD,
      r.2.mem ((c.tc : Thread Cert.UpSRefIdeal.nD Cert.UpSRefIdeal.τ).loc Cert.UpSRefIdeal.main_arg0) = m ((c.tc : Thread Cert.UpSRefIdeal.nD Cert.UpSRefIdeal.τ).loc Cert.UpSRefIdeal.main_arg0)
      ∧ r.2.mem ((c.tc : Thread Cert.UpSRefIdeal.nD Cert.UpSRefIdeal.τ).loc Cert.UpSRefIdeal.main_arg1) = m ((c.tc : Thread Cert.UpSRefIdeal.nD Cert.UpSRefIdeal.τ).loc Cert.UpSRefIdeal.main_arg1)
      ∧ r.2.mem ((c.tc : Thread Cert.UpSRefIdeal.nD Cert.UpSRefIdeal.τ).loc Cert.UpSRefIdeal.main_arg2) = m ((c.tc : Thread Cert.UpSRefIdeal.nD Cert.UpSRefIdeal.τ).loc Cert.UpSRefIdeal.main_arg2)
      ∧ r.2.mem ((c.tc : Thread Cert.UpSRefIdeal.nD Cert.UpSRefIdeal.τ).loc Cert.UpSRefIdeal.main_arg3) = m ((c.tc : Thread Cert.UpSRefIdeal.nD Cert.UpSRefIdeal.τ).loc Cert.UpSRefIdeal.main_arg3)
      ∧ r.2.mem ((c.tc : Thread Cert.UpSRefIdeal.nD Cert.UpSRefIdeal.τ).loc Cert.UpSRefIdeal.main_arg4) = m ((c.tc : Thread Cert.UpSRefIdeal.nD Cert.UpSRefIdeal.τ).loc Cert.UpSRefIdeal.main_arg4)
      ∧ r.2.mem ((c.tc : Thread Cert.UpSRefIdeal.nD Cert.UpSRefIdeal.τ).loc Cert.UpSRefIdeal.main_arg5) = m ((c.tc : Thread Cert.UpSRefIdeal.nD Cert.UpSRefIdeal.τ).loc Cert.UpSRefIdeal.main_arg5)
      ∧ r.2.mem ((c.tc : Thread Cert.UpSRefIdeal.nD Cert.UpSRefIdeal.τ).loc Cert.UpSRefIdeal.main_arg6) = m ((c.tc : Thread Cert.UpSRefIdeal.nD Cert.UpSRefIdeal.τ).loc Cert.UpSRefIdeal.main_arg6))
      ∧ r.2.sem = fun _ => 0)

def quiescent_GateS [hGateS : Cert.GateS.Facts] : Prop :=
  ∀ (m : (ℓ : Loc Cert.GateS.nD Cert.GateS.τ Cert.GateS.sig) → Buf (Elt Bits) ℓ) (g : Dev Cert.GateS.nD → PrngReg), Pre_GateS m →
    θ_run (Cert.GateS.defs (F := Bits)) (onTc (τ := Cert.GateS.τ) (Cert.GateS.main (F := Bits))) ⟨m, fun _ => 0, g⟩ (fun r => (∀ c : Dev Cert.GateS.nD,
      r.2.mem ((c.tc : Thread Cert.GateS.nD Cert.GateS.τ).loc Cert.GateS.main_arg0) = m ((c.tc : Thread Cert.GateS.nD Cert.GateS.τ).loc Cert.GateS.main_arg0)
      ∧ r.2.mem ((c.tc : Thread Cert.GateS.nD Cert.GateS.τ).loc Cert.GateS.main_arg1) = m ((c.tc : Thread Cert.GateS.nD Cert.GateS.τ).loc Cert.GateS.main_arg1)
      ∧ r.2.mem ((c.tc : Thread Cert.GateS.nD Cert.GateS.τ).loc Cert.GateS.main_arg2) = m ((c.tc : Thread Cert.GateS.nD Cert.GateS.τ).loc Cert.GateS.main_arg2)
      ∧ r.2.mem ((c.tc : Thread Cert.GateS.nD Cert.GateS.τ).loc Cert.GateS.main_arg3) = m ((c.tc : Thread Cert.GateS.nD Cert.GateS.τ).loc Cert.GateS.main_arg3)
      ∧ r.2.mem ((c.tc : Thread Cert.GateS.nD Cert.GateS.τ).loc Cert.GateS.main_arg4) = m ((c.tc : Thread Cert.GateS.nD Cert.GateS.τ).loc Cert.GateS.main_arg4)
      ∧ r.2.mem ((c.tc : Thread Cert.GateS.nD Cert.GateS.τ).loc Cert.GateS.main_arg5) = m ((c.tc : Thread Cert.GateS.nD Cert.GateS.τ).loc Cert.GateS.main_arg5)
      ∧ r.2.mem ((c.tc : Thread Cert.GateS.nD Cert.GateS.τ).loc Cert.GateS.main_arg6) = m ((c.tc : Thread Cert.GateS.nD Cert.GateS.τ).loc Cert.GateS.main_arg6))
      ∧ r.2.sem = fun _ => 0)

def quiescent_GateSIdeal [hGateSIdeal : Cert.GateSIdeal.Facts] : Prop :=
  ∀ (m : (ℓ : Loc Cert.GateSIdeal.nD Cert.GateSIdeal.τ Cert.GateSIdeal.sig) → Buf (Elt Ideal) ℓ) (g : Dev Cert.GateSIdeal.nD → PrngReg), Pre_GateSIdeal m →
    θ_run (Cert.GateSIdeal.defs (F := Ideal)) (onTc (τ := Cert.GateSIdeal.τ) (Cert.GateSIdeal.main (F := Ideal))) ⟨m, fun _ => 0, g⟩ (fun r => (∀ c : Dev Cert.GateSIdeal.nD,
      r.2.mem ((c.tc : Thread Cert.GateSIdeal.nD Cert.GateSIdeal.τ).loc Cert.GateSIdeal.main_arg0) = m ((c.tc : Thread Cert.GateSIdeal.nD Cert.GateSIdeal.τ).loc Cert.GateSIdeal.main_arg0)
      ∧ r.2.mem ((c.tc : Thread Cert.GateSIdeal.nD Cert.GateSIdeal.τ).loc Cert.GateSIdeal.main_arg1) = m ((c.tc : Thread Cert.GateSIdeal.nD Cert.GateSIdeal.τ).loc Cert.GateSIdeal.main_arg1)
      ∧ r.2.mem ((c.tc : Thread Cert.GateSIdeal.nD Cert.GateSIdeal.τ).loc Cert.GateSIdeal.main_arg2) = m ((c.tc : Thread Cert.GateSIdeal.nD Cert.GateSIdeal.τ).loc Cert.GateSIdeal.main_arg2)
      ∧ r.2.mem ((c.tc : Thread Cert.GateSIdeal.nD Cert.GateSIdeal.τ).loc Cert.GateSIdeal.main_arg3) = m ((c.tc : Thread Cert.GateSIdeal.nD Cert.GateSIdeal.τ).loc Cert.GateSIdeal.main_arg3)
      ∧ r.2.mem ((c.tc : Thread Cert.GateSIdeal.nD Cert.GateSIdeal.τ).loc Cert.GateSIdeal.main_arg4) = m ((c.tc : Thread Cert.GateSIdeal.nD Cert.GateSIdeal.τ).loc Cert.GateSIdeal.main_arg4)
      ∧ r.2.mem ((c.tc : Thread Cert.GateSIdeal.nD Cert.GateSIdeal.τ).loc Cert.GateSIdeal.main_arg5) = m ((c.tc : Thread Cert.GateSIdeal.nD Cert.GateSIdeal.τ).loc Cert.GateSIdeal.main_arg5)
      ∧ r.2.mem ((c.tc : Thread Cert.GateSIdeal.nD Cert.GateSIdeal.τ).loc Cert.GateSIdeal.main_arg6) = m ((c.tc : Thread Cert.GateSIdeal.nD Cert.GateSIdeal.τ).loc Cert.GateSIdeal.main_arg6))
      ∧ r.2.sem = fun _ => 0)

def quiescent_GateSRefIdeal [hGateSRefIdeal : Cert.GateSRefIdeal.Facts] : Prop :=
  ∀ (m : (ℓ : Loc Cert.GateSRefIdeal.nD Cert.GateSRefIdeal.τ Cert.GateSRefIdeal.sig) → Buf (Elt Ideal) ℓ) (g : Dev Cert.GateSRefIdeal.nD → PrngReg), Pre_GateSRefIdeal m →
    θ_run (Cert.GateSRefIdeal.defs (F := Ideal)) (onTc (τ := Cert.GateSRefIdeal.τ) (Cert.GateSRefIdeal.main (F := Ideal))) ⟨m, fun _ => 0, g⟩ (fun r => (∀ c : Dev Cert.GateSRefIdeal.nD,
      r.2.mem ((c.tc : Thread Cert.GateSRefIdeal.nD Cert.GateSRefIdeal.τ).loc Cert.GateSRefIdeal.main_arg0) = m ((c.tc : Thread Cert.GateSRefIdeal.nD Cert.GateSRefIdeal.τ).loc Cert.GateSRefIdeal.main_arg0)
      ∧ r.2.mem ((c.tc : Thread Cert.GateSRefIdeal.nD Cert.GateSRefIdeal.τ).loc Cert.GateSRefIdeal.main_arg1) = m ((c.tc : Thread Cert.GateSRefIdeal.nD Cert.GateSRefIdeal.τ).loc Cert.GateSRefIdeal.main_arg1)
      ∧ r.2.mem ((c.tc : Thread Cert.GateSRefIdeal.nD Cert.GateSRefIdeal.τ).loc Cert.GateSRefIdeal.main_arg2) = m ((c.tc : Thread Cert.GateSRefIdeal.nD Cert.GateSRefIdeal.τ).loc Cert.GateSRefIdeal.main_arg2)
      ∧ r.2.mem ((c.tc : Thread Cert.GateSRefIdeal.nD Cert.GateSRefIdeal.τ).loc Cert.GateSRefIdeal.main_arg3) = m ((c.tc : Thread Cert.GateSRefIdeal.nD Cert.GateSRefIdeal.τ).loc Cert.GateSRefIdeal.main_arg3)
      ∧ r.2.mem ((c.tc : Thread Cert.GateSRefIdeal.nD Cert.GateSRefIdeal.τ).loc Cert.GateSRefIdeal.main_arg4) = m ((c.tc : Thread Cert.GateSRefIdeal.nD Cert.GateSRefIdeal.τ).loc Cert.GateSRefIdeal.main_arg4)
      ∧ r.2.mem ((c.tc : Thread Cert.GateSRefIdeal.nD Cert.GateSRefIdeal.τ).loc Cert.GateSRefIdeal.main_arg5) = m ((c.tc : Thread Cert.GateSRefIdeal.nD Cert.GateSRefIdeal.τ).loc Cert.GateSRefIdeal.main_arg5)
      ∧ r.2.mem ((c.tc : Thread Cert.GateSRefIdeal.nD Cert.GateSRefIdeal.τ).loc Cert.GateSRefIdeal.main_arg6) = m ((c.tc : Thread Cert.GateSRefIdeal.nD Cert.GateSRefIdeal.τ).loc Cert.GateSRefIdeal.main_arg6))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v24) = v0 c
          ∧ r.2.mem ((c.tc : Thread Cert.GateRefIdeal.nD Cert.GateRefIdeal.τ).loc Cert.GateRefIdeal.main_v25) = v1 c
          ∧ r.2.mem ((c.tc : Thread Cert.GateRefIdeal.nD Cert.GateRefIdeal.τ).loc Cert.GateRefIdeal.main_v26) = v2 c
          ∧ r.2.mem ((c.tc : Thread Cert.GateRefIdeal.nD Cert.GateRefIdeal.τ).loc Cert.GateRefIdeal.main_v27) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6))

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v0)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v21) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0_0)) (v1 : (c : Dev Cert.WinIdeal.nD) → Buf (Elt Ideal) ((c.tc : Thread Cert.WinIdeal.nD Cert.WinIdeal.τ).loc Cert.WinIdeal.main_v0_1)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0_0) = v0 c
          ∧ r.2.mem ((c.tc : Thread Cert.WinIdeal.nD Cert.WinIdeal.τ).loc Cert.WinIdeal.main_v0_1) = v1 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v3) = v0 c
          ∧ r.2.mem ((c.tc : Thread Cert.WinRefIdeal.nD Cert.WinRefIdeal.τ).loc Cert.WinRefIdeal.main_v4) = v1 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)
      ∧ m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3)
      ∧ m' ((c.tc : Thread Cert.WoutRefIdeal.nD Cert.WoutRefIdeal.τ).loc Cert.WoutRefIdeal.main_arg4) = m ((c.tc : Thread Cert.WoutIdeal.nD Cert.WoutIdeal.τ).loc Cert.WoutIdeal.main_arg4)) →
    ∃ (v0 : (c : Dev Cert.WoutIdeal.nD) → Buf (Elt Ideal) ((c.tc : Thread Cert.WoutIdeal.nD Cert.WoutIdeal.τ).loc Cert.WoutIdeal.main_v2_0)) (v1 : (c : Dev Cert.WoutIdeal.nD) → Buf (Elt Ideal) ((c.tc : Thread Cert.WoutIdeal.nD Cert.WoutIdeal.τ).loc Cert.WoutIdeal.main_v2_1)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v2_0) = v0 c
          ∧ r.2.mem ((c.tc : Thread Cert.WoutIdeal.nD Cert.WoutIdeal.τ).loc Cert.WoutIdeal.main_v2_1) = v1 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
          ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v16) = v0 c
          ∧ r.2.mem ((c.tc : Thread Cert.WoutRefIdeal.nD Cert.WoutRefIdeal.τ).loc Cert.WoutRefIdeal.main_v30) = v1 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2)
          ∧ r.2.mem ((c.tc : Thread Cert.WoutRefIdeal.nD Cert.WoutRefIdeal.τ).loc Cert.WoutRefIdeal.main_arg3) = m' ((c.tc : Thread Cert.WoutRefIdeal.nD Cert.WoutRefIdeal.τ).loc Cert.WoutRefIdeal.main_arg3)
          ∧ r.2.mem ((c.tc : Thread Cert.WoutRefIdeal.nD Cert.WoutRefIdeal.τ).loc Cert.WoutRefIdeal.main_arg4) = m' ((c.tc : Thread Cert.WoutRefIdeal.nD Cert.WoutRefIdeal.τ).loc Cert.WoutRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v5)) (v2 : (c : Dev Cert.UpIdeal.nD) → Buf (Elt Ideal) ((c.tc : Thread Cert.UpIdeal.nD Cert.UpIdeal.τ).loc Cert.UpIdeal.main_v2_3)) (v3 : (c : Dev Cert.UpIdeal.nD) → Buf (Elt Ideal) ((c.tc : Thread Cert.UpIdeal.nD Cert.UpIdeal.τ).loc Cert.UpIdeal.main_v2_4)) (v4 : (c : Dev Cert.UpIdeal.nD) → Buf (Elt Ideal) ((c.tc : Thread Cert.UpIdeal.nD Cert.UpIdeal.τ).loc Cert.UpIdeal.main_v2_5)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v5) = v1 c
          ∧ r.2.mem ((c.tc : Thread Cert.UpIdeal.nD Cert.UpIdeal.τ).loc Cert.UpIdeal.main_v2_3) = v2 c
          ∧ r.2.mem ((c.tc : Thread Cert.UpIdeal.nD Cert.UpIdeal.τ).loc Cert.UpIdeal.main_v2_4) = v3 c
          ∧ r.2.mem ((c.tc : Thread Cert.UpIdeal.nD Cert.UpIdeal.τ).loc Cert.UpIdeal.main_v2_5) = v4 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v46) = v0 c
          ∧ r.2.mem ((c.tc : Thread Cert.UpRefIdeal.nD Cert.UpRefIdeal.τ).loc Cert.UpRefIdeal.main_v47) = v1 c
          ∧ r.2.mem ((c.tc : Thread Cert.UpRefIdeal.nD Cert.UpRefIdeal.τ).loc Cert.UpRefIdeal.main_v49) = v2 c
          ∧ r.2.mem ((c.tc : Thread Cert.UpRefIdeal.nD Cert.UpRefIdeal.τ).loc Cert.UpRefIdeal.main_v51) = v3 c
          ∧ r.2.mem ((c.tc : Thread Cert.UpRefIdeal.nD Cert.UpRefIdeal.τ).loc Cert.UpRefIdeal.main_v52) = v4 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v16) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v0_0)) (v1 : (c : Dev Cert.MemkvIdeal.nD) → Buf (Elt Ideal) ((c.tc : Thread Cert.MemkvIdeal.nD Cert.MemkvIdeal.τ).loc Cert.MemkvIdeal.main_v0_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v0_0) = v0 c
          ∧ r.2.mem ((c.tc : Thread Cert.MemkvIdeal.nD Cert.MemkvIdeal.τ).loc Cert.MemkvIdeal.main_v0_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v1) = v0 c
          ∧ r.2.mem ((c.tc : Thread Cert.MemkvRefIdeal.nD Cert.MemkvRefIdeal.τ).loc Cert.MemkvRefIdeal.main_v3) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormS_NormSIdeal : Prop :=
  True

def algebraic_NormSIdeal_NormSRefIdeal [hNormSIdeal : Cert.NormSIdeal.Facts] [hNormSRefIdeal : Cert.NormSRefIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.NormSRefIdeal.nD Cert.NormSRefIdeal.τ Cert.NormSRefIdeal.sig) → Buf (Elt Ideal) ℓ) (g' : Dev Cert.NormSRefIdeal.nD → PrngReg), Pre_NormSIdeal m →
    (∀ c : Dev Cert.NormSIdeal.nD,
      m' ((c.tc : Thread Cert.NormSRefIdeal.nD Cert.NormSRefIdeal.τ).loc Cert.NormSRefIdeal.main_arg0) = m ((c.tc : Thread Cert.NormSIdeal.nD Cert.NormSIdeal.τ).loc Cert.NormSIdeal.main_arg0)
      ∧ m' ((c.tc : Thread Cert.NormSRefIdeal.nD Cert.NormSRefIdeal.τ).loc Cert.NormSRefIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v1)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v1) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.NormSRefIdeal.defs (F := Ideal)) (onTc (τ := Cert.NormSRefIdeal.τ) (Cert.NormSRefIdeal.main (F := Ideal))) ⟨m', fun _ => 0, g'⟩ (fun r => ∀ c : Dev Cert.NormSRefIdeal.nD,
          r.2.mem ((c.tc : Thread Cert.NormSRefIdeal.nD Cert.NormSRefIdeal.τ).loc Cert.NormSRefIdeal.main_v13) = v0 c
          ∧ r.2.mem ((c.tc : Thread Cert.NormSRefIdeal.nD Cert.NormSRefIdeal.τ).loc Cert.NormSRefIdeal.main_arg0) = m' ((c.tc : Thread Cert.NormSRefIdeal.nD Cert.NormSRefIdeal.τ).loc Cert.NormSRefIdeal.main_arg0)
          ∧ r.2.mem ((c.tc : Thread Cert.NormSRefIdeal.nD Cert.NormSRefIdeal.τ).loc Cert.NormSRefIdeal.main_arg1) = m' ((c.tc : Thread Cert.NormSRefIdeal.nD Cert.NormSRefIdeal.τ).loc Cert.NormSRefIdeal.main_arg1))

def preserves_WinS_WinSIdeal : Prop :=
  True

def algebraic_WinSIdeal_WinSRefIdeal [hWinSIdeal : Cert.WinSIdeal.Facts] [hWinSRefIdeal : Cert.WinSRefIdeal.Facts] : Prop :=
  ∀ (m : (ℓ : Loc Cert.WinSIdeal.nD Cert.WinSIdeal.τ Cert.WinSIdeal.sig) → Buf (Elt Ideal) ℓ) (g : Dev Cert.WinSIdeal.nD → PrngReg)
    (m' : (ℓ : Loc Cert.WinSRefIdeal.nD Cert.WinSRefIdeal.τ Cert.WinSRefIdeal.sig) → Buf (Elt Ideal) ℓ) (g' : Dev Cert.WinSRefIdeal.nD → PrngReg), Pre_WinSIdeal m →
    (∀ c : Dev Cert.WinSIdeal.nD,
      m' ((c.tc : Thread Cert.WinSRefIdeal.nD Cert.WinSRefIdeal.τ).loc Cert.WinSRefIdeal.main_arg0) = m ((c.tc : Thread Cert.WinSIdeal.nD Cert.WinSIdeal.τ).loc Cert.WinSIdeal.main_arg0)
      ∧ m' ((c.tc : Thread Cert.WinSRefIdeal.nD Cert.WinSRefIdeal.τ).loc Cert.WinSRefIdeal.main_arg1) = m ((c.tc : Thread Cert.WinSIdeal.nD Cert.WinSIdeal.τ).loc Cert.WinSIdeal.main_arg1)) →
    ∃ (v0 : (c : Dev Cert.WinSIdeal.nD) → Buf (Elt Ideal) ((c.tc : Thread Cert.WinSIdeal.nD Cert.WinSIdeal.τ).loc Cert.WinSIdeal.main_v0)),
      θ_run (Cert.WinSIdeal.defs (F := Ideal)) (onTc (τ := Cert.WinSIdeal.τ) (Cert.WinSIdeal.main (F := Ideal))) ⟨m, fun _ => 0, g⟩ (fun r => ∀ c : Dev Cert.WinSIdeal.nD,
          r.2.mem ((c.tc : Thread Cert.WinSIdeal.nD Cert.WinSIdeal.τ).loc Cert.WinSIdeal.main_v0) = v0 c
          ∧ r.2.mem ((c.tc : Thread Cert.WinSIdeal.nD Cert.WinSIdeal.τ).loc Cert.WinSIdeal.main_arg0) = m ((c.tc : Thread Cert.WinSIdeal.nD Cert.WinSIdeal.τ).loc Cert.WinSIdeal.main_arg0)
          ∧ r.2.mem ((c.tc : Thread Cert.WinSIdeal.nD Cert.WinSIdeal.τ).loc Cert.WinSIdeal.main_arg1) = m ((c.tc : Thread Cert.WinSIdeal.nD Cert.WinSIdeal.τ).loc Cert.WinSIdeal.main_arg1))
      ∧ θ_run (Cert.WinSRefIdeal.defs (F := Ideal)) (onTc (τ := Cert.WinSRefIdeal.τ) (Cert.WinSRefIdeal.main (F := Ideal))) ⟨m', fun _ => 0, g'⟩ (fun r => ∀ c : Dev Cert.WinSRefIdeal.nD,
          r.2.mem ((c.tc : Thread Cert.WinSRefIdeal.nD Cert.WinSRefIdeal.τ).loc Cert.WinSRefIdeal.main_v2) = v0 c
          ∧ r.2.mem ((c.tc : Thread Cert.WinSRefIdeal.nD Cert.WinSRefIdeal.τ).loc Cert.WinSRefIdeal.main_arg0) = m' ((c.tc : Thread Cert.WinSRefIdeal.nD Cert.WinSRefIdeal.τ).loc Cert.WinSRefIdeal.main_arg0)
          ∧ r.2.mem ((c.tc : Thread Cert.WinSRefIdeal.nD Cert.WinSRefIdeal.τ).loc Cert.WinSRefIdeal.main_arg1) = m' ((c.tc : Thread Cert.WinSRefIdeal.nD Cert.WinSRefIdeal.τ).loc Cert.WinSRefIdeal.main_arg1))

def preserves_WoutS_WoutSIdeal : Prop :=
  True

def algebraic_WoutSIdeal_WoutSRefIdeal [hWoutSIdeal : Cert.WoutSIdeal.Facts] [hWoutSRefIdeal : Cert.WoutSRefIdeal.Facts] : Prop :=
  ∀ (m : (ℓ : Loc Cert.WoutSIdeal.nD Cert.WoutSIdeal.τ Cert.WoutSIdeal.sig) → Buf (Elt Ideal) ℓ) (g : Dev Cert.WoutSIdeal.nD → PrngReg)
    (m' : (ℓ : Loc Cert.WoutSRefIdeal.nD Cert.WoutSRefIdeal.τ Cert.WoutSRefIdeal.sig) → Buf (Elt Ideal) ℓ) (g' : Dev Cert.WoutSRefIdeal.nD → PrngReg), Pre_WoutSIdeal m →
    (∀ c : Dev Cert.WoutSIdeal.nD,
      m' ((c.tc : Thread Cert.WoutSRefIdeal.nD Cert.WoutSRefIdeal.τ).loc Cert.WoutSRefIdeal.main_arg0) = m ((c.tc : Thread Cert.WoutSIdeal.nD Cert.WoutSIdeal.τ).loc Cert.WoutSIdeal.main_arg0)
      ∧ m' ((c.tc : Thread Cert.WoutSRefIdeal.nD Cert.WoutSRefIdeal.τ).loc Cert.WoutSRefIdeal.main_arg1) = m ((c.tc : Thread Cert.WoutSIdeal.nD Cert.WoutSIdeal.τ).loc Cert.WoutSIdeal.main_arg1)
      ∧ m' ((c.tc : Thread Cert.WoutSRefIdeal.nD Cert.WoutSRefIdeal.τ).loc Cert.WoutSRefIdeal.main_arg2) = m ((c.tc : Thread Cert.WoutSIdeal.nD Cert.WoutSIdeal.τ).loc Cert.WoutSIdeal.main_arg2)
      ∧ m' ((c.tc : Thread Cert.WoutSRefIdeal.nD Cert.WoutSRefIdeal.τ).loc Cert.WoutSRefIdeal.main_arg3) = m ((c.tc : Thread Cert.WoutSIdeal.nD Cert.WoutSIdeal.τ).loc Cert.WoutSIdeal.main_arg3)
      ∧ m' ((c.tc : Thread Cert.WoutSRefIdeal.nD Cert.WoutSRefIdeal.τ).loc Cert.WoutSRefIdeal.main_arg4) = m ((c.tc : Thread Cert.WoutSIdeal.nD Cert.WoutSIdeal.τ).loc Cert.WoutSIdeal.main_arg4)) →
    ∃ (v0 : (c : Dev Cert.WoutSIdeal.nD) → Buf (Elt Ideal) ((c.tc : Thread Cert.WoutSIdeal.nD Cert.WoutSIdeal.τ).loc Cert.WoutSIdeal.main_v2_0)) (v1 : (c : Dev Cert.WoutSIdeal.nD) → Buf (Elt Ideal) ((c.tc : Thread Cert.WoutSIdeal.nD Cert.WoutSIdeal.τ).loc Cert.WoutSIdeal.main_v2_1)),
      θ_run (Cert.WoutSIdeal.defs (F := Ideal)) (onTc (τ := Cert.WoutSIdeal.τ) (Cert.WoutSIdeal.main (F := Ideal))) ⟨m, fun _ => 0, g⟩ (fun r => ∀ c : Dev Cert.WoutSIdeal.nD,
          r.2.mem ((c.tc : Thread Cert.WoutSIdeal.nD Cert.WoutSIdeal.τ).loc Cert.WoutSIdeal.main_v2_0) = v0 c
          ∧ r.2.mem ((c.tc : Thread Cert.WoutSIdeal.nD Cert.WoutSIdeal.τ).loc Cert.WoutSIdeal.main_v2_1) = v1 c
          ∧ r.2.mem ((c.tc : Thread Cert.WoutSIdeal.nD Cert.WoutSIdeal.τ).loc Cert.WoutSIdeal.main_arg0) = m ((c.tc : Thread Cert.WoutSIdeal.nD Cert.WoutSIdeal.τ).loc Cert.WoutSIdeal.main_arg0)
          ∧ r.2.mem ((c.tc : Thread Cert.WoutSIdeal.nD Cert.WoutSIdeal.τ).loc Cert.WoutSIdeal.main_arg1) = m ((c.tc : Thread Cert.WoutSIdeal.nD Cert.WoutSIdeal.τ).loc Cert.WoutSIdeal.main_arg1)
          ∧ r.2.mem ((c.tc : Thread Cert.WoutSIdeal.nD Cert.WoutSIdeal.τ).loc Cert.WoutSIdeal.main_arg2) = m ((c.tc : Thread Cert.WoutSIdeal.nD Cert.WoutSIdeal.τ).loc Cert.WoutSIdeal.main_arg2)
          ∧ r.2.mem ((c.tc : Thread Cert.WoutSIdeal.nD Cert.WoutSIdeal.τ).loc Cert.WoutSIdeal.main_arg3) = m ((c.tc : Thread Cert.WoutSIdeal.nD Cert.WoutSIdeal.τ).loc Cert.WoutSIdeal.main_arg3)
          ∧ r.2.mem ((c.tc : Thread Cert.WoutSIdeal.nD Cert.WoutSIdeal.τ).loc Cert.WoutSIdeal.main_arg4) = m ((c.tc : Thread Cert.WoutSIdeal.nD Cert.WoutSIdeal.τ).loc Cert.WoutSIdeal.main_arg4))
      ∧ θ_run (Cert.WoutSRefIdeal.defs (F := Ideal)) (onTc (τ := Cert.WoutSRefIdeal.τ) (Cert.WoutSRefIdeal.main (F := Ideal))) ⟨m', fun _ => 0, g'⟩ (fun r => ∀ c : Dev Cert.WoutSRefIdeal.nD,
          r.2.mem ((c.tc : Thread Cert.WoutSRefIdeal.nD Cert.WoutSRefIdeal.τ).loc Cert.WoutSRefIdeal.main_v16) = v0 c
          ∧ r.2.mem ((c.tc : Thread Cert.WoutSRefIdeal.nD Cert.WoutSRefIdeal.τ).loc Cert.WoutSRefIdeal.main_v30) = v1 c
          ∧ r.2.mem ((c.tc : Thread Cert.WoutSRefIdeal.nD Cert.WoutSRefIdeal.τ).loc Cert.WoutSRefIdeal.main_arg0) = m' ((c.tc : Thread Cert.WoutSRefIdeal.nD Cert.WoutSRefIdeal.τ).loc Cert.WoutSRefIdeal.main_arg0)
          ∧ r.2.mem ((c.tc : Thread Cert.WoutSRefIdeal.nD Cert.WoutSRefIdeal.τ).loc Cert.WoutSRefIdeal.main_arg1) = m' ((c.tc : Thread Cert.WoutSRefIdeal.nD Cert.WoutSRefIdeal.τ).loc Cert.WoutSRefIdeal.main_arg1)
          ∧ r.2.mem ((c.tc : Thread Cert.WoutSRefIdeal.nD Cert.WoutSRefIdeal.τ).loc Cert.WoutSRefIdeal.main_arg2) = m' ((c.tc : Thread Cert.WoutSRefIdeal.nD Cert.WoutSRefIdeal.τ).loc Cert.WoutSRefIdeal.main_arg2)
          ∧ r.2.mem ((c.tc : Thread Cert.WoutSRefIdeal.nD Cert.WoutSRefIdeal.τ).loc Cert.WoutSRefIdeal.main_arg3) = m' ((c.tc : Thread Cert.WoutSRefIdeal.nD Cert.WoutSRefIdeal.τ).loc Cert.WoutSRefIdeal.main_arg3)
          ∧ r.2.mem ((c.tc : Thread Cert.WoutSRefIdeal.nD Cert.WoutSRefIdeal.τ).loc Cert.WoutSRefIdeal.main_arg4) = m' ((c.tc : Thread Cert.WoutSRefIdeal.nD Cert.WoutSRefIdeal.τ).loc Cert.WoutSRefIdeal.main_arg4))

def preserves_DownS_DownSIdeal : Prop :=
  True

def algebraic_DownSIdeal_DownSRefIdeal [hDownSIdeal : Cert.DownSIdeal.Facts] [hDownSRefIdeal : Cert.DownSRefIdeal.Facts] : Prop :=
  ∀ (m : (ℓ : Loc Cert.DownSIdeal.nD Cert.DownSIdeal.τ Cert.DownSIdeal.sig) → Buf (Elt Ideal) ℓ) (g : Dev Cert.DownSIdeal.nD → PrngReg)
    (m' : (ℓ : Loc Cert.DownSRefIdeal.nD Cert.DownSRefIdeal.τ Cert.DownSRefIdeal.sig) → Buf (Elt Ideal) ℓ) (g' : Dev Cert.DownSRefIdeal.nD → PrngReg), Pre_DownSIdeal m →
    (∀ c : Dev Cert.DownSIdeal.nD,
      m' ((c.tc : Thread Cert.DownSRefIdeal.nD Cert.DownSRefIdeal.τ).loc Cert.DownSRefIdeal.main_arg0) = m ((c.tc : Thread Cert.DownSIdeal.nD Cert.DownSIdeal.τ).loc Cert.DownSIdeal.main_arg0)
      ∧ m' ((c.tc : Thread Cert.DownSRefIdeal.nD Cert.DownSRefIdeal.τ).loc Cert.DownSRefIdeal.main_arg1) = m ((c.tc : Thread Cert.DownSIdeal.nD Cert.DownSIdeal.τ).loc Cert.DownSIdeal.main_arg1)
      ∧ m' ((c.tc : Thread Cert.DownSRefIdeal.nD Cert.DownSRefIdeal.τ).loc Cert.DownSRefIdeal.main_arg2) = m ((c.tc : Thread Cert.DownSIdeal.nD Cert.DownSIdeal.τ).loc Cert.DownSIdeal.main_arg2)
      ∧ m' ((c.tc : Thread Cert.DownSRefIdeal.nD Cert.DownSRefIdeal.τ).loc Cert.DownSRefIdeal.main_arg3) = m ((c.tc : Thread Cert.DownSIdeal.nD Cert.DownSIdeal.τ).loc Cert.DownSIdeal.main_arg3)) →
    ∃ (v0 : (c : Dev Cert.DownSIdeal.nD) → Buf (Elt Ideal) ((c.tc : Thread Cert.DownSIdeal.nD Cert.DownSIdeal.τ).loc Cert.DownSIdeal.main_v2)),
      θ_run (Cert.DownSIdeal.defs (F := Ideal)) (onTc (τ := Cert.DownSIdeal.τ) (Cert.DownSIdeal.main (F := Ideal))) ⟨m, fun _ => 0, g⟩ (fun r => ∀ c : Dev Cert.DownSIdeal.nD,
          r.2.mem ((c.tc : Thread Cert.DownSIdeal.nD Cert.DownSIdeal.τ).loc Cert.DownSIdeal.main_v2) = v0 c
          ∧ r.2.mem ((c.tc : Thread Cert.DownSIdeal.nD Cert.DownSIdeal.τ).loc Cert.DownSIdeal.main_arg0) = m ((c.tc : Thread Cert.DownSIdeal.nD Cert.DownSIdeal.τ).loc Cert.DownSIdeal.main_arg0)
          ∧ r.2.mem ((c.tc : Thread Cert.DownSIdeal.nD Cert.DownSIdeal.τ).loc Cert.DownSIdeal.main_arg1) = m ((c.tc : Thread Cert.DownSIdeal.nD Cert.DownSIdeal.τ).loc Cert.DownSIdeal.main_arg1)
          ∧ r.2.mem ((c.tc : Thread Cert.DownSIdeal.nD Cert.DownSIdeal.τ).loc Cert.DownSIdeal.main_arg2) = m ((c.tc : Thread Cert.DownSIdeal.nD Cert.DownSIdeal.τ).loc Cert.DownSIdeal.main_arg2)
          ∧ r.2.mem ((c.tc : Thread Cert.DownSIdeal.nD Cert.DownSIdeal.τ).loc Cert.DownSIdeal.main_arg3) = m ((c.tc : Thread Cert.DownSIdeal.nD Cert.DownSIdeal.τ).loc Cert.DownSIdeal.main_arg3))
      ∧ θ_run (Cert.DownSRefIdeal.defs (F := Ideal)) (onTc (τ := Cert.DownSRefIdeal.τ) (Cert.DownSRefIdeal.main (F := Ideal))) ⟨m', fun _ => 0, g'⟩ (fun r => ∀ c : Dev Cert.DownSRefIdeal.nD,
          r.2.mem ((c.tc : Thread Cert.DownSRefIdeal.nD Cert.DownSRefIdeal.τ).loc Cert.DownSRefIdeal.main_v16) = v0 c
          ∧ r.2.mem ((c.tc : Thread Cert.DownSRefIdeal.nD Cert.DownSRefIdeal.τ).loc Cert.DownSRefIdeal.main_arg0) = m' ((c.tc : Thread Cert.DownSRefIdeal.nD Cert.DownSRefIdeal.τ).loc Cert.DownSRefIdeal.main_arg0)
          ∧ r.2.mem ((c.tc : Thread Cert.DownSRefIdeal.nD Cert.DownSRefIdeal.τ).loc Cert.DownSRefIdeal.main_arg1) = m' ((c.tc : Thread Cert.DownSRefIdeal.nD Cert.DownSRefIdeal.τ).loc Cert.DownSRefIdeal.main_arg1)
          ∧ r.2.mem ((c.tc : Thread Cert.DownSRefIdeal.nD Cert.DownSRefIdeal.τ).loc Cert.DownSRefIdeal.main_arg2) = m' ((c.tc : Thread Cert.DownSRefIdeal.nD Cert.DownSRefIdeal.τ).loc Cert.DownSRefIdeal.main_arg2)
          ∧ r.2.mem ((c.tc : Thread Cert.DownSRefIdeal.nD Cert.DownSRefIdeal.τ).loc Cert.DownSRefIdeal.main_arg3) = m' ((c.tc : Thread Cert.DownSRefIdeal.nD Cert.DownSRefIdeal.τ).loc Cert.DownSRefIdeal.main_arg3))

def preserves_SguS_SguSIdeal : Prop :=
  True

def algebraic_SguSIdeal_SguSRefIdeal [hSguSIdeal : Cert.SguSIdeal.Facts] [hSguSRefIdeal : Cert.SguSRefIdeal.Facts] : Prop :=
  ∀ (m : (ℓ : Loc Cert.SguSIdeal.nD Cert.SguSIdeal.τ Cert.SguSIdeal.sig) → Buf (Elt Ideal) ℓ) (g : Dev Cert.SguSIdeal.nD → PrngReg)
    (m' : (ℓ : Loc Cert.SguSRefIdeal.nD Cert.SguSRefIdeal.τ Cert.SguSRefIdeal.sig) → Buf (Elt Ideal) ℓ) (g' : Dev Cert.SguSRefIdeal.nD → PrngReg), Pre_SguSIdeal m →
    (∀ c : Dev Cert.SguSIdeal.nD,
      m' ((c.tc : Thread Cert.SguSRefIdeal.nD Cert.SguSRefIdeal.τ).loc Cert.SguSRefIdeal.main_arg0) = m ((c.tc : Thread Cert.SguSIdeal.nD Cert.SguSIdeal.τ).loc Cert.SguSIdeal.main_arg0)
      ∧ m' ((c.tc : Thread Cert.SguSRefIdeal.nD Cert.SguSRefIdeal.τ).loc Cert.SguSRefIdeal.main_arg1) = m ((c.tc : Thread Cert.SguSIdeal.nD Cert.SguSIdeal.τ).loc Cert.SguSIdeal.main_arg1)
      ∧ m' ((c.tc : Thread Cert.SguSRefIdeal.nD Cert.SguSRefIdeal.τ).loc Cert.SguSRefIdeal.main_arg2) = m ((c.tc : Thread Cert.SguSIdeal.nD Cert.SguSIdeal.τ).loc Cert.SguSIdeal.main_arg2)
      ∧ m' ((c.tc : Thread Cert.SguSRefIdeal.nD Cert.SguSRefIdeal.τ).loc Cert.SguSRefIdeal.main_arg3) = m ((c.tc : Thread Cert.SguSIdeal.nD Cert.SguSIdeal.τ).loc Cert.SguSIdeal.main_arg3)
      ∧ m' ((c.tc : Thread Cert.SguSRefIdeal.nD Cert.SguSRefIdeal.τ).loc Cert.SguSRefIdeal.main_arg4) = m ((c.tc : Thread Cert.SguSIdeal.nD Cert.SguSIdeal.τ).loc Cert.SguSIdeal.main_arg4)) →
    ∃ (v0 : (c : Dev Cert.SguSIdeal.nD) → Buf (Elt Ideal) ((c.tc : Thread Cert.SguSIdeal.nD Cert.SguSIdeal.τ).loc Cert.SguSIdeal.main_v5_0)) (v1 : (c : Dev Cert.SguSIdeal.nD) → Buf (Elt Ideal) ((c.tc : Thread Cert.SguSIdeal.nD Cert.SguSIdeal.τ).loc Cert.SguSIdeal.main_v5_1)),
      θ_run (Cert.SguSIdeal.defs (F := Ideal)) (onTc (τ := Cert.SguSIdeal.τ) (Cert.SguSIdeal.main (F := Ideal))) ⟨m, fun _ => 0, g⟩ (fun r => ∀ c : Dev Cert.SguSIdeal.nD,
          r.2.mem ((c.tc : Thread Cert.SguSIdeal.nD Cert.SguSIdeal.τ).loc Cert.SguSIdeal.main_v5_0) = v0 c
          ∧ r.2.mem ((c.tc : Thread Cert.SguSIdeal.nD Cert.SguSIdeal.τ).loc Cert.SguSIdeal.main_v5_1) = v1 c
          ∧ r.2.mem ((c.tc : Thread Cert.SguSIdeal.nD Cert.SguSIdeal.τ).loc Cert.SguSIdeal.main_arg0) = m ((c.tc : Thread Cert.SguSIdeal.nD Cert.SguSIdeal.τ).loc Cert.SguSIdeal.main_arg0)
          ∧ r.2.mem ((c.tc : Thread Cert.SguSIdeal.nD Cert.SguSIdeal.τ).loc Cert.SguSIdeal.main_arg1) = m ((c.tc : Thread Cert.SguSIdeal.nD Cert.SguSIdeal.τ).loc Cert.SguSIdeal.main_arg1)
          ∧ r.2.mem ((c.tc : Thread Cert.SguSIdeal.nD Cert.SguSIdeal.τ).loc Cert.SguSIdeal.main_arg2) = m ((c.tc : Thread Cert.SguSIdeal.nD Cert.SguSIdeal.τ).loc Cert.SguSIdeal.main_arg2)
          ∧ r.2.mem ((c.tc : Thread Cert.SguSIdeal.nD Cert.SguSIdeal.τ).loc Cert.SguSIdeal.main_arg3) = m ((c.tc : Thread Cert.SguSIdeal.nD Cert.SguSIdeal.τ).loc Cert.SguSIdeal.main_arg3)
          ∧ r.2.mem ((c.tc : Thread Cert.SguSIdeal.nD Cert.SguSIdeal.τ).loc Cert.SguSIdeal.main_arg4) = m ((c.tc : Thread Cert.SguSIdeal.nD Cert.SguSIdeal.τ).loc Cert.SguSIdeal.main_arg4))
      ∧ θ_run (Cert.SguSRefIdeal.defs (F := Ideal)) (onTc (τ := Cert.SguSRefIdeal.τ) (Cert.SguSRefIdeal.main (F := Ideal))) ⟨m', fun _ => 0, g'⟩ (fun r => ∀ c : Dev Cert.SguSRefIdeal.nD,
          r.2.mem ((c.tc : Thread Cert.SguSRefIdeal.nD Cert.SguSRefIdeal.τ).loc Cert.SguSRefIdeal.main_v69) = v0 c
          ∧ r.2.mem ((c.tc : Thread Cert.SguSRefIdeal.nD Cert.SguSRefIdeal.τ).loc Cert.SguSRefIdeal.main_v51) = v1 c
          ∧ r.2.mem ((c.tc : Thread Cert.SguSRefIdeal.nD Cert.SguSRefIdeal.τ).loc Cert.SguSRefIdeal.main_arg0) = m' ((c.tc : Thread Cert.SguSRefIdeal.nD Cert.SguSRefIdeal.τ).loc Cert.SguSRefIdeal.main_arg0)
          ∧ r.2.mem ((c.tc : Thread Cert.SguSRefIdeal.nD Cert.SguSRefIdeal.τ).loc Cert.SguSRefIdeal.main_arg1) = m' ((c.tc : Thread Cert.SguSRefIdeal.nD Cert.SguSRefIdeal.τ).loc Cert.SguSRefIdeal.main_arg1)
          ∧ r.2.mem ((c.tc : Thread Cert.SguSRefIdeal.nD Cert.SguSRefIdeal.τ).loc Cert.SguSRefIdeal.main_arg2) = m' ((c.tc : Thread Cert.SguSRefIdeal.nD Cert.SguSRefIdeal.τ).loc Cert.SguSRefIdeal.main_arg2)
          ∧ r.2.mem ((c.tc : Thread Cert.SguSRefIdeal.nD Cert.SguSRefIdeal.τ).loc Cert.SguSRefIdeal.main_arg3) = m' ((c.tc : Thread Cert.SguSRefIdeal.nD Cert.SguSRefIdeal.τ).loc Cert.SguSRefIdeal.main_arg3)
          ∧ r.2.mem ((c.tc : Thread Cert.SguSRefIdeal.nD Cert.SguSRefIdeal.τ).loc Cert.SguSRefIdeal.main_arg4) = m' ((c.tc : Thread Cert.SguSRefIdeal.nD Cert.SguSRefIdeal.τ).loc Cert.SguSRefIdeal.main_arg4))

def preserves_UpS_UpSIdeal : Prop :=
  True

def algebraic_UpSIdeal_UpSRefIdeal [hUpSIdeal : Cert.UpSIdeal.Facts] [hUpSRefIdeal : Cert.UpSRefIdeal.Facts] : Prop :=
  ∀ (m : (ℓ : Loc Cert.UpSIdeal.nD Cert.UpSIdeal.τ Cert.UpSIdeal.sig) → Buf (Elt Ideal) ℓ) (g : Dev Cert.UpSIdeal.nD → PrngReg)
    (m' : (ℓ : Loc Cert.UpSRefIdeal.nD Cert.UpSRefIdeal.τ Cert.UpSRefIdeal.sig) → Buf (Elt Ideal) ℓ) (g' : Dev Cert.UpSRefIdeal.nD → PrngReg), Pre_UpSIdeal m →
    (∀ c : Dev Cert.UpSIdeal.nD,
      m' ((c.tc : Thread Cert.UpSRefIdeal.nD Cert.UpSRefIdeal.τ).loc Cert.UpSRefIdeal.main_arg0) = m ((c.tc : Thread Cert.UpSIdeal.nD Cert.UpSIdeal.τ).loc Cert.UpSIdeal.main_arg0)
      ∧ m' ((c.tc : Thread Cert.UpSRefIdeal.nD Cert.UpSRefIdeal.τ).loc Cert.UpSRefIdeal.main_arg1) = m ((c.tc : Thread Cert.UpSIdeal.nD Cert.UpSIdeal.τ).loc Cert.UpSIdeal.main_arg1)
      ∧ m' ((c.tc : Thread Cert.UpSRefIdeal.nD Cert.UpSRefIdeal.τ).loc Cert.UpSRefIdeal.main_arg2) = m ((c.tc : Thread Cert.UpSIdeal.nD Cert.UpSIdeal.τ).loc Cert.UpSIdeal.main_arg2)
      ∧ m' ((c.tc : Thread Cert.UpSRefIdeal.nD Cert.UpSRefIdeal.τ).loc Cert.UpSRefIdeal.main_arg3) = m ((c.tc : Thread Cert.UpSIdeal.nD Cert.UpSIdeal.τ).loc Cert.UpSIdeal.main_arg3)
      ∧ m' ((c.tc : Thread Cert.UpSRefIdeal.nD Cert.UpSRefIdeal.τ).loc Cert.UpSRefIdeal.main_arg4) = m ((c.tc : Thread Cert.UpSIdeal.nD Cert.UpSIdeal.τ).loc Cert.UpSIdeal.main_arg4)
      ∧ m' ((c.tc : Thread Cert.UpSRefIdeal.nD Cert.UpSRefIdeal.τ).loc Cert.UpSRefIdeal.main_arg5) = m ((c.tc : Thread Cert.UpSIdeal.nD Cert.UpSIdeal.τ).loc Cert.UpSIdeal.main_arg5)
      ∧ m' ((c.tc : Thread Cert.UpSRefIdeal.nD Cert.UpSRefIdeal.τ).loc Cert.UpSRefIdeal.main_arg6) = m ((c.tc : Thread Cert.UpSIdeal.nD Cert.UpSIdeal.τ).loc Cert.UpSIdeal.main_arg6)) →
    ∃ (v0 : (c : Dev Cert.UpSIdeal.nD) → Buf (Elt Ideal) ((c.tc : Thread Cert.UpSIdeal.nD Cert.UpSIdeal.τ).loc Cert.UpSIdeal.main_v2_0)) (v1 : (c : Dev Cert.UpSIdeal.nD) → Buf (Elt Ideal) ((c.tc : Thread Cert.UpSIdeal.nD Cert.UpSIdeal.τ).loc Cert.UpSIdeal.main_v4)),
      θ_run (Cert.UpSIdeal.defs (F := Ideal)) (onTc (τ := Cert.UpSIdeal.τ) (Cert.UpSIdeal.main (F := Ideal))) ⟨m, fun _ => 0, g⟩ (fun r => ∀ c : Dev Cert.UpSIdeal.nD,
          r.2.mem ((c.tc : Thread Cert.UpSIdeal.nD Cert.UpSIdeal.τ).loc Cert.UpSIdeal.main_v2_0) = v0 c
          ∧ r.2.mem ((c.tc : Thread Cert.UpSIdeal.nD Cert.UpSIdeal.τ).loc Cert.UpSIdeal.main_v4) = v1 c
          ∧ r.2.mem ((c.tc : Thread Cert.UpSIdeal.nD Cert.UpSIdeal.τ).loc Cert.UpSIdeal.main_arg0) = m ((c.tc : Thread Cert.UpSIdeal.nD Cert.UpSIdeal.τ).loc Cert.UpSIdeal.main_arg0)
          ∧ r.2.mem ((c.tc : Thread Cert.UpSIdeal.nD Cert.UpSIdeal.τ).loc Cert.UpSIdeal.main_arg1) = m ((c.tc : Thread Cert.UpSIdeal.nD Cert.UpSIdeal.τ).loc Cert.UpSIdeal.main_arg1)
          ∧ r.2.mem ((c.tc : Thread Cert.UpSIdeal.nD Cert.UpSIdeal.τ).loc Cert.UpSIdeal.main_arg2) = m ((c.tc : Thread Cert.UpSIdeal.nD Cert.UpSIdeal.τ).loc Cert.UpSIdeal.main_arg2)
          ∧ r.2.mem ((c.tc : Thread Cert.UpSIdeal.nD Cert.UpSIdeal.τ).loc Cert.UpSIdeal.main_arg3) = m ((c.tc : Thread Cert.UpSIdeal.nD Cert.UpSIdeal.τ).loc Cert.UpSIdeal.main_arg3)
          ∧ r.2.mem ((c.tc : Thread Cert.UpSIdeal.nD Cert.UpSIdeal.τ).loc Cert.UpSIdeal.main_arg4) = m ((c.tc : Thread Cert.UpSIdeal.nD Cert.UpSIdeal.τ).loc Cert.UpSIdeal.main_arg4)
          ∧ r.2.mem ((c.tc : Thread Cert.UpSIdeal.nD Cert.UpSIdeal.τ).loc Cert.UpSIdeal.main_arg5) = m ((c.tc : Thread Cert.UpSIdeal.nD Cert.UpSIdeal.τ).loc Cert.UpSIdeal.main_arg5)
          ∧ r.2.mem ((c.tc : Thread Cert.UpSIdeal.nD Cert.UpSIdeal.τ).loc Cert.UpSIdeal.main_arg6) = m ((c.tc : Thread Cert.UpSIdeal.nD Cert.UpSIdeal.τ).loc Cert.UpSIdeal.main_arg6))
      ∧ θ_run (Cert.UpSRefIdeal.defs (F := Ideal)) (onTc (τ := Cert.UpSRefIdeal.τ) (Cert.UpSRefIdeal.main (F := Ideal))) ⟨m', fun _ => 0, g'⟩ (fun r => ∀ c : Dev Cert.UpSRefIdeal.nD,
          r.2.mem ((c.tc : Thread Cert.UpSRefIdeal.nD Cert.UpSRefIdeal.τ).loc Cert.UpSRefIdeal.main_v48) = v0 c
          ∧ r.2.mem ((c.tc : Thread Cert.UpSRefIdeal.nD Cert.UpSRefIdeal.τ).loc Cert.UpSRefIdeal.main_v49) = v1 c
          ∧ r.2.mem ((c.tc : Thread Cert.UpSRefIdeal.nD Cert.UpSRefIdeal.τ).loc Cert.UpSRefIdeal.main_arg0) = m' ((c.tc : Thread Cert.UpSRefIdeal.nD Cert.UpSRefIdeal.τ).loc Cert.UpSRefIdeal.main_arg0)
          ∧ r.2.mem ((c.tc : Thread Cert.UpSRefIdeal.nD Cert.UpSRefIdeal.τ).loc Cert.UpSRefIdeal.main_arg1) = m' ((c.tc : Thread Cert.UpSRefIdeal.nD Cert.UpSRefIdeal.τ).loc Cert.UpSRefIdeal.main_arg1)
          ∧ r.2.mem ((c.tc : Thread Cert.UpSRefIdeal.nD Cert.UpSRefIdeal.τ).loc Cert.UpSRefIdeal.main_arg2) = m' ((c.tc : Thread Cert.UpSRefIdeal.nD Cert.UpSRefIdeal.τ).loc Cert.UpSRefIdeal.main_arg2)
          ∧ r.2.mem ((c.tc : Thread Cert.UpSRefIdeal.nD Cert.UpSRefIdeal.τ).loc Cert.UpSRefIdeal.main_arg3) = m' ((c.tc : Thread Cert.UpSRefIdeal.nD Cert.UpSRefIdeal.τ).loc Cert.UpSRefIdeal.main_arg3)
          ∧ r.2.mem ((c.tc : Thread Cert.UpSRefIdeal.nD Cert.UpSRefIdeal.τ).loc Cert.UpSRefIdeal.main_arg4) = m' ((c.tc : Thread Cert.UpSRefIdeal.nD Cert.UpSRefIdeal.τ).loc Cert.UpSRefIdeal.main_arg4)
          ∧ r.2.mem ((c.tc : Thread Cert.UpSRefIdeal.nD Cert.UpSRefIdeal.τ).loc Cert.UpSRefIdeal.main_arg5) = m' ((c.tc : Thread Cert.UpSRefIdeal.nD Cert.UpSRefIdeal.τ).loc Cert.UpSRefIdeal.main_arg5)
          ∧ r.2.mem ((c.tc : Thread Cert.UpSRefIdeal.nD Cert.UpSRefIdeal.τ).loc Cert.UpSRefIdeal.main_arg6) = m' ((c.tc : Thread Cert.UpSRefIdeal.nD Cert.UpSRefIdeal.τ).loc Cert.UpSRefIdeal.main_arg6))

def preserves_GateS_GateSIdeal : Prop :=
  True

def algebraic_GateSIdeal_GateSRefIdeal [hGateSIdeal : Cert.GateSIdeal.Facts] [hGateSRefIdeal : Cert.GateSRefIdeal.Facts] : Prop :=
  ∀ (m : (ℓ : Loc Cert.GateSIdeal.nD Cert.GateSIdeal.τ Cert.GateSIdeal.sig) → Buf (Elt Ideal) ℓ) (g : Dev Cert.GateSIdeal.nD → PrngReg)
    (m' : (ℓ : Loc Cert.GateSRefIdeal.nD Cert.GateSRefIdeal.τ Cert.GateSRefIdeal.sig) → Buf (Elt Ideal) ℓ) (g' : Dev Cert.GateSRefIdeal.nD → PrngReg), Pre_GateSIdeal m →
    (∀ c : Dev Cert.GateSIdeal.nD,
      m' ((c.tc : Thread Cert.GateSRefIdeal.nD Cert.GateSRefIdeal.τ).loc Cert.GateSRefIdeal.main_arg0) = m ((c.tc : Thread Cert.GateSIdeal.nD Cert.GateSIdeal.τ).loc Cert.GateSIdeal.main_arg0)
      ∧ m' ((c.tc : Thread Cert.GateSRefIdeal.nD Cert.GateSRefIdeal.τ).loc Cert.GateSRefIdeal.main_arg1) = m ((c.tc : Thread Cert.GateSIdeal.nD Cert.GateSIdeal.τ).loc Cert.GateSIdeal.main_arg1)
      ∧ m' ((c.tc : Thread Cert.GateSRefIdeal.nD Cert.GateSRefIdeal.τ).loc Cert.GateSRefIdeal.main_arg2) = m ((c.tc : Thread Cert.GateSIdeal.nD Cert.GateSIdeal.τ).loc Cert.GateSIdeal.main_arg2)
      ∧ m' ((c.tc : Thread Cert.GateSRefIdeal.nD Cert.GateSRefIdeal.τ).loc Cert.GateSRefIdeal.main_arg3) = m ((c.tc : Thread Cert.GateSIdeal.nD Cert.GateSIdeal.τ).loc Cert.GateSIdeal.main_arg3)
      ∧ m' ((c.tc : Thread Cert.GateSRefIdeal.nD Cert.GateSRefIdeal.τ).loc Cert.GateSRefIdeal.main_arg4) = m ((c.tc : Thread Cert.GateSIdeal.nD Cert.GateSIdeal.τ).loc Cert.GateSIdeal.main_arg4)
      ∧ m' ((c.tc : Thread Cert.GateSRefIdeal.nD Cert.GateSRefIdeal.τ).loc Cert.GateSRefIdeal.main_arg5) = m ((c.tc : Thread Cert.GateSIdeal.nD Cert.GateSIdeal.τ).loc Cert.GateSIdeal.main_arg5)
      ∧ m' ((c.tc : Thread Cert.GateSRefIdeal.nD Cert.GateSRefIdeal.τ).loc Cert.GateSRefIdeal.main_arg6) = m ((c.tc : Thread Cert.GateSIdeal.nD Cert.GateSIdeal.τ).loc Cert.GateSIdeal.main_arg6)) →
    ∃ (v0 : (c : Dev Cert.GateSIdeal.nD) → Buf (Elt Ideal) ((c.tc : Thread Cert.GateSIdeal.nD Cert.GateSIdeal.τ).loc Cert.GateSIdeal.main_v0)),
      θ_run (Cert.GateSIdeal.defs (F := Ideal)) (onTc (τ := Cert.GateSIdeal.τ) (Cert.GateSIdeal.main (F := Ideal))) ⟨m, fun _ => 0, g⟩ (fun r => ∀ c : Dev Cert.GateSIdeal.nD,
          r.2.mem ((c.tc : Thread Cert.GateSIdeal.nD Cert.GateSIdeal.τ).loc Cert.GateSIdeal.main_v0) = v0 c
          ∧ r.2.mem ((c.tc : Thread Cert.GateSIdeal.nD Cert.GateSIdeal.τ).loc Cert.GateSIdeal.main_arg0) = m ((c.tc : Thread Cert.GateSIdeal.nD Cert.GateSIdeal.τ).loc Cert.GateSIdeal.main_arg0)
          ∧ r.2.mem ((c.tc : Thread Cert.GateSIdeal.nD Cert.GateSIdeal.τ).loc Cert.GateSIdeal.main_arg1) = m ((c.tc : Thread Cert.GateSIdeal.nD Cert.GateSIdeal.τ).loc Cert.GateSIdeal.main_arg1)
          ∧ r.2.mem ((c.tc : Thread Cert.GateSIdeal.nD Cert.GateSIdeal.τ).loc Cert.GateSIdeal.main_arg2) = m ((c.tc : Thread Cert.GateSIdeal.nD Cert.GateSIdeal.τ).loc Cert.GateSIdeal.main_arg2)
          ∧ r.2.mem ((c.tc : Thread Cert.GateSIdeal.nD Cert.GateSIdeal.τ).loc Cert.GateSIdeal.main_arg3) = m ((c.tc : Thread Cert.GateSIdeal.nD Cert.GateSIdeal.τ).loc Cert.GateSIdeal.main_arg3)
          ∧ r.2.mem ((c.tc : Thread Cert.GateSIdeal.nD Cert.GateSIdeal.τ).loc Cert.GateSIdeal.main_arg4) = m ((c.tc : Thread Cert.GateSIdeal.nD Cert.GateSIdeal.τ).loc Cert.GateSIdeal.main_arg4)
          ∧ r.2.mem ((c.tc : Thread Cert.GateSIdeal.nD Cert.GateSIdeal.τ).loc Cert.GateSIdeal.main_arg5) = m ((c.tc : Thread Cert.GateSIdeal.nD Cert.GateSIdeal.τ).loc Cert.GateSIdeal.main_arg5)
          ∧ r.2.mem ((c.tc : Thread Cert.GateSIdeal.nD Cert.GateSIdeal.τ).loc Cert.GateSIdeal.main_arg6) = m ((c.tc : Thread Cert.GateSIdeal.nD Cert.GateSIdeal.τ).loc Cert.GateSIdeal.main_arg6))
      ∧ θ_run (Cert.GateSRefIdeal.defs (F := Ideal)) (onTc (τ := Cert.GateSRefIdeal.τ) (Cert.GateSRefIdeal.main (F := Ideal))) ⟨m', fun _ => 0, g'⟩ (fun r => ∀ c : Dev Cert.GateSRefIdeal.nD,
          r.2.mem ((c.tc : Thread Cert.GateSRefIdeal.nD Cert.GateSRefIdeal.τ).loc Cert.GateSRefIdeal.main_v21) = v0 c
          ∧ r.2.mem ((c.tc : Thread Cert.GateSRefIdeal.nD Cert.GateSRefIdeal.τ).loc Cert.GateSRefIdeal.main_arg0) = m' ((c.tc : Thread Cert.GateSRefIdeal.nD Cert.GateSRefIdeal.τ).loc Cert.GateSRefIdeal.main_arg0)
          ∧ r.2.mem ((c.tc : Thread Cert.GateSRefIdeal.nD Cert.GateSRefIdeal.τ).loc Cert.GateSRefIdeal.main_arg1) = m' ((c.tc : Thread Cert.GateSRefIdeal.nD Cert.GateSRefIdeal.τ).loc Cert.GateSRefIdeal.main_arg1)
          ∧ r.2.mem ((c.tc : Thread Cert.GateSRefIdeal.nD Cert.GateSRefIdeal.τ).loc Cert.GateSRefIdeal.main_arg2) = m' ((c.tc : Thread Cert.GateSRefIdeal.nD Cert.GateSRefIdeal.τ).loc Cert.GateSRefIdeal.main_arg2)
          ∧ r.2.mem ((c.tc : Thread Cert.GateSRefIdeal.nD Cert.GateSRefIdeal.τ).loc Cert.GateSRefIdeal.main_arg3) = m' ((c.tc : Thread Cert.GateSRefIdeal.nD Cert.GateSRefIdeal.τ).loc Cert.GateSRefIdeal.main_arg3)
          ∧ r.2.mem ((c.tc : Thread Cert.GateSRefIdeal.nD Cert.GateSRefIdeal.τ).loc Cert.GateSRefIdeal.main_arg4) = m' ((c.tc : Thread Cert.GateSRefIdeal.nD Cert.GateSRefIdeal.τ).loc Cert.GateSRefIdeal.main_arg4)
          ∧ r.2.mem ((c.tc : Thread Cert.GateSRefIdeal.nD Cert.GateSRefIdeal.τ).loc Cert.GateSRefIdeal.main_arg5) = m' ((c.tc : Thread Cert.GateSRefIdeal.nD Cert.GateSRefIdeal.τ).loc Cert.GateSRefIdeal.main_arg5)
          ∧ r.2.mem ((c.tc : Thread Cert.GateSRefIdeal.nD Cert.GateSRefIdeal.τ).loc Cert.GateSRefIdeal.main_arg6) = m' ((c.tc : Thread Cert.GateSRefIdeal.nD Cert.GateSRefIdeal.τ).loc Cert.GateSRefIdeal.main_arg6))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v4) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v65) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def Claim : Prop :=
  ∃ (hGate : Cert.Gate.Facts) (hGateIdeal : Cert.GateIdeal.Facts) (hGateRefIdeal : Cert.GateRefIdeal.Facts) (hXattn : Cert.Xattn.Facts) (hXattnIdeal : Cert.XattnIdeal.Facts) (hXattnRefIdeal : Cert.XattnRefIdeal.Facts) (hWin : Cert.Win.Facts) (hWinIdeal : Cert.WinIdeal.Facts) (hWinRefIdeal : Cert.WinRefIdeal.Facts) (hWout : Cert.Wout.Facts) (hWoutIdeal : Cert.WoutIdeal.Facts) (hWoutRefIdeal : Cert.WoutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMemkv : Cert.Memkv.Facts) (hMemkvIdeal : Cert.MemkvIdeal.Facts) (hMemkvRefIdeal : Cert.MemkvRefIdeal.Facts) (hNorm : Cert.Norm.Facts) (hNormIdeal : Cert.NormIdeal.Facts) (hNormRefIdeal : Cert.NormRefIdeal.Facts) (hNormS : Cert.NormS.Facts) (hNormSIdeal : Cert.NormSIdeal.Facts) (hNormSRefIdeal : Cert.NormSRefIdeal.Facts) (hWinS : Cert.WinS.Facts) (hWinSIdeal : Cert.WinSIdeal.Facts) (hWinSRefIdeal : Cert.WinSRefIdeal.Facts) (hWoutS : Cert.WoutS.Facts) (hWoutSIdeal : Cert.WoutSIdeal.Facts) (hWoutSRefIdeal : Cert.WoutSRefIdeal.Facts) (hDownS : Cert.DownS.Facts) (hDownSIdeal : Cert.DownSIdeal.Facts) (hDownSRefIdeal : Cert.DownSRefIdeal.Facts) (hSguS : Cert.SguS.Facts) (hSguSIdeal : Cert.SguSIdeal.Facts) (hSguSRefIdeal : Cert.SguSRefIdeal.Facts) (hUpS : Cert.UpS.Facts) (hUpSIdeal : Cert.UpSIdeal.Facts) (hUpSRefIdeal : Cert.UpSRefIdeal.Facts) (hGateS : Cert.GateS.Facts) (hGateSIdeal : Cert.GateSIdeal.Facts) (hGateSRefIdeal : Cert.GateSRefIdeal.Facts) (hSgu : Cert.Sgu.Facts) (hSguIdeal : Cert.SguIdeal.Facts) (hSguRefIdeal : Cert.SguRefIdeal.Facts),
    quiescent_Gate (hGate := hGate)
    ∧ quiescent_GateIdeal (hGateIdeal := hGateIdeal)
    ∧ quiescent_GateRefIdeal (hGateRefIdeal := hGateRefIdeal)
    ∧ quiescent_Xattn (hXattn := hXattn)
    ∧ quiescent_XattnIdeal (hXattnIdeal := hXattnIdeal)
    ∧ quiescent_XattnRefIdeal (hXattnRefIdeal := hXattnRefIdeal)
    ∧ quiescent_Win (hWin := hWin)
    ∧ quiescent_WinIdeal (hWinIdeal := hWinIdeal)
    ∧ quiescent_WinRefIdeal (hWinRefIdeal := hWinRefIdeal)
    ∧ quiescent_Wout (hWout := hWout)
    ∧ quiescent_WoutIdeal (hWoutIdeal := hWoutIdeal)
    ∧ quiescent_WoutRefIdeal (hWoutRefIdeal := hWoutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Norm (hNorm := hNorm)
    ∧ quiescent_NormIdeal (hNormIdeal := hNormIdeal)
    ∧ quiescent_NormRefIdeal (hNormRefIdeal := hNormRefIdeal)
    ∧ quiescent_NormS (hNormS := hNormS)
    ∧ quiescent_NormSIdeal (hNormSIdeal := hNormSIdeal)
    ∧ quiescent_NormSRefIdeal (hNormSRefIdeal := hNormSRefIdeal)
    ∧ quiescent_WinS (hWinS := hWinS)
    ∧ quiescent_WinSIdeal (hWinSIdeal := hWinSIdeal)
    ∧ quiescent_WinSRefIdeal (hWinSRefIdeal := hWinSRefIdeal)
    ∧ quiescent_WoutS (hWoutS := hWoutS)
    ∧ quiescent_WoutSIdeal (hWoutSIdeal := hWoutSIdeal)
    ∧ quiescent_WoutSRefIdeal (hWoutSRefIdeal := hWoutSRefIdeal)
    ∧ quiescent_DownS (hDownS := hDownS)
    ∧ quiescent_DownSIdeal (hDownSIdeal := hDownSIdeal)
    ∧ quiescent_DownSRefIdeal (hDownSRefIdeal := hDownSRefIdeal)
    ∧ quiescent_SguS (hSguS := hSguS)
    ∧ quiescent_SguSIdeal (hSguSIdeal := hSguSIdeal)
    ∧ quiescent_SguSRefIdeal (hSguSRefIdeal := hSguSRefIdeal)
    ∧ quiescent_UpS (hUpS := hUpS)
    ∧ quiescent_UpSIdeal (hUpSIdeal := hUpSIdeal)
    ∧ quiescent_UpSRefIdeal (hUpSRefIdeal := hUpSRefIdeal)
    ∧ quiescent_GateS (hGateS := hGateS)
    ∧ quiescent_GateSIdeal (hGateSIdeal := hGateSIdeal)
    ∧ quiescent_GateSRefIdeal (hGateSRefIdeal := hGateSRefIdeal)
    ∧ quiescent_Sgu (hSgu := hSgu)
    ∧ quiescent_SguIdeal (hSguIdeal := hSguIdeal)
    ∧ quiescent_SguRefIdeal (hSguRefIdeal := hSguRefIdeal)
    ∧ preserves_Gate_GateIdeal
    ∧ algebraic_GateIdeal_GateRefIdeal (hGateIdeal := hGateIdeal) (hGateRefIdeal := hGateRefIdeal)
    ∧ preserves_Xattn_XattnIdeal
    ∧ algebraic_XattnIdeal_XattnRefIdeal (hXattnIdeal := hXattnIdeal) (hXattnRefIdeal := hXattnRefIdeal)
    ∧ preserves_Win_WinIdeal
    ∧ algebraic_WinIdeal_WinRefIdeal (hWinIdeal := hWinIdeal) (hWinRefIdeal := hWinRefIdeal)
    ∧ preserves_Wout_WoutIdeal
    ∧ algebraic_WoutIdeal_WoutRefIdeal (hWoutIdeal := hWoutIdeal) (hWoutRefIdeal := hWoutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Memkv_MemkvIdeal
    ∧ algebraic_MemkvIdeal_MemkvRefIdeal (hMemkvIdeal := hMemkvIdeal) (hMemkvRefIdeal := hMemkvRefIdeal)
    ∧ preserves_Norm_NormIdeal
    ∧ algebraic_NormIdeal_NormRefIdeal (hNormIdeal := hNormIdeal) (hNormRefIdeal := hNormRefIdeal)
    ∧ preserves_NormS_NormSIdeal
    ∧ algebraic_NormSIdeal_NormSRefIdeal (hNormSIdeal := hNormSIdeal) (hNormSRefIdeal := hNormSRefIdeal)
    ∧ preserves_WinS_WinSIdeal
    ∧ algebraic_WinSIdeal_WinSRefIdeal (hWinSIdeal := hWinSIdeal) (hWinSRefIdeal := hWinSRefIdeal)
    ∧ preserves_WoutS_WoutSIdeal
    ∧ algebraic_WoutSIdeal_WoutSRefIdeal (hWoutSIdeal := hWoutSIdeal) (hWoutSRefIdeal := hWoutSRefIdeal)
    ∧ preserves_DownS_DownSIdeal
    ∧ algebraic_DownSIdeal_DownSRefIdeal (hDownSIdeal := hDownSIdeal) (hDownSRefIdeal := hDownSRefIdeal)
    ∧ preserves_SguS_SguSIdeal
    ∧ algebraic_SguSIdeal_SguSRefIdeal (hSguSIdeal := hSguSIdeal) (hSguSRefIdeal := hSguSRefIdeal)
    ∧ preserves_UpS_UpSIdeal
    ∧ algebraic_UpSIdeal_UpSRefIdeal (hUpSIdeal := hUpSIdeal) (hUpSRefIdeal := hUpSRefIdeal)
    ∧ preserves_GateS_GateSIdeal
    ∧ algebraic_GateSIdeal_GateSRefIdeal (hGateSIdeal := hGateSIdeal) (hGateSRefIdeal := hGateSRefIdeal)
    ∧ preserves_Sgu_SguIdeal
    ∧ algebraic_SguIdeal_SguRefIdeal (hSguIdeal := hSguIdeal) (hSguRefIdeal := hSguRefIdeal)
-- ==== Gate.lean ====
abbrev S8192x2048 : Shape := ⟨2, ![8192, 2048]⟩
abbrev S8192x1024 : Shape := ⟨2, ![8192, 1024]⟩
abbrev S2048x12544 : Shape := ⟨2, ![2048, 12544]⟩
abbrev S3x1024x2048 : Shape := ⟨3, ![3, 1024, 2048]⟩
abbrev S2048x2048 : Shape := ⟨2, ![2048, 2048]⟩
abbrev S3x2048x2048 : Shape := ⟨3, ![3, 2048, 2048]⟩
abbrev S1024x2048 : Shape := ⟨2, ![1024, 2048]⟩
abbrev S1024x1024 : Shape := ⟨2, ![1024, 1024]⟩
abbrev S2048x256 : Shape := ⟨2, ![2048, 256]⟩
abbrev S3x1024x256 : Shape := ⟨3, ![3, 1024, 256]⟩
abbrev S32x2048 : Shape := ⟨2, ![32, 2048]⟩
abbrev S1024x256 : Shape := ⟨2, ![1024, 256]⟩
abbrev S3x2048x256 : Shape := ⟨3, ![3, 2048, 256]⟩
abbrev S1x2048x256 : Shape := ⟨3, ![1, 2048, 256]⟩
abbrev S1x1024x256 : Shape := ⟨3, ![1, 1024, 256]⟩

abbrev nBuf : Space → Nat
  | .hbm => 11
  | .vmem => 26
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2048x12544, .f32⟩
  | .hbm, ⟨5, _⟩ => ⟨S3x1024x2048, .f32⟩
  | .hbm, ⟨6, _⟩ => ⟨S2048x2048, .f32⟩
  | .hbm, ⟨7, _⟩ => ⟨S8192x2048, .bf16⟩
  | .hbm, ⟨8, _⟩ => ⟨S3x2048x2048, .bf16⟩
  | .hbm, ⟨9, _⟩ => ⟨S3x1024x2048, .bf16⟩
  | .hbm, ⟨10, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S3x1024x256, .f32⟩
  | .local _ .vmem, ⟨15, _⟩ => ⟨S3x1024x256, .f32⟩
  | .local _ .vmem, ⟨16, _⟩ => ⟨S32x2048, .f32⟩
  | .local _ .vmem, ⟨17, _⟩ => ⟨S32x2048, .f32⟩
  | .local _ .vmem, ⟨18, _⟩ => ⟨S1024x256, .bf16⟩
  | .local _ .vmem, ⟨19, _⟩ => ⟨S1024x256, .bf16⟩
  | .local _ .vmem, ⟨20, _⟩ => ⟨S3x2048x256, .bf16⟩
  | .local _ .vmem, ⟨21, _⟩ => ⟨S3x2048x256, .bf16⟩
  | .local _ .vmem, ⟨22, _⟩ => ⟨S3x1024x256, .bf16⟩
  | .local _ .vmem, ⟨23, _⟩ => ⟨S3x1024x256, .bf16⟩
  | .local _ .vmem, ⟨24, _⟩ => ⟨S32x2048, .bf16⟩
  | .local _ .vmem, ⟨25, _⟩ => ⟨S32x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c6400_i32 : BitVec 32 := 6400#32
  let arg0 : BitVec 32 := BitVec.ofNat 32 (i 0).val
  let c256_i32 : BitVec 32 := 256#32
  let v0 : BitVec 32 := Scalar.muli arg0 c256_i32
  let v1 : BitVec 32 := Scalar.addi c6400_i32 v0
  v1
def k0_mult2 (i : grid0.Coords) : BitVec 32 :=
  let c8448_i32 : BitVec 32 := 8448#32
  let arg0 : BitVec 32 := BitVec.ofNat 32 (i 0).val
  let c256_i32 : BitVec 32 := 256#32
  let v0 : BitVec 32 := Scalar.muli arg0 c256_i32
  let v1 : BitVec 32 := Scalar.addi c8448_i32 v0
  v1
def k0_mult3 (i : grid0.Coords) : BitVec 32 :=
  let c10496_i32 : BitVec 32 := 10496#32
  let arg0 : BitVec 32 := BitVec.ofNat 32 (i 0).val
  let c256_i32 : BitVec 32 := 256#32
  let v0 : BitVec 32 := Scalar.muli arg0 c256_i32
  let v1 : BitVec 32 := Scalar.addi c10496_i32 v0
  v1
def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c6400_i32 : BitVec 32 := 6400#32
  let v1 : BitVec 32 := Scalar.addi c6400_i32 v0
  let v2 : BitVec 32 := v1
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c8448_i32 : BitVec 32 := 8448#32
  let v1 : BitVec 32 := Scalar.addi c8448_i32 v0
  let v2 : BitVec 32 := v1
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c10496_i32 : BitVec 32 := 10496#32
  let v1 : BitVec 32 := Scalar.addi c10496_i32 v0
  let v2 : BitVec 32 := v1
  let c0_i32 : BitVec 32 := 0#32
  let c0_i32_0 : BitVec 32 := 0#32
  ![c0_i32.toNat, v2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S3x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== GateRefIdeal.lean ====
abbrev S8192x2048 : Shape := ⟨2, ![8192, 2048]⟩
abbrev S8192x1024 : Shape := ⟨2, ![8192, 1024]⟩
abbrev S2048x12544 : Shape := ⟨2, ![2048, 12544]⟩
abbrev S3x1024x2048 : Shape := ⟨3, ![3, 1024, 2048]⟩
abbrev S2048x2048 : Shape := ⟨2, ![2048, 2048]⟩
abbrev S8192x12544 : Shape := ⟨2, ![8192, 12544]⟩
abbrev S8192x6144 : Shape := ⟨2, ![8192, 6144]⟩
abbrev S8192x1x1024 : Shape := ⟨3, ![8192, 1, 1024]⟩
abbrev S8192x3x1024 : Shape := ⟨3, ![8192, 3, 1024]⟩
abbrev S3x2048x8192 : Shape := ⟨3, ![3, 2048, 8192]⟩
abbrev S8192x3x2048 : Shape := ⟨3, ![8192, 3, 2048]⟩
abbrev S_ : Shape := ⟨0, ![]⟩
abbrev S2048x6144 : Shape := ⟨2, ![2048, 6144]⟩
abbrev S2048x3x2048 : Shape := ⟨3, ![2048, 3, 2048]⟩
abbrev S3x2048x2048 : Shape := ⟨3, ![3, 2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2048x12544, .f32⟩
  | .hbm, ⟨5, _⟩ => ⟨S3x1024x2048, .f32⟩
  | .hbm, ⟨6, _⟩ => ⟨S2048x2048, .f32⟩
  | .hbm, ⟨7, _⟩ => ⟨S8192x2048, .f32⟩
  | .hbm, ⟨8, _⟩ => ⟨S8192x12544, .f32⟩
  | .hbm, ⟨9, _⟩ => ⟨S8192x6144, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1x1024, .f32⟩
  | .hbm, ⟨14, _⟩ => ⟨S8192x1x1024, .f32⟩
  | .hbm, ⟨15, _⟩ => ⟨S8192x1x1024, .f32⟩
  | .hbm, ⟨16, _⟩ => ⟨S8192x3x1024, .f32⟩
  | .hbm, ⟨17, _⟩ => ⟨S3x2048x8192, .f32⟩
  | .hbm, ⟨18, _⟩ => ⟨S8192x3x2048, .f32⟩
  | .hbm, ⟨19, _⟩ => ⟨S8192x3x2048, .f32⟩
  | .hbm, ⟨20, _⟩ => ⟨S8192x3x2048, .f32⟩
  | .hbm, ⟨21, _⟩ => ⟨S8192x3x2048, .f32⟩
  | .hbm, ⟨22, _⟩ => ⟨S_, .f32⟩
  | .hbm, ⟨23, _⟩ => ⟨S8192x3x2048, .f32⟩
  | .hbm, ⟨24, _⟩ => ⟨S8192x3x2048, .f32⟩
  | .hbm, ⟨25, _⟩ => ⟨S_, .f32⟩
  | .hbm, ⟨26, _⟩ => ⟨S8192x3x2048, .f32⟩
  | .hbm, ⟨27, _⟩ => ⟨S8192x3x2048, .f32⟩
  | .hbm, ⟨28, _⟩ => ⟨S8192x3x2048, .f32⟩
  | .hbm, ⟨29, _⟩ => ⟨S_, .f32⟩
  | .hbm, ⟨30, _⟩ => ⟨S8192x2048, .f32⟩
  | .hbm, ⟨31, _⟩ => ⟨S2048x6144, .f32⟩
  | .hbm, ⟨32, _⟩ => ⟨S2048x3x2048, .f32⟩
  | .hbm, ⟨33, _⟩ => ⟨S3x2048x2048, .f32⟩
  | .hbm, ⟨34, _⟩ => ⟨S8192x2048, .bf16⟩
  | .hbm, ⟨35, _⟩ => ⟨S3x2048x2048, .bf16⟩
  | .hbm, ⟨36, _⟩ => ⟨S3x1024x2048, .bf16⟩
  | .hbm, ⟨37, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Xattn.lean ====
abbrev S8192x6400 : Shape := ⟨2, ![8192, 6400]⟩
abbrev S1024x1024 : Shape := ⟨2, ![1024, 1024]⟩
abbrev S8192x1024 : Shape := ⟨2, ![8192, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x6400, .f32⟩
  | .hbm, ⟨1, _⟩ => ⟨S1024x1024, .f32⟩
  | .hbm, ⟨2, _⟩ => ⟨S1024x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1024_i32 : BitVec 32 := 1024#32
  let v2 : BitVec 32 := Scalar.muli v1 c1024_i32
  v2
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1024_i32 : BitVec 32 := 1024#32
  let v2 : BitVec 32 := Scalar.muli v1 c1024_i32
  let v3 : BitVec 32 := v2
  let c5376_i32 : BitVec 32 := 5376#32
  let c0_i32 : BitVec 32 := 0#32
  ![v3.toNat, c5376_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XattnRefIdeal.lean ====
abbrev S8192x6400 : Shape := ⟨2, ![8192, 6400]⟩
abbrev S1024x1024 : Shape := ⟨2, ![1024, 1024]⟩
abbrev S8192x1024 : Shape := ⟨2, ![8192, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x6400, .f32⟩
  | .hbm, ⟨1, _⟩ => ⟨S1024x1024, .f32⟩
  | .hbm, ⟨2, _⟩ => ⟨S1024x1024, .f32⟩
  | .hbm, ⟨3, _⟩ => ⟨S8192x1024, .f32⟩
  | .hbm, ⟨4, _⟩ => ⟨S4x2048x4x256, .f32⟩
  | .hbm, ⟨5, _⟩ => ⟨S4x256x4x256, .f32⟩
  | .hbm, ⟨6, _⟩ => ⟨S4x256x4x256, .f32⟩
  | .hbm, ⟨7, _⟩ => ⟨S4x4x2048x256, .f32⟩
  | .hbm, ⟨8, _⟩ => ⟨S_, .f32⟩
  | .hbm, ⟨9, _⟩ => ⟨S4x4x2048x256, .f32⟩
  | .hbm, ⟨10, _⟩ => ⟨S4x4x2048x256, .f32⟩
  | .hbm, ⟨11, _⟩ => ⟨S_, .f32⟩
  | .hbm, ⟨12, _⟩ => ⟨S4x4x2048, .f32⟩
  | .hbm, ⟨13, _⟩ => ⟨S_, .f32⟩
  | .hbm, ⟨14, _⟩ => ⟨S4x4x2048, .f32⟩
  | .hbm, ⟨15, _⟩ => ⟨S4x4x2048, .f32⟩
  | .hbm, ⟨16, _⟩ => ⟨S4x4x2048x1, .f32⟩
  | .hbm, ⟨17, _⟩ => ⟨S4x4x2048x256, .f32⟩
  | .hbm, ⟨18, _⟩ => ⟨S4x4x2048x256, .f32⟩
  | .hbm, ⟨19, _⟩ => ⟨S4x4x2048x256, .f32⟩
  | .hbm, ⟨20, _⟩ => ⟨S_, .f32⟩
  | .hbm, ⟨21, _⟩ => ⟨S4x4x2048, .f32⟩
  | .hbm, ⟨22, _⟩ => ⟨S4x4x2048x1, .f32⟩
  | .hbm, ⟨23, _⟩ => ⟨S4x4x2048x256, .f32⟩
  | .hbm, ⟨24, _⟩ => ⟨S4x4x2048x256, .f32⟩
  | .hbm, ⟨25, _⟩ => ⟨S4x4x256x2048, .f32⟩
  | .hbm, ⟨26, _⟩ => ⟨S4x2048x4x256, .f32⟩
  | .hbm, ⟨27, _⟩ => ⟨S8192x1024, .f32⟩
  | .hbm, ⟨28, _⟩ => ⟨S8192x1024, .bf16⟩
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Win.lean ====
abbrev S8192x2048 : Shape := ⟨2, ![8192, 2048]⟩
abbrev S2048x12544 : Shape := ⟨2, ![2048, 12544]⟩
abbrev S8192x6400 : Shape := ⟨2, ![8192, 6400]⟩
abbrev S2048x6400 : Shape := ⟨2, ![2048, 6400]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x12544, .f32⟩
  | .hbm, ⟨2, _⟩ => ⟨S8192x6400, .f32⟩
  | .hbm, ⟨3, _⟩ => ⟨S2048x6400, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1280, .f32⟩
  | .local _ .vmem, ⟨3, _⟩ => ⟨S2048x1280, .f32⟩
  | .local _ .vmem, ⟨4, _⟩ => ⟨S1024x1280, .f32⟩
  | .local _ .vmem, ⟨5, _⟩ => ⟨S1024x1280, .f32⟩
  | .local _ .vmem, ⟨6, _⟩ => ⟨S2048x1280, .bf16⟩
  | .local _ .vmem, ⟨7, _⟩ => ⟨S2048x1280, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 8], ![false, false]⟩

def k0_mult1 (i : grid0.Coords) : BitVec 32 :=
  let c0_i32 : BitVec 32 := 0#32
  let arg0 : BitVec 32 := BitVec.ofNat 32 (i 0).val
  let c1280_i32 : BitVec 32 := 1280#32
  let v0 : BitVec 32 := Scalar.muli arg0 c1280_i32
  let v1 : BitVec 32 := Scalar.addi c0_i32 v0
  v1
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1280_i32 : BitVec 32 := 1280#32
  let v0 : BitVec 32 := Scalar.muli arg0 c1280_i32
  let c0_i32 : BitVec 32 := 0#32
  let v1 : BitVec 32 := Scalar.addi c0_i32 v0
  let v2 : BitVec 32 := v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WinRefIdeal.lean ====
abbrev S8192x2048 : Shape := ⟨2, ![8192, 2048]⟩
abbrev S2048x12544 : Shape := ⟨2, ![2048, 12544]⟩
abbrev S2048x6400 : Shape := ⟨2, ![2048, 6400]⟩
abbrev S8192x12544 : Shape := ⟨2, ![8192, 12544]⟩
abbrev S8192x6400 : Shape := ⟨2, ![8192, 6400]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12544, .f32⟩
  | .hbm, ⟨2, _⟩ => ⟨S2048x6400, .f32⟩
  | .hbm, ⟨3, _⟩ => ⟨S8192x2048, .f32⟩
  | .hbm, ⟨4, _⟩ => ⟨S8192x12544, .f32⟩
  | .hbm, ⟨5, _⟩ => ⟨S8192x6400, .f32⟩
  | .hbm, ⟨6, _⟩ => ⟨S2048x6400, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Wout.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WoutIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WoutRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Up.lean ====
abbrev S8192x2048 : Shape := ⟨2, ![8192, 2048]⟩
abbrev S2048x11264 : Shape := ⟨2, ![2048, 11264]⟩
abbrev S4x2x11264 : Shape := ⟨3, ![4, 2, 11264]⟩
abbrev S3x11264 : Shape := ⟨2, ![3, 11264]⟩
abbrev S11264 : Shape := ⟨1, ![11264]⟩
abbrev S5632x2048 : Shape := ⟨2, ![5632, 2048]⟩
abbrev S1x11264 : Shape := ⟨2, ![1, 11264]⟩
abbrev S8192x5632 : Shape := ⟨2, ![8192, 5632]⟩
abbrev S32x5632 : Shape := ⟨2, ![32, 5632]⟩
abbrev S2048x5632 : Shape := ⟨2, ![2048, 5632]⟩
abbrev S1024x2048 : Shape := ⟨2, ![1024, 2048]⟩
abbrev S2048x512 : Shape := ⟨2, ![2048, 512]⟩
abbrev S1x2x512 : Shape := ⟨3, ![1, 2, 512]⟩
abbrev S3x512 : Shape := ⟨2, ![3, 512]⟩
abbrev S1x512 : Shape := ⟨2, ![1, 512]⟩
abbrev S64x2048 : Shape := ⟨2, ![64, 2048]⟩
abbrev S1024x512 : Shape := ⟨2, ![1024, 512]⟩
abbrev S8x512 : Shape := ⟨2, ![8, 512]⟩
abbrev S1x1x512 : Shape := ⟨3, ![1, 1, 512]⟩
abbrev S1016x512 : Shape := ⟨2, ![1016, 512]⟩
abbrev S32x11264 : Shape := ⟨2, ![32, 11264]⟩
abbrev S4x8x11264 : Shape := ⟨3, ![4, 8, 11264]⟩

abbrev nBuf : Space → Nat
  | .hbm => 17
  | .vmem => 34
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S4x2x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S1x11264, .f32⟩
  | .hbm, ⟨7, _⟩ => ⟨S1x11264, .f32⟩
  | .hbm, ⟨8, _⟩ => ⟨S8192x5632, .bf16⟩
  | .hbm, ⟨9, _⟩ => ⟨S32x5632, .f32⟩
  | .hbm, ⟨10, _⟩ => ⟨S32x5632, .f32⟩
  | .hbm, ⟨11, _⟩ => ⟨S2048x5632, .bf16⟩
  | .hbm, ⟨12, _⟩ => ⟨S2048x5632, .bf16⟩
  | .hbm, ⟨13, _⟩ => ⟨S5632x2048, .bf16⟩
  | .hbm, ⟨14, _⟩ => ⟨S32x11264, .f32⟩
  | .hbm, ⟨15, _⟩ => ⟨S4x8x11264, .f32⟩
  | .hbm, ⟨16, _⟩ => ⟨S4x2x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1x2x512, .f32⟩
  | .local _ .vmem, ⟨7, _⟩ => ⟨S1x2x512, .f32⟩
  | .local _ .vmem, ⟨8, _⟩ => ⟨S1x2x512, .f32⟩
  | .local _ .vmem, ⟨9, _⟩ => ⟨S1x2x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S64x2048, .f32⟩
  | .local _ .vmem, ⟨19, _⟩ => ⟨S64x2048, .f32⟩
  | .local _ .vmem, ⟨20, _⟩ => ⟨S1024x512, .bf16⟩
  | .local _ .vmem, ⟨21, _⟩ => ⟨S1024x512, .bf16⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S2048x512, .bf16⟩
  | .local _ .vmem, ⟨27, _⟩ => ⟨S2048x512, .bf16⟩
  | .local _ .vmem, ⟨28, _⟩ => ⟨S2048x512, .bf16⟩
  | .local _ .vmem, ⟨29, _⟩ => ⟨S2048x512, .bf16⟩
  | .local _ .vmem, ⟨30, _⟩ => ⟨S64x2048, .bf16⟩
  | .local _ .vmem, ⟨31, _⟩ => ⟨S64x2048, .bf16⟩
  | .local _ .vmem, ⟨32, _⟩ => ⟨S8x512, .f32⟩
  | .local _ .vmem, ⟨33, _⟩ => ⟨S8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi arg0 c0_i32_4
  let c0_i32_5 : BitVec 32 := 0#32
  let c0_i32_6 : BitVec 32 := 0#32
  ![v17.toNat, c0_i32_5.toNat, v18.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32 : BitVec 32 := 11#32
  let v18 : BitVec 32 := Scalar.addi arg0 c11_i32
  let c0_i32_4 : BitVec 32 := 0#32
  let c0_i32_5 : BitVec 32 := 0#32
  ![v17.toNat, c0_i32_4.toNat, v18.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v17.toNat, arg0.toNat]

def cc0_transform_12 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v17.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S2048x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== UpRefIdeal.lean ====
abbrev S8192x2048 : Shape := ⟨2, ![8192, 2048]⟩
abbrev S2048x11264 : Shape := ⟨2, ![2048, 11264]⟩
abbrev S4x2x11264 : Shape := ⟨3, ![4, 2, 11264]⟩
abbrev S3x11264 : Shape := ⟨2, ![3, 11264]⟩
abbrev S11264 : Shape := ⟨1, ![11264]⟩
abbrev S5632x2048 : Shape := ⟨2, ![5632, 2048]⟩
abbrev S8192x11264 : Shape := ⟨2, ![8192, 11264]⟩
abbrev S4x2048x11264 : Shape := ⟨3, ![4, 2048, 11264]⟩
abbrev S4x2050x11264 : Shape := ⟨3, ![4, 2050, 11264]⟩
abbrev S1x11264 : Shape := ⟨2, ![1, 11264]⟩
abbrev S1x1x11264 : Shape := ⟨3, ![1, 1, 11264]⟩
abbrev S_ : Shape := ⟨0, ![]⟩
abbrev S4x2048x5632 : Shape := ⟨3, ![4, 2048, 5632]⟩
abbrev S8192x5632 : Shape := ⟨2, ![8192, 5632]⟩
abbrev S2048x5632 : Shape := ⟨2, ![2048, 5632]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S4x2x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S8192x2048, .f32⟩
  | .hbm, ⟨7, _⟩ => ⟨S8192x11264, .f32⟩
  | .hbm, ⟨8, _⟩ => ⟨S4x2048x11264, .f32⟩
  | .hbm, ⟨9, _⟩ => ⟨S4x2050x11264, .f32⟩
  | .hbm, ⟨10, _⟩ => ⟨S1x11264, .f32⟩
  | .hbm, ⟨11, _⟩ => ⟨S11264, .f32⟩
  | .hbm, ⟨12, _⟩ => ⟨S4x2048x11264, .f32⟩
  | .hbm, ⟨13, _⟩ => ⟨S1x1x11264, .f32⟩
  | .hbm, ⟨14, _⟩ => ⟨S4x2048x11264, .f32⟩
  | .hbm, ⟨15, _⟩ => ⟨S4x2048x11264, .f32⟩
  | .hbm, ⟨16, _⟩ => ⟨S_, .f32⟩
  | .hbm, ⟨17, _⟩ => ⟨S4x2048x11264, .f32⟩
  | .hbm, ⟨18, _⟩ => ⟨S4x2048x11264, .f32⟩
  | .hbm, ⟨19, _⟩ => ⟨S1x11264, .f32⟩
  | .hbm, ⟨20, _⟩ => ⟨S11264, .f32⟩
  | .hbm, ⟨21, _⟩ => ⟨S4x2048x11264, .f32⟩
  | .hbm, ⟨22, _⟩ => ⟨S1x1x11264, .f32⟩
  | .hbm, ⟨23, _⟩ => ⟨S4x2048x11264, .f32⟩
  | .hbm, ⟨24, _⟩ => ⟨S4x2048x11264, .f32⟩
  | .hbm, ⟨25, _⟩ => ⟨S4x2048x11264, .f32⟩
  | .hbm, ⟨26, _⟩ => ⟨S1x11264, .f32⟩
  | .hbm, ⟨27, _⟩ => ⟨S11264, .f32⟩
  | .hbm, ⟨28, _⟩ => ⟨S4x2048x11264, .f32⟩
  | .hbm, ⟨29, _⟩ => ⟨S1x1x11264, .f32⟩
  | .hbm, ⟨30, _⟩ => ⟨S4x2048x11264, .f32⟩
  | .hbm, ⟨31, _⟩ => ⟨S4x2048x11264, .f32⟩
  | .hbm, ⟨32, _⟩ => ⟨S4x2048x11264, .f32⟩
  | .hbm, ⟨33, _⟩ => ⟨S1x1x11264, .f32⟩
  | .hbm, ⟨34, _⟩ => ⟨S4x2048x11264, .f32⟩
  | .hbm, ⟨35, _⟩ => ⟨S4x2048x11264, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S_, .f32⟩
  | .hbm, ⟨41, _⟩ => ⟨S4x2048x5632, .f32⟩
  | .hbm, ⟨42, _⟩ => ⟨S4x2048x5632, .f32⟩
  | .hbm, ⟨43, _⟩ => ⟨S4x2048x5632, .f32⟩
  | .hbm, ⟨44, _⟩ => ⟨S_, .f32⟩
  | .hbm, ⟨45, _⟩ => ⟨S4x2048x5632, .f32⟩
  | .hbm, ⟨46, _⟩ => ⟨S4x2048x5632, .f32⟩
  | .hbm, ⟨47, _⟩ => ⟨S4x2048x5632, .f32⟩
  | .hbm, ⟨48, _⟩ => ⟨S_, .f32⟩
  | .hbm, ⟨49, _⟩ => ⟨S4x2048x5632, .f32⟩
  | .hbm, ⟨50, _⟩ => ⟨S4x2048x5632, .f32⟩
  | .hbm, ⟨51, _⟩ => ⟨S_, .f32⟩
  | .hbm, ⟨52, _⟩ => ⟨S4x2048x5632, .f32⟩
  | .hbm, ⟨53, _⟩ => ⟨S4x2048x5632, .f32⟩
  | .hbm, ⟨54, _⟩ => ⟨S4x2048x5632, .f32⟩
  | .hbm, ⟨55, _⟩ => ⟨S4x2048x5632, .f32⟩
  | .hbm, ⟨56, _⟩ => ⟨S8192x5632, .f32⟩
  | .hbm, ⟨57, _⟩ => ⟨S8192x5632, .bf16⟩
  | .hbm, ⟨58, _⟩ => ⟨S4x2x11264, .f32⟩
  | .hbm, ⟨59, _⟩ => ⟨S2048x5632, .f32⟩
  | .hbm, ⟨60, _⟩ => ⟨S2048x5632, .bf16⟩
  | .hbm, ⟨61, _⟩ => ⟨S2048x5632, .f32⟩
  | .hbm, ⟨62, _⟩ => ⟨S2048x5632, .bf16⟩
  | .hbm, ⟨63, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Memkv.lean ====
abbrev S1024x2048 : Shape := ⟨2, ![1024, 2048]⟩
abbrev S2048x1024 : Shape := ⟨2, ![2048, 1024]⟩
abbrev S1024x1024 : Shape := ⟨2, ![1024, 1024]⟩
abbrev S512x2048 : Shape := ⟨2, ![512, 2048]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x2048, .bf16⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemkvRefIdeal.lean ====
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x1024, .f32⟩
  | .hbm, ⟨2, _⟩ => ⟨S2048x1024, .f32⟩
  | .hbm, ⟨3, _⟩ => ⟨S1024x2048, .f32⟩
  | .hbm, ⟨4, _⟩ => ⟨S1024x1024, .f32⟩
  | .hbm, ⟨5, _⟩ => ⟨S1024x2048, .f32⟩
  | .hbm, ⟨6, _⟩ => ⟨S1024x1024, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormS.lean ====
abbrev S1024x2048 : Shape := ⟨2, ![1024, 2048]⟩
abbrev S2048 : Shape := ⟨1, ![2048]⟩
abbrev S1x2048 : Shape := ⟨2, ![1, 2048]⟩
abbrev S1024 : Shape := ⟨1, ![1024]⟩
abbrev S1024x1 : Shape := ⟨2, ![1024, 1]⟩

abbrev nBuf : Space → Nat
  | .hbm => 4
  | .vmem => 3
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048, .f32⟩
  | .hbm, ⟨3, _⟩ => ⟨S1024x2048, .bf16⟩
  | .local _ .vmem, ⟨0, _⟩ => ⟨S1024x2048, .f32⟩
  | .local _ .vmem, ⟨1, _⟩ => ⟨S1x2048, .f32⟩
  | .local _ .vmem, ⟨2, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSRefIdeal.lean ====
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1024x2048, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x2048, .f32⟩
  | .hbm, ⟨14, _⟩ => ⟨S1024x2048, .f32⟩
  | .hbm, ⟨15, _⟩ => ⟨S1x2048, .f32⟩
  | .hbm, ⟨16, _⟩ => ⟨S1024x2048, .f32⟩
  | .hbm, ⟨17, _⟩ => ⟨S1024x2048, .f32⟩
  | .hbm, ⟨18, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== WinS.lean ====
abbrev S1024x2048 : Shape := ⟨2, ![1024, 2048]⟩
abbrev S2048x6400 : Shape := ⟨2, ![2048, 6400]⟩
abbrev S1024x6400 : Shape := ⟨2, ![1024, 6400]⟩
abbrev S2048x1280 : Shape := ⟨2, ![2048, 1280]⟩
abbrev S1024x1280 : Shape := ⟨2, ![1024, 1280]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x6400, .bf16⟩
  | .hbm, ⟨2, _⟩ => ⟨S1024x6400, .f32⟩
  | .local _ .vmem, ⟨0, _⟩ => ⟨S1024x2048, .bf16⟩
  | .local _ .vmem, ⟨1, _⟩ => ⟨S2048x1280, .bf16⟩
  | .local _ .vmem, ⟨2, _⟩ => ⟨S2048x1280, .bf16⟩
  | .local _ .vmem, ⟨3, _⟩ => ⟨S1024x1280, .f32⟩
  | .local _ .vmem, ⟨4, _⟩ => ⟨S1024x1280, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def k0_mult1 (i : grid0.Coords) : BitVec 32 :=
  let c0_i32 : BitVec 32 := 0#32
  let arg0 : BitVec 32 := BitVec.ofNat 32 (i 0).val
  let c1280_i32 : BitVec 32 := 1280#32
  let v0 : BitVec 32 := Scalar.muli arg0 c1280_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1280_i32 : BitVec 32 := 1280#32
  let v0 : BitVec 32 := Scalar.muli arg0 c1280_i32
  let c0_i32 : BitVec 32 := 0#32
  let v1 : BitVec 32 := Scalar.addi c0_i32 v0
  let v2 : BitVec 32 := v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinSRefIdeal.lean ====
abbrev S1024x2048 : Shape := ⟨2, ![1024, 2048]⟩
abbrev S2048x6400 : Shape := ⟨2, ![2048, 6400]⟩
abbrev S1024x6400 : Shape := ⟨2, ![1024, 6400]⟩

abbrev nBuf : Space → Nat
  | .hbm => 5
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x6400, .bf16⟩
  | .hbm, ⟨2, _⟩ => ⟨S1024x2048, .f32⟩
  | .hbm, ⟨3, _⟩ => ⟨S2048x6400, .f32⟩
  | .hbm, ⟨4, _⟩ => ⟨S1024x6400, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WoutS.lean ====
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S1024x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1024x2048, .f32⟩
  | .hbm, ⟨8, _⟩ => ⟨S1024x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WoutSRefIdeal.lean ====
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S1024x2048, .f32⟩
  | .hbm, ⟨3, _⟩ => ⟨S2048, .f32⟩
  | .hbm, ⟨4, _⟩ => ⟨S2048, .f32⟩
  | .hbm, ⟨5, _⟩ => ⟨S1024x2048, .f32⟩
  | .hbm, ⟨6, _⟩ => ⟨S2048x2048, .f32⟩
  | .hbm, ⟨7, _⟩ => ⟨S1024x2048, .f32⟩
  | .hbm, ⟨8, _⟩ => ⟨S1024x2048, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1024x2048, .f32⟩
  | .hbm, ⟨20, _⟩ => ⟨S1024x2048, .f32⟩
  | .hbm, ⟨21, _⟩ => ⟨S1x2048, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024, .f32⟩
  | .hbm, ⟨28, _⟩ => ⟨S1024x1, .f32⟩
  | .hbm, ⟨29, _⟩ => ⟨S_, .f32⟩
  | .hbm, ⟨30, _⟩ => ⟨S1024x1, .f32⟩
  | .hbm, ⟨31, _⟩ => ⟨S1024x1, .f32⟩
  | .hbm, ⟨32, _⟩ => ⟨S_, .f32⟩
  | .hbm, ⟨33, _⟩ => ⟨S1024x1, .f32⟩
  | .hbm, ⟨34, _⟩ => ⟨S1024x1, .f32⟩
  | .hbm, ⟨35, _⟩ => ⟨S1024x1, .f32⟩
  | .hbm, ⟨36, _⟩ => ⟨S1024x2048, .f32⟩
  | .hbm, ⟨37, _⟩ => ⟨S1024x2048, .f32⟩
  | .hbm, ⟨38, _⟩ => ⟨S1x2048, .f32⟩
  | .hbm, ⟨39, _⟩ => ⟨S1024x2048, .f32⟩
  | .hbm, ⟨40, _⟩ => ⟨S1024x2048, .f32⟩
  | .hbm, ⟨41, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== DownS.lean ====
abbrev S1024x5632 : Shape := ⟨2, ![1024, 5632]⟩
abbrev S5632x2048 : Shape := ⟨2, ![5632, 2048]⟩
abbrev S1024x2048 : Shape := ⟨2, ![1024, 2048]⟩
abbrev S2048 : Shape := ⟨1, ![2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S1024x5632, .bf16⟩
  | .hbm, ⟨1, _⟩ => ⟨S5632x2048, .bf16⟩
  | .hbm, ⟨2, _⟩ => ⟨S1024x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1024x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownSRefIdeal.lean ====
abbrev S1024x5632 : Shape := ⟨2, ![1024, 5632]⟩
abbrev S5632x2048 : Shape := ⟨2, ![5632, 2048]⟩
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S5632x2048, .bf16⟩
  | .hbm, ⟨2, _⟩ => ⟨S1024x2048, .f32⟩
  | .hbm, ⟨3, _⟩ => ⟨S2048, .f32⟩
  | .hbm, ⟨4, _⟩ => ⟨S1024x5632, .f32⟩
  | .hbm, ⟨5, _⟩ => ⟨S5632x2048, .f32⟩
  | .hbm, ⟨6, _⟩ => ⟨S1024x2048, .f32⟩
  | .hbm, ⟨7, _⟩ => ⟨S1024x2048, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x2048, .f32⟩
  | .hbm, ⟨19, _⟩ => ⟨S1024x2048, .f32⟩
  | .hbm, ⟨20, _⟩ => ⟨S1x2048, .f32⟩
  | .hbm, ⟨21, _⟩ => ⟨S1024x2048, .f32⟩
  | .hbm, ⟨22, _⟩ => ⟨S1024x2048, .f32⟩
  | .hbm, ⟨23, _⟩ => ⟨S1024x2048, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== SguS.lean ====
abbrev S1024x6400 : Shape := ⟨2, ![1024, 6400]⟩
abbrev S1024 : Shape := ⟨1, ![1024]⟩
abbrev S8x128x128 : Shape := ⟨3, ![8, 128, 128]⟩
abbrev S8x128 : Shape := ⟨2, ![8, 128]⟩
abbrev S8x128x1 : Shape := ⟨3, ![8, 128, 1]⟩
abbrev S1x1024 : Shape := ⟨2, ![1, 1024]⟩
abbrev S8x8x128 : Shape := ⟨3, ![8, 8, 128]⟩
abbrev S1024x1024 : Shape := ⟨2, ![1024, 1024]⟩
abbrev S1024x1 : Shape := ⟨2, ![1024, 1]⟩
abbrev S256x256 : Shape := ⟨2, ![256, 256]⟩
abbrev S256x8 : Shape := ⟨2, ![256, 8]⟩
abbrev S1x128x128 : Shape := ⟨3, ![1, 128, 128]⟩
abbrev S128x128 : Shape := ⟨2, ![128, 128]⟩
abbrev S8x8 : Shape := ⟨2, ![8, 8]⟩
abbrev S1x8x128 : Shape := ⟨3, ![1, 8, 128]⟩
abbrev S256x128 : Shape := ⟨2, ![256, 128]⟩

abbrev nBuf : Space → Nat
  | .hbm => 12
  | .vmem => 8
  | .smem => 0
  | _ => 0

abbrev bufTy : (tb : Table) → Fin (tcTables nBuf tb) → BufTy
  | .hbm, ⟨0, _⟩ => ⟨S1024x6400, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8x128x1, .f32⟩
  | .hbm, ⟨6, _⟩ => ⟨S8x128x128, .f32⟩
  | .hbm, ⟨7, _⟩ => ⟨S1x1024, .f32⟩
  | .hbm, ⟨8, _⟩ => ⟨S1x1024, .f32⟩
  | .hbm, ⟨9, _⟩ => ⟨S8x8x128, .f32⟩
  | .hbm, ⟨10, _⟩ => ⟨S1024x1024, .bf16⟩
  | .hbm, ⟨11, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S8x128x128, .f32⟩
  | .local _ .vmem, ⟨5, _⟩ => ⟨S8x8x128, .f32⟩
  | .local _ .vmem, ⟨6, _⟩ => ⟨S1024x1024, .bf16⟩
  | .local _ .vmem, ⟨7, _⟩ => ⟨S1024x1024, .f32⟩
  | _, _ => ⟨S1024x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_mult2 (i : grid0.Coords) : BitVec 32 :=
  let arg0 : BitVec 32 := BitVec.ofNat 32 (i 0).val
  let c1024_i32 : BitVec 32 := 1024#32
  let v0 : BitVec 32 := Scalar.muli arg0 c1024_i32
  v0
def cc0_transform_0 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c3328_i32 : BitVec 32 := 3328#32
  let c0_i32 : BitVec 32 := 0#32
  ![v1.toNat, c3328_i32.toNat]

def cc0_transform_1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c4352_i32 : BitVec 32 := 4352#32
  let c0_i32 : BitVec 32 := 0#32
  ![v1.toNat, c4352_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SguSRefIdeal.lean ====
abbrev S1024x6400 : Shape := ⟨2, ![1024, 6400]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S1024x1 : Shape := ⟨2, ![1024, 1]⟩
abbrev S1x1024 : Shape := ⟨2, ![1, 1024]⟩
abbrev S128x8x1024 : Shape := ⟨3, ![128, 8, 1024]⟩
abbrev S128x128x1024 : Shape := ⟨3, ![128, 128, 1024]⟩
abbrev S128x128x8x128 : Shape := ⟨4, ![128, 128, 8, 128]⟩
abbrev S128x128 : Shape := ⟨2, ![128, 128]⟩
abbrev S8x128x128x128 : Shape := ⟨4, ![8, 128, 128, 128]⟩
abbrev S128x8 : Shape := ⟨2, ![128, 8]⟩
abbrev S1x128x8x1 : Shape := ⟨4, ![1, 128, 8, 1]⟩

abbrev nBuf : Space → Nat
  | .hbm => 101
  | .vmem => 0
  | .smem => 0
  | _ => 0

abbrev bufTy : (tb : Table) → Fin (tcTables nBuf tb) → BufTy
  | .hbm, ⟨0, _⟩ => ⟨S1024x6400, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S_, .f32⟩
  | .hbm, ⟨51, _⟩ => ⟨S1024, .f32⟩
  | .hbm, ⟨52, _⟩ => ⟨S1024x1, .f32⟩
  | .hbm, ⟨53, _⟩ => ⟨S_, .f32⟩
  | .hbm, ⟨54, _⟩ => ⟨S1024x1, .f32⟩
  | .hbm, ⟨55, _⟩ => ⟨S1024x1, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024x1, .f32⟩
  | .hbm, ⟨60, _⟩ => ⟨S1024x1, .f32⟩
  | .hbm, ⟨61, _⟩ => ⟨S1024x1, .f32⟩
  | .hbm, ⟨62, _⟩ => ⟨S1024x1024, .f32⟩
  | .hbm, ⟨63, _⟩ => ⟨S1024x1024, .f32⟩
  | .hbm, ⟨64, _⟩ => ⟨S1x1024, .f32⟩
  | .hbm, ⟨65, _⟩ => ⟨S1024x1024, .f32⟩
  | .hbm, ⟨66, _⟩ => ⟨S1024x1024, .f32⟩
  | .hbm, ⟨67, _⟩ => ⟨S1x1024, .f32⟩
  | .hbm, ⟨68, _⟩ => ⟨S1024x1024, .f32⟩
  | .hbm, ⟨69, _⟩ => ⟨S1024x1024, .f32⟩
  | .hbm, ⟨70, _⟩ => ⟨S128x8x1024, .f32⟩
  | .hbm, ⟨71, _⟩ => ⟨S_, .i32⟩
  | .hbm, ⟨72, _⟩ => ⟨S_, .f32⟩
  | .hbm, ⟨73, _⟩ => ⟨S128x128x1024, .f32⟩
  | .hbm, ⟨74, _⟩ => ⟨S128x128x8x128, .f32⟩
  | .hbm, ⟨75, _⟩ => ⟨S_, .i1⟩
  | .hbm, ⟨76, _⟩ => ⟨S128x128, .i1⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S_, .i1⟩
  | .hbm, ⟨84, _⟩ => ⟨S128x128, .i1⟩
  | .hbm, ⟨85, _⟩ => ⟨S128x128, .i1⟩
  | .hbm, ⟨86, _⟩ => ⟨S_, .f32⟩
  | .hbm, ⟨87, _⟩ => ⟨S8x128x128, .f32⟩
  | .hbm, ⟨88, _⟩ => ⟨S8x128x128, .i1⟩
  | .hbm, ⟨89, _⟩ => ⟨S8x128x128, .f32⟩
  | .hbm, ⟨90, _⟩ => ⟨S8x128x128x128, .f32⟩
  | .hbm, ⟨91, _⟩ => ⟨S128x128x8x128, .f32⟩
  | .hbm, ⟨92, _⟩ => ⟨S128x8, .f32⟩
  | .hbm, ⟨93, _⟩ => ⟨S1x128x8x1, .f32⟩
  | .hbm, ⟨94, _⟩ => ⟨S128x128x8x128, .f32⟩
  | .hbm, ⟨95, _⟩ => ⟨S128x128x8x128, .f32⟩
  | .hbm, ⟨96, _⟩ => ⟨S128x128x1024, .f32⟩
  | .hbm, ⟨97, _⟩ => ⟨S128x8x1024, .f32⟩
  | .hbm, ⟨98, _⟩ => ⟨S1024x1024, .f32⟩
  | .hbm, ⟨99, _⟩ => ⟨S1024x1024, .f32⟩
  | .hbm, ⟨100, _⟩ => ⟨S1024x1024, .bf16⟩
  | _, _ => ⟨S1024x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_call1_v0 : Ref sig .tc := ⟨.hbm, 77, rfl⟩
abbrev main_call1_c : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_c_0 : Ref sig .tc := ⟨.hbm, 83, rfl⟩
abbrev main_call1_v5 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_call2_v0 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== UpS.lean ====
abbrev S1024x2048 : Shape := ⟨2, ![1024, 2048]⟩
abbrev S2048x5632 : Shape := ⟨2, ![2048, 5632]⟩
abbrev S128x2x11264 : Shape := ⟨3, ![128, 2, 11264]⟩
abbrev S3x11264 : Shape := ⟨2, ![3, 11264]⟩
abbrev S11264 : Shape := ⟨1, ![11264]⟩
abbrev S5632x2048 : Shape := ⟨2, ![5632, 2048]⟩
abbrev S1x11264 : Shape := ⟨2, ![1, 11264]⟩
abbrev S1024x5632 : Shape := ⟨2, ![1024, 5632]⟩
abbrev S2x128x5632 : Shape := ⟨3, ![2, 128, 5632]⟩
abbrev S2048x512 : Shape := ⟨2, ![2048, 512]⟩
abbrev S128x2x512 : Shape := ⟨3, ![128, 2, 512]⟩
abbrev S3x512 : Shape := ⟨2, ![3, 512]⟩
abbrev S1x512 : Shape := ⟨2, ![1, 512]⟩
abbrev S1024x512 : Shape := ⟨2, ![1024, 512]⟩
abbrev S2x128x512 : Shape := ⟨3, ![2, 128, 512]⟩
abbrev S4x1024x128 : Shape := ⟨3, ![4, 1024, 128]⟩
abbrev S128x1x128 : Shape := ⟨3, ![128, 1, 128]⟩
abbrev S128x128 : Shape := ⟨2, ![128, 128]⟩
abbrev S1x128x128 : Shape := ⟨3, ![1, 128, 128]⟩
abbrev S1x1024x128 : Shape := ⟨3, ![1, 1024, 128]⟩
abbrev S1024x128 : Shape := ⟨2, ![1024, 128]⟩
abbrev S128x512 : Shape := ⟨2, ![128, 512]⟩
abbrev S1x128x512 : Shape := ⟨3, ![1, 128, 512]⟩
abbrev S2x128x11264 : Shape := ⟨3, ![2, 128, 11264]⟩

abbrev nBuf : Space → Nat
  | .hbm => 14
  | .vmem => 25
  | .smem => 0
  | _ => 0

abbrev bufTy : (tb : Table) → Fin (tcTables nBuf tb) → BufTy
  | .hbm, ⟨0, _⟩ => ⟨S1024x2048, .bf16⟩
  | .hbm, ⟨1, _⟩ => ⟨S2048x5632, .bf16⟩
  | .hbm, ⟨2, _⟩ => ⟨S2048x5632, .bf16⟩
  | .hbm, ⟨3, _⟩ => ⟨S128x2x11264, .f32⟩
  | .hbm, ⟨4, _⟩ => ⟨S3x11264, .f32⟩
  | .hbm, ⟨5, _⟩ => ⟨S11264, .f32⟩
  | .hbm, ⟨6, _⟩ => ⟨S5632x2048, .bf16⟩
  | .hbm, ⟨7, _⟩ => ⟨S1x11264, .f32⟩
  | .hbm, ⟨8, _⟩ => ⟨S1x11264, .f32⟩
  | .hbm, ⟨9, _⟩ => ⟨S1024x5632, .bf16⟩
  | .hbm, ⟨10, _⟩ => ⟨S2x128x5632, .f32⟩
  | .hbm, ⟨11, _⟩ => ⟨S2x128x5632, .f32⟩
  | .hbm, ⟨12, _⟩ => ⟨S2x128x11264, .f32⟩
  | .hbm, ⟨13, _⟩ => ⟨S128x2x11264, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S128x2x512, .f32⟩
  | .local _ .vmem, ⟨6, _⟩ => ⟨S128x2x512, .f32⟩
  | .local _ .vmem, ⟨7, _⟩ => ⟨S128x2x512, .f32⟩
  | .local _ .vmem, ⟨8, _⟩ => ⟨S128x2x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1024x512, .bf16⟩
  | .local _ .vmem, ⟨18, _⟩ => ⟨S1024x512, .bf16⟩
  | .local _ .vmem, ⟨19, _⟩ => ⟨S2x128x512, .f32⟩
  | .local _ .vmem, ⟨20, _⟩ => ⟨S2x128x512, .f32⟩
  | .local _ .vmem, ⟨21, _⟩ => ⟨S2x128x512, .f32⟩
  | .local _ .vmem, ⟨22, _⟩ => ⟨S2x128x512, .f32⟩
  | .local _ .vmem, ⟨23, _⟩ => ⟨S4x1024x128, .f32⟩
  | .local _ .vmem, ⟨24, _⟩ => ⟨S4x1024x128, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![arg1.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== UpSRefIdeal.lean ====
abbrev S1024x2048 : Shape := ⟨2, ![1024, 2048]⟩
abbrev S2048x5632 : Shape := ⟨2, ![2048, 5632]⟩
abbrev S128x2x11264 : Shape := ⟨3, ![128, 2, 11264]⟩
abbrev S3x11264 : Shape := ⟨2, ![3, 11264]⟩
abbrev S11264 : Shape := ⟨1, ![11264]⟩
abbrev S5632x2048 : Shape := ⟨2, ![5632, 2048]⟩
abbrev S2048x11264 : Shape := ⟨2, ![2048, 11264]⟩
abbrev S1024x11264 : Shape := ⟨2, ![1024, 11264]⟩
abbrev S128x8x11264 : Shape := ⟨3, ![128, 8, 11264]⟩
abbrev S128x10x11264 : Shape := ⟨3, ![128, 10, 11264]⟩
abbrev S1x11264 : Shape := ⟨2, ![1, 11264]⟩
abbrev S1x1x11264 : Shape := ⟨3, ![1, 1, 11264]⟩
abbrev S_ : Shape := ⟨0, ![]⟩
abbrev S128x8x5632 : Shape := ⟨3, ![128, 8, 5632]⟩
abbrev S1024x5632 : Shape := ⟨2, ![1024, 5632]⟩

abbrev nBuf : Space → Nat
  | .hbm => 62
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x5632, .bf16⟩
  | .hbm, ⟨2, _⟩ => ⟨S2048x5632, .bf16⟩
  | .hbm, ⟨3, _⟩ => ⟨S128x2x11264, .f32⟩
  | .hbm, ⟨4, _⟩ => ⟨S3x11264, .f32⟩
  | .hbm, ⟨5, _⟩ => ⟨S11264, .f32⟩
  | .hbm, ⟨6, _⟩ => ⟨S5632x2048, .bf16⟩
  | .hbm, ⟨7, _⟩ => ⟨S2048x11264, .bf16⟩
  | .hbm, ⟨8, _⟩ => ⟨S2048x11264, .f32⟩
  | .hbm, ⟨9, _⟩ => ⟨S1024x2048, .f32⟩
  | .hbm, ⟨10, _⟩ => ⟨S1024x11264, .f32⟩
  | .hbm, ⟨11, _⟩ => ⟨S128x8x11264, .f32⟩
  | .hbm, ⟨12, _⟩ => ⟨S128x10x11264, .f32⟩
  | .hbm, ⟨13, _⟩ => ⟨S1x11264, .f32⟩
  | .hbm, ⟨14, _⟩ => ⟨S11264, .f32⟩
  | .hbm, ⟨15, _⟩ => ⟨S128x8x11264, .f32⟩
  | .hbm, ⟨16, _⟩ => ⟨S1x1x11264, .f32⟩
  | .hbm, ⟨17, _⟩ => ⟨S128x8x11264, .f32⟩
  | .hbm, ⟨18, _⟩ => ⟨S128x8x11264, .f32⟩
  | .hbm, ⟨19, _⟩ => ⟨S_, .f32⟩
  | .hbm, ⟨20, _⟩ => ⟨S128x8x11264, .f32⟩
  | .hbm, ⟨21, _⟩ => ⟨S128x8x11264, .f32⟩
  | .hbm, ⟨22, _⟩ => ⟨S1x11264, .f32⟩
  | .hbm, ⟨23, _⟩ => ⟨S11264, .f32⟩
  | .hbm, ⟨24, _⟩ => ⟨S128x8x11264, .f32⟩
  | .hbm, ⟨25, _⟩ => ⟨S1x1x11264, .f32⟩
  | .hbm, ⟨26, _⟩ => ⟨S128x8x11264, .f32⟩
  | .hbm, ⟨27, _⟩ => ⟨S128x8x11264, .f32⟩
  | .hbm, ⟨28, _⟩ => ⟨S128x8x11264, .f32⟩
  | .hbm, ⟨29, _⟩ => ⟨S1x11264, .f32⟩
  | .hbm, ⟨30, _⟩ => ⟨S11264, .f32⟩
  | .hbm, ⟨31, _⟩ => ⟨S128x8x11264, .f32⟩
  | .hbm, ⟨32, _⟩ => ⟨S1x1x11264, .f32⟩
  | .hbm, ⟨33, _⟩ => ⟨S128x8x11264, .f32⟩
  | .hbm, ⟨34, _⟩ => ⟨S128x8x11264, .f32⟩
  | .hbm, ⟨35, _⟩ => ⟨S128x8x11264, .f32⟩
  | .hbm, ⟨36, _⟩ => ⟨S1x1x11264, .f32⟩
  | .hbm, ⟨37, _⟩ => ⟨S128x8x11264, .f32⟩
  | .hbm, ⟨38, _⟩ => ⟨S128x8x11264, .f32⟩
  | .hbm, ⟨39, _⟩ => ⟨S128x8x5632, .f32⟩
  | .hbm, ⟨40, _⟩ => ⟨S128x8x5632, .f32⟩
  | .hbm, ⟨41, _⟩ => ⟨S128x8x5632, .f32⟩
  | .hbm, ⟨42, _⟩ => ⟨S128x8x5632, .f32⟩
  | .hbm, ⟨43, _⟩ => ⟨S_, .f32⟩
  | .hbm, ⟨44, _⟩ => ⟨S128x8x5632, .f32⟩
  | .hbm, ⟨45, _⟩ => ⟨S128x8x5632, .f32⟩
  | .hbm, ⟨46, _⟩ => ⟨S128x8x5632, .f32⟩
  | .hbm, ⟨47, _⟩ => ⟨S_, .f32⟩
  | .hbm, ⟨48, _⟩ => ⟨S128x8x5632, .f32⟩
  | .hbm, ⟨49, _⟩ => ⟨S128x8x5632, .f32⟩
  | .hbm, ⟨50, _⟩ => ⟨S128x8x5632, .f32⟩
  | .hbm, ⟨51, _⟩ => ⟨S_, .f32⟩
  | .hbm, ⟨52, _⟩ => ⟨S128x8x5632, .f32⟩
  | .hbm, ⟨53, _⟩ => ⟨S128x8x5632, .f32⟩
  | .hbm, ⟨54, _⟩ => ⟨S_, .f32⟩
  | .hbm, ⟨55, _⟩ => ⟨S128x8x5632, .f32⟩
  | .hbm, ⟨56, _⟩ => ⟨S128x8x5632, .f32⟩
  | .hbm, ⟨57, _⟩ => ⟨S128x8x5632, .f32⟩
  | .hbm, ⟨58, _⟩ => ⟨S128x8x5632, .f32⟩
  | .hbm, ⟨59, _⟩ => ⟨S1024x5632, .f32⟩
  | .hbm, ⟨60, _⟩ => ⟨S1024x5632, .bf16⟩
  | .hbm, ⟨61, _⟩ => ⟨S128x2x11264, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_1 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== GateS.lean ====
abbrev S1024x2048 : Shape := ⟨2, ![1024, 2048]⟩
abbrev S1024x1024 : Shape := ⟨2, ![1024, 1024]⟩
abbrev S3x2048x2048 : Shape := ⟨3, ![3, 2048, 2048]⟩
abbrev S3x1024x2048 : Shape := ⟨3, ![3, 1024, 2048]⟩
abbrev S2048x2048 : Shape := ⟨2, ![2048, 2048]⟩
abbrev S3x2048x512 : Shape := ⟨3, ![3, 2048, 512]⟩
abbrev S3x1024x512 : Shape := ⟨3, ![3, 1024, 512]⟩
abbrev S1024x512 : Shape := ⟨2, ![1024, 512]⟩
abbrev S1x2048x512 : Shape := ⟨3, ![1, 2048, 512]⟩
abbrev S2048x512 : Shape := ⟨2, ![2048, 512]⟩
abbrev S1x1024x512 : Shape := ⟨3, ![1, 1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S1024x2048, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S3x2048x2048, .bf16⟩
  | .hbm, ⟨5, _⟩ => ⟨S3x1024x2048, .bf16⟩
  | .hbm, ⟨6, _⟩ => ⟨S2048x2048, .bf16⟩
  | .hbm, ⟨7, _⟩ => ⟨S1024x2048, .bf16⟩
  | .local _ .vmem, ⟨0, _⟩ => ⟨S1024x2048, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S3x2048x512, .bf16⟩
  | .local _ .vmem, ⟨5, _⟩ => ⟨S3x2048x512, .bf16⟩
  | .local _ .vmem, ⟨6, _⟩ => ⟨S3x1024x512, .bf16⟩
  | .local _ .vmem, ⟨7, _⟩ => ⟨S3x1024x512, .bf16⟩
  | .local _ .vmem, ⟨8, _⟩ => ⟨S1024x512, .bf16⟩
  | .local _ .vmem, ⟨9, _⟩ => ⟨S1024x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S3x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateSRefIdeal.lean ====
abbrev S1024x2048 : Shape := ⟨2, ![1024, 2048]⟩
abbrev S1024x1024 : Shape := ⟨2, ![1024, 1024]⟩
abbrev S3x2048x2048 : Shape := ⟨3, ![3, 2048, 2048]⟩
abbrev S3x1024x2048 : Shape := ⟨3, ![3, 1024, 2048]⟩
abbrev S2048x2048 : Shape := ⟨2, ![2048, 2048]⟩
abbrev S1024x3x2048 : Shape := ⟨3, ![1024, 3, 2048]⟩
abbrev S_ : Shape := ⟨0, ![]⟩
abbrev S1024x1x1024 : Shape := ⟨3, ![1024, 1, 1024]⟩
abbrev S1024x3x1024 : Shape := ⟨3, ![1024, 3, 1024]⟩
abbrev S3x2048x1024 : Shape := ⟨3, ![3, 2048, 1024]⟩

abbrev nBuf : Space → Nat
  | .hbm => 32
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S3x2048x2048, .bf16⟩
  | .hbm, ⟨5, _⟩ => ⟨S3x1024x2048, .bf16⟩
  | .hbm, ⟨6, _⟩ => ⟨S2048x2048, .bf16⟩
  | .hbm, ⟨7, _⟩ => ⟨S1024x2048, .f32⟩
  | .hbm, ⟨8, _⟩ => ⟨S3x2048x2048, .f32⟩
  | .hbm, ⟨9, _⟩ => ⟨S1024x3x2048, .f32⟩
  | .hbm, ⟨10, _⟩ => ⟨S1024x3x2048, .f32⟩
  | .hbm, ⟨11, _⟩ => ⟨S1024x3x2048, .f32⟩
  | .hbm, ⟨12, _⟩ => ⟨S_, .f32⟩
  | .hbm, ⟨13, _⟩ => ⟨S1024x3x2048, .f32⟩
  | .hbm, ⟨14, _⟩ => ⟨S1024x3x2048, .f32⟩
  | .hbm, ⟨15, _⟩ => ⟨S_, .f32⟩
  | .hbm, ⟨16, _⟩ => ⟨S1024x3x2048, .f32⟩
  | .hbm, ⟨17, _⟩ => ⟨S1024x3x2048, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1x1024, .f32⟩
  | .hbm, ⟨22, _⟩ => ⟨S1024x1x1024, .f32⟩
  | .hbm, ⟨23, _⟩ => ⟨S1024x1x1024, .f32⟩
  | .hbm, ⟨24, _⟩ => ⟨S1024x3x1024, .f32⟩
  | .hbm, ⟨25, _⟩ => ⟨S3x1024x2048, .f32⟩
  | .hbm, ⟨26, _⟩ => ⟨S3x2048x1024, .f32⟩
  | .hbm, ⟨27, _⟩ => ⟨S1024x3x2048, .f32⟩
  | .hbm, ⟨28, _⟩ => ⟨S1024x3x2048, .f32⟩
  | .hbm, ⟨29, _⟩ => ⟨S_, .f32⟩
  | .hbm, ⟨30, _⟩ => ⟨S1024x2048, .f32⟩
  | .hbm, ⟨31, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Sgu.lean ====
abbrev S8192x6400 : Shape := ⟨2, ![8192, 6400]⟩
abbrev S1024 : Shape := ⟨1, ![1024]⟩
abbrev S8x128x128 : Shape := ⟨3, ![8, 128, 128]⟩
abbrev S8x128 : Shape := ⟨2, ![8, 128]⟩
abbrev S8x128x1 : Shape := ⟨3, ![8, 128, 1]⟩
abbrev S1x1024 : Shape := ⟨2, ![1, 1024]⟩
abbrev S8192x1024 : Shape := ⟨2, ![8192, 1024]⟩
abbrev S1024x1024 : Shape := ⟨2, ![1024, 1024]⟩
abbrev S1024x1 : Shape := ⟨2, ![1024, 1]⟩
abbrev S128x128 : Shape := ⟨2, ![128, 128]⟩
abbrev S1x128x128 : Shape := ⟨3, ![1, 128, 128]⟩

abbrev nBuf : Space → Nat
  | .hbm => 10
  | .vmem => 10
  | .smem => 0
  | _ => 0

abbrev bufTy : (tb : Table) → Fin (tcTables nBuf tb) → BufTy
  | .hbm, ⟨0, _⟩ => ⟨S8192x6400, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8x128x1, .f32⟩
  | .hbm, ⟨6, _⟩ => ⟨S8x128x128, .f32⟩
  | .hbm, ⟨7, _⟩ => ⟨S1x1024, .f32⟩
  | .hbm, ⟨8, _⟩ => ⟨S1x1024, .f32⟩
  | .hbm, ⟨9, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S8x128x128, .f32⟩
  | .local _ .vmem, ⟨8, _⟩ => ⟨S1024x1024, .bf16⟩
  | .local _ .vmem, ⟨9, _⟩ => ⟨S1024x1024, .bf16⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_mult2 (i : grid0.Coords) : BitVec 32 :=
  let arg0 : BitVec 32 := BitVec.ofNat 32 (i 0).val
  let c1024_i32 : BitVec 32 := 1024#32
  let v0 : BitVec 32 := Scalar.muli arg0 c1024_i32
  v0
def cc0_transform_0 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c3328_i32 : BitVec 32 := 3328#32
  let c0_i32 : BitVec 32 := 0#32
  ![v1.toNat, c3328_i32.toNat]

def cc0_transform_1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c4352_i32 : BitVec 32 := 4352#32
  let c0_i32 : BitVec 32 := 0#32
  ![v1.toNat, c4352_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguRefIdeal.lean ====
abbrev S8192x6400 : Shape := ⟨2, ![8192, 6400]⟩
abbrev S1024 : Shape := ⟨1, ![1024]⟩
abbrev S8x128x128 : Shape := ⟨3, ![8, 128, 128]⟩
abbrev S8x128 : Shape := ⟨2, ![8, 128]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x16x128x8x128 : Shape := ⟨5, ![4, 16, 128, 8, 128]⟩
abbrev S128x128 : Shape := ⟨2, ![128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩

abbrev nBuf : Space → Nat
  | .hbm => 95
  | .vmem => 0
  | .smem => 0
  | _ => 0

abbrev bufTy : (tb : Table) → Fin (tcTables nBuf tb) → BufTy
  | .hbm, ⟨0, _⟩ => ⟨S8192x6400, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S4x16x128x8x128, .f32⟩
  | .hbm, ⟨71, _⟩ => ⟨S_, .i1⟩
  | .hbm, ⟨72, _⟩ => ⟨S128x128, .i1⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .i1⟩
  | .hbm, ⟨80, _⟩ => ⟨S128x128, .i1⟩
  | .hbm, ⟨81, _⟩ => ⟨S128x128, .i1⟩
  | .hbm, ⟨82, _⟩ => ⟨S_, .f32⟩
  | .hbm, ⟨83, _⟩ => ⟨S8x128x128, .f32⟩
  | .hbm, ⟨84, _⟩ => ⟨S8x128x128, .i1⟩
  | .hbm, ⟨85, _⟩ => ⟨S8x128x128, .f32⟩
  | .hbm, ⟨86, _⟩ => ⟨S8x4x16x128x128, .f32⟩
  | .hbm, ⟨87, _⟩ => ⟨S4x16x128x8x128, .f32⟩
  | .hbm, ⟨88, _⟩ => ⟨S128x8, .f32⟩
  | .hbm, ⟨89, _⟩ => ⟨S1x1x128x8x1, .f32⟩
  | .hbm, ⟨90, _⟩ => ⟨S4x16x128x8x128, .f32⟩
  | .hbm, ⟨91, _⟩ => ⟨S4x16x128x8x128, .f32⟩
  | .hbm, ⟨92, _⟩ => ⟨S8192x1024, .f32⟩
  | .hbm, ⟨93, _⟩ => ⟨S8192x1024, .f32⟩
  | .hbm, ⟨94, _⟩ => ⟨S8192x1024, .bf16⟩
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c : Ref sig .tc := ⟨.hbm, 71, rfl⟩
abbrev main_v53 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c_0 : Ref sig .tc := ⟨.hbm, 79, rfl⟩
abbrev main_call0_v5 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_call1_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== Proof.XattnSpec.lean ====
module

public import proofs.«01_k».proof.Proof.Gen.XattnRefIdeal.Run
public import Idealize.ShloMosaic.Lib.Pipeline.ValueKit
public import Idealize.ShloMosaic.Lib.Pointwise

/-! # Attention over the memory: the reference read at an index

Each element of the reference's result is a column of memory values weighted by the softmax of one row of scores. -/

@[expose] public section

set_option maxRecDepth 16384

noncomputable section

open Idealize.ShloMosaic Idealize.ShloMosaic.TcCoe Idealize.SL.Sem
open Idealize.ShloMosaic.Pipeline (Dat)

namespace Cert.XattnRefIdeal.Spec
open Cert.XattnRefIdeal Cert.XattnRefIdeal.Gen

/-- The queries, by batch element, position, head and lane. -/
def queries (P : FVec Ideal S8192x6400 .f32) : FVec Ideal S4x2048x4x256 .f32 :=
  shapeCast _ (extractStridedSlice S8192x1024 ![0, 5376] P slices_S8192x6400_S8192x1024_0_5376) shapeCasts_S8192x1024_S4x2048x4x256

/-- The memory's keys or values, by batch element, memory row, head and lane. -/
def heads (K : FVec Ideal S1024x1024 .f32) : FVec Ideal S4x256x4x256 .f32 :=
  shapeCast _ K shapeCasts_S1024x1024_S4x256x4x256

/-- The scaled scores, by batch element, head, position and memory row. -/
def scores (P : FVec Ideal S8192x6400 .f32) (K : FVec Ideal S1024x1024 .f32) : FVec Ideal S4x4x2048x256 .f32 :=
  mulf (Host.dotGeneral dot_S4x2048x4x256_S4x256x4x256_S4x4x2048x256_3_3_1_1_02_02 none (queries P) (heads K))
    (broadcastInDim S4x4x2048x256 ![] bcast_S_S4x4x2048x256 (constant S_ .f32 0x3D800000#32))

/-- The greatest score of each row. -/
def greatest (S : FVec Ideal S4x4x2048x256 .f32) : FVec Ideal S4x4x2048 .f32 :=
  maximumf (broadcastInDim S4x4x2048 ![] bcast_S_S4x4x2048 (constant S_ .f32 0xFF800000#32))
    (Host.reduce FloatOps.maximumf S (constant S_ .f32 0xFF800000#32) reducesTo_S4x4x2048x256_S4x4x2048_d3 h_S_)

/-- The exponentials of the scores less a value for each row. -/
def exps (S : FVec Ideal S4x4x2048x256 .f32) (M : FVec Ideal S4x4x2048 .f32) : FVec Ideal S4x4x2048x256 .f32 :=
  Host.exp (subf S (broadcastInDim S4x4x2048x256 ![0, 1, 2, 3] bcast_S4x4x2048x1_S4x4x2048x256_0_1_2_3
    (broadcastInDim S4x4x2048x1 ![0, 1, 2] bcast_S4x4x2048_S4x4x2048x1_0_1_2 M)))

/-- The exponentials divided by their row's sum. -/
def probs (E : FVec Ideal S4x4x2048x256 .f32) : FVec Ideal S4x4x2048x256 .f32 :=
  Host.divf E (broadcastInDim S4x4x2048x256 ![0, 1, 2, 3] bcast_S4x4x2048x1_S4x4x2048x256_0_1_2_3
    (broadcastInDim S4x4x2048x1 ![0, 1, 2] bcast_S4x4x2048_S4x4x2048x1_0_1_2
      (Host.reduceAdd E (constant S_ .f32 0x00000000#32) reducesTo_S4x4x2048x256_S4x4x2048_d3 h_S_)))

/-- The reference's attention: the values weighted by the softmax of the scores, the heads side by side. -/
def attn (P : FVec Ideal S8192x6400 .f32) (K V : FVec Ideal S1024x1024 .f32) : FVec Ideal S8192x1024 .bf16 :=
  truncf .bf16 (shapeCast _ (transpose S4x2048x4x256 [0, 3, 1, 2]
    (Host.dotGeneral dot_S4x256x4x256_S4x4x2048x256_S4x4x256x2048_1_3_3_2_02_01 none (heads V) (probs (exps (scores P K) (greatest (scores P K)))))
    transposes_S4x4x256x2048_S4x2048x4x256_0_3_1_2) shapeCasts_S4x2048x4x256_S8192x1024) bitsLt_bf16_f32

/-- The softmax of one row of scores, its greatest value begun at the constant both programs begin it at. -/
def soft (s : Fin 256 → EReal) (a : Fin 256) : EReal :=
  Ideal.div (Ideal.exp (s a - Finset.univ.fold max (Ideal.ofBits .f32 0xFF800000#32) s))
    (∑ b : Fin 256, Ideal.exp (s b - Finset.univ.fold max (Ideal.ofBits .f32 0xFF800000#32) s))

/-- One element of the attention: a column of values weighted by the softmax of a row of scores. -/
def att (s v : Fin 256 → EReal) : EReal := ∑ a : Fin 256, soft s a * v a

/-- A greatest value begun at `b` is at least `b`, so a further comparison with `b` changes nothing. -/
theorem max_fold (b : EReal) (f : Fin 256 → EReal) :
    max b (Finset.univ.fold max b f) = Finset.univ.fold max b f :=
  max_eq_right (Finset.le_fold_max b |>.mpr (Or.inl le_rfl))

/-- The queries at an index. -/
theorem queries_at (P : FVec Ideal S8192x6400 .f32) (b h : Fin 4) (t : Fin 2048) (k : Fin 256) :
    queries P (ix4 b t h k) = P (ix2 (⟨b * 2048 + t, by omega⟩ : Fin 8192) (⟨5376 + (h * 256 + k), by omega⟩ : Fin 6400)) := by
  pointwise [queries]

/-- The memory's heads at an index. -/
theorem heads_at (K : FVec Ideal S1024x1024 .f32) (b h : Fin 4) (a : Fin 256) (k : Fin 256) :
    heads K (ix4 b a h k) = K (ix2 (⟨b * 256 + a, by omega⟩ : Fin 1024) (⟨h * 256 + k, by omega⟩ : Fin 1024)) := by
  pointwise [heads]

/-- The scores at an index. -/
theorem scores_at (P : FVec Ideal S8192x6400 .f32) (K : FVec Ideal S1024x1024 .f32) (b h : Fin 4) (t : Fin 2048) (a : Fin 256) :
    scores P K (ix4 b h t a)
      = (∑ k : Fin 256, queries P (ix4 b t h k) * heads K (ix4 b a h k)) * Ideal.ofBits .f32 0x3D800000#32 := by
  pointwise [scores]

/-- The greatest of a row, read at an index. -/
theorem red_at (S : FVec Ideal S4x4x2048x256 .f32) (b h : Fin 4) (t : Fin 2048) :
    Host.reduce FloatOps.maximumf S (constant S_ .f32 0xFF800000#32) reducesTo_S4x4x2048x256_S4x4x2048_d3 h_S_ (ix3 b h t)
      = Finset.univ.fold max (Ideal.ofBits .f32 0xFF800000#32) fun k : Fin 256 => S (ix4 b h t k) := by
  pointwise

/-- The greater of two arrays, read at an index. -/
theorem mx_at (a z : FVec Ideal S4x4x2048 .f32) (x : S4x4x2048.Idx) : maximumf a z x = max (a x) (z x) := by
  pointwise

/-- The constant the greatest value is compared with, read at an index. -/
theorem bc_at (x : S4x4x2048.Idx) :
    broadcastInDim S4x4x2048 ![] bcast_S_S4x4x2048 (constant (F := Ideal) S_ .f32 0xFF800000#32) x = Ideal.ofBits .f32 0xFF800000#32 := by
  pointwise

/-- The greatest score of a row. -/
theorem greatest_at (S : FVec Ideal S4x4x2048x256 .f32) (b h : Fin 4) (t : Fin 2048) :
    greatest S (ix3 b h t) = Finset.univ.fold max (Ideal.ofBits .f32 0xFF800000#32) fun k : Fin 256 => S (ix4 b h t k) := by
  unfold greatest
  rw [mx_at, red_at, bc_at, max_fold]

/-- The exponentials at an index. -/
theorem exps_at (S : FVec Ideal S4x4x2048x256 .f32) (M : FVec Ideal S4x4x2048 .f32) (b h : Fin 4) (t : Fin 2048) (a : Fin 256) :
    exps S M (ix4 b h t a) = Ideal.exp (S (ix4 b h t a) - M (ix3 b h t)) := by
  pointwise [exps]

/-- The quotients at an index. -/
theorem probs_at (E : FVec Ideal S4x4x2048x256 .f32) (b h : Fin 4) (t : Fin 2048) (a : Fin 256) :
    probs E (ix4 b h t a) = Ideal.div (E (ix4 b h t a)) (∑ k : Fin 256, E (ix4 b h t k)) := by
  pointwise [probs]

/-- The softmax at an index. -/
theorem soft_at (S : FVec Ideal S4x4x2048x256 .f32) (b h : Fin 4) (t : Fin 2048) (a : Fin 256) :
    probs (exps S (greatest S)) (ix4 b h t a) = soft (fun k => S (ix4 b h t k)) a := by
  have e : ∀ k : Fin 256, exps S (greatest S) (ix4 b h t k) = Ideal.exp (S (ix4 b h t k)
      - Finset.univ.fold max (Ideal.ofBits .f32 0xFF800000#32) fun k : Fin 256 => S (ix4 b h t k)) := fun k => by
    rw [exps_at, greatest_at]
  rw [probs_at, e a, Finset.sum_congr rfl fun k _ => e k]
  unfold soft
  with_reducible rfl

/-- The attention at an index, over the reference's own queries and heads. -/
theorem attn_heads (P : FVec Ideal S8192x6400 .f32) (K V : FVec Ideal S1024x1024 .f32) (R : Fin 8192) (C : Fin 1024) :
    attn P K V (ix2 R C) = ∑ a : Fin 256,
      heads V (ix4 (⟨R / 2048, by omega⟩ : Fin 4) a (⟨C / 256, by omega⟩ : Fin 4) (⟨C % 256, by omega⟩ : Fin 256))
      * probs (exps (scores P K) (greatest (scores P K))) (ix4 (⟨R / 2048, by omega⟩ : Fin 4) (⟨C / 256, by omega⟩ : Fin 4) (⟨R % 2048, by omega⟩ : Fin 2048) a) := by
  pointwise [attn]

/-- The attention at row `R` and column `C`, `C` being lane `d` of head `h` and `R` a row of batch element `b`. -/
theorem attn_at (P : FVec Ideal S8192x6400 .f32) (K V : FVec Ideal S1024x1024 .f32) (R : Fin 8192) (C : Fin 1024)
    (b h : Fin 4) (d : Fin 256) (hb : (b : ℕ) = R / 2048) (hC : (C : ℕ) = h * 256 + d) :
    attn P K V (ix2 R C) = att
      (fun a => (∑ k : Fin 256, P (ix2 R (⟨5376 + (h * 256 + k), by omega⟩ : Fin 6400))
        * K (ix2 (⟨b * 256 + a, by omega⟩ : Fin 1024) (⟨h * 256 + k, by omega⟩ : Fin 1024))) * Ideal.ofBits .f32 0x3D800000#32)
      (fun a => V (ix2 (⟨b * 256 + a, by omega⟩ : Fin 1024) C)) := by
  have eb : (⟨R / 2048, by omega⟩ : Fin 4) = b := Fin.ext hb.symm
  have eh : (⟨C / 256, by omega⟩ : Fin 4) = h := Fin.ext (by show (C : ℕ) / 256 = h; omega)
  have ed : (⟨C % 256, by omega⟩ : Fin 256) = d := Fin.ext (by show (C : ℕ) % 256 = d; omega)
  have eC : (⟨h * 256 + d, by omega⟩ : Fin 1024) = C := Fin.ext hC.symm
  have eR : (⟨b * 2048 + R % 2048, by omega⟩ : Fin 8192) = R := Fin.ext (by show (b : ℕ) * 2048 + R % 2048 = R; omega)
  rw [attn_heads, eb, eh, ed]
  unfold att
  refine Finset.sum_congr rfl fun a _ => ?_
  rw [mul_comm, soft_at, heads_at, eC]
  refine congrArg (fun s => soft s a * _) (funext fun a' => ?_)
  rw [scores_at]
  refine congrArg (· * _) (Finset.sum_congr rfl fun k _ => ?_)
  rw [queries_at, heads_at]
  exact congrArg (fun r => P (ix2 r _) * _) eR

/-- Two elements of the attention agree where their scores and values do. -/
theorem att_congr {s s' v v' : Fin 256 → EReal} (hs : ∀ a, s a = s' a) (hv : ∀ a, v a = v' a) : att s v = att s' v' := by
  rw [funext hs, funext hv]

end Cert.XattnRefIdeal.Spec

end
-- ==== Proof.XattnValue.lean ====
module

public import proofs.«01_k».proof.Proof.Gen.XattnIdeal.Frame
public import proofs.«01_k».proof.Proof.XattnSpec
public import Idealize.ShloMosaic.Lib.Pipeline.ValueKit
public import Idealize.ShloMosaic.Lib.Pointwise

/-! # Attention over the memory

The kernel walks the queries in blocks of 1024 rows, two to a batch element, and takes them straight out of the wide
projected array by an element-indexed block that begins at column 5376. In a block each of the four heads takes its own
256 columns: scores against the batch element's 256 memory rows, their softmax, and the weighted sum of the values. -/

@[expose] public section

set_option maxRecDepth 16384

noncomputable section

open Idealize.ShloMosaic Idealize.ShloMosaic.TcCoe Idealize.SL.Sem
open Idealize.ShloMosaic.Pipeline (Dat)

namespace Cert.XattnIdeal.Value
open Cert.XattnIdeal Cert.XattnIdeal.Gen
open Cert.XattnRefIdeal.Spec

variable (m : (ℓ : Loc nD τ sig) → Buf (Elt Ideal) ℓ)

/-- Where the blocks lie. The query window's index is an element: row `1024 t`, column 5376. -/
theorem idx : ∀ t : Fin cfg0.N, win0_0.index t = ![t.val * 1024, 5376] ∧ win0_1.index t = ![t.val / 2, 0]
    ∧ win0_2.index t = ![t.val / 2, 0] ∧ win0_3.index t = ![t.val, 0] ∧ t.val < 8 :=
  (by decide +kernel : ∀ t : Fin grid0.N, _)

/-- The query block read at an index: the projected array, `1024 t` rows down and 5376 columns across. -/
theorem iblk0 (c : Dev nD) (t : Fin cfg0.N) (r : Fin 1024) (k : Fin 1024) (R : Fin 8192) (C : Fin 6400)
    (hR : (R : ℕ) = t.val * 1024 + r) (hC : (C : ℕ) = 5376 + k) :
    (show EReal from iblk m c 0 t (ix2 r k)) = (show EReal from m ((c : Thread nD τ).loc main_arg0) (ix2 R C)) := by
  blk_ext [iblk, V, idx t]
  · show ((win0_0.rect t).emb (ix2 r k) 0 : ℕ) = _
    rw [Pipeline.Window.rect_emb_val_off, (idx t).1]
    exact hR.symm
  · show ((win0_0.rect t).emb (ix2 r k) 1 : ℕ) = _
    rw [Pipeline.Window.rect_emb_val_off, (idx t).1]
    exact hC.symm

/-- The block of keys read at an index: the batch element's 256 memory rows. -/
theorem iblk1 (c : Dev nD) (t : Fin cfg0.N) (a : Fin 256) (k : Fin 1024) (A : Fin 1024) (hA : (A : ℕ) = t.val / 2 * 256 + a) :
    (show EReal from iblk m c 1 t (ix2 a k)) = (show EReal from m ((c : Thread nD τ).loc main_arg1) (ix2 A k)) := by
  blk_ext [iblk, V, idx t]

/-- The block of values read at an index: the batch element's 256 memory rows. -/
theorem iblk2 (c : Dev nD) (t : Fin cfg0.N) (a : Fin 256) (k : Fin 1024) (A : Fin 1024) (K : Fin 1024)
    (hA : (A : ℕ) = t.val / 2 * 256 + a) (hK : (K : ℕ) = k) :
    (show EReal from iblk m c 2 t (ix2 a k)) = (show EReal from m ((c : Thread nD τ).loc main_arg2) (ix2 A K)) := by
  blk_ext [iblk, V, idx t]

/-- Head 0's result at an index of its block, from the head's queries, keys and values. -/
theorem head0 (q : FVec Ideal S1024x256 .f32) (K V : FVec Ideal S256x256 .f32) (x : S1024x256.Idx) :
    k0_pay1 (F := Ideal) (k0_pay10 (k0_pay8 q K) V) x = att
      (fun a => (∑ k : Fin 256, q (ix2 (x 0) k) * K (ix2 a k)) * Ideal.ofBits .f32 0x3D800000#32) (fun a => V (ix2 a (x 1))) := by
  pointwise [k0_pay1, k0_pay10, k0_pay8, att, soft]

/-- Head 1's result at an index of its block, from the head's queries, keys and values. -/
theorem head1 (q : FVec Ideal S1024x256 .f32) (K V : FVec Ideal S256x256 .f32) (x : S1024x256.Idx) :
    k0_pay2 (F := Ideal) (k0_pay11 (k0_pay5 q K) V) x = att
      (fun a => (∑ k : Fin 256, q (ix2 (x 0) k) * K (ix2 a k)) * Ideal.ofBits .f32 0x3D800000#32) (fun a => V (ix2 a (x 1))) := by
  pointwise [k0_pay2, k0_pay11, k0_pay5, att, soft]

/-- Head 2's result at an index of its block, from the head's queries, keys and values. -/
theorem head2 (q : FVec Ideal S1024x256 .f32) (K V : FVec Ideal S256x256 .f32) (x : S1024x256.Idx) :
    k0_pay3 (F := Ideal) (k0_pay12 (k0_pay6 q K) V) x = att
      (fun a => (∑ k : Fin 256, q (ix2 (x 0) k) * K (ix2 a k)) * Ideal.ofBits .f32 0x3D800000#32) (fun a => V (ix2 a (x 1))) := by
  pointwise [k0_pay3, k0_pay12, k0_pay6, att, soft]

/-- Head 3's result at an index of its block, from the head's queries, keys and values. -/
theorem head3 (q : FVec Ideal S1024x256 .f32) (K V : FVec Ideal S256x256 .f32) (x : S1024x256.Idx) :
    k0_pay4 (F := Ideal) (k0_pay9 (k0_pay7 q K)) V x = att
      (fun a => (∑ k : Fin 256, q (ix2 (x 0) k) * K (ix2 a k)) * Ideal.ofBits .f32 0x3D800000#32) (fun a => V (ix2 a (x 1))) := by
  pointwise [k0_pay4, k0_pay9, k0_pay7, att, soft]

/-- What point `t` leaves in the result block is the reference's attention `v` at the place of the block. -/
theorem point (c : Dev nD) (t : Fin cfg0.N) (y : S1024x1024.Idx) (R : Fin 8192) (C : Fin 1024)
    (hR : (R : ℕ) = t.val * 1024 + y 0) (hC : (C : ℕ) = y 1) (v : EReal)
    (hv : attn (m ((c : Thread nD τ).loc main_arg0)) (m ((c : Thread nD τ).loc main_arg1)) (m ((c : Thread nD τ).loc main_arg2)) (ix2 R C) = v) :
    out0_3 (F := Ideal) (iblk m c 0 t) (iblk m c 1 t) (iblk m c 2 t) y = v := by
  have ht := (idx t).2.2.2.2
  have hb : t.val / 2 < 4 := by omega
  unfold out0_3
  canon_tiles x h
  case piece0 =>
    have hd : (C : ℕ) = (⟨3, by omega⟩ : Fin 4) * 256 + (⟨x 1, x1_lt⟩ : Fin 256) := by show (C : ℕ) = 3 * 256 + (x 1 : ℕ); omega
    refine Eq.trans ?_ ((attn_at _ _ _ R C ⟨t.val / 2, hb⟩ ⟨3, by omega⟩ ⟨x 1, x1_lt⟩ (by show t.val / 2 = _; omega) hd).symm.trans hv)
    refine (head3 _ _ _ _).trans (att_congr (fun a => congrArg (· * _) (Finset.sum_congr rfl fun k _ => ?_)) fun a => ?_)
    · pointwise
      exact congrArg₂ (· * ·) (iblk0 m c t _ _ _ _ (by show (R : ℕ) = _; omega) rfl) (iblk1 m c t _ _ _ rfl)
    · pointwise
      exact iblk2 m c t _ _ _ _ rfl (by show (C : ℕ) = 3 * 256 + (x 1 : ℕ); omega)
  case piece1 =>
    have hd : (C : ℕ) = (⟨2, by omega⟩ : Fin 4) * 256 + (⟨x 1, x1_lt⟩ : Fin 256) := by show (C : ℕ) = 2 * 256 + (x 1 : ℕ); omega
    refine Eq.trans ?_ ((attn_at _ _ _ R C ⟨t.val / 2, hb⟩ ⟨2, by omega⟩ ⟨x 1, x1_lt⟩ (by show t.val / 2 = _; omega) hd).symm.trans hv)
    refine (head2 _ _ _ _).trans (att_congr (fun a => congrArg (· * _) (Finset.sum_congr rfl fun k _ => ?_)) fun a => ?_)
    · pointwise
      exact congrArg₂ (· * ·) (iblk0 m c t _ _ _ _ (by show (R : ℕ) = _; omega) rfl) (iblk1 m c t _ _ _ rfl)
    · pointwise
      exact iblk2 m c t _ _ _ _ rfl (by show (C : ℕ) = 2 * 256 + (x 1 : ℕ); omega)
  case piece2 =>
    have hd : (C : ℕ) = (⟨1, by omega⟩ : Fin 4) * 256 + (⟨x 1, x1_lt⟩ : Fin 256) := by show (C : ℕ) = 1 * 256 + (x 1 : ℕ); omega
    refine Eq.trans ?_ ((attn_at _ _ _ R C ⟨t.val / 2, hb⟩ ⟨1, by omega⟩ ⟨x 1, x1_lt⟩ (by show t.val / 2 = _; omega) hd).symm.trans hv)
    refine (head1 _ _ _ _).trans (att_congr (fun a => congrArg (· * _) (Finset.sum_congr rfl fun k _ => ?_)) fun a => ?_)
    · pointwise
      exact congrArg₂ (· * ·) (iblk0 m c t _ _ _ _ (by show (R : ℕ) = _; omega) rfl) (iblk1 m c t _ _ _ rfl)
    · pointwise
      exact iblk2 m c t _ _ _ _ rfl (by show (C : ℕ) = 1 * 256 + (x 1 : ℕ); omega)
  case piece3 =>
    have hd : (C : ℕ) = (⟨0, by omega⟩ : Fin 4) * 256 + (⟨x 1, x1_lt⟩ : Fin 256) := by show (C : ℕ) = 0 * 256 + (x 1 : ℕ); omega
    refine Eq.trans ?_ ((attn_at _ _ _ R C ⟨t.val / 2, hb⟩ ⟨0, by omega⟩ ⟨x 1, x1_lt⟩ (by show t.val / 2 = _; omega) hd).symm.trans hv)
    refine (head0 _ _ _ _).trans (att_congr (fun a => congrArg (· * _) (Finset.sum_congr rfl fun k _ => ?_)) fun a => ?_)
    · pointwise
      exact congrArg₂ (· * ·) (iblk0 m c t _ _ _ _ (by show (R : ℕ) = _; omega) rfl) (iblk1 m c t _ _ _ rfl)
    · pointwise
      exact iblk2 m c t _ _ _ _ rfl (by show (C : ℕ) = (x 1 : ℕ); omega)

/-- After the run the result array is the reference's attention. -/
theorem final3 (c : Dev nD) : (dats m 0 c).arrAt 3 (cfgs 0).N
    = attn (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine point m c t y ((win0_3.rect t).emb y 0) ((win0_3.rect t).emb y 1) ?_ ?_ _ (congrArg (attn _ _ _) (eq_ix2 ((win0_3.rect t).emb y)).symm)
  · rw [Pipeline.Window.rect_emb_val_off, (idx t).2.2.2.1]
    rfl
  · rw [Pipeline.Window.rect_emb_val_off, (idx t).2.2.2.1]
    show 0 * 1024 + (y 1 : ℕ) = _; omega

end Cert.XattnIdeal.Value

end
-- ==== Proof.WinRun.lean ====
module

public import proofs.«01_k».proof.Proof.Gen.WinIdeal.Launch
public import proofs.«01_k».proof.Proof.Gen.WinIdeal.Skeleton
public import proofs.«01_k».proof.Proof.Gen.WinIdeal.Points
public import proofs.«01_k».proof.Proof.Gen.WinIdeal.Frame
public import Idealize.ShloMosaic.Lib.Pipeline.FrameBody
public import Idealize.ShloMosaic.Lib.Pipeline.TableIdle
public import Idealize.ShloMosaic.Lib.Pipeline.ValueKit
public import Idealize.ShloMosaic.Lib.Pointwise
public import Idealize.ShloMosaic.Lib.Ring
public import Idealize.ShloMosaic.Lib.Tactic
public import Idealize.ShloMosaic.Lib.WordCmp
public import Idealize.ShloMosaic.Lib.VecWindow
public import Idealize.ShloMosaic.Lib.Claim

/-! # The input projection: the kernel's run

The grid is five column blocks by eight row blocks. At the first row block of a column block the body rounds the block
of weights to the narrow format and keeps the rounded copy in the second result's block; the other seven row blocks
multiply by that copy and leave it as it is. So at every point the second result's block holds the rounded copy of the
point's own weights. -/

@[expose] public section

set_option maxRecDepth 16384

noncomputable section

namespace Cert.WinIdeal.Hand
open Cert.WinIdeal Cert.WinIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition: the row block is the first. -/
abbrev first (i : grid0.Coords) : Prop := k0_cond1 i = 1#1

/-- It holds at the points whose number is a multiple of eight. -/
theorem first_iff : ∀ t : Fin cfg0.N, first (grid0.coords t) ↔ t.val % 8 = 0 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [first, k0_cond1, e0, e1]
    word_cmp
   : ∀ t : Fin grid0.N, first (grid0.coords t) ↔ t.val % 8 = 0)

set_option maxHeartbeats 1000000 in
/-- The body at a first row block: it leaves the rounded weights in the second result's block and the product with them in
    the first's. -/
theorem run_first (c : Dev nD) (i : grid0.Coords) (arg2 : Memref sig .tc .vmem S1024x2048 .bf16) (harg2 : arg2.IsWhole) (arg3 : Memref sig .tc .vmem S2048x1280 .f32) (harg3 : arg3.IsWhole) (arg4 : Memref sig .tc .vmem S1024x1280 .f32) (harg4 : arg4.IsWhole) (arg5 : Memref sig .tc .vmem S2048x1280 .bf16) (harg5 : arg5.IsWhole) (hc0 : first i)
    (x0 : Vec F S1024x2048 .bf16) (x1 : Vec F S2048x1280 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k0_pay2 x0 (k0_pay1 x1)) ∗ owns (c : Thread nD τ) arg5 fullShare (k0_pay1 x1)) -∗ K ⟨⟩))
      ⊢ wp frame (wpE (defs₀ (F := F)) Variants.none c none) E (cc0_matmul i arg2 harg2 arg3 harg3 arg4 harg4 arg5 harg5) K := by
  simp only [cc0_matmul_eq_skeleton]; unfold cc0_matmul_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    exact (View.read_writes_full _ _ _ _ _).trans (congrArg₂ k0_pay2 ((View.readAt_full _ _ _).trans (harg2.read_unread x0))
      ((View.readCov_full _ _ _ _ _).trans (congrArg k0_pay1 ((View.readAt_full _ _ _).trans (harg3.read_unread x1)))))
  iexists _; isplitr; swap; · iexact H3
  ipureintro
  sl_unfold_run_names
  exact (View.read_writes_full _ _ _ _ _).trans (congrArg k0_pay1 ((View.readAt_full _ _ _).trans (harg3.read_unread x1)))

set_option maxHeartbeats 1000000 in
/-- The body at any other row block: it leaves the second result's block as it finds it and the product with it in the first's. -/
theorem run_later (c : Dev nD) (i : grid0.Coords) (arg2 : Memref sig .tc .vmem S1024x2048 .bf16) (harg2 : arg2.IsWhole) (arg3 : Memref sig .tc .vmem S2048x1280 .f32) (harg3 : arg3.IsWhole) (arg4 : Memref sig .tc .vmem S1024x1280 .f32) (harg4 : arg4.IsWhole) (arg5 : Memref sig .tc .vmem S2048x1280 .bf16) (harg5 : arg5.IsWhole) (hc0 : ¬first i)
    (x0 : Vec F S1024x2048 .bf16) (x1 : Vec F S2048x1280 .f32) (x3 : Vec F S2048x1280 .bf16) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare x3
        ∗ (iprop(owns (c : Thread nD τ) arg2 fullShare x0 ∗ owns (c : Thread nD τ) arg3 fullShare x1 ∗ owns (c : Thread nD τ) arg4 fullShare (k0_pay2 x0 x3) ∗ owns (c : Thread nD τ) arg5 fullShare x3) -∗ K ⟨⟩))
      ⊢ wp frame (wpE (defs₀ (F := F)) Variants.none c none) E (cc0_matmul i arg2 harg2 arg3 harg3 arg4 harg4 arg5 harg5) K := by
  simp only [cc0_matmul_eq_skeleton]; unfold cc0_matmul_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    exact (View.read_writes_full _ _ _ _ _).trans (congrArg₂ k0_pay2 ((View.readAt_full _ _ _).trans (harg2.read_unread x0))
      ((View.readAt_full _ _ _).trans (harg5.read_unread x3)))
  iexists _; isplitr; swap; · iexact H3
  ipureintro; exact harg5.read_unread _

/-! ## What each point leaves -/

/-- The blocks of weights: the element-indexed block begins at column `1280 (t / 8)`, so it is the same all through a column block. -/
theorem idx : ∀ t : Fin cfg0.N, win0_0.index t = ![t.val % 8, 0] ∧ win0_1.index t = ![0, t.val / 8 * 1280]
    ∧ win0_2.index t = ![t.val % 8, t.val / 8] ∧ win0_3.index t = ![0, t.val / 8] ∧ t.val < 40 :=
  (by decide +kernel : ∀ t : Fin grid0.N, _)

/-- The block of weights read at an index: the weight matrix, `1280 (t / 8)` columns across. -/
theorem iblk1 (c : Dev nD) (t : Fin cfg0.N) (r : Fin 2048) (k : Fin 1280) (C : Fin 12544) (hC : (C : ℕ) = t.val / 8 * 1280 + k) :
    (show F .f32 from iblk m c 1 t (ix2 r k)) = (show F .f32 from m ((c : Thread nD τ).loc main_arg1) (ix2 r C)) := by
  blk_ext [iblk, V, idx t]
  · show ((win0_1.rect t).emb (ix2 r k) 0 : ℕ) = _
    rw [Pipeline.Window.rect_emb_val_off, (idx t).2.1]
    show 0 + (r : ℕ) = r; omega
  · show ((win0_1.rect t).emb (ix2 r k) 1 : ℕ) = _
    rw [Pipeline.Window.rect_emb_val_off, (idx t).2.1]
    exact hC.symm

/-- The rounded weights of point `t`. -/
def wbf (c : Dev nD) (t : Fin cfg0.N) : Vec F S2048x1280 .bf16 := k0_pay1 (iblk m c 1 t)

/-- The rounded weights are those of the point before, all through a column block. -/
theorem wbf_pred (c : Dev nD) (t : Fin cfg0.N) (h : ¬t.val % 8 = 0) :
    wbf m c t = wbf m c ⟨t.val - 1, Nat.lt_of_le_of_lt (Nat.sub_le _ _) t.isLt⟩ := by
  have hN := (idx t).2.2.2.2
  refine congrArg k0_pay1 (funext fun y => ?_)
  have y1 : (y 1 : ℕ) < 1280 := (y 1).isLt
  have e : y = ix2 (y 0 : Fin 2048) (y 1 : Fin 1280) := eq_ix2 y
  rw [e]
  have hC : t.val / 8 * 1280 + (y 1 : ℕ) < 12544 := by omega
  exact (iblk1 m c t (y 0) (y 1) ⟨_, hC⟩ rfl).trans
    (iblk1 m c ⟨t.val - 1, Nat.lt_of_le_of_lt (Nat.sub_le _ _) t.isLt⟩ (y 0) (y 1) ⟨_, hC⟩ (by show t.val / 8 * 1280 + (y 1 : ℕ) = (t.val - 1) / 8 * 1280 + (y 1 : ℕ); omega)).symm

/-- The proof data: each input's block in place, the product of the point's rows with its rounded weights in the first
    result's block, the rounded weights in the second's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (wbf m c t)
    | ⟨3, _⟩ => wbf m c t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay2 (iblk m c 0 t) (wbf m c t) := by dsimp only [dats]
theorem after3 (c : Dev nD) (t : Fin cfg0.N) : (dats m 0 c).after 3 t = wbf m c t := by dsimp only [dats]

/-- Each input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The second result's buffer is fresh exactly at the first row block of a column block. -/
theorem fresh3 : ∀ n : ℕ, n ≤ cfg0.N → cfg0.fresh 3 n = decide (n % 8 = 0) :=
  Pipeline.Cfg.fresh_tab cfg0 3 (fun n => decide (n % 8 = 0)) rfl (by decide +kernel)

/-- The second result is stored only at a first row block. -/
theorem idle3 (t : Fin cfg0.N) (h : cfg0.idle 3 (grid0.coords t) = true) : ¬t.val % 8 = 0 := fun h0 => by
  have e : cfg0.idle 3 (grid0.coords t) = !(k0_cond1 (grid0.coords t) == 1#1) := rfl
  rw [e, (first_iff t).mpr h0] at h
  exact Bool.false_ne_true h

/-- At a later row block the second result's buffer holds the rounded weights of the point before, which are the point's own. -/
theorem before3 (c : Dev nD) (t : Fin cfg0.N) (h : ¬t.val % 8 = 0) (d) : (dats m 0 c).before 3 t d = wbf m c t := by
  rw [(dats m 0 c).before_out_traj 3 rfl (fun _ _ => rfl) (fun s _ hi _ => by
    rw [after3, after3]; exact wbf_pred m c s (idle3 s hi)) t.val t rfl d, fresh3 t.val (Nat.le_of_lt t.isLt),
    if_neg (by simpa using h), after3]
  exact (wbf_pred m c t h).symm

/-- The rounded weights in the second result's buffer are what the body has to leave there at any point. -/
theorem leaves3 (c : Dev nD) (t : Fin cfg0.N) :
    owns (Ix := Unit) (Name := ℕ) (U := UR sig nD τ) (Lvl := ℕ) (c : Thread nD τ) (win0_3.stage (cfg0.slots t 3)) fullShare (wbf m c t) ⊢ (dats m 0 c).leavesExact 3 t := by
  unfold Dat.leavesExact
  cases hi : cfg0.idle 3 (grid0.coords t) with
  | false => rw [after3]
  | true =>
    cases hf : (cfg0.win 3).flush t with
    | true => rw [after3]
    | false =>
      iintro H
      iexists (fun _ => Classical.arbitrary _)
      rw [before3 m c t (idle3 t hi)]
      iexact H

/-! ## The body at any point, and the run -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

set_option maxHeartbeats 800000 in
/-- The body at any point, by whether the row block is the first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl, after0, after1, after2]
  by_cases h0 : t.val % 8 = 0
  · iintro ⟨HΦ, Ho, ⟨%d0, H0⟩, ⟨%d1, H1⟩, ⟨%d2, H2⟩, ⟨%d3, H3⟩⟩
    iapply (run_first c (grid0.coords t) _ _ _ _ _ _ _ _ ((first_iff t).mpr h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iapply (leaves3 m c t)
    iexact H3
  · simp only [before3 m c t h0]
    iintro ⟨HΦ, Ho, ⟨%d0, H0⟩, ⟨%d1, H1⟩, ⟨%d2, H2⟩, ⟨%d3, H3⟩⟩
    iapply (run_later c (grid0.coords t) _ _ _ _ _ _ _ _ (fun h => h0 ((first_iff t).mp h)) (iblk m c 0 t) (iblk m c 1 t) (wbf m c t) Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iapply (leaves3 m c t)
    iexact H3

/-- The body table's row at point `t` is the body at that point. -/
theorem body_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run, and every semaphore counter zero at its end. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array of the pipeline ends at what the proof data says, everything else as it was. -/
theorem run_main : θ_run defs (onTc (τ := τ) (main (F := F))) (s₀ m ρ) (Pipeline.FramePost cfgs (dats m) 0 (V m)) :=
  (θ_run defs _ _).mono (fun _ h => h.1) (run_counters m ρ)

/-- The argument arrays end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_counters m ρ))

end Cert.WinIdeal.Hand

end
-- ==== Proof.WinValue.lean ====
module

public import proofs.«01_k».proof.Proof.WinRun
public import proofs.«01_k».proof.Proof.Gen.WinRefIdeal.Run
public import Idealize.ShloMosaic.Lib.Pipeline.ValueKit
public import Idealize.ShloMosaic.Lib.Pointwise

/-! # The input projection: its values

Each block of the first result is the rows of the input times the rounded weights of the block's columns, which with exact
values is the reference's product; each block of the second is the rounded weights themselves. -/

@[expose] public section

set_option maxRecDepth 16384

noncomputable section

open Idealize.ShloMosaic Idealize.ShloMosaic.TcCoe Idealize.SL.Sem
open Idealize.ShloMosaic.Pipeline (Dat)

namespace Cert.WinRefIdeal.Spec
open Cert.WinRefIdeal Cert.WinRefIdeal.Gen

/-- The reference's first 6400 projected columns of `X` by the weights `W`. -/
def proj (X : FVec Ideal S8192x2048 .bf16) (W : FVec Ideal S2048x12544 .f32) : FVec Ideal S8192x6400 .f32 :=
  extractStridedSlice S8192x6400 ![0, 0] (Host.dotGeneral dot_S8192x2048_S2048x12544_S8192x12544_1_0_0_1_n_n none (extf .f32 X bitsLt_bf16_f32) W)
    slices_S8192x12544_S8192x6400_0_0

/-- The reference's rounded first 6400 columns of the weights. -/
def cols (W : FVec Ideal S2048x12544 .f32) : FVec Ideal S2048x6400 .bf16 :=
  truncf .bf16 (extractStridedSlice S2048x6400 ![0, 0] W slices_S2048x12544_S2048x6400_0_0) bitsLt_bf16_f32

end Cert.WinRefIdeal.Spec

namespace Cert.WinIdeal.Value
open Cert.WinIdeal Cert.WinIdeal.Gen Cert.WinIdeal.Hand
open Cert.WinRefIdeal.Spec

variable (m : (ℓ : Loc nD τ sig) → Buf (Elt Ideal) ℓ)

/-- The block of rows read at an index. -/
theorem iblk0 (c : Dev nD) (t : Fin cfg0.N) (r : Fin 1024) (k : Fin 2048) (R : Fin 8192) (hR : (R : ℕ) = t.val % 8 * 1024 + r) :
    (show EReal from iblk m c 0 t (ix2 r k)) = (show EReal from m ((c : Thread nD τ).loc main_arg0) (ix2 R k)) := by
  blk_ext [iblk, V, idx t]

/-- What point `t` leaves in the first result's block is the reference's product at the place of the block. -/
theorem point2 (c : Dev nD) (t : Fin cfg0.N) (r : Fin 1024) (k : Fin 1280) (R : Fin 8192) (C : Fin 6400)
    (hR : (R : ℕ) = t.val % 8 * 1024 + r) (hC : (C : ℕ) = t.val / 8 * 1280 + k) :
    k0_pay2 (F := Ideal) (iblk m c 0 t) (wbf m c t) (ix2 r k) = proj (m ((c : Thread nD τ).loc main_arg0)) (m ((c : Thread nD τ).loc main_arg1)) (ix2 R C) := by
  unfold wbf
  pointwise [k0_pay2, k0_pay1, proj]
  exact Finset.sum_congr rfl fun x _ => congrArg₂ (· * ·) (iblk0 m c t r x R hR) (iblk1 m c t x k _ hC)

/-- What point `t` leaves in the second result's block is the reference's rounded weights at the place of the block. -/
theorem point3 (c : Dev nD) (t : Fin cfg0.N) (r : Fin 2048) (k : Fin 1280) (C : Fin 6400) (hC : (C : ℕ) = t.val / 8 * 1280 + k) :
    wbf (F := Ideal) m c t (ix2 r k) = cols (m ((c : Thread nD τ).loc main_arg1)) (ix2 r C) := by
  unfold wbf
  pointwise [k0_pay1, cols]
  exact iblk1 m c t r k _ hC

/-- After the run the first result is the reference's product. -/
theorem final2 (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t _ y => ?_
  blk_simp
  rw [after2]
  refine ((congrArg _ (eq_ix2 (y : S1024x1280.Idx))).trans (point2 m c t _ _ ((win0_2.rect t).emb y 0) ((win0_2.rect t).emb y 1) ?_ ?_)).trans
    (congrArg (proj _ _) (eq_ix2 ((win0_2.rect t).emb y)).symm)
  · rw [Pipeline.Window.rect_emb_val_off, (idx t).2.2.1]; rfl
  · rw [Pipeline.Window.rect_emb_val_off, (idx t).2.2.1]; rfl

/-- After the run the second result is the reference's rounded weights. -/
theorem final3 (c : Dev nD) : (dats m 0 c).arrAt 3 (cfgs 0).N = cols (m ((c : Thread nD τ).loc main_arg1)) := by
  refine (dats m 0 c).arrAt_eq_of_covers 3 _ (by decide +kernel) fun t _ y => ?_
  blk_simp
  rw [after3]
  refine ((congrArg _ (eq_ix2 (y : S2048x1280.Idx))).trans (point3 m c t _ _ ((win0_3.rect t).emb y 1) ?_)).trans
    (congrArg (cols _) ((congrArg (fun i : Fin 2048 => ix2 i ((win0_3.rect t).emb y 1 : Fin 6400)) (Fin.ext ?_)).trans (eq_ix2 ((win0_3.rect t).emb y)).symm))
  · rw [Pipeline.Window.rect_emb_val_off, (idx t).2.2.2.1]; rfl
  · rw [Pipeline.Window.rect_emb_val_off, (idx t).2.2.2.1]; show (y 0 : ℕ) = 0 * 2048 + (y 0 : ℕ); omega

end Cert.WinIdeal.Value

end
-- ==== Proof.WoutValue.lean ====
module

public import proofs.«01_k».proof.Proof.Gen.WoutIdeal.Frame
public import proofs.«01_k».proof.Proof.Gen.WoutRefIdeal.Run
public import Idealize.ShloMosaic.Lib.Pipeline.ValueKit
public import Idealize.ShloMosaic.Lib.Pointwise
public import Idealize.ShloMosaic.Lib.Claim

/-! # The output projection with its residual

Blocks of 512 rows: each is multiplied by the whole output matrix, normalised, scaled and added to the residual stream;
the sum is normalised once more for the feed-forward block. Both results are the reference's, row by row. -/

@[expose] public section

set_option maxRecDepth 16384

noncomputable section

open Idealize.ShloMosaic Idealize.ShloMosaic.TcCoe Idealize.SL.Sem
open Idealize.ShloMosaic.Pipeline (Dat)

namespace Cert.WoutRefIdeal.Spec
open Cert.WoutRefIdeal Cert.WoutRefIdeal.Gen

/-- The reference's product of the rows `X` with the weights `W`. -/
def prod (X : FVec Ideal S8192x2048 .bf16) (W : FVec Ideal S2048x2048 .bf16) : FVec Ideal S8192x2048 .f32 :=
  Host.dotGeneral dot_S8192x2048_S2048x2048_S8192x2048_1_0_0_1_n_n none (extf .f32 X bitsLt_bf16_f32) (extf .f32 W bitsLt_bf16_f32)

/-- The reference's root-mean-square normalisation of the rows of `X`, scaled by `g`. -/
def rms (X : FVec Ideal S8192x2048 .f32) (g : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0
    (Host.reduceAdd (mulf X X) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The residual sum: `H` plus the normalised product. -/
def res (X : FVec Ideal S8192x2048 .bf16) (W : FVec Ideal S2048x2048 .bf16) (H : FVec Ideal S8192x2048 .f32) (g : FVec Ideal S2048 .f32) :
    FVec Ideal S8192x2048 .f32 := addf H (rms (prod X W) g)

/-- The residual sum normalised once more, for the next block of the layer. -/
def normed (X : FVec Ideal S8192x2048 .bf16) (W : FVec Ideal S2048x2048 .bf16) (H : FVec Ideal S8192x2048 .f32) (g g' : FVec Ideal S2048 .f32) :
    FVec Ideal S8192x2048 .bf16 := truncf .bf16 (rms (res X W H g) g') bitsLt_bf16_f32

end Cert.WoutRefIdeal.Spec

namespace Cert.WoutIdeal.Value
open Cert.WoutIdeal Cert.WoutIdeal.Gen
open Cert.WoutRefIdeal.Spec

variable (m : (ℓ : Loc nD τ sig) → Buf (Elt Ideal) ℓ)

/-- Where the blocks lie: the row operands and the results at row block `t`, the weights and the scales whole. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- What point `t` leaves in the residual block is the reference's value at the place of the block. -/
theorem point5 (c : Dev nD) (t : Fin cfg0.N) (y) : k0_pay1 (iblk m c 0 t) (iblk m c 1 t) (iblk m c 2 t) (iblk m c 3 t) y
    = res (m ((c : Thread nD τ).loc main_arg0)) (m ((c : Thread nD τ).loc main_arg1)) (m ((c : Thread nD τ).loc main_arg2))
      (m ((c : Thread nD τ).loc main_arg3)) (((cfg0.win 5).blk t).view.emb y) := by
  pointwise [k0_pay1, res, rms, prod]
  blk_point [iblk, V, idx t]

/-- After the run the residual array is the reference's. -/
theorem final5 (c : Dev nD) : (dats m 0 c).arrAt 5 (cfgs 0).N
    = res (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]; frame_out
  exact point5 m c t y

/-- What point `t` leaves in the normalised block is the reference's value at the place of the block. -/
theorem point6 (c : Dev nD) (t : Fin cfg0.N) (y) : k0_pay2 (iblk m c 0 t) (iblk m c 1 t) (iblk m c 2 t) (iblk m c 3 t) (iblk m c 4 t) y
    = normed (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 6).blk t).view.emb y) := by
  pointwise [k0_pay2, k0_pay1, normed, res, rms, prod]
  blk_point [iblk, V, idx t]

/-- After the run the normalised array is the reference's. -/
theorem final6 (c : Dev nD) : (dats m 0 c).arrAt 6 (cfgs 0).N
    = normed (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]; frame_out
  exact point6 m c t y

end Cert.WoutIdeal.Value

end
-- ==== Proof.DownValue.lean ====
module

public import proofs.«01_k».proof.Proof.Gen.DownIdeal.Frame
public import proofs.«01_k».proof.Proof.Gen.DownRefIdeal.Run
public import Idealize.ShloMosaic.Lib.Pipeline.ValueKit
public import Idealize.ShloMosaic.Lib.Pointwise
public import Idealize.ShloMosaic.Lib.Claim

/-! # The feed-forward block's down projection with its residual

Blocks of 256 rows: each is multiplied by the whole down matrix, normalised, scaled and added to the residual stream.
The result is the reference's, row by row. -/

@[expose] public section

set_option maxRecDepth 16384

noncomputable section

open Idealize.ShloMosaic Idealize.ShloMosaic.TcCoe Idealize.SL.Sem
open Idealize.ShloMosaic.Pipeline (Dat)

namespace Cert.DownRefIdeal.Spec
open Cert.DownRefIdeal Cert.DownRefIdeal.Gen

/-- The reference's product of the rows `X` with the weights `W`. -/
def prod (X : FVec Ideal S8192x5632 .bf16) (W : FVec Ideal S5632x2048 .bf16) : FVec Ideal S8192x2048 .f32 :=
  Host.dotGeneral dot_S8192x5632_S5632x2048_S8192x2048_1_0_0_1_n_n none (extf .f32 X bitsLt_bf16_f32) (extf .f32 W bitsLt_bf16_f32)

/-- The reference's root-mean-square normalisation of the rows of `X`, scaled by `g`. -/
def rms (X : FVec Ideal S8192x2048 .f32) (g : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0
    (Host.reduceAdd (mulf X X) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The residual sum: `H` plus the normalised product. -/
def res (X : FVec Ideal S8192x5632 .bf16) (W : FVec Ideal S5632x2048 .bf16) (H : FVec Ideal S8192x2048 .f32) (g : FVec Ideal S2048 .f32) :
    FVec Ideal S8192x2048 .f32 := addf H (rms (prod X W) g)

end Cert.DownRefIdeal.Spec

namespace Cert.DownIdeal.Value
open Cert.DownIdeal Cert.DownIdeal.Gen
open Cert.DownRefIdeal.Spec

variable (m : (ℓ : Loc nD τ sig) → Buf (Elt Ideal) ℓ)

/-- Where the blocks lie: the row operands and the results at row block `t`, the weights and the scales whole. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- What point `t` leaves in the residual block is the reference's value at the place of the block. -/
theorem point5 (c : Dev nD) (t : Fin cfg0.N) (y) : k0_pay1 (iblk m c 0 t) (iblk m c 1 t) (iblk m c 2 t) (iblk m c 3 t) y
    = res (m ((c : Thread nD τ).loc main_arg0)) (m ((c : Thread nD τ).loc main_arg1)) (m ((c : Thread nD τ).loc main_arg2))
      (m ((c : Thread nD τ).loc main_arg3)) (((cfg0.win 5).blk t).view.emb y) := by
  pointwise [k0_pay1, res, rms, prod]
  blk_point [iblk, V, idx t]

/-- After the run the residual array is the reference's. -/
theorem final5 (c : Dev nD) : (dats m 0 c).arrAt 5 (cfgs 0).N
    = res (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]; frame_out
  exact point5 m c t y

end Cert.DownIdeal.Value

end
-- ==== Proof.MemkvValue.lean ====
module

public import proofs.«01_k».proof.Proof.Gen.MemkvIdeal.Frame
public import proofs.«01_k».proof.Proof.Gen.MemkvRefIdeal.Run
public import Idealize.ShloMosaic.Lib.Pipeline.ValueKit
public import Idealize.ShloMosaic.Lib.Pointwise

/-! # The memory's key and value projections

The kernel walks the 1024 rows of the normalised memory in two blocks of 512 and multiplies each block by the two
whole weight matrices. Each result array is the plain product of the whole memory with the weights. -/

@[expose] public section

set_option maxRecDepth 16384

noncomputable section

open Idealize.ShloMosaic Idealize.ShloMosaic.TcCoe Idealize.SL.Sem
open Idealize.ShloMosaic.Pipeline (Dat)

namespace Cert.MemkvRefIdeal.Spec
open Cert.MemkvRefIdeal Cert.MemkvRefIdeal.Gen

/-- The reference's product of the memory `X` with a weight matrix `W`. -/
def prod (X : FVec Ideal S1024x2048 .bf16) (W : FVec Ideal S2048x1024 .f32) : FVec Ideal S1024x1024 .f32 :=
  Host.dotGeneral dot_S1024x2048_S2048x1024_S1024x1024_1_0_0_1_n_n none (extf .f32 X bitsLt_bf16_f32) W

end Cert.MemkvRefIdeal.Spec

namespace Cert.MemkvIdeal.Value
open Cert.MemkvIdeal Cert.MemkvIdeal.Gen
open Cert.MemkvRefIdeal.Spec (prod)

variable (m : (ℓ : Loc nD τ sig) → Buf (Elt Ideal) ℓ)

/-- Where the blocks lie: the memory's and the results' blocks at row block `t`, the weights whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- What point `t` leaves in the key block is the reference's product at the place of the block. -/
theorem point3 (c : Dev nD) (t : Fin cfg0.N) (y) : k0_pay1 (iblk m c 0 t) (iblk m c 1 t) y
    = prod (m ((c : Thread nD τ).loc main_arg0)) (m ((c : Thread nD τ).loc main_arg1)) (((cfg0.win 3).blk t).view.emb y) := by
  pointwise [k0_pay1, prod]
  blk_point [iblk, V, idx t]

/-- What point `t` leaves in the value block is the reference's product at the place of the block. -/
theorem point4 (c : Dev nD) (t : Fin cfg0.N) (y) : k0_pay2 (iblk m c 0 t) (iblk m c 2 t) y
    = prod (m ((c : Thread nD τ).loc main_arg0)) (m ((c : Thread nD τ).loc main_arg2)) (((cfg0.win 4).blk t).view.emb y) := by
  pointwise [k0_pay2, prod]
  blk_point [iblk, V, idx t]

/-- After the run the key array is the product of the memory with the key weights. -/
theorem final3 (c : Dev nD) : (dats m 0 c).arrAt 3 (cfgs 0).N
    = prod (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

/-- After the run the value array is the product of the memory with the value weights. -/
theorem final4 (c : Dev nD) : (dats m 0 c).arrAt 4 (cfgs 0).N
    = prod (m ((c : Thread nD τ).loc main_arg0)) (m ((c : Thread nD τ).loc main_arg2)) := by
  refine (dats m 0 c).arrAt_eq_of_covers 4 _ (by decide +kernel) fun t _ y => ?_
  blk_simp
  rw [after0_4]; frame_out
  exact point4 m c t y

end Cert.MemkvIdeal.Value

end
-- ==== Proof.UpRun.lean ====
module

public import proofs.«01_k».proof.Proof.Gen.UpIdeal.Launch
public import proofs.«01_k».proof.Proof.Gen.UpIdeal.Skeleton
public import proofs.«01_k».proof.Proof.Gen.UpIdeal.Points
public import proofs.«01_k».proof.Proof.Gen.UpIdeal.Frame
public import Idealize.ShloMosaic.Lib.Pipeline.FrameBody
public import Idealize.ShloMosaic.Lib.Pipeline.TableIdle
public import Idealize.ShloMosaic.Lib.Pipeline.ValueKit
public import Idealize.ShloMosaic.Lib.Pointwise
public import Idealize.ShloMosaic.Lib.Ring
public import Idealize.ShloMosaic.Lib.Tactic
public import Idealize.ShloMosaic.Lib.WordCmp
public import Idealize.ShloMosaic.Lib.VecWindow
public import Idealize.ShloMosaic.Lib.Claim

/-! # The up projection with its causal convolution and gate: the kernel's run

The grid is eleven column blocks by eight row blocks. At the first row block of a column block the body rounds the block's
columns of the two halves of the weights to the narrow format, keeps the rounded copies in the fourth and fifth results'
blocks, and clears two scratch buffers; the other seven row blocks work with those copies and leave them as they are. Every
point leaves the last eight rows of its two projections in the scratch buffers, where the next row block finds the rows its
convolution reaches back to. -/

@[expose] public section

set_option maxRecDepth 16384

noncomputable section

namespace Cert.UpIdeal.Hand
open Cert.UpIdeal Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition: the row block is the first. -/
abbrev first (i : grid0.Coords) : Prop := k0_cond1 i = 1#1

/-- It holds at the points whose number is a multiple of eight. -/
theorem first_iff : ∀ t : Fin cfg0.N, first (grid0.coords t) ↔ t.val % 8 = 0 :=
  (fun t => by
    have ht : t.val < 88 := Nat.lt_of_lt_of_eq t.isLt N_0
    have e0 : (grid0.coords t 0).val = t.val / 8 % 11 := Pipeline.Grid.coords_val t 0 (by decide) rfl
    have e1 : (grid0.coords t 1).val = t.val / 1 % 8 := Pipeline.Grid.coords_val t 1 (by decide) rfl
    simp only [first, k0_cond1, e0, e1]
    word_cmp
   : ∀ t : Fin grid0.N, first (grid0.coords t) ↔ t.val % 8 = 0)

/-- The bit by which the body tells whether the row block begins a batch. -/
abbrev begins (i : grid0.Coords) : BitVec 1 :=
  have arg1 : BitVec 32 := BitVec.ofNat 32 (i 1).val
  have v6 : BitVec 32 := Scalar.muli arg1 1024#32
  have v7 : BitVec 1 := Scalar.cmpi .eq 2048#32 0#32
  have v8 : BitVec 32 := Scalar.select v7 1#32 2048#32
  have v9 : BitVec 32 := Scalar.remsi v6 v8
  have v10 : BitVec 1 := Scalar.cmpi .ne v9 0#32
  have v11 : BitVec 1 := Scalar.cmpi .slt v9 0#32
  have v12 : BitVec 1 := Scalar.cmpi .slt v8 0#32
  have v13 : BitVec 1 := Scalar.xori v11 v12
  have v14 : BitVec 1 := Scalar.andi v13 v10
  have v15 : BitVec 32 := Scalar.addi v9 v8
  have v16 : BitVec 32 := Scalar.select v14 v15 v9
  Scalar.cmpi .eq v16 0#32

/-- The two rows of a block of carried rows. -/
abbrev e0 : Rect S1x2x512 := Rect.unit (s := S1x2x512) ![0, 0, 0] S1x1x512.size inb_S1x2x512_S1x1x512_0_0_0
abbrev e1 : Rect S1x2x512 := Rect.unit (s := S1x2x512) ![0, 1, 0] S1x1x512.size inb_S1x2x512_S1x1x512_0_1_0

/-- The rows before the block's first in the gate's half: the carried rows where a batch begins, the scratch's elsewhere, -/
def haloG (b : BitVec 1) (e : Vec F S1x2x512 .f32) (k : Vec F S8x512 .f32) : FVec F S8x512 .f32 :=
  k0_pay13 b (k0_pay10 (View.ld e e0)) k0_pay11 (k0_pay12 (View.ld e e1)) k

/-- and in the value's half. -/
def haloV (b : BitVec 1) (e : Vec F S1x2x512 .f32) (k : Vec F S8x512 .f32) : FVec F S8x512 .f32 :=
  k0_pay14 b (iota .tc S8x512 32 [0] iota_S8x512_d0_w32) (View.ld e e0) (View.ld e e1) k

/-- The activation from the convolution of the gate's half and all the value's half needs. -/
def actOf (hg hv : FVec F S8x512 .f32) (ug uv : FVec F S1024x512 .f32) (cg cv : Vec F S3x512 .f32) (bg bv : Vec F S1x512 .f32) : Vec F S1024x512 .bf16 :=
  k0_pay23 hv cv (k0_pay16 bv) uv (k0_pay20 hg cg (k0_pay15 bg) ug) (k0_pay21 hg cg (k0_pay15 bg) ug) k0_pay22

/-- The projection onto the gate's half from rounded weights, -/
abbrev upG (x : Vec F S1024x2048 .bf16) (G : Vec F S2048x512 .bf16) : FVec F S1024x512 .f32 := k0_pay17 x G

/-- and onto the value's. -/
abbrev upV (x : Vec F S1024x2048 .bf16) (W : Vec F S2048x512 .bf16) : FVec F S1024x512 .f32 := k0_pay19 x (k0_pay18 W)

/-- The activation is settled by its arguments. -/
theorem actOf_congr {b : BitVec 1} {x x' : Vec F S1024x2048 .bf16} {G G' W W' : Vec F S2048x512 .bf16} {u0 u1 w0 w1 : Vec F S1x1x512 .f32}
    {eg ev : Vec F S1x2x512 .f32} {kg kg' kv kv' : Vec F S8x512 .f32} {cg cg' cv cv' : Vec F S3x512 .f32} {bg bg' bv bv' : Vec F S1x512 .f32}
    (hx : x = x') (hG : G = G') (hW : W = W') (h0 : u0 = View.ld eg e0) (h1 : u1 = View.ld eg e1) (l0 : w0 = View.ld ev e0) (l1 : w1 = View.ld ev e1)
    (hkg : kg = kg') (hkv : kv = kv') (hcg : cg = cg') (hcv : cv = cv') (hbg : bg = bg') (hbv : bv = bv') :
    k0_pay23 (k0_pay14 b (iota .tc S8x512 32 [0] iota_S8x512_d0_w32) w0 w1 kv) cv (k0_pay16 bv) (k0_pay19 x (k0_pay18 W))
      (k0_pay20 (k0_pay13 b (k0_pay10 u0) k0_pay11 (k0_pay12 u1) kg) cg (k0_pay15 bg) (k0_pay17 x G))
      (k0_pay21 (k0_pay13 b (k0_pay10 u0) k0_pay11 (k0_pay12 u1) kg) cg (k0_pay15 bg) (k0_pay17 x G)) k0_pay22
      = actOf (haloG b eg kg') (haloV b ev kv') (upG x' G') (upV x' W') cg' cv' bg' bv' := by
  subst hx hG hW h0 h1 l0 l1 hkg hkv hcg hcv hbg hbv; rfl

/-- A part of a whole buffer read back is the part of its contents. -/
theorem part_unread {sp : Space} {s : Shape} {e : EltTy} {v : Memref sig .tc sp s e} (h : v.IsWhole) (x : Vec F s e) (r : Rect s) :
    View.readAt (Elt F) v.view r.toLoadRect (h.unread x) = View.ld x r :=
  congrArg (fun X => View.ld X r) (h.read_unread x)

set_option maxHeartbeats 16000000 in
/-- The body at a first row block: it rounds the weights, clears the scratch and works with those. -/
theorem run_first (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2x512 .f32) (harg5 : arg5.IsWhole) (arg6 : Memref sig .tc .vmem S1x2x512 .f32) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S64x2048 .f32) (harg11 : arg11.IsWhole) (arg12 : Memref sig .tc .vmem S1024x512 .bf16) (harg12 : arg12.IsWhole) (arg13 : Memref sig .tc .vmem S8x512 .f32) (harg13 : arg13.IsWhole) (arg14 : Memref sig .tc .vmem S8x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S64x2048 .bf16) (harg17 : arg17.IsWhole) (arg18 : Memref sig .tc .vmem S8x512 .f32) (harg18 : arg18.IsWhole) (arg19 : Memref sig .tc .vmem S8x512 .f32) (harg19 : arg19.IsWhole) (hc0 : first i)
    (x0 : Vec F S1024x2048 .bf16) (x1 : Vec F S2048x512 .f32) (x2 : Vec F S2048x512 .f32) (x3 : Vec F S1x2x512 .f32) (x4 : Vec F S1x2x512 .f32) (x5 : Vec F S3x512 .f32) (x6 : Vec F S3x512 .f32) (x7 : Vec F S1x512 .f32) (x8 : Vec F S1x512 .f32) (x9 : Vec F S64x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (actOf (haloG (begins i) x3 k0_pay8) (haloV (begins i) x4 k0_pay9) (upG x0 (k0_pay6 x1)) (upV x0 (k0_pay7 x2)) x5 x6 x7 x8) ∗ owns (c : Thread nD τ) arg13 fullShare (k0_pay2 (upG x0 (k0_pay6 x1))) ∗ owns (c : Thread nD τ) arg14 fullShare (k0_pay4 (upV x0 (k0_pay7 x2))) ∗ owns (c : Thread nD τ) arg15 fullShare (k0_pay6 x1) ∗ owns (c : Thread nD τ) arg16 fullShare (k0_pay7 x2) ∗ owns (c : Thread nD τ) arg17 fullShare (k0_pay5 x9) ∗ owns (c : Thread nD τ) arg18 fullShare (k0_pay1 (k0_pay24 (upG x0 (k0_pay6 x1)))) ∗ owns (c : Thread nD τ) arg19 fullShare (k0_pay3 (upV x0 (k0_pay7 x2)))) -∗ K ⟨⟩))
      ⊢ wp frame (wpE (defs₀ (F := F)) Variants.none c none) E (cc0_up_conv_gate i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_up_conv_gate_eq_skeleton]; unfold cc0_up_conv_gate_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    sl_unfold_run_names
    exact (View.read_writes_full _ _ _ _ _).trans (actOf_congr ((View.readAt_full _ _ _).trans (harg2.read_unread x0)) ((View.readCov_full _ _ _ _ _).trans (congrArg k0_pay6 ((View.readAt_full _ _ _).trans (harg3.read_unread x1)))) ((View.readCov_full _ _ _ _ _).trans (congrArg k0_pay7 ((View.readAt_full _ _ _).trans (harg4.read_unread x2)))) (part_unread harg5 x3 _) (part_unread harg5 x3 _) (part_unread harg6 x4 _) (part_unread harg6 x4 _) (View.readCov_full _ _ _ _ _) (View.readCov_full _ _ _ _ _) ((View.readAt_full _ _ _).trans (harg7.read_unread x5)) ((View.readAt_full _ _ _).trans (harg8.read_unread x6)) ((View.readAt_full _ _ _).trans (harg9.read_unread x7)) ((View.readAt_full _ _ _).trans (harg10.read_unread x8)))
  isplitl [H11]
  · iexists _; isplitr; swap; · iexact H11
    ipureintro
    sl_unfold_run_names
    exact (View.read_writes_full _ _ _ _ _).trans (congrArg k0_pay2 (congrArg₂ k0_pay17 ((View.readAt_full _ _ _).trans (harg2.read_unread x0)) ((View.readCov_full _ _ _ _ _).trans (congrArg k0_pay6 ((View.readAt_full _ _ _).trans (harg3.read_unread x1))))))
  isplitl [H12]
  · iexists _; isplitr; swap; · iexact H12
    ipureintro
    sl_unfold_run_names
    exact (View.read_writes_full _ _ _ _ _).trans (congrArg k0_pay4 (congrArg₂ (fun a b => k0_pay19 a (k0_pay18 b)) ((View.readAt_full _ _ _).trans (harg2.read_unread x0)) ((View.readCov_full _ _ _ _ _).trans (congrArg k0_pay7 ((View.readAt_full _ _ _).trans (harg4.read_unread x2))))))
  isplitl [H13]
  · iexists _; isplitr; swap; · iexact H13
    ipureintro
    sl_unfold_run_names
    exact (View.read_writes_full _ _ _ _ _).trans (congrArg k0_pay6 ((View.readAt_full _ _ _).trans (harg3.read_unread x1)))
  isplitl [H14]
  · iexists _; isplitr; swap; · iexact H14
    ipureintro
    sl_unfold_run_names
    exact (View.read_writes_full _ _ _ _ _).trans (congrArg k0_pay7 ((View.readAt_full _ _ _).trans (harg4.read_unread x2)))
  isplitl [H15]
  · iexists _; isplitr; swap; · iexact H15
    ipureintro
    sl_unfold_run_names
    exact (View.read_writes_full _ _ _ _ _).trans (congrArg k0_pay5 ((View.readAt_full _ _ _).trans (harg11.read_unread x9)))
  isplitl [H16]
  · iexists _; isplitr; swap; · iexact H16
    ipureintro
    sl_unfold_run_names
    exact (View.read_writes_full _ _ _ _ _).trans (congrArg (fun u => k0_pay1 (k0_pay24 u)) (congrArg₂ k0_pay17 ((View.readAt_full _ _ _).trans (harg2.read_unread x0)) ((View.readCov_full _ _ _ _ _).trans (congrArg k0_pay6 ((View.readAt_full _ _ _).trans (harg3.read_unread x1))))))
  iexists _; isplitr; swap; · iexact H17
  ipureintro
  sl_unfold_run_names
  exact (View.read_writes_full _ _ _ _ _).trans (congrArg k0_pay3 (congrArg₂ (fun a b => k0_pay19 a (k0_pay18 b)) ((View.readAt_full _ _ _).trans (harg2.read_unread x0)) ((View.readCov_full _ _ _ _ _).trans (congrArg k0_pay7 ((View.readAt_full _ _ _).trans (harg4.read_unread x2))))))

set_option maxHeartbeats 16000000 in
/-- The body at any other row block: it works with the rounded weights and the scratch it finds. -/
theorem run_later (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x2x512 .f32) (harg5 : arg5.IsWhole) (arg6 : Memref sig .tc .vmem S1x2x512 .f32) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S64x2048 .f32) (harg11 : arg11.IsWhole) (arg12 : Memref sig .tc .vmem S1024x512 .bf16) (harg12 : arg12.IsWhole) (arg13 : Memref sig .tc .vmem S8x512 .f32) (harg13 : arg13.IsWhole) (arg14 : Memref sig .tc .vmem S8x512 .f32) (harg14 : arg14.IsWhole) (arg15 : Memref sig .tc .vmem S2048x512 .bf16) (harg15 : arg15.IsWhole) (arg16 : Memref sig .tc .vmem S2048x512 .bf16) (harg16 : arg16.IsWhole) (arg17 : Memref sig .tc .vmem S64x2048 .bf16) (harg17 : arg17.IsWhole) (arg18 : Memref sig .tc .vmem S8x512 .f32) (harg18 : arg18.IsWhole) (arg19 : Memref sig .tc .vmem S8x512 .f32) (harg19 : arg19.IsWhole) (hc0 : ¬first i)
    (x0 : Vec F S1024x2048 .bf16) (x1 : Vec F S2048x512 .f32) (x2 : Vec F S2048x512 .f32) (x3 : Vec F S1x2x512 .f32) (x4 : Vec F S1x2x512 .f32) (x5 : Vec F S3x512 .f32) (x6 : Vec F S3x512 .f32) (x7 : Vec F S1x512 .f32) (x8 : Vec F S1x512 .f32) (x9 : Vec F S64x2048 .f32) (G W : Vec F S2048x512 .bf16) (kg kv : Vec F S8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare G ∗ owns (c : Thread nD τ) arg16 fullShare W ∗ (∃ d, owns (c : Thread nD τ) arg17 fullShare d) ∗ owns (c : Thread nD τ) arg18 fullShare kg ∗ owns (c : Thread nD τ) arg19 fullShare kv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (actOf (haloG (begins i) x3 kg) (haloV (begins i) x4 kv) (upG x0 G) (upV x0 W) x5 x6 x7 x8) ∗ owns (c : Thread nD τ) arg13 fullShare (k0_pay2 (upG x0 G)) ∗ owns (c : Thread nD τ) arg14 fullShare (k0_pay4 (upV x0 W)) ∗ owns (c : Thread nD τ) arg15 fullShare G ∗ owns (c : Thread nD τ) arg16 fullShare W ∗ owns (c : Thread nD τ) arg17 fullShare (k0_pay5 x9) ∗ owns (c : Thread nD τ) arg18 fullShare (k0_pay1 (k0_pay24 (upG x0 G))) ∗ owns (c : Thread nD τ) arg19 fullShare (k0_pay3 (upV x0 W))) -∗ K ⟨⟩))
      ⊢ wp frame (wpE (defs₀ (F := F)) Variants.none c none) E (cc0_up_conv_gate i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_up_conv_gate_eq_skeleton]; unfold cc0_up_conv_gate_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hf13; obtain rfl := harg16.eq_unread hf14; obtain rfl := harg18.eq_unread hf16; obtain rfl := harg19.eq_unread hf17
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    exact (View.read_writes_full _ _ _ _ _).trans (actOf_congr ((View.readAt_full _ _ _).trans (harg2.read_unread x0)) ((View.readAt_full _ _ _).trans (harg15.read_unread G)) ((View.readAt_full _ _ _).trans (harg16.read_unread W)) (part_unread harg5 x3 _) (part_unread harg5 x3 _) (part_unread harg6 x4 _) (part_unread harg6 x4 _) ((View.readAt_full _ _ _).trans (harg18.read_unread kg)) ((View.readAt_full _ _ _).trans (harg19.read_unread kv)) ((View.readAt_full _ _ _).trans (harg7.read_unread x5)) ((View.readAt_full _ _ _).trans (harg8.read_unread x6)) ((View.readAt_full _ _ _).trans (harg9.read_unread x7)) ((View.readAt_full _ _ _).trans (harg10.read_unread x8)))
  isplitl [H11]
  · iexists _; isplitr; swap; · iexact H11
    ipureintro
    exact (View.read_writes_full _ _ _ _ _).trans (congrArg k0_pay2 (congrArg₂ k0_pay17 ((View.readAt_full _ _ _).trans (harg2.read_unread x0)) ((View.readAt_full _ _ _).trans (harg15.read_unread G))))
  isplitl [H12]
  · iexists _; isplitr; swap; · iexact H12
    ipureintro
    exact (View.read_writes_full _ _ _ _ _).trans (congrArg k0_pay4 (congrArg₂ (fun a b => k0_pay19 a (k0_pay18 b)) ((View.readAt_full _ _ _).trans (harg2.read_unread x0)) ((View.readAt_full _ _ _).trans (harg16.read_unread W))))
  isplitl [H13]
  · iexists _; isplitr; · ipureintro; exact harg15.read_unread _
    iexact H13
  isplitl [H14]
  · iexists _; isplitr; · ipureintro; exact harg16.read_unread _
    iexact H14
  isplitl [H15]
  · iexists _; isplitr; swap; · iexact H15
    ipureintro
    exact (View.read_writes_full _ _ _ _ _).trans (congrArg k0_pay5 ((View.readAt_full _ _ _).trans (harg11.read_unread x9)))
  isplitl [H16]
  · iexists _; isplitr; swap; · iexact H16
    ipureintro
    exact (View.read_writes_full _ _ _ _ _).trans (congrArg (fun u => k0_pay1 (k0_pay24 u)) (congrArg₂ k0_pay17 ((View.readAt_full _ _ _).trans (harg2.read_unread x0)) ((View.readAt_full _ _ _).trans (harg15.read_unread G))))
  iexists _; isplitr; swap; · iexact H17
  ipureintro
  exact (View.read_writes_full _ _ _ _ _).trans (congrArg k0_pay3 (congrArg₂ (fun a b => k0_pay19 a (k0_pay18 b)) ((View.readAt_full _ _ _).trans (harg2.read_unread x0)) ((View.readAt_full _ _ _).trans (harg16.read_unread W))))

/-! ## What each point leaves -/

/-- Where the blocks lie: the second half's begin eleven blocks further on. -/
theorem idx : ∀ t : Fin cfg0.N, win0_0.index t = ![t.val % 8, 0] ∧ win0_1.index t = ![0, t.val / 8] ∧ win0_2.index t = ![0, t.val / 8 + 11]
    ∧ win0_3.index t = ![t.val % 8 / 2, 0, t.val / 8] ∧ win0_4.index t = ![t.val % 8 / 2, 0, t.val / 8 + 11] ∧ win0_5.index t = ![0, t.val / 8]
    ∧ win0_6.index t = ![0, t.val / 8 + 11] ∧ win0_7.index t = ![0, t.val / 8] ∧ win0_8.index t = ![0, t.val / 8 + 11] ∧ win0_9.index t = ![t.val, 0]
    ∧ win0_10.index t = ![t.val % 8, t.val / 8] ∧ win0_11.index t = ![t.val % 8 / 2, t.val / 8] ∧ win0_12.index t = ![t.val % 8 / 2, t.val / 8]
    ∧ win0_13.index t = ![0, t.val / 8] ∧ win0_14.index t = ![0, t.val / 8] ∧ win0_15.index t = ![t.val, 0] ∧ t.val < 88 :=
  (by decide +kernel : ∀ t : Fin grid0.N, _)

/-- The number of points. -/
theorem lt (t : Fin cfg0.N) : t.val < 88 := Nat.lt_of_lt_of_eq t.isLt N_0

/-- The gate's half's block of weights read at an index. -/
theorem iblk1 (c : Dev nD) (t : Fin cfg0.N) (r : Fin 2048) (k : Fin 512) (C : Fin 11264) (hC : (C : ℕ) = t.val / 8 * 512 + k) :
    (show F .f32 from iblk m c 1 t (ix2 r k)) = (show F .f32 from V m c main_arg1 (ix2 r C)) := by
  blk_ext [iblk, idx t]

/-- The value's half's block of weights read at an index. -/
theorem iblk2 (c : Dev nD) (t : Fin cfg0.N) (r : Fin 2048) (k : Fin 512) (C : Fin 11264) (hC : (C : ℕ) = 5632 + (t.val / 8 * 512 + k)) :
    (show F .f32 from iblk m c 2 t (ix2 r k)) = (show F .f32 from V m c main_arg1 (ix2 r C)) := by
  blk_ext [iblk, idx t]

/-- The point before. -/
abbrev prev (t : Fin cfg0.N) : Fin cfg0.N := ⟨t.val - 1, Nat.lt_of_le_of_lt (Nat.sub_le _ _) t.isLt⟩

/-- The gate's half's weights are those of the point before, all through a column block. -/
theorem iblk1_pred (c : Dev nD) (t : Fin cfg0.N) (h : ¬t.val % 8 = 0) : iblk m c 1 t = iblk m c 1 (prev t) := funext fun y => by
  have hN := lt t
  have y1 : (y 1 : ℕ) < 512 := (y 1).isLt
  have e : y = ix2 (y 0 : Fin 2048) (y 1 : Fin 512) := eq_ix2 y
  rw [e]
  have hC : t.val / 8 * 512 + (y 1 : ℕ) < 11264 := by omega
  exact (iblk1 m c t (y 0) (y 1) ⟨_, hC⟩ rfl).trans
    (iblk1 m c (prev t) (y 0) (y 1) ⟨_, hC⟩ (by show t.val / 8 * 512 + (y 1 : ℕ) = (t.val - 1) / 8 * 512 + (y 1 : ℕ); omega)).symm

/-- The value's half's weights are those of the point before, all through a column block. -/
theorem iblk2_pred (c : Dev nD) (t : Fin cfg0.N) (h : ¬t.val % 8 = 0) : iblk m c 2 t = iblk m c 2 (prev t) := funext fun y => by
  have hN := lt t
  have y1 : (y 1 : ℕ) < 512 := (y 1).isLt
  have e : y = ix2 (y 0 : Fin 2048) (y 1 : Fin 512) := eq_ix2 y
  rw [e]
  have hC : 5632 + (t.val / 8 * 512 + (y 1 : ℕ)) < 11264 := by omega
  exact (iblk2 m c t (y 0) (y 1) ⟨_, hC⟩ rfl).trans
    (iblk2 m c (prev t) (y 0) (y 1) ⟨_, hC⟩ (by show 5632 + (t.val / 8 * 512 + (y 1 : ℕ)) = 5632 + ((t.val - 1) / 8 * 512 + (y 1 : ℕ)); omega)).symm

/-- The rounded weights of the gate's half at point `t`, -/
def gwt (c : Dev nD) (t : Fin cfg0.N) : Vec F S2048x512 .bf16 := k0_pay6 (iblk m c 1 t)

/-- and of the value's half. -/
def vwt (c : Dev nD) (t : Fin cfg0.N) : Vec F S2048x512 .bf16 := k0_pay7 (iblk m c 2 t)

/-- The gate's are those of the point before, all through a column block, -/
theorem gwt_pred (c : Dev nD) (t : Fin cfg0.N) (h : ¬t.val % 8 = 0) : gwt m c t = gwt m c (prev t) := by
  unfold gwt; rw [iblk1_pred m c t h]

/-- and so are the value's. -/
theorem vwt_pred (c : Dev nD) (t : Fin cfg0.N) (h : ¬t.val % 8 = 0) : vwt m c t = vwt m c (prev t) := by
  unfold vwt; rw [iblk2_pred m c t h]

/-- The two projections of point `t`. -/
def ugt (c : Dev nD) (t : Fin cfg0.N) : FVec F S1024x512 .f32 := upG (iblk m c 0 t) (gwt m c t)
def uvt (c : Dev nD) (t : Fin cfg0.N) : FVec F S1024x512 .f32 := upV (iblk m c 0 t) (vwt m c t)

/-- What point `t` leaves in the two scratch buffers. -/
def leftG (c : Dev nD) (t : Fin cfg0.N) : Vec F S8x512 .f32 := k0_pay1 (k0_pay24 (ugt m c t))
def leftV (c : Dev nD) (t : Fin cfg0.N) : Vec F S8x512 .f32 := k0_pay3 (uvt m c t)

/-- What the body at point `t` finds in them, after it has cleared them at a first row block. -/
def foundG (c : Dev nD) (t : Fin cfg0.N) : Vec F S8x512 .f32 := if t.val % 8 = 0 then k0_pay8 else leftG m c (prev t)
def foundV (c : Dev nD) (t : Fin cfg0.N) : Vec F S8x512 .f32 := if t.val % 8 = 0 then k0_pay9 else leftV m c (prev t)

/-- The activation of point `t`. -/
def act (c : Dev nD) (t : Fin cfg0.N) : Vec F S1024x512 .bf16 :=
  actOf (haloG (begins (grid0.coords t)) (iblk m c 3 t) (foundG m c t)) (haloV (begins (grid0.coords t)) (iblk m c 4 t) (foundV m c t))
    (ugt m c t) (uvt m c t) (iblk m c 5 t) (iblk m c 6 t) (iblk m c 7 t) (iblk m c 8 t)

/-- The proof data: each input's block in place; the activation, the last rows of the two projections, the two rounded weights
    and the rounded rows of the down weights in the results' blocks; and between two points the scratch buffers at what the
    first of them left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => act m c t
    | ⟨11, _⟩ => k0_pay2 (ugt m c t)
    | ⟨12, _⟩ => k0_pay4 (uvt m c t)
    | ⟨13, _⟩ => gwt m c t
    | ⟨14, _⟩ => vwt m c t
    | ⟨15, _⟩ => k0_pay5 (iblk m c 9 t)
    | ⟨_ + 16, h⟩ => absurd h (Nat.not_lt.2 (Nat.le_add_left _ _))
  Φ s := iprop((∃ k : Vec F S8x512 .f32, ⌜∀ t : Fin cfg0.N, t.val + 1 = s.val → k = leftG m c t⌝ ∗ owns (c : Thread nD τ) (Memref.whole cc0_scratch0) fullShare k)
    ∗ (∃ k : Vec F S8x512 .f32, ⌜∀ t : Fin cfg0.N, t.val + 1 = s.val → k = leftV m c t⌝ ∗ owns (c : Thread nD τ) (Memref.whole cc0_scratch1) fullShare k)
    ∗ ∃ r, prngReg c r)
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- The scratch buffers between two points. -/
theorem Φ_eq (c : Dev nD) (s : Fin (cfg0.N + 1)) : (dats m 0 c).Φ s = iprop((∃ k : Vec F S8x512 .f32, ⌜∀ t : Fin cfg0.N, t.val + 1 = s.val → k = leftG m c t⌝ ∗ owns (c : Thread nD τ) (Memref.whole cc0_scratch0) fullShare k)
    ∗ (∃ k : Vec F S8x512 .f32, ⌜∀ t : Fin cfg0.N, t.val + 1 = s.val → k = leftV m c t⌝ ∗ owns (c : Thread nD τ) (Memref.whole cc0_scratch1) fullShare k)
    ∗ ∃ r, prngReg c r) := by
  dsimp only [dats]

/-- At the region's entry the scratch buffers hold anything, -/
theorem hin (c : Dev nD) : Pipeline.ΦA (Val := Elt F) spec0 c ⊢ (dats m 0 c).Φ 0 := by
  rw [Φ_eq]; unfold Pipeline.ΦA; rw [scopedRest0_eq]
  iintro ⟨⟨⟨%f, H0⟩, ⟨%g, H1⟩⟩, Hr⟩
  isplitl [H0]
  · iexists f
    isplitr
    · ipureintro; intro t h; exact absurd h (Nat.succ_ne_zero _)
    · rw [owns_whole]; iexact H0
  isplitl [H1]
  · iexists g
    isplitr
    · ipureintro; intro t h; exact absurd h (Nat.succ_ne_zero _)
    · rw [owns_whole]; iexact H1
  iexact Hr

/-- and at its end they are given back. -/
theorem hout (c : Dev nD) : (dats m 0 c).Φ (Fin.last cfg0.N) ⊢ Pipeline.ΦA (Val := Elt F) spec0 c := by
  rw [Φ_eq]; unfold Pipeline.ΦA; rw [scopedRest0_eq]
  simp only [owns_whole]
  iintro ⟨⟨%f, -, H0⟩, ⟨%g, -, H1⟩, Hr⟩
  isplitr [Hr]
  · isplitl [H0]
    · iexists f; iexact H0
    · iexists g; iexact H1
  iexact Hr

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = act m c t := by dsimp only [dats]
theorem after11 (c : Dev nD) (t : Fin cfg0.N) : (dats m 0 c).after 11 t = k0_pay2 (ugt m c t) := by dsimp only [dats]
theorem after12 (c : Dev nD) (t : Fin cfg0.N) : (dats m 0 c).after 12 t = k0_pay4 (uvt m c t) := by dsimp only [dats]
theorem after13 (c : Dev nD) (t : Fin cfg0.N) : (dats m 0 c).after 13 t = gwt m c t := by dsimp only [dats]
theorem after14 (c : Dev nD) (t : Fin cfg0.N) : (dats m 0 c).after 14 t = vwt m c t := by dsimp only [dats]
theorem after15 (c : Dev nD) (t : Fin cfg0.N) : (dats m 0 c).after 15 t = k0_pay5 (iblk m c 9 t) := by dsimp only [dats]

/-- Each input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- The fourth result's buffer is fresh exactly at the first row block of a column block. -/
theorem fresh13 : ∀ n : ℕ, n ≤ cfg0.N → cfg0.fresh 13 n = decide (n % 8 = 0) :=
  Pipeline.Cfg.fresh_tab cfg0 13 (fun n => decide (n % 8 = 0)) rfl (by decide +kernel)

/-- The fourth result is stored only at a first row block. -/
theorem idle13 (t : Fin cfg0.N) (h : cfg0.idle 13 (grid0.coords t) = true) : ¬t.val % 8 = 0 := fun h0 => by
  have e : cfg0.idle 13 (grid0.coords t) = !(k0_cond1 (grid0.coords t) == 1#1) := rfl
  rw [e, (first_iff t).mpr h0] at h
  exact Bool.false_ne_true h

/-- At a later row block the fourth result's buffer holds the rounded weights of the point before, which are the point's own. -/
theorem before13 (c : Dev nD) (t : Fin cfg0.N) (h : ¬t.val % 8 = 0) (d) : (dats m 0 c).before 13 t d = gwt m c t := by
  rw [(dats m 0 c).before_out_traj 13 rfl (fun _ _ => rfl) (fun s _ hi _ => by
    rw [after13, after13]; exact gwt_pred m c s (idle13 s hi)) t.val t rfl d, fresh13 t.val (Nat.le_of_lt t.isLt),
    if_neg (by simpa using h), after13]
  exact (gwt_pred m c t h).symm

/-- The rounded weights in the fourth result's buffer are what the body has to leave there at any point. -/
theorem leaves13 (c : Dev nD) (t : Fin cfg0.N) :
    owns (Ix := Unit) (Name := ℕ) (U := UR sig nD τ) (Lvl := ℕ) (c : Thread nD τ) (win0_13.stage (cfg0.slots t 13)) fullShare (gwt m c t) ⊢ (dats m 0 c).leavesExact 13 t := by
  unfold Dat.leavesExact
  cases hi : cfg0.idle 13 (grid0.coords t) with
  | false => rw [after13]
  | true =>
    cases hf : (cfg0.win 13).flush t with
    | true => rw [after13]
    | false =>
      iintro H
      iexists (fun _ => Classical.arbitrary _)
      rw [before13 m c t (idle13 t hi)]
      iexact H

/-- The fifth result's buffer is fresh exactly at the first row block of a column block. -/
theorem fresh14 : ∀ n : ℕ, n ≤ cfg0.N → cfg0.fresh 14 n = decide (n % 8 = 0) :=
  Pipeline.Cfg.fresh_tab cfg0 14 (fun n => decide (n % 8 = 0)) rfl (by decide +kernel)

/-- The fifth result is stored only at a first row block. -/
theorem idle14 (t : Fin cfg0.N) (h : cfg0.idle 14 (grid0.coords t) = true) : ¬t.val % 8 = 0 := fun h0 => by
  have e : cfg0.idle 14 (grid0.coords t) = !(k0_cond1 (grid0.coords t) == 1#1) := rfl
  rw [e, (first_iff t).mpr h0] at h
  exact Bool.false_ne_true h

/-- At a later row block the fifth result's buffer holds the rounded weights of the point before, which are the point's own. -/
theorem before14 (c : Dev nD) (t : Fin cfg0.N) (h : ¬t.val % 8 = 0) (d) : (dats m 0 c).before 14 t d = vwt m c t := by
  rw [(dats m 0 c).before_out_traj 14 rfl (fun _ _ => rfl) (fun s _ hi _ => by
    rw [after14, after14]; exact vwt_pred m c s (idle14 s hi)) t.val t rfl d, fresh14 t.val (Nat.le_of_lt t.isLt),
    if_neg (by simpa using h), after14]
  exact (vwt_pred m c t h).symm

/-- The rounded weights in the fifth result's buffer are what the body has to leave there at any point. -/
theorem leaves14 (c : Dev nD) (t : Fin cfg0.N) :
    owns (Ix := Unit) (Name := ℕ) (U := UR sig nD τ) (Lvl := ℕ) (c : Thread nD τ) (win0_14.stage (cfg0.slots t 14)) fullShare (vwt m c t) ⊢ (dats m 0 c).leavesExact 14 t := by
  unfold Dat.leavesExact
  cases hi : cfg0.idle 14 (grid0.coords t) with
  | false => rw [after14]
  | true =>
    cases hf : (cfg0.win 14).flush t with
    | true => rw [after14]
    | false =>
      iintro H
      iexists (fun _ => Classical.arbitrary _)
      rw [before14 m c t (idle14 t hi)]
      iexact H

/-! ## The body at any point, and the run -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ (dats m 0 c).leavesExact 13 t
    ∗ (dats m 0 c).leavesExact 14 t
    ∗ owns (c : Thread nD τ) (st0_15 t) fullShare ((dats m 0 c).after 15 t))

set_option maxHeartbeats 4000000 in
/-- The body at any point, by whether the row block is the first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl, Φ_eq, Φ_eq, after0, after1, after2, after3, after4, after5, after6, after7, after8, after9, after10, after11, after12, after15]
  have hu : ∀ s : Fin cfg0.N, s.val + 1 = t.succ.val → s = t := fun s h => Fin.ext (Nat.succ.inj h)
  by_cases h0 : t.val % 8 = 0
  · have ha : act m c t = actOf (haloG (begins (grid0.coords t)) (iblk m c 3 t) k0_pay8) (haloV (begins (grid0.coords t)) (iblk m c 4 t) k0_pay9)
        (ugt m c t) (uvt m c t) (iblk m c 5 t) (iblk m c 6 t) (iblk m c 7 t) (iblk m c 8 t) := by
      unfold act foundG foundV; rw [if_pos h0, if_pos h0]
    rw [ha]
    iintro ⟨⟨⟨%kg, %hkg, HG⟩, ⟨%kv, %hkv, HV⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_first c (grid0.coords t) _ _ _ _ _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HG]; · iexists _; iexact HG
    isplitl [HV]; · iexists _; iexact HV
    iintro ⟨H0, H1, H2, H3, H4, H5, H6, H7, H8, H9, H10, H11, H12, H13, H14, H15, HG, HV⟩
    isplitl [HG HV Hr]
    · isplitl [HG]
      · iexists (leftG m c t)
        isplitr
        · ipureintro; intro s h; rw [hu s h]
        · iexact HG
      isplitl [HV]
      · iexists (leftV m c t)
        isplitr
        · ipureintro; intro s h; rw [hu s h]
        · iexact HV
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iapply (leaves13 m c t)
      iexact H13
    isplitl [H14]
    · iapply (leaves14 m c t)
      iexact H14
    iexact H15
  · simp only [before13 m c t h0, before14 m c t h0]
    have hp : (prev t).val + 1 = t.castSucc.val := by show t.val - 1 + 1 = t.val; omega
    have ha : act m c t = actOf (haloG (begins (grid0.coords t)) (iblk m c 3 t) (leftG m c (prev t))) (haloV (begins (grid0.coords t)) (iblk m c 4 t) (leftV m c (prev t)))
        (ugt m c t) (uvt m c t) (iblk m c 5 t) (iblk m c 6 t) (iblk m c 7 t) (iblk m c 8 t) := by
      unfold act foundG foundV; rw [if_neg h0, if_neg h0]
    rw [ha]
    iintro ⟨⟨⟨%kg, %hkg, HG⟩, ⟨%kv, %hkv, HV⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    obtain rfl := hkg _ hp
    obtain rfl := hkv _ hp
    iapply (run_later c (grid0.coords t) _ _ _ _ _ _ _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (iblk m c 9 t) (gwt m c t) (vwt m c t) (leftG m c (prev t)) (leftV m c (prev t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexact H14
    isplitl [H15]; · iexists _; iexact H15
    isplitl [HG]; · iexact HG
    isplitl [HV]; · iexact HV
    iintro ⟨H0, H1, H2, H3, H4, H5, H6, H7, H8, H9, H10, H11, H12, H13, H14, H15, HG, HV⟩
    isplitl [HG HV Hr]
    · isplitl [HG]
      · iexists (leftG m c t)
        isplitr
        · ipureintro; intro s h; rw [hu s h]
        · iexact HG
      isplitl [HV]
      · iexists (leftV m c t)
        isplitr
        · ipureintro; intro s h; rw [hu s h]
        · iexact HV
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iapply (leaves13 m c t)
      iexact H13
    isplitl [H14]
    · iapply (leaves14 m c t)
      iexact H14
    iexact H15

/-- The body table's row at point `t` is the body at that point. -/
theorem body_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run, and every semaphore counter zero at its end. -/
theorem run_counters : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

/-- The run: every array of the pipeline ends at what the proof data says, everything else as it was or as the lines after the
    pipeline leave it. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_counters m ρ)

/-- The argument arrays end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_counters m ρ))

end Cert.UpIdeal.Hand

end
-- ==== Proof.UpSpec.lean ====
module

public import proofs.«01_k».proof.Proof.Gen.UpRefIdeal.Run
public import Idealize.ShloMosaic.Lib.Pipeline.ValueKit
public import Idealize.ShloMosaic.Lib.Pointwise

/-! # The up projection with its causal convolution and gate: the reference's values

Along a batch the convolution takes three taps of the projection: the row itself and the two before it, where the two rows
before a batch's first are the carried ones. The activation is the gelu of the gate's half times the value's half. -/

@[expose] public section

set_option maxRecDepth 16384

noncomputable section

open Idealize.ShloMosaic Idealize.ShloMosaic.TcCoe Idealize.SL.Sem

namespace Cert.UpRefIdeal.Spec
open Cert.UpRefIdeal Cert.UpRefIdeal.Gen

/-- The projection, by batch, row and column. -/
def up (X : FVec Ideal S8192x2048 .bf16) (W : FVec Ideal S2048x11264 .f32) : FVec Ideal S4x2048x11264 .f32 :=
  shapeCast _ (Host.dotGeneral dot_S8192x2048_S2048x11264_S8192x11264_1_0_0_1_n_n none (extf .f32 X bitsLt_bf16_f32) W) shapeCasts_S8192x11264_S4x2048x11264

/-- The carried rows and the projection's, one after the other. -/
def ext (P : FVec Ideal S4x2x11264 .f32) (U : FVec Ideal S4x2048x11264 .f32) : FVec Ideal S4x2050x11264 .f32 :=
  concatenate S4x2050x11264 1 [⟨S4x2x11264, P⟩, ⟨S4x2048x11264, U⟩] concatenates_S4x2x11264_S4x2048x11264_S4x2050x11264_d1

/-- A row of the convolution's weights, over every batch and row. -/
def over (w : FVec Ideal S1x11264 .f32) : FVec Ideal S4x2048x11264 .f32 :=
  broadcastInDim S4x2048x11264 ![0, 1, 2] bcast_S1x1x11264_S4x2048x11264_0_1_2 (broadcastInDim S1x1x11264 ![2] bcast_S11264_S1x1x11264_2 (shapeCast _ w shapeCasts_S1x11264_S11264))

/-- The convolution. -/
def conv (T : FVec Ideal S4x2050x11264 .f32) (cw : FVec Ideal S3x11264 .f32) (cb : FVec Ideal S11264 .f32) : FVec Ideal S4x2048x11264 .f32 :=
  addf (broadcastInDim S4x2048x11264 ![0, 1, 2] bcast_S1x1x11264_S4x2048x11264_0_1_2 (broadcastInDim S1x1x11264 ![2] bcast_S11264_S1x1x11264_2 cb))
    (addf (addf (addf (broadcastInDim S4x2048x11264 ![] bcast_S_S4x2048x11264 (constant S_ .f32 0x00000000#32))
      (mulf (over (extractStridedSlice S1x11264 ![0, 0] cw slices_S3x11264_S1x11264_0_0)) (extractStridedSlice S4x2048x11264 ![0, 0, 0] T slices_S4x2050x11264_S4x2048x11264_0_0_0)))
      (mulf (over (extractStridedSlice S1x11264 ![1, 0] cw slices_S3x11264_S1x11264_1_0)) (extractStridedSlice S4x2048x11264 ![0, 1, 0] T slices_S4x2050x11264_S4x2048x11264_0_1_0)))
      (mulf (over (extractStridedSlice S1x11264 ![2, 0] cw slices_S3x11264_S1x11264_2_0)) (extractStridedSlice S4x2048x11264 ![0, 2, 0] T slices_S4x2050x11264_S4x2048x11264_0_2_0)))

/-- The gelu, as the reference spells it. -/
def gl (G : FVec Ideal S4x2048x5632 .f32) : FVec Ideal S4x2048x5632 .f32 :=
  mulf G (mulf (broadcastInDim S4x2048x5632 ![] bcast_S_S4x2048x5632 (constant S_ .f32 0x3F000000#32)) (addf (broadcastInDim S4x2048x5632 ![] bcast_S_S4x2048x5632 (constant S_ .f32 0x3F800000#32)) (Host.tanh (mulf (broadcastInDim S4x2048x5632 ![] bcast_S_S4x2048x5632 (constant S_ .f32 0x3F4C422A#32)) (addf G (mulf (broadcastInDim S4x2048x5632 ![] bcast_S_S4x2048x5632 (constant S_ .f32 0x3D372713#32)) (mulf (mulf G G) G)))))))

/-- The gate's half of the convolution, -/
def gateOf (Y : FVec Ideal S4x2048x11264 .f32) : FVec Ideal S4x2048x5632 .f32 := extractStridedSlice S4x2048x5632 ![0, 0, 0] Y slices_S4x2048x11264_S4x2048x5632_0_0_0

/-- and the value's. -/
def valOf (Y : FVec Ideal S4x2048x11264 .f32) : FVec Ideal S4x2048x5632 .f32 := extractStridedSlice S4x2048x5632 ![0, 0, 5632] Y slices_S4x2048x11264_S4x2048x5632_0_0_5632

/-- The activation of a convolution. -/
def actOn (Y : FVec Ideal S4x2048x11264 .f32) : FVec Ideal S8192x5632 .bf16 :=
  truncf .bf16 (shapeCast _ (mulf (gl (gateOf Y)) (valOf Y)) shapeCasts_S4x2048x5632_S8192x5632) bitsLt_bf16_f32

/-- The reference's activation. -/
def acts (X : FVec Ideal S8192x2048 .bf16) (W : FVec Ideal S2048x11264 .f32) (P : FVec Ideal S4x2x11264 .f32) (cw : FVec Ideal S3x11264 .f32) (cb : FVec Ideal S11264 .f32) :
    FVec Ideal S8192x5632 .bf16 := actOn (conv (ext P (up X W)) cw cb)

/-- The reference's last two rows of every batch. -/
def tails (X : FVec Ideal S8192x2048 .bf16) (W : FVec Ideal S2048x11264 .f32) (P : FVec Ideal S4x2x11264 .f32) : FVec Ideal S4x2x11264 .f32 :=
  extractStridedSlice S4x2x11264 ![0, 2048, 0] (ext P (up X W)) slices_S4x2050x11264_S4x2x11264_0_2048_0

/-- The reference's rounded weights: the gate's half, -/
def gateW (W : FVec Ideal S2048x11264 .f32) : FVec Ideal S2048x5632 .bf16 :=
  truncf .bf16 (extractStridedSlice S2048x5632 ![0, 0] W slices_S2048x11264_S2048x5632_0_0) bitsLt_bf16_f32

/-- the value's half, -/
def valW (W : FVec Ideal S2048x11264 .f32) : FVec Ideal S2048x5632 .bf16 :=
  truncf .bf16 (extractStridedSlice S2048x5632 ![0, 5632] W slices_S2048x11264_S2048x5632_0_5632) bitsLt_bf16_f32

/-- and the down weights. -/
def downW (D : FVec Ideal S5632x2048 .f32) : FVec Ideal S5632x2048 .bf16 := truncf .bf16 D bitsLt_bf16_f32

/-- The reference's run, its results in the words above. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = acts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v47) = tails (m ((c.tc : Thread nD τ).loc main_arg0)) (m ((c.tc : Thread nD τ).loc main_arg1)) (m ((c.tc : Thread nD τ).loc main_arg2))
      ∧ r.2.mem ((c.tc : Thread nD τ).loc main_v49) = gateW (m ((c.tc : Thread nD τ).loc main_arg1))
      ∧ r.2.mem ((c.tc : Thread nD τ).loc main_v51) = valW (m ((c.tc : Thread nD τ).loc main_arg1))
      ∧ r.2.mem ((c.tc : Thread nD τ).loc main_v52) = downW (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r hr c => ?_) (Cert.UpRefIdeal.Value.run m ρ)
  have h := hr c
  refine ⟨h.1.trans ?_, h.2.1.trans ?_, h.2.2.1.trans ?_, h.2.2.2.1.trans ?_, h.2.2.2.2.1.trans ?_, h.2.2.2.2.2⟩
  · unfold acts actOn gl gateOf valOf conv over ext up Cert.UpRefIdeal.Value.res_main_v46
    rfl
  · unfold tails ext up
    with_reducible rfl
  · unfold gateW
    with_reducible rfl
  · unfold valW
    with_reducible rfl
  · unfold downW
    with_reducible rfl

/-! ## The values at an index -/

/-- The projection of a row onto a column. -/
def upAt (x w : Fin 2048 → EReal) : EReal := ∑ k, x k * w k

/-- The projection at an index. -/
theorem up_at (X : FVec Ideal S8192x2048 .bf16) (W : FVec Ideal S2048x11264 .f32) (b : Fin 4) (p : Fin 2048) (C : Fin 11264) (R : Fin 8192) (hR : (R : ℕ) = b * 2048 + p) :
    up X W (ix3 b p C) = upAt (fun k => X (ix2 R k)) (fun k => W (ix2 k C)) := by
  have e : up X W (ix3 b p C) = upAt (fun k => X (ix2 (⟨b * 2048 + p, by omega⟩ : Fin 8192) k)) (fun k => W (ix2 k C)) := by
    pointwise [up, upAt]
  exact e.trans (congrArg (fun r : Fin 8192 => upAt (fun k => X (ix2 r k)) (fun k => W (ix2 k C))) (Fin.ext hR.symm))

/-- A carried row in its place before the batch's, -/
theorem ext_lo (P : FVec Ideal S4x2x11264 .f32) (U : FVec Ideal S4x2048x11264 .f32) (b : Fin 4) (s : Fin 2050) (q : Fin 2) (C : Fin 11264) (h : (s : ℕ) = q) :
    ext P U (ix3 b s C) = P (ix3 b q C) := by
  refine concatenate_pair_apply_left (t := S4x2050x11264) (s₁ := S4x2x11264) (s₂ := S4x2048x11264) (1 : Fin 3) P U
    concatenates_S4x2x11264_S4x2048x11264_S4x2050x11264_d1 (ix3 b s C) rfl (ix3 b q C) fun a => ?_
  fin_cases a
  · rfl
  · exact h.symm
  · rfl

/-- and the projection's rows after them. -/
theorem ext_hi (P : FVec Ideal S4x2x11264 .f32) (U : FVec Ideal S4x2048x11264 .f32) (b : Fin 4) (s : Fin 2050) (p : Fin 2048) (C : Fin 11264) (h : (s : ℕ) = p + 2) :
    ext P U (ix3 b s C) = U (ix3 b p C) := by
  refine concatenate_pair_apply_right (t := S4x2050x11264) (s₁ := S4x2x11264) (s₂ := S4x2048x11264) (1 : Fin 3) P U
    concatenates_S4x2x11264_S4x2048x11264_S4x2050x11264_d1 (ix3 b s C) rfl rfl (ix3 b p C) (fun a ha => ?_) ?_
  · fin_cases a
    · rfl
    · exact absurd rfl ha
    · rfl
  · exact h.symm

/-- The convolution's three taps and its bias. -/
def conv3 (cb w0 w1 w2 a0 a1 a2 : EReal) : EReal := ((cb + w2 * a2) + w1 * a1) + w0 * a0

/-- The convolution at an index. -/
theorem conv_at (T : FVec Ideal S4x2050x11264 .f32) (cw : FVec Ideal S3x11264 .f32) (cb : FVec Ideal S11264 .f32) (b : Fin 4) (p : Fin 2048) (C : Fin 11264) :
    conv T cw cb (ix3 b p C) = conv3 (cb (ix1 C)) (cw (ix2 0 C)) (cw (ix2 1 C)) (cw (ix2 2 C))
      (T (ix3 b (⟨p, by omega⟩ : Fin 2050) C)) (T (ix3 b (⟨p + 1, by omega⟩ : Fin 2050) C)) (T (ix3 b (⟨p + 2, by omega⟩ : Fin 2050) C)) := by
  have h1 : (⟨p + 1, by omega⟩ : Fin 2050) = ⟨1 + p, by omega⟩ := Fin.ext (Nat.add_comm _ _)
  have h2 : (⟨p + 2, by omega⟩ : Fin 2050) = ⟨2 + p, by omega⟩ := Fin.ext (Nat.add_comm _ _)
  rw [h1, h2]
  have e : conv T cw cb (ix3 b p C) = cb (ix1 C) + (((0 + cw (ix2 0 C) * T (ix3 b (⟨p, by omega⟩ : Fin 2050) C))
      + cw (ix2 1 C) * T (ix3 b (⟨1 + p, by omega⟩ : Fin 2050) C)) + cw (ix2 2 C) * T (ix3 b (⟨2 + p, by omega⟩ : Fin 2050) C)) := by
    pointwise [conv, over]
  rw [e]; unfold conv3
  rw [zero_add]
  ac_rfl

/-- The gelu of one number. -/
def ge (x : EReal) : EReal :=
  x * ((Scalar.ofBits (F := Ideal) .f32 0x3F000000#32 : EReal) * ((Scalar.ofBits (F := Ideal) .f32 0x3F800000#32 : EReal)
    + Ideal.tanh ((Scalar.ofBits (F := Ideal) .f32 0x3F4C422A#32 : EReal) * (x + (Scalar.ofBits (F := Ideal) .f32 0x3D372713#32 : EReal) * (x * (x * x))))))

/-- The gelu at an index. -/
theorem gl_at (G : FVec Ideal S4x2048x5632 .f32) (y : S4x2048x5632.Idx) : gl G y = ge (G y) := by
  unfold ge
  rw [← mul_assoc (G y) (G y) (G y)]
  pointwise [gl]

/-- The activation at an index. -/
theorem actOn_at (Y : FVec Ideal S4x2048x11264 .f32) (b : Fin 4) (p : Fin 2048) (C : Fin 5632) (R : Fin 8192) (hR : (R : ℕ) = b * 2048 + p) :
    actOn Y (ix2 R C) = ge (Y (ix3 b p (⟨C, by omega⟩ : Fin 11264))) * Y (ix3 b p (⟨5632 + C, by omega⟩ : Fin 11264)) := by
  have ft : ∀ (v : FVec Ideal S8192x5632 .f32) (y : S8192x5632.Idx), (truncf (F := Ideal) .bf16 v bitsLt_bf16_f32) y = v y := fun v y => by pointwise
  have fs : ∀ (v : FVec Ideal S4x2048x5632 .f32), (shapeCast S8192x5632 v shapeCasts_S4x2048x5632_S8192x5632) (ix2 R C) = v (ix3 b p C) := fun v => by
    have e : (shapeCast S8192x5632 v shapeCasts_S4x2048x5632_S8192x5632) (ix2 R C) = v (ix3 (⟨R / 2048, by omega⟩ : Fin 4) (⟨R % 2048, by omega⟩ : Fin 2048) C) := by
      pointwise
    exact e.trans (congrArg₂ (fun (i : Fin 4) (j : Fin 2048) => v (ix3 i j C)) (Fin.ext (by show (R : ℕ) / 2048 = b; omega)) (Fin.ext (by show (R : ℕ) % 2048 = p; omega)))
  have fm : ∀ (u v : FVec Ideal S4x2048x5632 .f32) (y : S4x2048x5632.Idx), mulf u v y = u y * v y := fun u v y => by pointwise
  have fg : gateOf Y (ix3 b p C) = Y (ix3 b p (⟨C, by omega⟩ : Fin 11264)) := by pointwise [gateOf]
  have fv : valOf Y (ix3 b p C) = Y (ix3 b p (⟨5632 + C, by omega⟩ : Fin 11264)) := by pointwise [valOf]
  unfold actOn
  rw [ft, fs, fm, gl_at, fg, fv]

end Cert.UpRefIdeal.Spec
-- ==== Proof.UpValue.lean ====
module

public import proofs.«01_k».proof.Proof.UpRun
public import proofs.«01_k».proof.Proof.UpSpec
public import Idealize.ShloMosaic.Lib.Pipeline.ValueKit
public import Idealize.ShloMosaic.Lib.Pointwise
public import Idealize.ShloMosaic.Lib.KernelVsHost

/-! # The up projection with its causal convolution and gate: its values

A block of rows reaches back to the two rows before its first: the carried rows where a batch begins, elsewhere the last
rows of the block before it, found in the scratch buffers. With those in place the body's rolled rows are the
convolution's three taps, and a point's activation is the reference's at the place of its block. -/

@[expose] public section

set_option maxRecDepth 16384

noncomputable section

open Idealize.ShloMosaic Idealize.ShloMosaic.TcCoe Idealize.SL.Sem
open Idealize.ShloMosaic.Pipeline (Dat)

namespace Cert.UpIdeal.Value
open Cert.UpIdeal Cert.UpIdeal.Gen Cert.UpIdeal.Hand
open Cert.UpRefIdeal.Spec (upAt up ext conv conv3 ge gl actOn acts tails gateW valW downW up_at ext_lo ext_hi conv_at actOn_at)

variable (m : (ℓ : Loc nD τ sig) → Buf (Elt Ideal) ℓ)

/-! ## The rolled rows -/

/-- The first eight rows rolled by one: the row before the block's first, then the block's. -/
def lo1 (h : FVec Ideal S8x512 .f32) (v : FVec Ideal S1024x512 .f32) : FVec Ideal S8x512 .f32 :=
  select (cmpi .eq (iota .tc S8x512 32 [0] iota_S8x512_d0_w32) (broadcast S8x512 0#32))
    (broadcastTo S8x512 (shapeCast S1x512 (extractStridedSlice S1x512 ![7, 0] h slices_S8x512_o7_0_S1x512) shapeCasts_S1x512_S1x512) broadcasts_S1x512_S8x512)
    (extractStridedSlice S8x512 ![0, 0] v slices_S1024x512_o0_0_S8x512)

/-- The first eight rows rolled by two. -/
def lo2 (h : FVec Ideal S8x512 .f32) (v : FVec Ideal S1024x512 .f32) : FVec Ideal S8x512 .f32 :=
  select (cmpi .eq (iota .tc S8x512 32 [0] iota_S8x512_d0_w32) (broadcast S8x512 1#32))
    (broadcastTo S8x512 (shapeCast S1x512 (extractStridedSlice S1x512 ![7, 0] h slices_S8x512_o7_0_S1x512) shapeCasts_S1x512_S1x512) broadcasts_S1x512_S8x512)
    (select (cmpi .eq (iota .tc S8x512 32 [0] iota_S8x512_d0_w32) (broadcast S8x512 0#32))
      (broadcastTo S8x512 (shapeCast S1x512 (extractStridedSlice S1x512 ![6, 0] h slices_S8x512_o6_0_S1x512) shapeCasts_S1x512_S1x512) broadcasts_S1x512_S8x512)
      (extractStridedSlice S8x512 ![0, 0] v slices_S1024x512_o0_0_S8x512))

/-- Eight rows put before the others. -/
def join (a : FVec Ideal S8x512 .f32) (v : FVec Ideal S1024x512 .f32) : FVec Ideal S1024x512 .f32 :=
  concatenate S1024x512 0 [⟨S8x512, a⟩, ⟨S1016x512, extractStridedSlice S1016x512 ![8, 0] v slices_S1024x512_o8_0_S1016x512⟩] concatenates_S8x512_S1016x512_S1024x512_d0

/-- The rows rolled by one, -/
def back1 (h : FVec Ideal S8x512 .f32) (u : FVec Ideal S1024x512 .f32) : FVec Ideal S1024x512 .f32 :=
  join (lo1 h (dynamicRotate 0 1#32 none u rotates_S1024x512_d0)) (dynamicRotate 0 1#32 none u rotates_S1024x512_d0)

/-- and by two. -/
def back2 (h : FVec Ideal S8x512 .f32) (u : FVec Ideal S1024x512 .f32) : FVec Ideal S1024x512 .f32 :=
  join (lo2 h (dynamicRotate 0 2#32 none u rotates_S1024x512_d0)) (dynamicRotate 0 2#32 none u rotates_S1024x512_d0)

/-- The first eight rows of the joined ones, -/
theorem join_lo (a : FVec Ideal S8x512 .f32) (v : FVec Ideal S1024x512 .f32) (r : Fin 1024) (q : Fin 8) (k : Fin 512) (h : (r : ℕ) = q) :
    join a v (ix2 r k) = a (ix2 q k) := by
  refine concatenate_pair_apply_left (t := S1024x512) (s₁ := S8x512) (s₂ := S1016x512) (0 : Fin 2) _ _
    concatenates_S8x512_S1016x512_S1024x512_d0 (ix2 r k) rfl (ix2 q k) fun b => ?_
  fin_cases b
  · exact h.symm
  · rfl

/-- and the others. -/
theorem join_hi (a : FVec Ideal S8x512 .f32) (v : FVec Ideal S1024x512 .f32) (r : Fin 1024) (k : Fin 512) (h : 8 ≤ (r : ℕ)) :
    join a v (ix2 r k) = v (ix2 r k) := by
  have e : join a v (ix2 r k) = (extractStridedSlice S1016x512 ![8, 0] v slices_S1024x512_o8_0_S1016x512) (ix2 (⟨r - 8, by omega⟩ : Fin 1016) k) := by
    refine concatenate_pair_apply_right (t := S1024x512) (s₁ := S8x512) (s₂ := S1016x512) (0 : Fin 2) _ _
      concatenates_S8x512_S1016x512_S1024x512_d0 (ix2 r k) rfl rfl (ix2 (⟨r - 8, by omega⟩ : Fin 1016) k) (fun b hb => ?_) ?_
    · fin_cases b
      · exact absurd rfl hb
      · rfl
    · show (r : ℕ) - 8 + 8 = (r : ℕ); omega
  rw [e]
  refine extractStridedSlice_apply ![8, 0] _ slices_S1024x512_o8_0_S1016x512 _ (ix2 r k) fun b => ?_
  fin_cases b
  · show (r : ℕ) = 8 + ((r : ℕ) - 8); omega
  · show (k : ℕ) = 0 + (k : ℕ); omega

/-- A slice's first eight rows. -/
theorem head_at (v : FVec Ideal S1024x512 .f32) (q : Fin 8) (r : Fin 1024) (k : Fin 512) (h : (r : ℕ) = q) :
    extractStridedSlice S8x512 ![0, 0] v slices_S1024x512_o0_0_S8x512 (ix2 q k) = v (ix2 r k) := by
  refine extractStridedSlice_apply ![0, 0] _ slices_S1024x512_o0_0_S8x512 _ (ix2 r k) fun b => ?_
  fin_cases b
  · show (r : ℕ) = 0 + (q : ℕ); omega
  · show (k : ℕ) = 0 + (k : ℕ); omega

/-- A row of the eight over all of them. -/
theorem row7_at (h : FVec Ideal S8x512 .f32) (q : Fin 8) (k : Fin 512) :
    broadcastTo S8x512 (shapeCast S1x512 (extractStridedSlice S1x512 ![7, 0] h slices_S8x512_o7_0_S1x512) shapeCasts_S1x512_S1x512) broadcasts_S1x512_S8x512 (ix2 q k)
      = h (ix2 7 k) := by
  pointwise

theorem row6_at (h : FVec Ideal S8x512 .f32) (q : Fin 8) (k : Fin 512) :
    broadcastTo S8x512 (shapeCast S1x512 (extractStridedSlice S1x512 ![6, 0] h slices_S8x512_o6_0_S1x512) shapeCasts_S1x512_S1x512) broadcasts_S1x512_S8x512 (ix2 q k)
      = h (ix2 6 k) := by
  pointwise

/-- Where a row's number is the one asked for. -/
theorem cmp_at (n : BitVec 32) (q : Fin 8) (k : Fin 512) :
    cmpi .eq (iota .tc S8x512 32 [0] iota_S8x512_d0_w32) (broadcast S8x512 n) (ix2 q k) = Scalar.cmpi .eq (BitVec.ofNat 32 q.val) n := by
  pointwise
  rfl

theorem sel_at (c : IVec S8x512 1) (a b : FVec Ideal S8x512 .f32) (y : S8x512.Idx) : select c a b y = Scalar.select (c y) (a y) (b y) := by
  pointwise

/-- The rows rolled by one: the first is the row before, -/
theorem back1_zero (h : FVec Ideal S8x512 .f32) (u : FVec Ideal S1024x512 .f32) (r : Fin 1024) (k : Fin 512) (hr : (r : ℕ) = 0) :
    back1 h u (ix2 r k) = h (ix2 7 k) := by
  unfold back1
  rw [join_lo _ _ r 0 k hr]
  unfold lo1
  rw [sel_at, cmp_at, row7_at]
  rfl

/-- every other the block's row before it. -/
theorem back1_succ (h : FVec Ideal S8x512 .f32) (u : FVec Ideal S1024x512 .f32) (r q : Fin 1024) (k : Fin 512) (hr : (r : ℕ) = q + 1) :
    back1 h u (ix2 r k) = u (ix2 q k) := by
  have rot : dynamicRotate 0 1#32 none u rotates_S1024x512_d0 (ix2 r k) = u (ix2 q k) := by
    refine dynamicRotate_apply (s := S1024x512) 0 1#32 u rotates_S1024x512_d0 (ix2 r k) (ix2 q k) fun b => ?_
    fin_cases b
    · show (q : ℕ) = ((r : ℕ) + 1024 - 1 % 1024) % 1024; omega
    · rfl
  unfold back1
  by_cases h8 : (r : ℕ) < 8
  · rw [join_lo _ _ r ⟨r, h8⟩ k rfl]
    unfold lo1
    rw [sel_at, cmp_at, head_at _ ⟨r, h8⟩ r k rfl, rot]
    have c0 : Scalar.cmpi .eq (BitVec.ofNat 32 (⟨r, h8⟩ : Fin 8).val) 0#32 = 0#1 := by
      have : ∀ q : Fin 8, q.val ≠ 0 → Scalar.cmpi .eq (BitVec.ofNat 32 q.val) 0#32 = 0#1 := by decide
      exact this ⟨r, h8⟩ (by show (r : ℕ) ≠ 0; omega)
    rw [c0]
    rfl
  · rw [join_hi _ _ r k (by omega), rot]

/-- The rows rolled by two: the first is the second row before, -/
theorem back2_zero (h : FVec Ideal S8x512 .f32) (u : FVec Ideal S1024x512 .f32) (r : Fin 1024) (k : Fin 512) (hr : (r : ℕ) = 0) :
    back2 h u (ix2 r k) = h (ix2 6 k) := by
  unfold back2
  rw [join_lo _ _ r 0 k hr]
  unfold lo2
  rw [sel_at, sel_at, cmp_at, cmp_at, row7_at, row6_at]
  rfl

/-- the second the row before, -/
theorem back2_one (h : FVec Ideal S8x512 .f32) (u : FVec Ideal S1024x512 .f32) (r : Fin 1024) (k : Fin 512) (hr : (r : ℕ) = 1) :
    back2 h u (ix2 r k) = h (ix2 7 k) := by
  unfold back2
  rw [join_lo _ _ r 1 k hr]
  unfold lo2
  rw [sel_at, cmp_at, row7_at]
  rfl

/-- every other the block's second row before it. -/
theorem back2_succ (h : FVec Ideal S8x512 .f32) (u : FVec Ideal S1024x512 .f32) (r q : Fin 1024) (k : Fin 512) (hr : (r : ℕ) = q + 2) :
    back2 h u (ix2 r k) = u (ix2 q k) := by
  have rot : dynamicRotate 0 2#32 none u rotates_S1024x512_d0 (ix2 r k) = u (ix2 q k) := by
    refine dynamicRotate_apply (s := S1024x512) 0 2#32 u rotates_S1024x512_d0 (ix2 r k) (ix2 q k) fun b => ?_
    fin_cases b
    · show (q : ℕ) = ((r : ℕ) + 1024 - 2 % 1024) % 1024; omega
    · rfl
  unfold back2
  by_cases h8 : (r : ℕ) < 8
  · rw [join_lo _ _ r ⟨r, h8⟩ k rfl]
    unfold lo2
    rw [sel_at, sel_at, cmp_at, cmp_at, head_at _ ⟨r, h8⟩ r k rfl, rot]
    have c0 : Scalar.cmpi .eq (BitVec.ofNat 32 (⟨r, h8⟩ : Fin 8).val) 0#32 = 0#1 := by
      have : ∀ q : Fin 8, q.val ≠ 0 → Scalar.cmpi .eq (BitVec.ofNat 32 q.val) 0#32 = 0#1 := by decide
      exact this ⟨r, h8⟩ (by show (r : ℕ) ≠ 0; omega)
    have c1 : Scalar.cmpi .eq (BitVec.ofNat 32 (⟨r, h8⟩ : Fin 8).val) 1#32 = 0#1 := by
      have : ∀ q : Fin 8, q.val ≠ 1 → Scalar.cmpi .eq (BitVec.ofNat 32 q.val) 1#32 = 0#1 := by decide
      exact this ⟨r, h8⟩ (by show (r : ℕ) ≠ 1; omega)
    rw [c0, c1]
    rfl
  · rw [join_hi _ _ r k (by omega), rot]

/-- The two taps behind a row, where the rows and the two before the block's first are those of one column. -/
theorem taps (h : FVec Ideal S8x512 .f32) (u : FVec Ideal S1024x512 .f32) (k : Fin 512) (col : ℕ → EReal) (p : ℕ)
    (hu : ∀ r : Fin 1024, u (ix2 r k) = col (p + r + 2)) (h7 : h (ix2 7 k) = col (p + 1)) (h6 : h (ix2 6 k) = col p) (r : Fin 1024) :
    back1 h u (ix2 r k) = col (p + r + 1) ∧ back2 h u (ix2 r k) = col (p + r) := by
  have hr := r.isLt
  constructor
  · by_cases z : (r : ℕ) = 0
    · rw [back1_zero h u r k z, h7, z]
    · rw [back1_succ h u r ⟨r - 1, by omega⟩ k (by show (r : ℕ) = r - 1 + 1; omega), hu]
      exact congrArg col (by show p + ((r : ℕ) - 1) + 2 = p + r + 1; omega)
  · by_cases z : (r : ℕ) = 0
    · rw [back2_zero h u r k z, h6, z]; rfl
    · by_cases o : (r : ℕ) = 1
      · rw [back2_one h u r k o, h7, o]
      · rw [back2_succ h u r ⟨r - 2, by omega⟩ k (by show (r : ℕ) = r - 2 + 2; omega), hu]
        exact congrArg col (by show p + ((r : ℕ) - 2) + 2 = p + r; omega)

/-! ## The body's values at an index -/

/-- The body's convolution at an index. -/
theorem conv_kernel (h : FVec Ideal S8x512 .f32) (cw : Vec Ideal S3x512 .f32) (cb : FVec Ideal S1x512 .f32) (u : FVec Ideal S1024x512 .f32) (r : Fin 1024) (k : Fin 512) :
    k0_pay20 h cw cb u (ix2 r k)
      = conv3 (cb (ix2 0 k)) (cw (ix2 0 k)) (cw (ix2 1 k)) (cw (ix2 2 k)) (back2 h u (ix2 r k)) (back1 h u (ix2 r k)) (u (ix2 r k)) := by
  have e : k0_pay20 h cw cb u = addf (addf (addf (broadcastTo S1024x512 cb broadcasts_S1x512_S1024x512)
      (mulf (broadcastTo S1024x512 (extractStridedSlice S1x512 ![2, 0] cw slices_S3x512_o2_0_S1x512) broadcasts_S1x512_S1024x512) u))
      (mulf (broadcastTo S1024x512 (extractStridedSlice S1x512 ![1, 0] cw slices_S3x512_o1_0_S1x512) broadcasts_S1x512_S1024x512) (back1 h u)))
      (mulf (broadcastTo S1024x512 (extractStridedSlice S1x512 ![0, 0] cw slices_S3x512_o0_0_S1x512) broadcasts_S1x512_S1024x512) (back2 h u)) := rfl
  rw [e]
  pointwise [conv3]

/-- The body's activation at an index. -/
theorem act_kernel (hg hv : FVec Ideal S8x512 .f32) (ug uv : FVec Ideal S1024x512 .f32) (cg cv : Vec Ideal S3x512 .f32) (bg bv : Vec Ideal S1x512 .f32) (y : S1024x512.Idx) :
    actOf (F := Ideal) hg hv ug uv cg cv bg bv y = ge (k0_pay20 hg cg (k0_pay15 bg) ug y) * k0_pay20 hv cv (k0_pay16 bv) uv y := by
  have key : ∀ G V : FVec Ideal S1024x512 .f32, (truncf (F := Ideal) .bf16 (mulf (mulf G (mulf (broadcast S1024x512 (Scalar.ofBits (F := Ideal) .f32 0x3F000000#32))
      (addf k0_pay22 (tanh (mulf (broadcast S1024x512 (Scalar.ofBits (F := Ideal) .f32 0x3F4C422A#32)) (addf G (mulf (broadcast S1024x512 (Scalar.ofBits (F := Ideal) .f32 0x3D372713#32)) (mulf G (mulf G G)))))))))
      V) bitsLt_bf16_f32) y = ge (G y) * V y := fun G V => by
    pointwise [ge, k0_pay22]
  exact key (k0_pay20 hg cg (k0_pay15 bg) ug) (k0_pay20 hv cv (k0_pay16 bv) uv)

/-- A batch begins at the even points. -/
theorem begins_at : ∀ t : Fin cfg0.N, begins (grid0.coords t) = if t.val % 2 = 0 then 1#1 else 0#1 :=
  (by decide +kernel : ∀ t : Fin grid0.N, begins (grid0.coords t) = if t.val % 2 = 0 then 1#1 else 0#1)

/-- The row before a batch's first: the second carried row, -/
theorem haloG7 (e : Vec Ideal S1x2x512 .f32) (k : Vec Ideal S8x512 .f32) (C : Fin 512) : haloG (F := Ideal) 1#1 e k (ix2 7 C) = e (ix3 0 1 C) := by
  have e' : haloG (F := Ideal) 1#1 e k = select k0_pay11 (k0_pay12 (View.ld e e1)) (k0_pay10 (View.ld e e0)) := rfl
  rw [e', sel_at]
  unfold k0_pay11
  rw [cmp_at]
  have f : k0_pay12 (F := Ideal) (View.ld e e1) (ix2 7 C) = e (ix3 0 1 C) := by
    pointwise [k0_pay12]
    first | done | rfl
  exact f

/-- and before that the first. -/
theorem haloG6 (e : Vec Ideal S1x2x512 .f32) (k : Vec Ideal S8x512 .f32) (C : Fin 512) : haloG (F := Ideal) 1#1 e k (ix2 6 C) = e (ix3 0 0 C) := by
  have e' : haloG (F := Ideal) 1#1 e k = select k0_pay11 (k0_pay12 (View.ld e e1)) (k0_pay10 (View.ld e e0)) := rfl
  rw [e', sel_at]
  unfold k0_pay11 k0_pay10
  rw [cmp_at, sel_at, cmp_at]
  have f : k0_pay12 (F := Ideal) (View.ld e e0) (ix2 6 C) = e (ix3 0 0 C) := by
    pointwise [k0_pay12]
    first | done | rfl
  exact f

/-- Both halves find them alike. -/
theorem haloV_eq (b : BitVec 1) (e : Vec Ideal S1x2x512 .f32) (k : Vec Ideal S8x512 .f32) : haloV (F := Ideal) b e k = haloG (F := Ideal) b e k := rfl

/-- Elsewhere the rows before are the scratch's. -/
theorem haloG_later (e : Vec Ideal S1x2x512 .f32) (k : Vec Ideal S8x512 .f32) : haloG (F := Ideal) 0#1 e k = k := rfl

/-- The last eight rows, as the body cuts them out. -/
theorem last_at (u : FVec Ideal S1024x512 .f32) (q : Fin 8) (r : Fin 1024) (k : Fin 512) (h : (r : ℕ) = 1016 + q) :
    extractStridedSlice S8x512 ![1016, 0] u slices_S1024x512_o1016_0_S8x512 (ix2 q k) = u (ix2 r k) := by
  refine extractStridedSlice_apply ![1016, 0] _ slices_S1024x512_o1016_0_S8x512 _ (ix2 r k) fun b => ?_
  fin_cases b
  · exact h
  · show (k : ℕ) = 0 + (k : ℕ); omega

theorem lastG (u : FVec Ideal S1024x512 .f32) (q : Fin 8) (r : Fin 1024) (k : Fin 512) (h : (r : ℕ) = 1016 + q) :
    k0_pay1 (F := Ideal) (k0_pay24 u) (ix2 q k) = u (ix2 r k) := by
  have e : k0_pay1 (F := Ideal) (k0_pay24 u) (ix2 q k) = k0_pay24 (F := Ideal) u (ix2 q k) := by pointwise [k0_pay1]
  exact e.trans (last_at u q r k h)

theorem lastV (u : FVec Ideal S1024x512 .f32) (q : Fin 8) (r : Fin 1024) (k : Fin 512) (h : (r : ℕ) = 1016 + q) :
    k0_pay3 (F := Ideal) u (ix2 q k) = u (ix2 r k) := by
  have e : k0_pay3 (F := Ideal) u (ix2 q k) = k0_pay24 (F := Ideal) u (ix2 q k) :=
    (by pointwise [k0_pay1] : k0_pay1 (F := Ideal) (k0_pay24 u) (ix2 q k) = k0_pay24 (F := Ideal) u (ix2 q k))
  exact e.trans (last_at u q r k h)

/-- The two projections at an index. -/
theorem upG_at (x : FVec Ideal S1024x2048 .bf16) (G : FVec Ideal S2048x512 .bf16) (r : Fin 1024) (k : Fin 512) :
    upG (F := Ideal) x G (ix2 r k) = upAt (fun a => x (ix2 r a)) (fun a => G (ix2 a k)) := by
  pointwise [k0_pay17, upAt]

theorem upV_at (x : FVec Ideal S1024x2048 .bf16) (W : FVec Ideal S2048x512 .bf16) (r : Fin 1024) (k : Fin 512) :
    upV (F := Ideal) x W (ix2 r k) = upAt (fun a => x (ix2 r a)) (fun a => W (ix2 a k)) := by
  pointwise [k0_pay18, k0_pay19, upAt]

/-! ## The blocks at an index -/

/-- The block of rows, -/
theorem iblk0 (c : Dev nD) (t : Fin cfg0.N) (r : Fin 1024) (k : Fin 2048) (R : Fin 8192) (hR : (R : ℕ) = t.val % 8 * 1024 + r) :
    (show EReal from iblk m c 0 t (ix2 r k)) = (show EReal from m ((c : Thread nD τ).loc main_arg0) (ix2 R k)) := by
  have e : (show EReal from iblk m c 0 t (ix2 r k)) = (show EReal from V m c main_arg0 (ix2 R k)) := by
    blk_ext [iblk, idx t]
  exact e.trans (congrFun (V_main_arg0 m c) (ix2 R k))

/-- the two halves of the carried rows, -/
theorem iblk3 (c : Dev nD) (t : Fin cfg0.N) (q : Fin 2) (k : Fin 512) (b : Fin 4) (C : Fin 11264) (hb : (b : ℕ) = t.val % 8 / 2) (hC : (C : ℕ) = t.val / 8 * 512 + k) :
    (show EReal from iblk m c 3 t (ix3 0 q k)) = (show EReal from m ((c : Thread nD τ).loc main_arg2) (ix3 b q C)) := by
  have e : (show EReal from iblk m c 3 t (ix3 0 q k)) = (show EReal from V m c main_arg2 (ix3 b q C)) := by
    blk_ext [iblk, idx t]
  exact e.trans (congrFun (V_main_arg2 m c) (ix3 b q C))
theorem iblk4 (c : Dev nD) (t : Fin cfg0.N) (q : Fin 2) (k : Fin 512) (b : Fin 4) (C : Fin 11264) (hb : (b : ℕ) = t.val % 8 / 2) (hC : (C : ℕ) = 5632 + (t.val / 8 * 512 + k)) :
    (show EReal from iblk m c 4 t (ix3 0 q k)) = (show EReal from m ((c : Thread nD τ).loc main_arg2) (ix3 b q C)) := by
  have e : (show EReal from iblk m c 4 t (ix3 0 q k)) = (show EReal from V m c main_arg2 (ix3 b q C)) := by
    blk_ext [iblk, idx t]
  exact e.trans (congrFun (V_main_arg2 m c) (ix3 b q C))

/-- the two halves of the convolution's weights, -/
theorem iblk5 (c : Dev nD) (t : Fin cfg0.N) (n : Fin 3) (k : Fin 512) (C : Fin 11264) (hC : (C : ℕ) = t.val / 8 * 512 + k) :
    (show EReal from iblk m c 5 t (ix2 n k)) = (show EReal from m ((c : Thread nD τ).loc main_arg3) (ix2 n C)) := by
  have e : (show EReal from iblk m c 5 t (ix2 n k)) = (show EReal from V m c main_arg3 (ix2 n C)) := by
    blk_ext [iblk, idx t]
  exact e.trans (congrFun (V_main_arg3 m c) (ix2 n C))
theorem iblk6 (c : Dev nD) (t : Fin cfg0.N) (n : Fin 3) (k : Fin 512) (C : Fin 11264) (hC : (C : ℕ) = 5632 + (t.val / 8 * 512 + k)) :
    (show EReal from iblk m c 6 t (ix2 n k)) = (show EReal from m ((c : Thread nD τ).loc main_arg3) (ix2 n C)) := by
  have e : (show EReal from iblk m c 6 t (ix2 n k)) = (show EReal from V m c main_arg3 (ix2 n C)) := by
    blk_ext [iblk, idx t]
  exact e.trans (congrFun (V_main_arg3 m c) (ix2 n C))

/-- The bias laid out as one row. -/
theorem flat_at (v : FVec Ideal S11264 .f32) (C : Fin 11264) : shapeCast S1x11264 v shapeCasts_S11264_S1x11264 (ix2 0 C) = v (ix1 C) := by
  pointwise

/-- the two halves of its bias, -/
theorem iblk7 (c : Dev nD) (t : Fin cfg0.N) (k : Fin 512) (C : Fin 11264) (hC : (C : ℕ) = t.val / 8 * 512 + k) :
    (show EReal from iblk m c 7 t (ix2 0 k)) = (show EReal from m ((c : Thread nD τ).loc main_arg4) (ix1 C)) := by
  have e : (show EReal from iblk m c 7 t (ix2 0 k)) = (show EReal from V m c main_v0 (ix2 0 C)) := by
    blk_ext [iblk, idx t]
  have v : V m c main_v0 = shapeCast S1x11264 (m ((c : Thread nD τ).loc main_arg4)) shapeCasts_S11264_S1x11264 := by
    show StableHlo.after (hostOps0 (F := Ideal)) (fun b => m (c, b)) (Proc.devRef .tc main_v0) = _
    after_results <;> rfl
  exact e.trans ((congrFun v (ix2 0 C)).trans (flat_at _ C))
theorem iblk8 (c : Dev nD) (t : Fin cfg0.N) (k : Fin 512) (C : Fin 11264) (hC : (C : ℕ) = 5632 + (t.val / 8 * 512 + k)) :
    (show EReal from iblk m c 8 t (ix2 0 k)) = (show EReal from m ((c : Thread nD τ).loc main_arg4) (ix1 C)) := by
  have e : (show EReal from iblk m c 8 t (ix2 0 k)) = (show EReal from V m c main_v1 (ix2 0 C)) := by
    blk_ext [iblk, idx t]
  have v : V m c main_v1 = shapeCast S1x11264 (m ((c : Thread nD τ).loc main_arg4)) shapeCasts_S11264_S1x11264 := by
    show StableHlo.after (hostOps0 (F := Ideal)) (fun b => m (c, b)) (Proc.devRef .tc main_v1) = _
    after_results <;> rfl
  exact e.trans ((congrFun v (ix2 0 C)).trans (flat_at _ C))

/-- and the block of down weights. -/
theorem iblk9 (c : Dev nD) (t : Fin cfg0.N) (r : Fin 64) (k : Fin 2048) (R : Fin 5632) (C : Fin 2048) (hR : (R : ℕ) = t.val * 64 + r) (hC : (C : ℕ) = k) :
    (show EReal from iblk m c 9 t (ix2 r k)) = (show EReal from m ((c : Thread nD τ).loc main_arg5) (ix2 R C)) := by
  have e : (show EReal from iblk m c 9 t (ix2 r k)) = (show EReal from V m c main_arg5 (ix2 R C)) := by
    blk_ext [iblk, idx t]
  exact e.trans (congrFun (V_main_arg5 m c) (ix2 R C))

/-- The rounded weights of the gate's half read at an index, -/
theorem gwt_at (c : Dev nD) (t : Fin cfg0.N) (r : Fin 2048) (k : Fin 512) (C : Fin 11264) (hC : (C : ℕ) = t.val / 8 * 512 + k) :
    (show EReal from gwt (F := Ideal) m c t (ix2 r k)) = (show EReal from m ((c : Thread nD τ).loc main_arg1) (ix2 r C)) := by
  have e : ∀ (w : FVec Ideal S2048x512 .f32) (y : S2048x512.Idx), k0_pay6 (F := Ideal) w y = w y := fun w y => by pointwise [k0_pay6]
  unfold gwt
  exact (e _ _).trans ((iblk1 m c t r k C hC).trans (congrFun (V_main_arg1 m c) (ix2 r C)))

/-- and of the value's. -/
theorem vwt_at (c : Dev nD) (t : Fin cfg0.N) (r : Fin 2048) (k : Fin 512) (C : Fin 11264) (hC : (C : ℕ) = 5632 + (t.val / 8 * 512 + k)) :
    (show EReal from vwt (F := Ideal) m c t (ix2 r k)) = (show EReal from m ((c : Thread nD τ).loc main_arg1) (ix2 r C)) := by
  have e : ∀ (w : FVec Ideal S2048x512 .f32) (y : S2048x512.Idx), k0_pay7 (F := Ideal) w y = w y := fun w y => by pointwise [k0_pay7]
  unfold vwt
  exact (e _ _).trans ((iblk2 m c t r k C hC).trans (congrFun (V_main_arg1 m c) (ix2 r C)))

/-- The projection of a row of the whole array onto a column. -/
abbrev proj (c : Dev nD) (R : Fin 8192) (C : Fin 11264) : EReal :=
  upAt (fun a => m ((c : Thread nD τ).loc main_arg0) (ix2 R a)) (fun a => m ((c : Thread nD τ).loc main_arg1) (ix2 a C))

/-- The gate's projection of a point read at an index, -/
theorem ugt_at (c : Dev nD) (t : Fin cfg0.N) (r : Fin 1024) (k : Fin 512) (R : Fin 8192) (C : Fin 11264) (hR : (R : ℕ) = t.val % 8 * 1024 + r)
    (hC : (C : ℕ) = t.val / 8 * 512 + k) : ugt (F := Ideal) m c t (ix2 r k) = proj m c R C := by
  unfold ugt
  exact (upG_at _ _ r k).trans (congrArg₂ upAt (funext fun a => iblk0 m c t r a R hR) (funext fun a => gwt_at m c t a k C hC))

/-- and the value's. -/
theorem uvt_at (c : Dev nD) (t : Fin cfg0.N) (r : Fin 1024) (k : Fin 512) (R : Fin 8192) (C : Fin 11264) (hR : (R : ℕ) = t.val % 8 * 1024 + r)
    (hC : (C : ℕ) = 5632 + (t.val / 8 * 512 + k)) : uvt (F := Ideal) m c t (ix2 r k) = proj m c R C := by
  unfold uvt
  exact (upV_at _ _ r k).trans (congrArg₂ upAt (funext fun a => iblk0 m c t r a R hR) (funext fun a => vwt_at m c t a k C hC))

/-- The carried rows and the projection of the whole arrays. -/
abbrev long (c : Dev nD) : FVec Ideal Cert.UpRefIdeal.S4x2050x11264 .f32 :=
  ext (m ((c : Thread nD τ).loc main_arg2)) (up (m ((c : Thread nD τ).loc main_arg0)) (m ((c : Thread nD τ).loc main_arg1)))

/-- What the scratch holds at an odd point in the gate's half, -/
theorem foundG_at (c : Dev nD) (t : Fin cfg0.N) (ht : t.val % 2 = 1) (q : Fin 8) (k : Fin 512) (R : Fin 8192) (C : Fin 11264) (hR : (R : ℕ) + 8 = t.val % 8 * 1024 + q)
    (hC : (C : ℕ) = t.val / 8 * 512 + k) : foundG (F := Ideal) m c t (ix2 q k) = proj m c R C := by
  have h8 : ¬t.val % 8 = 0 := by omega
  unfold foundG
  rw [if_neg h8]
  unfold leftG
  rw [lastG _ q ⟨1016 + q, by omega⟩ k rfl]
  exact ugt_at m c (prev t) _ k R C (by show (R : ℕ) = (t.val - 1) % 8 * 1024 + (1016 + q); omega) (by show (C : ℕ) = (t.val - 1) / 8 * 512 + k; omega)

/-- and in the value's. -/
theorem foundV_at (c : Dev nD) (t : Fin cfg0.N) (ht : t.val % 2 = 1) (q : Fin 8) (k : Fin 512) (R : Fin 8192) (C : Fin 11264) (hR : (R : ℕ) + 8 = t.val % 8 * 1024 + q)
    (hC : (C : ℕ) = 5632 + (t.val / 8 * 512 + k)) : foundV (F := Ideal) m c t (ix2 q k) = proj m c R C := by
  have h8 : ¬t.val % 8 = 0 := by omega
  unfold foundV
  rw [if_neg h8]
  unfold leftV
  rw [lastV _ q ⟨1016 + q, by omega⟩ k rfl]
  exact uvt_at m c (prev t) _ k R C (by show (R : ℕ) = (t.val - 1) % 8 * 1024 + (1016 + q); omega) (by show (C : ℕ) = 5632 + ((t.val - 1) / 8 * 512 + k); omega)

/-- The two rows before a block's first, in their places of the long rows. -/
theorem halo_at (c : Dev nD) (t : Fin cfg0.N) (b : Fin 4) (hb : (b : ℕ) = t.val % 8 / 2) (k : Fin 512) (C : Fin 11264) (e : Vec Ideal S1x2x512 .f32) (f : Vec Ideal S8x512 .f32)
    (he : ∀ q : Fin 2, e (ix3 0 q k) = m ((c : Thread nD τ).loc main_arg2) (ix3 b q C))
    (hf : t.val % 2 = 1 → ∀ (q : Fin 8) (R : Fin 8192), (R : ℕ) + 8 = t.val % 8 * 1024 + q → f (ix2 q k) = proj m c R C) :
    haloG (F := Ideal) (begins (grid0.coords t)) e f (ix2 7 k) = long m c (ix3 b (⟨t.val % 2 * 1024 + 1, by omega⟩ : Fin 2050) C)
    ∧ haloG (F := Ideal) (begins (grid0.coords t)) e f (ix2 6 k) = long m c (ix3 b (⟨t.val % 2 * 1024, by omega⟩ : Fin 2050) C) := by
  rw [begins_at]
  by_cases ht : t.val % 2 = 0
  · rw [if_pos ht]
    exact ⟨(haloG7 e f k).trans ((he 1).trans (ext_lo _ _ b ⟨t.val % 2 * 1024 + 1, by omega⟩ 1 C (by show t.val % 2 * 1024 + 1 = 1; omega)).symm),
      (haloG6 e f k).trans ((he 0).trans (ext_lo _ _ b ⟨t.val % 2 * 1024, by omega⟩ 0 C (by show t.val % 2 * 1024 = 0; omega)).symm)⟩
  · rw [if_neg ht, haloG_later]
    have h1 : t.val % 2 = 1 := by omega
    constructor
    · exact (hf h1 7 ⟨b * 2048 + 1023, by omega⟩ (by show (b : ℕ) * 2048 + 1023 + 8 = t.val % 8 * 1024 + 7; omega)).trans
        ((ext_hi _ _ b ⟨t.val % 2 * 1024 + 1, by omega⟩ ⟨1023, by omega⟩ C (by show t.val % 2 * 1024 + 1 = 1023 + 2; omega)).trans (up_at _ _ b _ C _ rfl)).symm
    · exact (hf h1 6 ⟨b * 2048 + 1022, by omega⟩ (by show (b : ℕ) * 2048 + 1022 + 8 = t.val % 8 * 1024 + 6; omega)).trans
        ((ext_hi _ _ b ⟨t.val % 2 * 1024, by omega⟩ ⟨1022, by omega⟩ C (by show t.val % 2 * 1024 = 1022 + 2; omega)).trans (up_at _ _ b _ C _ rfl)).symm

/-- The body's convolution of one half is the reference's at the place of the block. -/
theorem half (c : Dev nD) (t : Fin cfg0.N) (b : Fin 4) (hb : (b : ℕ) = t.val % 8 / 2) (r : Fin 1024) (p : Fin 2048) (hp : (p : ℕ) = t.val % 2 * 1024 + r) (k : Fin 512) (C : Fin 11264)
    (h : FVec Ideal S8x512 .f32) (w : Vec Ideal S3x512 .f32) (d : FVec Ideal S1x512 .f32) (u : FVec Ideal S1024x512 .f32)
    (hu : ∀ (r : Fin 1024) (R : Fin 8192), (R : ℕ) = t.val % 8 * 1024 + r → u (ix2 r k) = proj m c R C)
    (hh : h (ix2 7 k) = long m c (ix3 b (⟨t.val % 2 * 1024 + 1, by omega⟩ : Fin 2050) C) ∧ h (ix2 6 k) = long m c (ix3 b (⟨t.val % 2 * 1024, by omega⟩ : Fin 2050) C))
    (hw : ∀ n : Fin 3, w (ix2 n k) = m ((c : Thread nD τ).loc main_arg3) (ix2 n C)) (hd : d (ix2 0 k) = m ((c : Thread nD τ).loc main_arg4) (ix1 C)) :
    k0_pay20 h w d u (ix2 r k) = conv (long m c) (m ((c : Thread nD τ).loc main_arg3)) (m ((c : Thread nD τ).loc main_arg4)) (ix3 b p C) := by
  have hr := r.isLt
  have hcol : ∀ (s : ℕ) (hs : s < 2050), (fun s => if hs : s < 2050 then long m c (ix3 b (⟨s, hs⟩ : Fin 2050) C) else 0) s = long m c (ix3 b (⟨s, hs⟩ : Fin 2050) C) := fun s hs => dif_pos hs
  have hcur : ∀ r : Fin 1024, u (ix2 r k) = long m c (ix3 b (⟨t.val % 2 * 1024 + r + 2, by omega⟩ : Fin 2050) C) := fun r =>
    (hu r ⟨b * 2048 + (t.val % 2 * 1024 + r), by omega⟩ (by show (b : ℕ) * 2048 + (t.val % 2 * 1024 + r) = _; omega)).trans
      ((ext_hi _ _ b _ ⟨t.val % 2 * 1024 + r, by omega⟩ C rfl).trans (up_at _ _ b _ C _ rfl)).symm
  have tp := taps h u k (fun s => if hs : s < 2050 then long m c (ix3 b (⟨s, hs⟩ : Fin 2050) C) else 0) (t.val % 2 * 1024)
    (fun r => (hcur r).trans (hcol _ (by omega)).symm) (hh.1.trans (hcol _ (by omega)).symm) (hh.2.trans (hcol _ (by omega)).symm) r
  have t1 := tp.1.trans (hcol _ (by omega))
  have t2 := tp.2.trans (hcol _ (by omega))
  rw [conv_kernel, conv_at, t1, t2, hcur r, hw 0, hw 1, hw 2, hd]
  have a0 : (⟨t.val % 2 * 1024 + r, by omega⟩ : Fin 2050) = ⟨p, by omega⟩ := Fin.ext (by show t.val % 2 * 1024 + (r : ℕ) = p; omega)
  have a1 : (⟨t.val % 2 * 1024 + r + 1, by omega⟩ : Fin 2050) = ⟨p + 1, by omega⟩ := Fin.ext (by show t.val % 2 * 1024 + (r : ℕ) + 1 = p + 1; omega)
  have a2 : (⟨t.val % 2 * 1024 + r + 2, by omega⟩ : Fin 2050) = ⟨p + 2, by omega⟩ := Fin.ext (by show t.val % 2 * 1024 + (r : ℕ) + 2 = p + 2; omega)
  rw [a0, a1, a2]

/-- A row read as itself. -/
theorem bias_at (v : Vec Ideal S1x512 .f32) (y : S1x512.Idx) : k0_pay15 (F := Ideal) v y = v y ∧ k0_pay16 (F := Ideal) v y = v y := by
  constructor
  · pointwise [k0_pay15]
  · pointwise [k0_pay16]

/-! ## The points -/

/-- What a point leaves in the first result's block is the reference's activation at the place of the block. -/
theorem point10 (c : Dev nD) (t : Fin cfg0.N) (r : Fin 1024) (k : Fin 512) (R : Fin 8192) (C : Fin 5632)
    (hR : (R : ℕ) = t.val % 8 * 1024 + r) (hC : (C : ℕ) = t.val / 8 * 512 + k) :
    act (F := Ideal) m c t (ix2 r k) = acts (m ((c : Thread nD τ).loc main_arg0)) (m ((c : Thread nD τ).loc main_arg1)) (m ((c : Thread nD τ).loc main_arg2))
      (m ((c : Thread nD τ).loc main_arg3)) (m ((c : Thread nD τ).loc main_arg4)) (ix2 R C) := by
  have hr := r.isLt
  have hc := C.isLt
  have hG : ((⟨C, by omega⟩ : Fin 11264) : ℕ) = t.val / 8 * 512 + k := hC
  have hV : ((⟨5632 + C, by omega⟩ : Fin 11264) : ℕ) = 5632 + (t.val / 8 * 512 + k) := by show 5632 + (C : ℕ) = _; omega
  have hb : ((⟨t.val % 8 / 2, by omega⟩ : Fin 4) : ℕ) = t.val % 8 / 2 := rfl
  have hp : ((⟨t.val % 2 * 1024 + r, by omega⟩ : Fin 2048) : ℕ) = t.val % 2 * 1024 + r := rfl
  unfold act acts
  rw [act_kernel]
  refine Eq.trans ?_ (actOn_at _ ⟨t.val % 8 / 2, by omega⟩ ⟨t.val % 2 * 1024 + r, by omega⟩ C R (by show (R : ℕ) = t.val % 8 / 2 * 2048 + (t.val % 2 * 1024 + r); omega)).symm
  refine congrArg₂ (· * ·) (congrArg ge ?_) ?_
  · exact half m c t _ hb r _ hp k _ _ _ _ _ (fun r R h => ugt_at m c t r k R _ h hG)
      (halo_at m c t _ hb k _ _ _ (fun q => iblk3 m c t q k _ _ hb hG) (fun ht q R h => foundG_at m c t ht q k R _ h hG))
      (fun n => iblk5 m c t n k _ hG) ((bias_at (iblk m c 7 t) (ix2 0 k)).1.trans (iblk7 m c t k _ hG))
  · rw [haloV_eq]
    exact half m c t _ hb r _ hp k _ _ _ _ _ (fun r R h => uvt_at m c t r k R _ h hV)
      (halo_at m c t _ hb k _ _ _ (fun q => iblk4 m c t q k _ _ hb hV) (fun ht q R h => foundV_at m c t ht q k R _ h hV))
      (fun n => iblk6 m c t n k _ hV) ((bias_at (iblk m c 8 t) (ix2 0 k)).2.trans (iblk8 m c t k _ hV))

/-- The last eight rows of each batch's projection in the gate's half, -/
def lastRowsG (X : FVec Ideal S8192x2048 .bf16) (W : FVec Ideal S2048x11264 .f32) : FVec Ideal S32x5632 .f32 := fun y =>
  upAt (fun a => X (ix2 (⟨(y 0).val / 8 * 2048 + 2040 + (y 0).val % 8, by have h : (y 0).val < 32 := (y 0).isLt; omega⟩ : Fin 8192) a))
    (fun a => W (ix2 a (⟨(y 1).val, by have h : (y 1).val < 5632 := (y 1).isLt; omega⟩ : Fin 11264)))

/-- and in the value's. -/
def lastRowsV (X : FVec Ideal S8192x2048 .bf16) (W : FVec Ideal S2048x11264 .f32) : FVec Ideal S32x5632 .f32 := fun y =>
  upAt (fun a => X (ix2 (⟨(y 0).val / 8 * 2048 + 2040 + (y 0).val % 8, by have h : (y 0).val < 32 := (y 0).isLt; omega⟩ : Fin 8192) a))
    (fun a => W (ix2 a (⟨5632 + (y 1).val, by have h : (y 1).val < 5632 := (y 1).isLt; omega⟩ : Fin 11264)))

/-- What an odd point leaves in the second result's block is those rows at the place of the block, -/
theorem point11 (c : Dev nD) (t : Fin cfg0.N) (ht : t.val % 2 = 1) (q : Fin 8) (k : Fin 512) (R : Fin 32) (C : Fin 5632)
    (hR : (R : ℕ) = t.val % 8 / 2 * 8 + q) (hC : (C : ℕ) = t.val / 8 * 512 + k) :
    k0_pay2 (F := Ideal) (ugt m c t) (ix2 q k) = lastRowsG (m ((c : Thread nD τ).loc main_arg0)) (m ((c : Thread nD τ).loc main_arg1)) (ix2 R C) :=
  (last_at (ugt m c t) q ⟨1016 + q, by omega⟩ k rfl).trans
    (ugt_at m c t _ k ⟨(R : ℕ) / 8 * 2048 + 2040 + (R : ℕ) % 8, by omega⟩ ⟨C, by omega⟩ (by show (R : ℕ) / 8 * 2048 + 2040 + (R : ℕ) % 8 = t.val % 8 * 1024 + (1016 + q); omega) hC)

/-- and in the third's. -/
theorem point12 (c : Dev nD) (t : Fin cfg0.N) (ht : t.val % 2 = 1) (q : Fin 8) (k : Fin 512) (R : Fin 32) (C : Fin 5632)
    (hR : (R : ℕ) = t.val % 8 / 2 * 8 + q) (hC : (C : ℕ) = t.val / 8 * 512 + k) :
    k0_pay4 (F := Ideal) (uvt m c t) (ix2 q k) = lastRowsV (m ((c : Thread nD τ).loc main_arg0)) (m ((c : Thread nD τ).loc main_arg1)) (ix2 R C) :=
  (last_at (uvt m c t) q ⟨1016 + q, by omega⟩ k rfl).trans
    (uvt_at m c t _ k ⟨(R : ℕ) / 8 * 2048 + 2040 + (R : ℕ) % 8, by omega⟩ ⟨5632 + C, by omega⟩ (by show (R : ℕ) / 8 * 2048 + 2040 + (R : ℕ) % 8 = t.val % 8 * 1024 + (1016 + q); omega)
      (by show 5632 + (C : ℕ) = 5632 + (t.val / 8 * 512 + k); omega))

/-- What a point leaves in the fourth and fifth results' blocks is the reference's rounded weights at the place of the block, -/
theorem point13 (c : Dev nD) (t : Fin cfg0.N) (r : Fin 2048) (k : Fin 512) (R : Fin 2048) (C : Fin 5632) (hR : (R : ℕ) = r) (hC : (C : ℕ) = t.val / 8 * 512 + k) :
    gwt (F := Ideal) m c t (ix2 r k) = gateW (m ((c : Thread nD τ).loc main_arg1)) (ix2 R C) := by
  obtain rfl : R = r := Fin.ext hR
  have e : gateW (m ((c : Thread nD τ).loc main_arg1)) (ix2 R C) = m ((c : Thread nD τ).loc main_arg1) (ix2 R (⟨C, by omega⟩ : Fin 11264)) := by
    pointwise [gateW]
  exact (gwt_at m c t R k _ hC).trans e.symm
theorem point14 (c : Dev nD) (t : Fin cfg0.N) (r : Fin 2048) (k : Fin 512) (R : Fin 2048) (C : Fin 5632) (hR : (R : ℕ) = r) (hC : (C : ℕ) = t.val / 8 * 512 + k) :
    vwt (F := Ideal) m c t (ix2 r k) = valW (m ((c : Thread nD τ).loc main_arg1)) (ix2 R C) := by
  obtain rfl : R = r := Fin.ext hR
  have e : valW (m ((c : Thread nD τ).loc main_arg1)) (ix2 R C) = m ((c : Thread nD τ).loc main_arg1) (ix2 R (⟨5632 + C, by omega⟩ : Fin 11264)) := by
    pointwise [valW]
  exact (vwt_at m c t R k _ (by show 5632 + (C : ℕ) = 5632 + (t.val / 8 * 512 + k); omega)).trans e.symm

/-- and in the sixth's its rounded down weights. -/
theorem point15 (c : Dev nD) (t : Fin cfg0.N) (r : Fin 64) (k : Fin 2048) (R : Fin 5632) (C : Fin 2048) (hR : (R : ℕ) = t.val * 64 + r) (hC : (C : ℕ) = k) :
    k0_pay5 (F := Ideal) (iblk m c 9 t) (ix2 r k) = downW (m ((c : Thread nD τ).loc main_arg5)) (ix2 R C) := by
  pointwise [k0_pay5, downW]
  exact iblk9 m c t r k R C hR hC

/-! ## The results -/

/-- After the run the first result is the reference's activation. -/
theorem final10 (c : Dev nD) : (dats m 0 c).arrAt 10 (cfgs 0).N
    = acts (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 10 _ (by decide +kernel) fun t _ y => ?_
  blk_simp
  rw [after10]
  refine ((congrArg _ (eq_ix2 (y : S1024x512.Idx))).trans (point10 m c t _ _ ((win0_10.rect t).emb y 0) ((win0_10.rect t).emb y 1) ?_ ?_)).trans
    (congrArg (acts _ _ _ _ _) (eq_ix2 ((win0_10.rect t).emb y)).symm)
  · rw [Pipeline.Window.rect_emb_val_off, (idx t).2.2.2.2.2.2.2.2.2.2.1]; rfl
  · rw [Pipeline.Window.rect_emb_val_off, (idx t).2.2.2.2.2.2.2.2.2.2.1]; rfl

/-- The blocks of the last rows are written back at the odd points only. -/
theorem flush11 : ∀ t : Fin cfg0.N, win0_11.flush t = true → t.val % 2 = 1 :=
  (by decide +kernel : ∀ t : Fin grid0.N, win0_11.flush t = true → t.val % 2 = 1)
theorem flush12 : ∀ t : Fin cfg0.N, win0_12.flush t = true → t.val % 2 = 1 :=
  (by decide +kernel : ∀ t : Fin grid0.N, win0_12.flush t = true → t.val % 2 = 1)

/-- After the run the second and third results are the last eight rows of each batch. -/
theorem final11 (c : Dev nD) : (dats m 0 c).arrAt 11 (cfgs 0).N
    = lastRowsG (m ((c : Thread nD τ).loc main_arg0)) (m ((c : Thread nD τ).loc main_arg1)) := by
  refine (dats m 0 c).arrAt_eq_of_covers 11 _ (by decide +kernel) fun t hf y => ?_
  have ht := flush11 t hf
  blk_simp
  rw [after11]
  refine ((congrArg _ (eq_ix2 (y : S8x512.Idx))).trans (point11 m c t ht _ _ ((win0_11.rect t).emb y 0) ((win0_11.rect t).emb y 1) ?_ ?_)).trans
    (congrArg (lastRowsG _ _) (eq_ix2 ((win0_11.rect t).emb y)).symm)
  · rw [Pipeline.Window.rect_emb_val_off, (idx t).2.2.2.2.2.2.2.2.2.2.2.1]; rfl
  · rw [Pipeline.Window.rect_emb_val_off, (idx t).2.2.2.2.2.2.2.2.2.2.2.1]; rfl
theorem final12 (c : Dev nD) : (dats m 0 c).arrAt 12 (cfgs 0).N
    = lastRowsV (m ((c : Thread nD τ).loc main_arg0)) (m ((c : Thread nD τ).loc main_arg1)) := by
  refine (dats m 0 c).arrAt_eq_of_covers 12 _ (by decide +kernel) fun t hf y => ?_
  have ht := flush12 t hf
  blk_simp
  rw [after12]
  refine ((congrArg _ (eq_ix2 (y : S8x512.Idx))).trans (point12 m c t ht _ _ ((win0_12.rect t).emb y 0) ((win0_12.rect t).emb y 1) ?_ ?_)).trans
    (congrArg (lastRowsV _ _) (eq_ix2 ((win0_12.rect t).emb y)).symm)
  · rw [Pipeline.Window.rect_emb_val_off, (idx t).2.2.2.2.2.2.2.2.2.2.2.2.1]; rfl
  · rw [Pipeline.Window.rect_emb_val_off, (idx t).2.2.2.2.2.2.2.2.2.2.2.2.1]; rfl

/-- After the run the fourth and fifth results are the reference's rounded weights, -/
theorem final13 (c : Dev nD) : (dats m 0 c).arrAt 13 (cfgs 0).N = gateW (m ((c : Thread nD τ).loc main_arg1)) := by
  refine (dats m 0 c).arrAt_eq_of_covers 13 _ (by decide +kernel) fun t _ y => ?_
  blk_simp
  rw [after13]
  refine ((congrArg _ (eq_ix2 (y : S2048x512.Idx))).trans (point13 m c t _ _ ((win0_13.rect t).emb y 0) ((win0_13.rect t).emb y 1) ?_ ?_)).trans
    (congrArg (gateW _) (eq_ix2 ((win0_13.rect t).emb y)).symm)
  · rw [Pipeline.Window.rect_emb_val_off, (idx t).2.2.2.2.2.2.2.2.2.2.2.2.2.1]; show 0 * 2048 + (y 0 : ℕ) = _; omega
  · rw [Pipeline.Window.rect_emb_val_off, (idx t).2.2.2.2.2.2.2.2.2.2.2.2.2.1]; rfl
theorem final14 (c : Dev nD) : (dats m 0 c).arrAt 14 (cfgs 0).N = valW (m ((c : Thread nD τ).loc main_arg1)) := by
  refine (dats m 0 c).arrAt_eq_of_covers 14 _ (by decide +kernel) fun t _ y => ?_
  blk_simp
  rw [after14]
  refine ((congrArg _ (eq_ix2 (y : S2048x512.Idx))).trans (point14 m c t _ _ ((win0_14.rect t).emb y 0) ((win0_14.rect t).emb y 1) ?_ ?_)).trans
    (congrArg (valW _) (eq_ix2 ((win0_14.rect t).emb y)).symm)
  · rw [Pipeline.Window.rect_emb_val_off, (idx t).2.2.2.2.2.2.2.2.2.2.2.2.2.2.1]; show 0 * 2048 + (y 0 : ℕ) = _; omega
  · rw [Pipeline.Window.rect_emb_val_off, (idx t).2.2.2.2.2.2.2.2.2.2.2.2.2.2.1]; rfl

/-- and the sixth its rounded down weights. -/
theorem final15 (c : Dev nD) : (dats m 0 c).arrAt 15 (cfgs 0).N = downW (m ((c : Thread nD τ).loc main_arg5)) := by
  refine (dats m 0 c).arrAt_eq_of_covers 15 _ (by decide +kernel) fun t _ y => ?_
  blk_simp
  rw [after15]
  refine ((congrArg _ (eq_ix2 (y : S64x2048.Idx))).trans (point15 m c t _ _ ((win0_15.rect t).emb y 0) ((win0_15.rect t).emb y 1) ?_ ?_)).trans
    (congrArg (downW _) (eq_ix2 ((win0_15.rect t).emb y)).symm)
  · rw [Pipeline.Window.rect_emb_val_off, (idx t).2.2.2.2.2.2.2.2.2.2.2.2.2.2.2.1]; rfl
  · rw [Pipeline.Window.rect_emb_val_off, (idx t).2.2.2.2.2.2.2.2.2.2.2.2.2.2.2.1]; show 0 * 2048 + (y 1 : ℕ) = _; omega

/-- The two arrays of last rows side by side, -/
def sides (a b : FVec Ideal S32x5632 .f32) : FVec Ideal S32x11264 .f32 :=
  concatenate S32x11264 1 [⟨S32x5632, a⟩, ⟨S32x5632, b⟩] concatenates_S32x5632_S32x5632_S32x11264_d1

/-- at an index of the projection's columns. -/
theorem sides_at (X : FVec Ideal S8192x2048 .bf16) (W : FVec Ideal S2048x11264 .f32) (R : Fin 32) (C : Fin 11264) (S : Fin 8192) (hS : (S : ℕ) = (R : ℕ) / 8 * 2048 + 2040 + (R : ℕ) % 8) :
    sides (lastRowsG X W) (lastRowsV X W) (ix2 R C) = upAt (fun a => X (ix2 S a)) (fun a => W (ix2 a C)) := by
  have hr := R.isLt
  rw [(Fin.ext hS : S = ⟨(R : ℕ) / 8 * 2048 + 2040 + (R : ℕ) % 8, by omega⟩)]
  by_cases h : (C : ℕ) < 5632
  · refine (concatenate_pair_apply_left (t := S32x11264) (s₁ := S32x5632) (s₂ := S32x5632) (1 : Fin 2) (lastRowsG X W) (lastRowsV X W)
      concatenates_S32x5632_S32x5632_S32x11264_d1 (ix2 R C) rfl (ix2 R (⟨C, h⟩ : Fin 5632)) fun a => ?_).trans rfl
    fin_cases a
    · rfl
    · rfl
  · have hc := C.isLt
    refine (concatenate_pair_apply_right (t := S32x11264) (s₁ := S32x5632) (s₂ := S32x5632) (1 : Fin 2) (lastRowsG X W) (lastRowsV X W)
      concatenates_S32x5632_S32x5632_S32x11264_d1 (ix2 R C) rfl rfl (ix2 R (⟨C - 5632, by omega⟩ : Fin 5632)) (fun a ha => ?_) ?_).trans ?_
    · fin_cases a
      · rfl
      · exact absurd rfl ha
    · show (C : ℕ) - 5632 + 5632 = (C : ℕ); omega
    · exact congrArg (fun D : Fin 11264 => upAt _ (fun a => W (ix2 a D))) (Fin.ext (by show 5632 + ((C : ℕ) - 5632) = (C : ℕ); omega))

/-- The last two rows of each batch, cut from the last eight, at an index: the reference's. -/
theorem tails_at (X : FVec Ideal S8192x2048 .bf16) (W : FVec Ideal S2048x11264 .f32) (P : FVec Ideal S4x2x11264 .f32) (b : Fin 4) (q : Fin 2) (C : Fin 11264) :
    extractStridedSlice S4x2x11264 ![0, 6, 0] (shapeCast S4x8x11264 (sides (lastRowsG X W) (lastRowsV X W)) shapeCasts_S32x11264_S4x8x11264) slices_S4x8x11264_S4x2x11264_0_6_0 (ix3 b q C)
      = tails X W P (ix3 b q C) := by
  have hq := q.isLt
  have hb := b.isLt
  have e : ∀ v : FVec Ideal S32x11264 .f32, extractStridedSlice S4x2x11264 ![0, 6, 0] (shapeCast S4x8x11264 v shapeCasts_S32x11264_S4x8x11264) slices_S4x8x11264_S4x2x11264_0_6_0 (ix3 b q C)
      = v (ix2 (⟨b * 8 + (6 + q), by omega⟩ : Fin 32) C) := fun v => by pointwise
  have f : tails X W P (ix3 b q C) = ext P (up X W) (ix3 b (⟨2048 + q, by omega⟩ : Fin 2050) C) := by pointwise [tails]
  rw [e, f]
  exact (sides_at X W _ C ⟨b * 2048 + (2046 + q), by omega⟩ (by show (b : ℕ) * 2048 + (2046 + q) = ((b : ℕ) * 8 + (6 + q)) / 8 * 2048 + 2040 + ((b : ℕ) * 8 + (6 + q)) % 8; omega)).trans
    ((ext_hi _ _ b ⟨2048 + q, by omega⟩ ⟨2046 + q, by omega⟩ C (by show 2048 + (q : ℕ) = 2046 + q + 2; omega)).trans (up_at _ _ b ⟨2046 + q, by omega⟩ C _ rfl)).symm

/-- The last two rows of each batch are the reference's. -/
theorem tails_eq (X : FVec Ideal S8192x2048 .bf16) (W : FVec Ideal S2048x11264 .f32) (P : FVec Ideal S4x2x11264 .f32) :
    extractStridedSlice S4x2x11264 ![0, 6, 0] (shapeCast S4x8x11264 (sides (lastRowsG X W) (lastRowsV X W)) shapeCasts_S32x11264_S4x8x11264) slices_S4x8x11264_S4x2x11264_0_6_0
      = tails X W P := funext fun y =>
  (congrArg _ (eq_ix3 y)).trans ((tails_at X W P (y 0) (y 1) (y 2)).trans (congrArg (tails X W P) (eq_ix3 y).symm))

/-- The operations after the kernel's put the two arrays side by side and cut the last two rows. -/
theorem after_kernel (W : Valuation τ sig (Elt Ideal)) :
    StableHlo.after (hostOps1 (F := Ideal)) W (Proc.devRef .tc main_v5)
      = extractStridedSlice S4x2x11264 ![0, 6, 0] (shapeCast S4x8x11264 (sides (W (Proc.devRef .tc main_v2_1)) (W (Proc.devRef .tc main_v2_2))) shapeCasts_S32x11264_S4x8x11264)
        slices_S4x8x11264_S4x2x11264_0_6_0 := by
  after_results
  unfold sides
  rfl

/-- After the run the second result is the reference's last two rows of each batch. -/
theorem finalTail (c : Dev nD) : Pipeline.afterTail₀ cfgs (dats m) 0 (V0 m) [hostOps1] c main_v5
    = tails (m ((c : Thread nD τ).loc main_arg0)) (m ((c : Thread nD τ).loc main_arg1)) (m ((c : Thread nD τ).loc main_arg2)) := by
  have w1 : Pipeline.withArrays spec0 c (V0 m c) (fun w => (dats m 0 c).arrAt w (cfgs 0).N) (Proc.devRef .tc main_v2_1)
      = lastRowsG (m ((c : Thread nD τ).loc main_arg0)) (m ((c : Thread nD τ).loc main_arg1)) :=
    ((dats m 0 c).withArrays_arrAt sharedIn0 (V0 m c) (A_eq m c) 11).trans (final11 m c)
  have w2 : Pipeline.withArrays spec0 c (V0 m c) (fun w => (dats m 0 c).arrAt w (cfgs 0).N) (Proc.devRef .tc main_v2_2)
      = lastRowsV (m ((c : Thread nD τ).loc main_arg0)) (m ((c : Thread nD τ).loc main_arg1)) :=
    ((dats m 0 c).withArrays_arrAt sharedIn0 (V0 m c) (A_eq m c) 12).trans (final12 m c)
  have a := after_kernel (Pipeline.withArrays spec0 c (V0 m c) fun w => (dats m 0 c).arrAt w (cfgs 0).N)
  rw [w1, w2, tails_eq _ _ (m ((c : Thread nD τ).loc main_arg2))] at a
  unfold Pipeline.afterTail₀
  simp only [List.flatten_cons, List.flatten_nil, List.append_nil]
  exact a

end Cert.UpIdeal.Value

end
-- ==== Proof.GateRun.lean ====
module

public import proofs.«01_k».proof.Proof.Gen.GateIdeal.Launch
public import proofs.«01_k».proof.Proof.Gen.GateIdeal.Skeleton
public import proofs.«01_k».proof.Proof.Gen.GateIdeal.Points
public import proofs.«01_k».proof.Proof.Gen.GateIdeal.Frame
public import Idealize.ShloMosaic.Lib.Pipeline.FrameBody
public import Idealize.ShloMosaic.Lib.Pipeline.TableIdle
public import Idealize.ShloMosaic.Lib.Pipeline.ValueKit
public import Idealize.ShloMosaic.Lib.Pointwise
public import Idealize.ShloMosaic.Lib.Ring
public import Idealize.ShloMosaic.Lib.Tactic
public import Idealize.ShloMosaic.Lib.WordCmp
public import Idealize.ShloMosaic.Lib.VecWindow
public import Idealize.ShloMosaic.Lib.Claim

/-! # The gated mix of the branches: the kernel's run

The grid is eight column blocks by eight row blocks. At the first row block of a column block the body rounds the three
gates' weights, read from the wide weight array by three element-indexed blocks, and the branches' weights to the narrow
format and keeps the rounded copies in the second and third results' blocks; the other seven row blocks work with those
copies and leave them as they are. So at every point these blocks hold the rounded copies of the point's own weights. -/

@[expose] public section

set_option maxRecDepth 16384

noncomputable section

namespace Cert.GateIdeal.Hand
open Cert.GateIdeal Cert.GateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition: the row block is the first. -/
abbrev first (i : grid0.Coords) : Prop := k0_cond1 i = 1#1

/-- It holds at the points whose number is a multiple of eight. -/
theorem first_iff : ∀ t : Fin cfg0.N, first (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [first, k0_cond1, e0, e1]
    word_cmp
   : ∀ t : Fin grid0.N, first (grid0.coords t) ↔ t.val % 8 = 0)

/-- The three planes of the gates' weights and of the branches'. -/
abbrev g0 : Rect S3x2048x256 := Rect.unit (s := S3x2048x256) ![0, 0, 0] S1x2048x256.size inb_S3x2048x256_S1x2048x256_0_0_0
abbrev g1 : Rect S3x2048x256 := Rect.unit (s := S3x2048x256) ![1, 0, 0] S1x2048x256.size inb_S3x2048x256_S1x2048x256_1_0_0
abbrev g2 : Rect S3x2048x256 := Rect.unit (s := S3x2048x256) ![2, 0, 0] S1x2048x256.size inb_S3x2048x256_S1x2048x256_2_0_0
abbrev b0 : Rect S3x1024x256 := Rect.unit (s := S3x1024x256) ![0, 0, 0] S1x1024x256.size inb_S3x1024x256_S1x1024x256_0_0_0
abbrev b1 : Rect S3x1024x256 := Rect.unit (s := S3x1024x256) ![1, 0, 0] S1x1024x256.size inb_S3x1024x256_S1x1024x256_1_0_0
abbrev b2 : Rect S3x1024x256 := Rect.unit (s := S3x1024x256) ![2, 0, 0] S1x1024x256.size inb_S3x1024x256_S1x1024x256_2_0_0

/-- The rounded weights of the three gates, a plane to a gate. -/
def gw (x4 x5 x6 : Vec F S2048x256 .f32) : Vec F S3x2048x256 .bf16 :=
  View.canon [⟨g2, k0_pay5 x6⟩, ⟨g1, k0_pay4 x5⟩, ⟨g0, k0_pay3 x4⟩]

/-- The three planes fill the block. -/
theorem gw_cover (p q r : Vec F S1x2048x256 .bf16) (y : S3x2048x256.Idx) :
    ∃ pc ∈ ([⟨g2, p⟩, ⟨g1, q⟩, ⟨g0, r⟩] : List (View.Piece (Elt F) S3x2048x256 .bf16)), y ∈ pc.1.set :=
  View.cover_of_tiled [⟨g2, p⟩, ⟨g1, q⟩, ⟨g0, r⟩] S1x2048x256.size (by rfl) y

/-- The gated sum of the three branches, from the rows, the branches, and the rounded weights of the gates and the branches. -/
def mixOf (x0 : Vec F S1024x2048 .bf16) (x1 x2 x3 : Vec F S1024x1024 .bf16) (G : Vec F S3x2048x256 .bf16) (B : Vec F S3x1024x256 .bf16) :
    Vec F S1024x256 .bf16 :=
  k0_pay1 x0 (k0_pay7 x0 (View.ld G g0) x1 (View.ld B b0) (View.ld G g1) x2 (View.ld B b1)) (View.ld G g2) x3 (View.ld B b2)

/-- The gated sum is settled by its arguments. -/
theorem mixOf_congr {x0 x0' : Vec F S1024x2048 .bf16} {x1 x1' x2 x2' x3 x3' : Vec F S1024x1024 .bf16}
    {u0 u1 u2 : Vec F S1x2048x256 .bf16} {w0 w1 w2 : Vec F S1x1024x256 .bf16} {v0 : Vec F S1024x2048 .bf16} {G : Vec F S3x2048x256 .bf16} {B : Vec F S3x1024x256 .bf16}
    (h0 : x0 = x0') (h0' : v0 = x0') (h1 : x1 = x1') (h2 : x2 = x2') (h3 : x3 = x3') (k0 : u0 = View.ld G g0) (k1 : u1 = View.ld G g1) (k2 : u2 = View.ld G g2)
    (l0 : w0 = View.ld B b0) (l1 : w1 = View.ld B b1) (l2 : w2 = View.ld B b2) :
    k0_pay1 x0 (k0_pay7 v0 u0 x1 w0 u1 x2 w1) u2 x3 w2 = mixOf x0' x1' x2' x3' G B := by
  subst h0 h0' h1 h2 h3 k0 k1 k2 l0 l1 l2; rfl

/-- A plane of a whole buffer read back is the plane of its contents. -/
theorem plane_unread {sp : Space} {s : Shape} {e : EltTy} {v : Memref sig .tc sp s e} (h : v.IsWhole) (x : Vec F s e) (r : Rect s) :
    View.readAt (Elt F) v.view r.toLoadRect (h.unread x) = View.ld x r :=
  congrArg (fun X => View.ld X r) (h.read_unread x)

/-- The rounded planes, one after the other, are the rounded weights. -/
theorem gw_of {x4 x5 x6 y4 y5 y6 : Vec F S2048x256 .f32} (h4 : y4 = x4) (h5 : y5 = x5) (h6 : y6 = x6) :
    View.canon ([⟨g2, k0_pay5 y6⟩, ⟨g1, k0_pay4 y5⟩, ⟨g0, k0_pay3 y4⟩] : List (View.Piece (Elt F) S3x2048x256 .bf16)) = gw x4 x5 x6 := by
  subst h4 h5 h6; rfl

set_option maxHeartbeats 4000000 in
/-- The body at a first row block: it leaves the rounded weights in the second and third results' blocks, the gated sum with
    them in the first's, and the rounded rows of the output weights in the fourth's. -/
theorem run_first (c : Dev nD) (i : grid0.Coords) (arg2 : Memref sig .tc .vmem S1024x2048 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S3x1024x256 .f32) (harg9 : arg9.IsWhole) (arg10 : Memref sig .tc .vmem S32x2048 .f32) (harg10 : arg10.IsWhole) (arg11 : Memref sig .tc .vmem S1024x256 .bf16) (harg11 : arg11.IsWhole) (arg12 : Memref sig .tc .vmem S3x2048x256 .bf16) (harg12 : arg12.IsWhole) (arg13 : Memref sig .tc .vmem S3x1024x256 .bf16) (harg13 : arg13.IsWhole) (arg14 : Memref sig .tc .vmem S32x2048 .bf16) (harg14 : arg14.IsWhole) (hc0 : first i)
    (x0 : Vec F S1024x2048 .bf16) (x1 : Vec F S1024x1024 .bf16) (x2 : Vec F S1024x1024 .bf16) (x3 : Vec F S1024x1024 .bf16) (x4 : Vec F S2048x256 .f32) (x5 : Vec F S2048x256 .f32) (x6 : Vec F S2048x256 .f32) (x7 : Vec F S3x1024x256 .f32) (x8 : Vec F S32x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (mixOf x0 x1 x2 x3 (gw x4 x5 x6) (k0_pay6 x7)) ∗ owns (c : Thread nD τ) arg12 fullShare (gw x4 x5 x6) ∗ owns (c : Thread nD τ) arg13 fullShare (k0_pay6 x7) ∗ owns (c : Thread nD τ) arg14 fullShare (k0_pay2 x8)) -∗ K ⟨⟩))
      ⊢ wp frame (wpE (defs₀ (F := F)) Variants.none c none) E (cc0_gate_branch_mix i arg2 harg2 arg3 harg3 arg4 harg4 arg5 harg5 arg6 harg6 arg7 harg7 arg8 harg8 arg9 harg9 arg10 harg10 arg11 harg11 arg12 harg12 arg13 harg13 arg14 harg14) K := by
  simp only [cc0_gate_branch_mix_eq_skeleton]; unfold cc0_gate_branch_mix_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    sl_unfold_run_names
    refine (View.read_writes_full _ _ _ _ _).trans (mixOf_congr ((View.readAt_full _ _ _).trans (harg2.read_unread x0)) ((View.readAt_full _ _ _).trans (harg2.read_unread x0)) ((View.readAt_full _ _ _).trans (harg3.read_unread x1)) ((View.readAt_full _ _ _).trans (harg4.read_unread x2)) ((View.readAt_full _ _ _).trans (harg5.read_unread x3)) ?_ ?_ ?_ ?_ ?_ ?_)
    all_goals first
      | exact (View.readCov_eq_canon_ld _ _ _ (gw_cover _ _ _)).trans (congrArg (fun X => View.ld X _) (gw_of ((View.readAt_full _ _ _).trans (harg6.read_unread x4)) ((View.readAt_full _ _ _).trans (harg7.read_unread x5)) ((View.readAt_full _ _ _).trans (harg8.read_unread x6))))
      | exact (congrArg (fun X => View.ld X _) ((View.read_writes_full _ _ _ _ _).trans (congrArg k0_pay6 ((View.readAt_full _ _ _).trans (harg9.read_unread x7)))))
  isplitl [H10]
  · iexists _; isplitr; swap; · iexact H10
    ipureintro
    sl_unfold_run_names
    exact (View.read_writes_eq_canon _ _ _ (gw_cover _ _ _)).trans (gw_of ((View.readAt_full _ _ _).trans (harg6.read_unread x4)) ((View.readAt_full _ _ _).trans (harg7.read_unread x5)) ((View.readAt_full _ _ _).trans (harg8.read_unread x6)))
  isplitl [H11]
  · iexists _; isplitr; swap; · iexact H11
    ipureintro
    sl_unfold_run_names
    exact (View.read_writes_full _ _ _ _ _).trans (congrArg k0_pay6 ((View.readAt_full _ _ _).trans (harg9.read_unread x7)))
  iexists _; isplitr; swap; · iexact H12
  ipureintro
  sl_unfold_run_names
  exact (View.read_writes_full _ _ _ _ _).trans (congrArg k0_pay2 ((View.readAt_full _ _ _).trans (harg10.read_unread x8)))

set_option maxHeartbeats 4000000 in
/-- The body at any other row block: it leaves the second and third results' blocks as it finds them and the gated sum with them
    in the first's. -/
theorem run_later (c : Dev nD) (i : grid0.Coords) (arg2 : Memref sig .tc .vmem S1024x2048 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S3x1024x256 .f32) (harg9 : arg9.IsWhole) (arg10 : Memref sig .tc .vmem S32x2048 .f32) (harg10 : arg10.IsWhole) (arg11 : Memref sig .tc .vmem S1024x256 .bf16) (harg11 : arg11.IsWhole) (arg12 : Memref sig .tc .vmem S3x2048x256 .bf16) (harg12 : arg12.IsWhole) (arg13 : Memref sig .tc .vmem S3x1024x256 .bf16) (harg13 : arg13.IsWhole) (arg14 : Memref sig .tc .vmem S32x2048 .bf16) (harg14 : arg14.IsWhole) (hc0 : ¬first i)
    (x0 : Vec F S1024x2048 .bf16) (x1 : Vec F S1024x1024 .bf16) (x2 : Vec F S1024x1024 .bf16) (x3 : Vec F S1024x1024 .bf16) (x4 : Vec F S2048x256 .f32) (x5 : Vec F S2048x256 .f32) (x6 : Vec F S2048x256 .f32) (x7 : Vec F S3x1024x256 .f32) (x8 : Vec F S32x2048 .f32) (G : Vec F S3x2048x256 .bf16) (B : Vec F S3x1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare G ∗ owns (c : Thread nD τ) arg13 fullShare B ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (mixOf x0 x1 x2 x3 G B) ∗ owns (c : Thread nD τ) arg12 fullShare G ∗ owns (c : Thread nD τ) arg13 fullShare B ∗ owns (c : Thread nD τ) arg14 fullShare (k0_pay2 x8)) -∗ K ⟨⟩))
      ⊢ wp frame (wpE (defs₀ (F := F)) Variants.none c none) E (cc0_gate_branch_mix i arg2 harg2 arg3 harg3 arg4 harg4 arg5 harg5 arg6 harg6 arg7 harg7 arg8 harg8 arg9 harg9 arg10 harg10 arg11 harg11 arg12 harg12 arg13 harg13 arg14 harg14) K := by
  simp only [cc0_gate_branch_mix_eq_skeleton]; unfold cc0_gate_branch_mix_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    exact (View.read_writes_full _ _ _ _ _).trans (mixOf_congr ((View.readAt_full _ _ _).trans (harg2.read_unread x0)) ((View.readAt_full _ _ _).trans (harg2.read_unread x0)) ((View.readAt_full _ _ _).trans (harg3.read_unread x1)) ((View.readAt_full _ _ _).trans (harg4.read_unread x2)) ((View.readAt_full _ _ _).trans (harg5.read_unread x3)) (plane_unread harg12 G _) (plane_unread harg12 G _) (plane_unread harg12 G _) (plane_unread harg13 B _) (plane_unread harg13 B _) (plane_unread harg13 B _))
  isplitl [H10]
  · iexists _; isplitr; · ipureintro; exact harg12.read_unread _
    iexact H10
  isplitl [H11]
  · iexists _; isplitr; · ipureintro; exact harg13.read_unread _
    iexact H11
  iexists _; isplitr; swap; · iexact H12
  ipureintro
  exact (View.read_writes_full _ _ _ _ _).trans (congrArg k0_pay2 ((View.readAt_full _ _ _).trans (harg10.read_unread x8)))

/-! ## What each point leaves -/

/-- Where the blocks lie: the three gates' element-indexed blocks begin at columns `6400 + 256 (t / 8)`, and 2048 and 4096 further on. -/
theorem idx : ∀ t : Fin cfg0.N, win0_0.index t = ![t.val % 8, 0] ∧ win0_1.index t = ![t.val % 8, 0] ∧ win0_2.index t = ![t.val % 8, 0]
    ∧ win0_3.index t = ![t.val % 8, 0] ∧ win0_4.index t = ![0, 6400 + t.val / 8 * 256] ∧ win0_5.index t = ![0, 8448 + t.val / 8 * 256]
    ∧ win0_6.index t = ![0, 10496 + t.val / 8 * 256] ∧ win0_7.index t = ![0, 0, t.val / 8] ∧ win0_8.index t = ![t.val, 0]
    ∧ win0_9.index t = ![t.val % 8, t.val / 8] ∧ win0_10.index t = ![0, 0, t.val / 8] ∧ win0_11.index t = ![0, 0, t.val / 8]
    ∧ win0_12.index t = ![t.val, 0] ∧ t.val < 64 :=
  (by decide +kernel : ∀ t : Fin grid0.N, _)

/-- The first gate's block of weights read at an index. -/
theorem iblk4 (c : Dev nD) (t : Fin cfg0.N) (r : Fin 2048) (k : Fin 256) (C : Fin 12544) (hC : (C : ℕ) = 6400 + t.val / 8 * 256 + k) :
    (show F .f32 from iblk m c 4 t (ix2 r k)) = (show F .f32 from m ((c : Thread nD τ).loc main_arg4) (ix2 r C)) := by
  blk_ext [iblk, V, idx t]
  · show ((win0_4.rect t).emb (ix2 r k) 0 : ℕ) = _
    rw [Pipeline.Window.rect_emb_val_off, (idx t).2.2.2.2.1]
    show 0 + (r : ℕ) = r; omega
  · show ((win0_4.rect t).emb (ix2 r k) 1 : ℕ) = _
    rw [Pipeline.Window.rect_emb_val_off, (idx t).2.2.2.2.1]
    exact hC.symm

/-- The second gate's block of weights read at an index. -/
theorem iblk5 (c : Dev nD) (t : Fin cfg0.N) (r : Fin 2048) (k : Fin 256) (C : Fin 12544) (hC : (C : ℕ) = 8448 + t.val / 8 * 256 + k) :
    (show F .f32 from iblk m c 5 t (ix2 r k)) = (show F .f32 from m ((c : Thread nD τ).loc main_arg4) (ix2 r C)) := by
  blk_ext [iblk, V, idx t]
  · show ((win0_5.rect t).emb (ix2 r k) 0 : ℕ) = _
    rw [Pipeline.Window.rect_emb_val_off, (idx t).2.2.2.2.2.1]
    show 0 + (r : ℕ) = r; omega
  · show ((win0_5.rect t).emb (ix2 r k) 1 : ℕ) = _
    rw [Pipeline.Window.rect_emb_val_off, (idx t).2.2.2.2.2.1]
    exact hC.symm

/-- The third gate's block of weights read at an index. -/
theorem iblk6 (c : Dev nD) (t : Fin cfg0.N) (r : Fin 2048) (k : Fin 256) (C : Fin 12544) (hC : (C : ℕ) = 10496 + t.val / 8 * 256 + k) :
    (show F .f32 from iblk m c 6 t (ix2 r k)) = (show F .f32 from m ((c : Thread nD τ).loc main_arg4) (ix2 r C)) := by
  blk_ext [iblk, V, idx t]
  · show ((win0_6.rect t).emb (ix2 r k) 0 : ℕ) = _
    rw [Pipeline.Window.rect_emb_val_off, (idx t).2.2.2.2.2.2.1]
    show 0 + (r : ℕ) = r; omega
  · show ((win0_6.rect t).emb (ix2 r k) 1 : ℕ) = _
    rw [Pipeline.Window.rect_emb_val_off, (idx t).2.2.2.2.2.2.1]
    exact hC.symm

/-- The branches' block of weights read at an index. -/
theorem iblk7 (c : Dev nD) (t : Fin cfg0.N) (n : Fin 3) (r : Fin 1024) (k : Fin 256) (C : Fin 2048) (hC : (C : ℕ) = t.val / 8 * 256 + k) :
    (show F .f32 from iblk m c 7 t (ix3 n r k)) = (show F .f32 from m ((c : Thread nD τ).loc main_arg5) (ix3 n r C)) := by
  blk_ext [iblk, V, idx t]

/-- The point before. -/
abbrev prev (t : Fin cfg0.N) : Fin cfg0.N := ⟨t.val - 1, Nat.lt_of_le_of_lt (Nat.sub_le _ _) t.isLt⟩

/-- The first gate's weights are those of the point before, all through a column block. -/
theorem iblk4_pred (c : Dev nD) (t : Fin cfg0.N) (h : ¬t.val % 8 = 0) : iblk m c 4 t = iblk m c 4 (prev t) := funext fun y => by
  have hN := (idx t).2.2.2.2.2.2.2.2.2.2.2.2.2
  have y1 : (y 1 : ℕ) < 256 := (y 1).isLt
  have e : y = ix2 (y 0 : Fin 2048) (y 1 : Fin 256) := eq_ix2 y
  rw [e]
  have hC : 6400 + t.val / 8 * 256 + (y 1 : ℕ) < 12544 := by omega
  exact (iblk4 m c t (y 0) (y 1) ⟨_, hC⟩ rfl).trans
    (iblk4 m c (prev t) (y 0) (y 1) ⟨_, hC⟩ (by show 6400 + t.val / 8 * 256 + (y 1 : ℕ) = 6400 + (t.val - 1) / 8 * 256 + (y 1 : ℕ); omega)).symm

/-- The second gate's weights are those of the point before, all through a column block. -/
theorem iblk5_pred (c : Dev nD) (t : Fin cfg0.N) (h : ¬t.val % 8 = 0) : iblk m c 5 t = iblk m c 5 (prev t) := funext fun y => by
  have hN := (idx t).2.2.2.2.2.2.2.2.2.2.2.2.2
  have y1 : (y 1 : ℕ) < 256 := (y 1).isLt
  have e : y = ix2 (y 0 : Fin 2048) (y 1 : Fin 256) := eq_ix2 y
  rw [e]
  have hC : 8448 + t.val / 8 * 256 + (y 1 : ℕ) < 12544 := by omega
  exact (iblk5 m c t (y 0) (y 1) ⟨_, hC⟩ rfl).trans
    (iblk5 m c (prev t) (y 0) (y 1) ⟨_, hC⟩ (by show 8448 + t.val / 8 * 256 + (y 1 : ℕ) = 8448 + (t.val - 1) / 8 * 256 + (y 1 : ℕ); omega)).symm

/-- The third gate's weights are those of the point before, all through a column block. -/
theorem iblk6_pred (c : Dev nD) (t : Fin cfg0.N) (h : ¬t.val % 8 = 0) : iblk m c 6 t = iblk m c 6 (prev t) := funext fun y => by
  have hN := (idx t).2.2.2.2.2.2.2.2.2.2.2.2.2
  have y1 : (y 1 : ℕ) < 256 := (y 1).isLt
  have e : y = ix2 (y 0 : Fin 2048) (y 1 : Fin 256) := eq_ix2 y
  rw [e]
  have hC : 10496 + t.val / 8 * 256 + (y 1 : ℕ) < 12544 := by omega
  exact (iblk6 m c t (y 0) (y 1) ⟨_, hC⟩ rfl).trans
    (iblk6 m c (prev t) (y 0) (y 1) ⟨_, hC⟩ (by show 10496 + t.val / 8 * 256 + (y 1 : ℕ) = 10496 + (t.val - 1) / 8 * 256 + (y 1 : ℕ); omega)).symm

/-- The branches' weights are those of the point before, all through a column block. -/
theorem iblk7_pred (c : Dev nD) (t : Fin cfg0.N) (h : ¬t.val % 8 = 0) : iblk m c 7 t = iblk m c 7 (prev t) := funext fun y => by
  have hN := (idx t).2.2.2.2.2.2.2.2.2.2.2.2.2
  have y2 : (y 2 : ℕ) < 256 := (y 2).isLt
  have e : y = ix3 (y 0 : Fin 3) (y 1 : Fin 1024) (y 2 : Fin 256) := eq_ix3 y
  rw [e]
  have hC : t.val / 8 * 256 + (y 2 : ℕ) < 2048 := by omega
  exact (iblk7 m c t (y 0) (y 1) (y 2) ⟨_, hC⟩ rfl).trans
    (iblk7 m c (prev t) (y 0) (y 1) (y 2) ⟨_, hC⟩ (by show t.val / 8 * 256 + (y 2 : ℕ) = (t.val - 1) / 8 * 256 + (y 2 : ℕ); omega)).symm

/-- The rounded weights of the gates at point `t`, -/
def gwt (c : Dev nD) (t : Fin cfg0.N) : Vec F S3x2048x256 .bf16 := gw (iblk m c 4 t) (iblk m c 5 t) (iblk m c 6 t)

/-- and of the branches. -/
def bwt (c : Dev nD) (t : Fin cfg0.N) : Vec F S3x1024x256 .bf16 := k0_pay6 (iblk m c 7 t)

/-- The gates' are those of the point before, all through a column block, -/
theorem gwt_pred (c : Dev nD) (t : Fin cfg0.N) (h : ¬t.val % 8 = 0) : gwt m c t = gwt m c (prev t) := by
  unfold gwt; rw [iblk4_pred m c t h, iblk5_pred m c t h, iblk6_pred m c t h]

/-- and so are the branches'. -/
theorem bwt_pred (c : Dev nD) (t : Fin cfg0.N) (h : ¬t.val % 8 = 0) : bwt m c t = bwt m c (prev t) := by
  unfold bwt; rw [iblk7_pred m c t h]

/-- The gated sum of point `t`. -/
def mix (c : Dev nD) (t : Fin cfg0.N) : Vec F S1024x256 .bf16 :=
  mixOf (iblk m c 0 t) (iblk m c 1 t) (iblk m c 2 t) (iblk m c 3 t) (gwt m c t) (bwt m c t)

/-- The proof data: each input's block in place; the gated sum, the two rounded weights and the rounded rows of the output
    weights in the results' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => mix m c t
    | ⟨10, _⟩ => gwt m c t
    | ⟨11, _⟩ => bwt m c t
    | ⟨12, _⟩ => k0_pay2 (iblk m c 8 t)
  Φ _ := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = mix m c t := by dsimp only [dats]
theorem after10 (c : Dev nD) (t : Fin cfg0.N) : (dats m 0 c).after 10 t = gwt m c t := by dsimp only [dats]
theorem after11 (c : Dev nD) (t : Fin cfg0.N) : (dats m 0 c).after 11 t = bwt m c t := by dsimp only [dats]
theorem after12 (c : Dev nD) (t : Fin cfg0.N) : (dats m 0 c).after 12 t = k0_pay2 (iblk m c 8 t) := by dsimp only [dats]

/-- Each input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- The second result's buffer is fresh exactly at the first row block of a column block. -/
theorem fresh10 : ∀ n : ℕ, n ≤ cfg0.N → cfg0.fresh 10 n = decide (n % 8 = 0) :=
  Pipeline.Cfg.fresh_tab cfg0 10 (fun n => decide (n % 8 = 0)) rfl (by decide +kernel)

/-- The second result is stored only at a first row block. -/
theorem idle10 (t : Fin cfg0.N) (h : cfg0.idle 10 (grid0.coords t) = true) : ¬t.val % 8 = 0 := fun h0 => by
  have e : cfg0.idle 10 (grid0.coords t) = !(k0_cond1 (grid0.coords t) == 1#1) := rfl
  rw [e, (first_iff t).mpr h0] at h
  exact Bool.false_ne_true h

/-- At a later row block the second result's buffer holds the rounded weights of the point before, which are the point's own. -/
theorem before10 (c : Dev nD) (t : Fin cfg0.N) (h : ¬t.val % 8 = 0) (d) : (dats m 0 c).before 10 t d = gwt m c t := by
  rw [(dats m 0 c).before_out_traj 10 rfl (fun _ _ => rfl) (fun s _ hi _ => by
    rw [after10, after10]; exact gwt_pred m c s (idle10 s hi)) t.val t rfl d, fresh10 t.val (Nat.le_of_lt t.isLt),
    if_neg (by simpa using h), after10]
  exact (gwt_pred m c t h).symm

/-- The rounded weights in the second result's buffer are what the body has to leave there at any point. -/
theorem leaves10 (c : Dev nD) (t : Fin cfg0.N) :
    owns (Ix := Unit) (Name := ℕ) (U := UR sig nD τ) (Lvl := ℕ) (c : Thread nD τ) (win0_10.stage (cfg0.slots t 10)) fullShare (gwt m c t) ⊢ (dats m 0 c).leavesExact 10 t := by
  unfold Dat.leavesExact
  cases hi : cfg0.idle 10 (grid0.coords t) with
  | false => rw [after10]
  | true =>
    cases hf : (cfg0.win 10).flush t with
    | true => rw [after10]
    | false =>
      iintro H
      iexists (fun _ => Classical.arbitrary _)
      rw [before10 m c t (idle10 t hi)]
      iexact H

/-- The third result's buffer is fresh exactly at the first row block of a column block. -/
theorem fresh11 : ∀ n : ℕ, n ≤ cfg0.N → cfg0.fresh 11 n = decide (n % 8 = 0) :=
  Pipeline.Cfg.fresh_tab cfg0 11 (fun n => decide (n % 8 = 0)) rfl (by decide +kernel)

/-- The third result is stored only at a first row block. -/
theorem idle11 (t : Fin cfg0.N) (h : cfg0.idle 11 (grid0.coords t) = true) : ¬t.val % 8 = 0 := fun h0 => by
  have e : cfg0.idle 11 (grid0.coords t) = !(k0_cond1 (grid0.coords t) == 1#1) := rfl
  rw [e, (first_iff t).mpr h0] at h
  exact Bool.false_ne_true h

/-- At a later row block the third result's buffer holds the rounded weights of the point before, which are the point's own. -/
theorem before11 (c : Dev nD) (t : Fin cfg0.N) (h : ¬t.val % 8 = 0) (d) : (dats m 0 c).before 11 t d = bwt m c t := by
  rw [(dats m 0 c).before_out_traj 11 rfl (fun _ _ => rfl) (fun s _ hi _ => by
    rw [after11, after11]; exact bwt_pred m c s (idle11 s hi)) t.val t rfl d, fresh11 t.val (Nat.le_of_lt t.isLt),
    if_neg (by simpa using h), after11]
  exact (bwt_pred m c t h).symm

/-- The rounded weights in the third result's buffer are what the body has to leave there at any point. -/
theorem leaves11 (c : Dev nD) (t : Fin cfg0.N) :
    owns (Ix := Unit) (Name := ℕ) (U := UR sig nD τ) (Lvl := ℕ) (c : Thread nD τ) (win0_11.stage (cfg0.slots t 11)) fullShare (bwt m c t) ⊢ (dats m 0 c).leavesExact 11 t := by
  unfold Dat.leavesExact
  cases hi : cfg0.idle 11 (grid0.coords t) with
  | false => rw [after11]
  | true =>
    cases hf : (cfg0.win 11).flush t with
    | true => rw [after11]
    | false =>
      iintro H
      iexists (fun _ => Classical.arbitrary _)
      rw [before11 m c t (idle11 t hi)]
      iexact H

/-! ## The body at any point, and the run -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (dats m 0 c).leavesExact 10 t
    ∗ (dats m 0 c).leavesExact 11 t
    ∗ owns (c : Thread nD τ) (st0_12 t) fullShare ((dats m 0 c).after 12 t))

set_option maxHeartbeats 4000000 in
/-- The body at any point, by whether the row block is the first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl, after0, after1, after2, after3, after4, after5, after6, after7, after8, after9, after12]
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_first c (grid0.coords t) _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iapply (leaves10 m c t)
      iexact H10
    isplitl [H11]
    · iapply (leaves11 m c t)
      iexact H11
    iexact H12
  · simp only [before10 m c t h0, before11 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_later c (grid0.coords t) _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (gwt m c t) (bwt m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iapply (leaves10 m c t)
      iexact H10
    isplitl [H11]
    · iapply (leaves11 m c t)
      iexact H11
    iexact H12

/-- The body table's row at point `t` is the body at that point. -/
theorem body_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run, and every semaphore counter zero at its end. -/
theorem run_counters : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run: every array of the pipeline ends at what the proof data says, everything else as it was. -/
theorem run_main : θ_run defs (onTc (τ := τ) (main (F := F))) (s₀ m ρ) (Pipeline.FramePost cfgs (dats m) 0 (V m)) :=
  (θ_run defs _ _).mono (fun _ h => h.1) (run_counters m ρ)

/-- The argument arrays end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_counters m ρ))

end Cert.GateIdeal.Hand

end
-- ==== Proof.GateValue.lean ====
module

public import proofs.«01_k».proof.Proof.GateRun
public import proofs.«01_k».proof.Proof.Gen.GateRefIdeal.Run
public import Idealize.ShloMosaic.Lib.Pipeline.ValueKit
public import Idealize.ShloMosaic.Lib.Pointwise

/-! # The gated mix of the branches: its values

At an index the mix is the sum over the three branches of the gate, the logistic function of the rows against the gate's
weights, times the branch against its own weights. The other results are the rounded weights. -/

@[expose] public section

set_option maxRecDepth 16384

noncomputable section

open Idealize.ShloMosaic Idealize.ShloMosaic.TcCoe Idealize.SL.Sem
open Idealize.ShloMosaic.Pipeline (Dat)

namespace Cert.GateRefIdeal.Spec
open Cert.GateRefIdeal Cert.GateRefIdeal.Gen

/-- The reference's gate columns of the projection, by row, gate and column. -/
def cols (X : FVec Ideal S8192x2048 .bf16) (W : FVec Ideal S2048x12544 .f32) : FVec Ideal S8192x3x2048 .f32 :=
  shapeCast _ (extractStridedSlice S8192x6144 ![0, 6400] (Host.dotGeneral dot_S8192x2048_S2048x12544_S8192x12544_1_0_0_1_n_n none (extf .f32 X bitsLt_bf16_f32) W)
    slices_S8192x12544_S8192x6144_0_6400) shapeCasts_S8192x6144_S8192x3x2048

/-- The logistic function, as the reference spells it. -/
def sigm (G : FVec Ideal S8192x3x2048 .f32) : FVec Ideal S8192x3x2048 .f32 :=
  Host.divf (broadcastInDim S8192x3x2048 ![] bcast_S_S8192x3x2048 (constant S_ .f32 0x3F800000#32))
    (addf (broadcastInDim S8192x3x2048 ![] bcast_S_S8192x3x2048 (constant S_ .f32 0x3F800000#32)) (Host.exp (Host.negf G)))

/-- The three branches side by side, by row, branch and lane. -/
def stack (A B C : FVec Ideal S8192x1024 .bf16) : FVec Ideal S8192x3x1024 .f32 :=
  concatenate S8192x3x1024 1 [⟨S8192x1x1024, ((broadcastInDim S8192x1x1024 ![0, 2] bcast_S8192x1024_S8192x1x1024_0_2 (extf .f32 A bitsLt_bf16_f32)) : (⟨S8192x1x1024, .f32⟩ : BufTy).Contents (Elt Ideal))⟩,
    ⟨S8192x1x1024, ((broadcastInDim S8192x1x1024 ![0, 2] bcast_S8192x1024_S8192x1x1024_0_2 (extf .f32 B bitsLt_bf16_f32)) : (⟨S8192x1x1024, .f32⟩ : BufTy).Contents (Elt Ideal))⟩,
    ⟨S8192x1x1024, ((broadcastInDim S8192x1x1024 ![0, 2] bcast_S8192x1024_S8192x1x1024_0_2 (extf .f32 C bitsLt_bf16_f32)) : (⟨S8192x1x1024, .f32⟩ : BufTy).Contents (Elt Ideal))⟩] concatenates_S8192x1x1024_S8192x1x1024_S8192x1x1024_S8192x3x1024_d1

/-- The branches against their weights, by row, branch and column. -/
def brs (W : FVec Ideal S3x1024x2048 .f32) (T : FVec Ideal S8192x3x1024 .f32) : FVec Ideal S8192x3x2048 .f32 :=
  transpose S8192x3x2048 [2, 0, 1] (Host.dotGeneral dot_S3x1024x2048_S8192x3x1024_S3x2048x8192_1_2_2_0_0_1 none W T) transposes_S3x2048x8192_S8192x3x2048_2_0_1

/-- The reference's mix: the gates times the branches, summed over the branches. -/
def mixed (X : FVec Ideal S8192x2048 .bf16) (A B C : FVec Ideal S8192x1024 .bf16) (W : FVec Ideal S2048x12544 .f32) (U : FVec Ideal S3x1024x2048 .f32) :
    FVec Ideal S8192x2048 .bf16 :=
  truncf .bf16 (Host.reduceAdd (mulf (sigm (cols X W)) (brs U (stack A B C))) (constant S_ .f32 0x00000000#32) reducesTo_S8192x3x2048_S8192x2048_d1 h_S_) bitsLt_bf16_f32

/-- The reference's rounded gate weights, by gate, row and column. -/
def gateW (W : FVec Ideal S2048x12544 .f32) : FVec Ideal S3x2048x2048 .bf16 :=
  truncf .bf16 (transpose S3x2048x2048 [1, 0, 2] (shapeCast _ (extractStridedSlice S2048x6144 ![0, 6400] W slices_S2048x12544_S2048x6144_0_6400) shapeCasts_S2048x6144_S2048x3x2048)
    transposes_S2048x3x2048_S3x2048x2048_1_0_2) bitsLt_bf16_f32

/-- The reference's rounded branch weights, -/
def branchW (U : FVec Ideal S3x1024x2048 .f32) : FVec Ideal S3x1024x2048 .bf16 := truncf .bf16 U bitsLt_bf16_f32

/-- and rounded output weights. -/
def outW (O : FVec Ideal S2048x2048 .f32) : FVec Ideal S2048x2048 .bf16 := truncf .bf16 O bitsLt_bf16_f32

/-- A gate's column at an index. -/
theorem cols_at (X : FVec Ideal S8192x2048 .bf16) (W : FVec Ideal S2048x12544 .f32) (R : Fin 8192) (n : Fin 3) (C : Fin 2048) :
    cols X W (ix3 R n C) = ∑ k : Fin 2048, X (ix2 R k) * W (ix2 k (⟨6400 + (n * 2048 + C), by omega⟩ : Fin 12544)) := by
  pointwise [cols]

/-- The logistic function of one number. -/
def lg (x : EReal) : EReal := Ideal.div 1 (1 + Ideal.exp (-x))

/-- The logistic function at an index. -/
theorem sigm_at (G : FVec Ideal S8192x3x2048 .f32) (R : Fin 8192) (n : Fin 3) (C : Fin 2048) :
    sigm G (ix3 R n C) = lg (G (ix3 R n C)) := by
  pointwise [sigm, lg]

/-- The stack of the branches at an index. -/
theorem stack_at (A B C : FVec Ideal S8192x1024 .bf16) (R : Fin 8192) (k : Fin 1024) :
    stack A B C (ix3 R 0 k) = A (ix2 R k) ∧ stack A B C (ix3 R 1 k) = B (ix2 R k) ∧ stack A B C (ix3 R 2 k) = C (ix2 R k) := by
  refine ⟨?_, ?_, ?_⟩ <;> pointwise [stack]

/-- A branch against its weights at an index. -/
theorem brs_at (U : FVec Ideal S3x1024x2048 .f32) (T : FVec Ideal S8192x3x1024 .f32) (R : Fin 8192) (n : Fin 3) (C : Fin 2048) :
    brs U T (ix3 R n C) = ∑ k : Fin 1024, U (ix3 n k C) * T (ix3 R n k) := by
  pointwise [brs]

/-- The sum over the branches at an index. -/
theorem sum_at (G T : FVec Ideal S8192x3x2048 .f32) (R : Fin 8192) (C : Fin 2048) :
    Host.reduceAdd (mulf G T) (constant S_ .f32 0x00000000#32) reducesTo_S8192x3x2048_S8192x2048_d1 h_S_ (ix2 R C)
      = G (ix3 R 0 C) * T (ix3 R 0 C) + G (ix3 R 1 C) * T (ix3 R 1 C) + G (ix3 R 2 C) * T (ix3 R 2 C) := by
  pointwise
  exact Fin.sum_univ_three _

/-- The rounded gate weights at an index. -/
theorem gateW_at (W : FVec Ideal S2048x12544 .f32) (n : Fin 3) (r C : Fin 2048) :
    gateW W (ix3 n r C) = W (ix2 r (⟨6400 + (n * 2048 + C), by omega⟩ : Fin 12544)) := by
  pointwise [gateW]

/-- One branch's term of the mix: the gate of a row and a column of weights, times the branch of a row and a column. -/
def term (x w : Fin 2048 → EReal) (a u : Fin 1024 → EReal) : EReal := lg (∑ k, x k * w k) * ∑ k, a k * u k

/-- A term is settled by its rows and columns. -/
theorem term_congr {x x' w w' : Fin 2048 → EReal} {a a' u u' : Fin 1024 → EReal} (hx : ∀ k, x k = x' k) (hw : ∀ k, w k = w' k)
    (ha : ∀ k, a k = a' k) (hu : ∀ k, u k = u' k) : term x w a u = term x' w' a' u' := by
  rw [funext hx, funext hw, funext ha, funext hu]

/-- The reference's mix at an index: the three branches' terms. -/
theorem mixed_at (X : FVec Ideal S8192x2048 .bf16) (A B C : FVec Ideal S8192x1024 .bf16) (W : FVec Ideal S2048x12544 .f32) (U : FVec Ideal S3x1024x2048 .f32)
    (r : Fin 8192) (c : Fin 2048) :
    mixed X A B C W U (ix2 r c)
      = term (fun k => X (ix2 r k)) (fun k => W (ix2 k (⟨6400 + c, by omega⟩ : Fin 12544))) (fun k => A (ix2 r k)) (fun k => U (ix3 0 k c))
      + term (fun k => X (ix2 r k)) (fun k => W (ix2 k (⟨8448 + c, by omega⟩ : Fin 12544))) (fun k => B (ix2 r k)) (fun k => U (ix3 1 k c))
      + term (fun k => X (ix2 r k)) (fun k => W (ix2 k (⟨10496 + c, by omega⟩ : Fin 12544))) (fun k => C (ix2 r k)) (fun k => U (ix3 2 k c)) := by
  have ft : ∀ (v : FVec Ideal S8192x2048 .f32) (y : S8192x2048.Idx), (truncf (F := Ideal) .bf16 v bitsLt_bf16_f32) y = v y := fun v y => by pointwise
  unfold mixed
  refine (ft _ _).trans ((sum_at _ _ r c).trans ?_)
  simp only [sigm_at, cols_at, brs_at]
  unfold term
  refine congrArg₂ (· + ·) (congrArg₂ (· + ·) (congrArg₂ (· * ·) (congrArg lg (Finset.sum_congr rfl fun k _ => ?_)) (Finset.sum_congr rfl fun k _ => ?_))
    (congrArg₂ (· * ·) (congrArg lg (Finset.sum_congr rfl fun k _ => ?_)) (Finset.sum_congr rfl fun k _ => ?_)))
    (congrArg₂ (· * ·) (congrArg lg (Finset.sum_congr rfl fun k _ => ?_)) (Finset.sum_congr rfl fun k _ => ?_))
  · exact congrArg (fun C' : Fin 12544 => X (ix2 r k) * W (ix2 k C')) (Fin.ext (by show 6400 + (0 * 2048 + (c : ℕ)) = 6400 + (c : ℕ); omega))
  · rw [(stack_at A B C r k).1]; exact mul_comm _ _
  · exact congrArg (fun C' : Fin 12544 => X (ix2 r k) * W (ix2 k C')) (Fin.ext (by show 6400 + (1 * 2048 + (c : ℕ)) = 8448 + (c : ℕ); omega))
  · rw [(stack_at A B C r k).2.1]; exact mul_comm _ _
  · exact congrArg (fun C' : Fin 12544 => X (ix2 r k) * W (ix2 k C')) (Fin.ext (by show 6400 + (2 * 2048 + (c : ℕ)) = 10496 + (c : ℕ); omega))
  · rw [(stack_at A B C r k).2.2]; exact mul_comm _ _

/-- The reference's run, its results in the words above. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v25) = gateW (m ((c.tc : Thread nD τ).loc main_arg4))
      ∧ r.2.mem ((c.tc : Thread nD τ).loc main_v26) = branchW (m ((c.tc : Thread nD τ).loc main_arg5))
      ∧ r.2.mem ((c.tc : Thread nD τ).loc main_v27) = outW (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r hr c => ?_) (Cert.GateRefIdeal.Value.run m ρ)
  have h := hr c
  refine ⟨h.1.trans ?_, h.2.1.trans ?_, h.2.2.1.trans ?_, h.2.2.2.1.trans ?_, h.2.2.2.2⟩
  · unfold mixed sigm cols brs stack
    with_reducible rfl
  · unfold gateW
    with_reducible rfl
  · unfold branchW
    with_reducible rfl
  · unfold outW
    with_reducible rfl

end Cert.GateRefIdeal.Spec

namespace Cert.GateIdeal.Value
open Cert.GateIdeal Cert.GateIdeal.Gen Cert.GateIdeal.Hand
open Cert.GateRefIdeal.Spec

variable (m : (ℓ : Loc nD τ sig) → Buf (Elt Ideal) ℓ)

/-- The kernel's gated sum at an index: the three branches' terms. -/
theorem mixOf_at (x0 : FVec Ideal S1024x2048 .bf16) (x1 x2 x3 : FVec Ideal S1024x1024 .bf16) (G : FVec Ideal S3x2048x256 .bf16) (B : FVec Ideal S3x1024x256 .bf16)
    (r : Fin 1024) (k : Fin 256) :
    mixOf (F := Ideal) x0 x1 x2 x3 G B (ix2 r k)
      = term (fun a => x0 (ix2 r a)) (fun a => G (ix3 0 a k)) (fun a => x1 (ix2 r a)) (fun a => B (ix3 0 a k))
      + term (fun a => x0 (ix2 r a)) (fun a => G (ix3 1 a k)) (fun a => x2 (ix2 r a)) (fun a => B (ix3 1 a k))
      + term (fun a => x0 (ix2 r a)) (fun a => G (ix3 2 a k)) (fun a => x3 (ix2 r a)) (fun a => B (ix3 2 a k)) := by
  pointwise [mixOf, k0_pay1, k0_pay7, term, lg]
  rfl

/-- The first gate's rounded weights at an index of their plane. -/
theorem plane3 (w : FVec Ideal S2048x256 .f32) (x : S1x2048x256.Idx) (r : Fin 2048) (k : Fin 256) (hr : (r : ℕ) = x 1) (hk : (k : ℕ) = x 2) :
    k0_pay3 (F := Ideal) w x = w (ix2 r k) := by
  have e : k0_pay3 (F := Ideal) w x = w (ix2 (x 1) (x 2)) := by pointwise [k0_pay3]
  exact e.trans (congrArg₂ (fun (a : Fin 2048) (b : Fin 256) => w (ix2 a b)) (Fin.ext hr.symm) (Fin.ext hk.symm))

/-- The second gate's rounded weights at an index of their plane. -/
theorem plane4 (w : FVec Ideal S2048x256 .f32) (x : S1x2048x256.Idx) (r : Fin 2048) (k : Fin 256) (hr : (r : ℕ) = x 1) (hk : (k : ℕ) = x 2) :
    k0_pay4 (F := Ideal) w x = w (ix2 r k) := by
  have e : k0_pay4 (F := Ideal) w x = w (ix2 (x 1) (x 2)) := by pointwise [k0_pay4]
  exact e.trans (congrArg₂ (fun (a : Fin 2048) (b : Fin 256) => w (ix2 a b)) (Fin.ext hr.symm) (Fin.ext hk.symm))

/-- The third gate's rounded weights at an index of their plane. -/
theorem plane5 (w : FVec Ideal S2048x256 .f32) (x : S1x2048x256.Idx) (r : Fin 2048) (k : Fin 256) (hr : (r : ℕ) = x 1) (hk : (k : ℕ) = x 2) :
    k0_pay5 (F := Ideal) w x = w (ix2 r k) := by
  have e : k0_pay5 (F := Ideal) w x = w (ix2 (x 1) (x 2)) := by pointwise [k0_pay5]
  exact e.trans (congrArg₂ (fun (a : Fin 2048) (b : Fin 256) => w (ix2 a b)) (Fin.ext hr.symm) (Fin.ext hk.symm))

/-- The rounded weights of the gates at an index: those of the plane's own gate. -/
theorem gw_at (x4 x5 x6 : FVec Ideal S2048x256 .f32) (n : Fin 3) (r : Fin 2048) (k : Fin 256) (v : EReal)
    (h4 : (n : ℕ) = 0 → x4 (ix2 r k) = v) (h5 : (n : ℕ) = 1 → x5 (ix2 r k) = v) (h6 : (n : ℕ) = 2 → x6 (ix2 r k) = v) :
    gw (F := Ideal) x4 x5 x6 (ix3 n r k) = v := by
  unfold gw
  canon_tiles x h
  case piece0 => exact (plane5 x6 x r k h1 h2).trans (h6 (by have e : (n : ℕ) = 2 + (x 0 : ℕ) := h0; omega))
  case piece1 => exact (plane4 x5 x r k h1 h2).trans (h5 (by have e : (n : ℕ) = 1 + (x 0 : ℕ) := h0; omega))
  case piece2 => exact (plane3 x4 x r k h1 h2).trans (h4 (by have e : (n : ℕ) = (x 0 : ℕ) := h0; omega))

/-- The block of rows read at an index, -/
theorem iblk0 (c : Dev nD) (t : Fin cfg0.N) (r : Fin 1024) (k : Fin 2048) (R : Fin 8192) (hR : (R : ℕ) = t.val % 8 * 1024 + r) :
    (show EReal from iblk m c 0 t (ix2 r k)) = (show EReal from m ((c : Thread nD τ).loc main_arg0) (ix2 R k)) := by
  blk_ext [iblk, V, idx t]

/-- and the blocks of the three branches. -/
theorem iblk1 (c : Dev nD) (t : Fin cfg0.N) (r : Fin 1024) (k : Fin 1024) (R : Fin 8192) (hR : (R : ℕ) = t.val % 8 * 1024 + r) :
    (show EReal from iblk m c 1 t (ix2 r k)) = (show EReal from m ((c : Thread nD τ).loc main_arg1) (ix2 R k)) := by
  blk_ext [iblk, V, idx t]
theorem iblk2 (c : Dev nD) (t : Fin cfg0.N) (r : Fin 1024) (k : Fin 1024) (R : Fin 8192) (hR : (R : ℕ) = t.val % 8 * 1024 + r) :
    (show EReal from iblk m c 2 t (ix2 r k)) = (show EReal from m ((c : Thread nD τ).loc main_arg2) (ix2 R k)) := by
  blk_ext [iblk, V, idx t]
theorem iblk3 (c : Dev nD) (t : Fin cfg0.N) (r : Fin 1024) (k : Fin 1024) (R : Fin 8192) (hR : (R : ℕ) = t.val % 8 * 1024 + r) :
    (show EReal from iblk m c 3 t (ix2 r k)) = (show EReal from m ((c : Thread nD τ).loc main_arg3) (ix2 R k)) := by
  blk_ext [iblk, V, idx t]

/-- The block of output weights read at an index. -/
theorem iblk8 (c : Dev nD) (t : Fin cfg0.N) (r : Fin 32) (k : Fin 2048) (R : Fin 2048) (C : Fin 2048) (hR : (R : ℕ) = t.val * 32 + r) (hC : (C : ℕ) = k) :
    (show EReal from iblk m c 8 t (ix2 r k)) = (show EReal from m ((c : Thread nD τ).loc main_arg6) (ix2 R C)) := by
  blk_ext [iblk, V, idx t]

/-- The rounded weights of the gates at point `t`, read at an index: the wide array's, 6400 columns across and 2048 more for each gate. -/
theorem gwt_at (c : Dev nD) (t : Fin cfg0.N) (n : Fin 3) (r : Fin 2048) (k : Fin 256) (C : Fin 12544) (hC : (C : ℕ) = 6400 + n * 2048 + t.val / 8 * 256 + k) :
    (show EReal from gwt (F := Ideal) m c t (ix3 n r k)) = (show EReal from m ((c : Thread nD τ).loc main_arg4) (ix2 r C)) := by
  unfold gwt
  exact gw_at _ _ _ n r k _ (fun h => iblk4 m c t r k C (by omega)) (fun h => iblk5 m c t r k C (by omega)) (fun h => iblk6 m c t r k C (by omega))

/-- The rounded weights of the branches at point `t`, read at an index. -/
theorem bwt_at (c : Dev nD) (t : Fin cfg0.N) (n : Fin 3) (r : Fin 1024) (k : Fin 256) (C : Fin 2048) (hC : (C : ℕ) = t.val / 8 * 256 + k) :
    (show EReal from bwt (F := Ideal) m c t (ix3 n r k)) = (show EReal from m ((c : Thread nD τ).loc main_arg5) (ix3 n r C)) := by
  unfold bwt
  have e : ∀ (w : FVec Ideal S3x1024x256 .f32) (y : S3x1024x256.Idx), k0_pay6 (F := Ideal) w y = w y := fun w y => by pointwise [k0_pay6]
  exact (e _ _).trans (iblk7 m c t n r k C hC)

/-- What point `t` leaves in the first result's block is the reference's mix at the place of the block. -/
theorem point9 (c : Dev nD) (t : Fin cfg0.N) (r : Fin 1024) (k : Fin 256) (R : Fin 8192) (C : Fin 2048)
    (hR : (R : ℕ) = t.val % 8 * 1024 + r) (hC : (C : ℕ) = t.val / 8 * 256 + k) :
    mix (F := Ideal) m c t (ix2 r k) = mixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 R C) := by
  unfold mix
  refine (mixOf_at _ _ _ _ _ _ r k).trans (Eq.trans ?_ (mixed_at _ _ _ _ _ _ R C).symm)
  refine congrArg₂ (· + ·) (congrArg₂ (· + ·)
    (term_congr (fun a => iblk0 m c t r a R hR) (fun a => gwt_at m c t 0 a k _ ?_) (fun a => iblk1 m c t r a R hR) (fun a => bwt_at m c t 0 a k C hC))
    (term_congr (fun a => iblk0 m c t r a R hR) (fun a => gwt_at m c t 1 a k _ ?_) (fun a => iblk2 m c t r a R hR) (fun a => bwt_at m c t 1 a k C hC)))
    (term_congr (fun a => iblk0 m c t r a R hR) (fun a => gwt_at m c t 2 a k _ ?_) (fun a => iblk3 m c t r a R hR) (fun a => bwt_at m c t 2 a k C hC))
  · show 6400 + (C : ℕ) = 6400 + 0 * 2048 + t.val / 8 * 256 + k; omega
  · show 8448 + (C : ℕ) = 6400 + 1 * 2048 + t.val / 8 * 256 + k; omega
  · show 10496 + (C : ℕ) = 6400 + 2 * 2048 + t.val / 8 * 256 + k; omega

/-- What point `t` leaves in the second result's block is the reference's rounded gate weights at the place of the block. -/
theorem point10 (c : Dev nD) (t : Fin cfg0.N) (n : Fin 3) (r : Fin 2048) (k : Fin 256) (C : Fin 2048) (hC : (C : ℕ) = t.val / 8 * 256 + k) :
    gwt (F := Ideal) m c t (ix3 n r k) = gateW (m ((c : Thread nD τ).loc main_arg4)) (ix3 n r C) :=
  (gwt_at m c t n r k _ (by show 6400 + ((n : ℕ) * 2048 + (C : ℕ)) = _; omega)).trans (gateW_at _ n r C).symm

/-- What point `t` leaves in the third result's block is the reference's rounded branch weights at the place of the block. -/
theorem point11 (c : Dev nD) (t : Fin cfg0.N) (n : Fin 3) (r : Fin 1024) (k : Fin 256) (C : Fin 2048) (hC : (C : ℕ) = t.val / 8 * 256 + k) :
    bwt (F := Ideal) m c t (ix3 n r k) = branchW (m ((c : Thread nD τ).loc main_arg5)) (ix3 n r C) :=
  (bwt_at m c t n r k C hC).trans (by pointwise [branchW])

/-- What point `t` leaves in the fourth result's block is the reference's rounded output weights at the place of the block. -/
theorem point12 (c : Dev nD) (t : Fin cfg0.N) (r : Fin 32) (k : Fin 2048) (R : Fin 2048) (C : Fin 2048) (hR : (R : ℕ) = t.val * 32 + r) (hC : (C : ℕ) = k) :
    k0_pay2 (F := Ideal) (iblk m c 8 t) (ix2 r k) = outW (m ((c : Thread nD τ).loc main_arg6)) (ix2 R C) := by
  pointwise [k0_pay2, outW]
  exact iblk8 m c t r k R C hR hC

/-- After the run the first result is the reference's mix. -/
theorem final9 (c : Dev nD) : (dats m 0 c).arrAt 9 (cfgs 0).N
    = mixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after9]
  refine ((congrArg _ (eq_ix2 (y : S1024x256.Idx))).trans (point9 m c t _ _ ((win0_9.rect t).emb y 0) ((win0_9.rect t).emb y 1) ?_ ?_)).trans
    (congrArg (mixed _ _ _ _ _ _) (eq_ix2 ((win0_9.rect t).emb y)).symm)
  · rw [Pipeline.Window.rect_emb_val_off, (idx t).2.2.2.2.2.2.2.2.2.1]; rfl
  · rw [Pipeline.Window.rect_emb_val_off, (idx t).2.2.2.2.2.2.2.2.2.1]; rfl

/-- After the run the second result is the reference's rounded gate weights. -/
theorem final10 (c : Dev nD) : (dats m 0 c).arrAt 10 (cfgs 0).N = gateW (m ((c : Thread nD τ).loc main_arg4)) := by
  refine (dats m 0 c).arrAt_eq_of_covers 10 _ (by decide +kernel) fun t _ y => ?_
  blk_simp
  rw [after10]
  have e0 : ((win0_10.rect t).emb y 0 : Fin 3) = (y 0 : Fin 3) := Fin.ext (by
    rw [Pipeline.Window.rect_emb_val_off, (idx t).2.2.2.2.2.2.2.2.2.2.1]; show 0 * 3 + (y 0 : ℕ) = (y 0 : ℕ); omega)
  have e1 : ((win0_10.rect t).emb y 1 : Fin 2048) = (y 1 : Fin 2048) := Fin.ext (by
    rw [Pipeline.Window.rect_emb_val_off, (idx t).2.2.2.2.2.2.2.2.2.2.1]; show 0 * 2048 + (y 1 : ℕ) = (y 1 : ℕ); omega)
  refine ((congrArg _ (eq_ix3 (y : S3x2048x256.Idx))).trans (point10 m c t _ _ _ ((win0_10.rect t).emb y 2) ?_)).trans
    (congrArg (gateW _) ((congrArg₂ (fun (i : Fin 3) (j : Fin 2048) => ix3 i j ((win0_10.rect t).emb y 2 : Fin 2048)) e0.symm e1.symm).trans (eq_ix3 ((win0_10.rect t).emb y)).symm))
  rw [Pipeline.Window.rect_emb_val_off, (idx t).2.2.2.2.2.2.2.2.2.2.1]; rfl

/-- After the run the third result is the reference's rounded branch weights. -/
theorem final11 (c : Dev nD) : (dats m 0 c).arrAt 11 (cfgs 0).N = branchW (m ((c : Thread nD τ).loc main_arg5)) := by
  refine (dats m 0 c).arrAt_eq_of_covers 11 _ (by decide +kernel) fun t _ y => ?_
  blk_simp
  rw [after11]
  have e0 : ((win0_11.rect t).emb y 0 : Fin 3) = (y 0 : Fin 3) := Fin.ext (by
    rw [Pipeline.Window.rect_emb_val_off, (idx t).2.2.2.2.2.2.2.2.2.2.2.1]; show 0 * 3 + (y 0 : ℕ) = (y 0 : ℕ); omega)
  have e1 : ((win0_11.rect t).emb y 1 : Fin 1024) = (y 1 : Fin 1024) := Fin.ext (by
    rw [Pipeline.Window.rect_emb_val_off, (idx t).2.2.2.2.2.2.2.2.2.2.2.1]; show 0 * 1024 + (y 1 : ℕ) = (y 1 : ℕ); omega)
  refine ((congrArg _ (eq_ix3 (y : S3x1024x256.Idx))).trans (point11 m c t _ _ _ ((win0_11.rect t).emb y 2) ?_)).trans
    (congrArg (branchW _) ((congrArg₂ (fun (i : Fin 3) (j : Fin 1024) => ix3 i j ((win0_11.rect t).emb y 2 : Fin 2048)) e0.symm e1.symm).trans (eq_ix3 ((win0_11.rect t).emb y)).symm))
  rw [Pipeline.Window.rect_emb_val_off, (idx t).2.2.2.2.2.2.2.2.2.2.2.1]; rfl

/-- After the run the fourth result is the reference's rounded output weights. -/
theorem final12 (c : Dev nD) : (dats m 0 c).arrAt 12 (cfgs 0).N = outW (m ((c : Thread nD τ).loc main_arg6)) := by
  refine (dats m 0 c).arrAt_eq_of_covers 12 _ (by decide +kernel) fun t _ y => ?_
  blk_simp
  rw [after12]
  refine ((congrArg _ (eq_ix2 (y : S32x2048.Idx))).trans (point12 m c t _ _ ((win0_12.rect t).emb y 0) ((win0_12.rect t).emb y 1) ?_ ?_)).trans
    (congrArg (outW _) (eq_ix2 ((win0_12.rect t).emb y)).symm)
  · rw [Pipeline.Window.rect_emb_val_off, (idx t).2.2.2.2.2.2.2.2.2.2.2.2.1]; rfl
  · rw [Pipeline.Window.rect_emb_val_off, (idx t).2.2.2.2.2.2.2.2.2.2.2.2.1]; show 0 * 2048 + (y 1 : ℕ) = _; omega

end Cert.GateIdeal.Value

end
-- ==== Proof.NormValue.lean ====
module

public import proofs.«01_k».proof.Proof.Gen.NormIdeal.Frame
public import proofs.«01_k».proof.Proof.Gen.NormRefIdeal.Run
public import Idealize.ShloMosaic.Lib.Pipeline.ValueKit
public import Idealize.ShloMosaic.Lib.Pointwise
public import Idealize.ShloMosaic.Lib.Claim

/-! # The normalisation of the prompt's rows

Blocks of 1024 rows, each row divided by its root mean square and scaled. -/

@[expose] public section

set_option maxRecDepth 16384

noncomputable section

open Idealize.ShloMosaic Idealize.ShloMosaic.TcCoe Idealize.SL.Sem
open Idealize.ShloMosaic.Pipeline (Dat)

namespace Cert.NormRefIdeal.Spec
open Cert.NormRefIdeal Cert.NormRefIdeal.Gen

/-- The reference's root-mean-square normalisation of the rows of `X`, scaled by `g` and rounded. -/
def rms (X : FVec Ideal S8192x2048 .f32) (g : FVec Ideal S2048 .f32) : FVec Ideal S8192x2048 .bf16 :=
  truncf .bf16 (mulf (mulf X (broadcastInDim S8192x2048 ![0, 1] bcast_S8192x1_S8192x2048_0_1 (Host.rsqrt (addf (Host.divf (broadcastInDim S8192x1 ![0] bcast_S8192_S8192x1_0
    (Host.reduceAdd (mulf X X) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))) bitsLt_bf16_f32

end Cert.NormRefIdeal.Spec

namespace Cert.NormIdeal.Value
open Cert.NormIdeal Cert.NormIdeal.Gen
open Cert.NormRefIdeal.Spec

variable (m : (ℓ : Loc nD τ sig) → Buf (Elt Ideal) ℓ)

/-- Where the blocks lie: the rows and the result at row block `t`, the scale whole. -/
theorem idx : ∀ t : Fin cfg0.N, win0_0.index t = ![t.val, 0] ∧ win0_1.index t = ![0, 0] ∧ win0_2.index t = ![t.val, 0] :=
  (by decide +kernel : ∀ t : Fin grid0.N, _)

/-- What point `t` leaves in the result's block is the reference's value at the place of the block. -/
theorem point2 (c : Dev nD) (t : Fin cfg0.N) (y) : k0_pay1 (iblk m c 0 t) (iblk m c 1 t) y
    = rms (m ((c : Thread nD τ).loc main_arg0)) (m ((c : Thread nD τ).loc main_arg1)) (((cfg0.win 2).blk t).view.emb y) := by
  pointwise [k0_pay1, rms]
  blk_point [iblk, V, idx t]

/-- After the run the result is the reference's. -/
theorem final2 (c : Dev nD) : (dats m 0 c).arrAt 2 (cfgs 0).N
    = rms (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

end Cert.NormIdeal.Value

end
-- ==== Proof.NormSValue.lean ====
module

public import proofs.«01_k».proof.Proof.Gen.NormSIdeal.Frame
public import proofs.«01_k».proof.Proof.Gen.NormSRefIdeal.Run
public import Idealize.ShloMosaic.Lib.Pipeline.ValueKit
public import Idealize.ShloMosaic.Lib.Pointwise
public import Idealize.ShloMosaic.Lib.Claim

/-! # The normalisation of 1024 rows, the memory's or the sample batch's

Blocks of 1024 rows, each row divided by its root mean square and scaled. -/

@[expose] public section

set_option maxRecDepth 16384

noncomputable section

open Idealize.ShloMosaic Idealize.ShloMosaic.TcCoe Idealize.SL.Sem
open Idealize.ShloMosaic.Pipeline (Dat)

namespace Cert.NormSRefIdeal.Spec
open Cert.NormSRefIdeal Cert.NormSRefIdeal.Gen

/-- The reference's root-mean-square normalisation of the rows of `X`, scaled by `g` and rounded. -/
def rms (X : FVec Ideal S1024x2048 .f32) (g : FVec Ideal S2048 .f32) : FVec Ideal S1024x2048 .bf16 :=
  truncf .bf16 (mulf (mulf X (broadcastInDim S1024x2048 ![0, 1] bcast_S1024x1_S1024x2048_0_1 (Host.rsqrt (addf (Host.divf (broadcastInDim S1024x1 ![0] bcast_S1024_S1024x1_0
    (Host.reduceAdd (mulf X X) (constant S_ .f32 0x00000000#32) reducesTo_S1024x2048_S1024_d1 h_S_)) (broadcastInDim S1024x1 ![] bcast_S_S1024x1 (constant S_ .f32 0x45000000#32)))
    (broadcastInDim S1024x1 ![] bcast_S_S1024x1 (constant S_ .f32 0x358637BD#32))))))
    (broadcastInDim S1024x2048 ![0, 1] bcast_S1x2048_S1024x2048_0_1 (broadcastInDim S1x2048 ![1] bcast_S2048_S1x2048_1 g))) bitsLt_bf16_f32

end Cert.NormSRefIdeal.Spec

namespace Cert.NormSIdeal.Value
open Cert.NormSIdeal Cert.NormSIdeal.Gen
open Cert.NormSRefIdeal.Spec

variable (m : (ℓ : Loc nD τ sig) → Buf (Elt Ideal) ℓ)

/-- Where the blocks lie: the rows and the result at row block `t`, the scale whole. -/
theorem idx : ∀ t : Fin cfg0.N, win0_0.index t = ![t.val, 0] ∧ win0_1.index t = ![0, 0] ∧ win0_2.index t = ![t.val, 0] :=
  (by decide +kernel : ∀ t : Fin grid0.N, _)

/-- What point `t` leaves in the result's block is the reference's value at the place of the block. -/
theorem point2 (c : Dev nD) (t : Fin cfg0.N) (y) : k0_pay1 (iblk m c 0 t) (iblk m c 1 t) y
    = rms (m ((c : Thread nD τ).loc main_arg0)) (m ((c : Thread nD τ).loc main_arg1)) (((cfg0.win 2).blk t).view.emb y) := by
  pointwise [k0_pay1, rms]
  blk_point [iblk, V, idx t]

/-- After the run the result is the reference's. -/
theorem final2 (c : Dev nD) : (dats m 0 c).arrAt 2 (cfgs 0).N
    = rms (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

end Cert.NormSIdeal.Value

end
-- ==== Proof.WinSValue.lean ====
module

public import proofs.«01_k».proof.Proof.Gen.WinSIdeal.Frame
public import proofs.«01_k».proof.Proof.Gen.WinSRefIdeal.Run
public import Idealize.ShloMosaic.Lib.Pipeline.ValueKit
public import Idealize.ShloMosaic.Lib.Pointwise
public import Idealize.ShloMosaic.Lib.Claim

/-! # The input projection of the sample batch

Each block of 1280 columns is all the rows times the rounded weights of those columns. -/

@[expose] public section

set_option maxRecDepth 16384

noncomputable section

open Idealize.ShloMosaic Idealize.ShloMosaic.TcCoe Idealize.SL.Sem
open Idealize.ShloMosaic.Pipeline (Dat)

namespace Cert.WinSRefIdeal.Spec
open Cert.WinSRefIdeal Cert.WinSRefIdeal.Gen

/-- The reference's product of the rows `X` with the weights `W`. -/
def prod (X : FVec Ideal S1024x2048 .bf16) (W : FVec Ideal S2048x6400 .bf16) : FVec Ideal S1024x6400 .f32 :=
  Host.dotGeneral dot_S1024x2048_S2048x6400_S1024x6400_1_0_0_1_n_n none (extf .f32 X bitsLt_bf16_f32) (extf .f32 W bitsLt_bf16_f32)

end Cert.WinSRefIdeal.Spec

namespace Cert.WinSIdeal.Value
open Cert.WinSIdeal Cert.WinSIdeal.Gen
open Cert.WinSRefIdeal.Spec

variable (m : (ℓ : Loc nD τ sig) → Buf (Elt Ideal) ℓ)

/-- Where the blocks lie: the rows whole, the weights' columns from `1280 t`, the result's at column block `t`. -/
theorem idx : ∀ t : Fin cfg0.N, win0_0.index t = ![0, 0] ∧ win0_1.index t = ![0, t.val * 1280] ∧ win0_2.index t = ![0, t.val] :=
  (by decide +kernel : ∀ t : Fin grid0.N, _)

/-- What point `t` leaves in the result's block is the reference's product at the place of the block. -/
theorem point2 (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]
  · show ((win0_1.rect t).emb (ix2 k (y 1)) 0 : ℕ) = _
    rw [Pipeline.Window.rect_emb_val_off, (idx t).2.1]
    show 0 + (k : ℕ) = k; omega
  · show ((win0_1.rect t).emb (ix2 k (y 1)) 1 : ℕ) = _
    rw [Pipeline.Window.rect_emb_val_off, (idx t).2.1]
    rfl

/-- After the run the result is the reference's product. -/
theorem final2 (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

end Cert.WinSIdeal.Value

end
-- ==== Proof.WoutSValue.lean ====
module

public import proofs.«01_k».proof.Proof.Gen.WoutSIdeal.Frame
public import proofs.«01_k».proof.Proof.Gen.WoutSRefIdeal.Run
public import Idealize.ShloMosaic.Lib.Pipeline.ValueKit
public import Idealize.ShloMosaic.Lib.Pointwise
public import Idealize.ShloMosaic.Lib.Claim

/-! # The output projection with its residual, for the sample batch

Blocks of 512 rows: each is multiplied by the whole output matrix, normalised, scaled and added to the residual stream;
the sum is normalised once more for the feed-forward block. Both results are the reference's, row by row. -/

@[expose] public section

set_option maxRecDepth 16384

noncomputable section

open Idealize.ShloMosaic Idealize.ShloMosaic.TcCoe Idealize.SL.Sem
open Idealize.ShloMosaic.Pipeline (Dat)

namespace Cert.WoutSRefIdeal.Spec
open Cert.WoutSRefIdeal Cert.WoutSRefIdeal.Gen

/-- The reference's product of the rows `X` with the weights `W`. -/
def prod (X : FVec Ideal S1024x2048 .bf16) (W : FVec Ideal S2048x2048 .bf16) : FVec Ideal S1024x2048 .f32 :=
  Host.dotGeneral dot_S1024x2048_S2048x2048_S1024x2048_1_0_0_1_n_n none (extf .f32 X bitsLt_bf16_f32) (extf .f32 W bitsLt_bf16_f32)

/-- The reference's root-mean-square normalisation of the rows of `X`, scaled by `g`. -/
def rms (X : FVec Ideal S1024x2048 .f32) (g : FVec Ideal S2048 .f32) : FVec Ideal S1024x2048 .f32 :=
  mulf (mulf X (broadcastInDim S1024x2048 ![0, 1] bcast_S1024x1_S1024x2048_0_1 (Host.rsqrt (addf (Host.divf (broadcastInDim S1024x1 ![0] bcast_S1024_S1024x1_0
    (Host.reduceAdd (mulf X X) (constant S_ .f32 0x00000000#32) reducesTo_S1024x2048_S1024_d1 h_S_)) (broadcastInDim S1024x1 ![] bcast_S_S1024x1 (constant S_ .f32 0x45000000#32)))
    (broadcastInDim S1024x1 ![] bcast_S_S1024x1 (constant S_ .f32 0x358637BD#32))))))
    (broadcastInDim S1024x2048 ![0, 1] bcast_S1x2048_S1024x2048_0_1 (broadcastInDim S1x2048 ![1] bcast_S2048_S1x2048_1 g))

/-- The residual sum: `H` plus the normalised product. -/
def res (X : FVec Ideal S1024x2048 .bf16) (W : FVec Ideal S2048x2048 .bf16) (H : FVec Ideal S1024x2048 .f32) (g : FVec Ideal S2048 .f32) :
    FVec Ideal S1024x2048 .f32 := addf H (rms (prod X W) g)

/-- The residual sum normalised once more, for the next block of the layer. -/
def normed (X : FVec Ideal S1024x2048 .bf16) (W : FVec Ideal S2048x2048 .bf16) (H : FVec Ideal S1024x2048 .f32) (g g' : FVec Ideal S2048 .f32) :
    FVec Ideal S1024x2048 .bf16 := truncf .bf16 (rms (res X W H g) g') bitsLt_bf16_f32

end Cert.WoutSRefIdeal.Spec

namespace Cert.WoutSIdeal.Value
open Cert.WoutSIdeal Cert.WoutSIdeal.Gen
open Cert.WoutSRefIdeal.Spec

variable (m : (ℓ : Loc nD τ sig) → Buf (Elt Ideal) ℓ)

/-- Where the blocks lie: the row operands and the results at row block `t`, the weights and the scales whole. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- What point `t` leaves in the residual block is the reference's value at the place of the block. -/
theorem point5 (c : Dev nD) (t : Fin cfg0.N) (y) : k0_pay1 (iblk m c 0 t) (iblk m c 1 t) (iblk m c 2 t) (iblk m c 3 t) y
    = res (m ((c : Thread nD τ).loc main_arg0)) (m ((c : Thread nD τ).loc main_arg1)) (m ((c : Thread nD τ).loc main_arg2))
      (m ((c : Thread nD τ).loc main_arg3)) (((cfg0.win 5).blk t).view.emb y) := by
  pointwise [k0_pay1, res, rms, prod]
  blk_point [iblk, V, idx t]

/-- After the run the residual array is the reference's. -/
theorem final5 (c : Dev nD) : (dats m 0 c).arrAt 5 (cfgs 0).N
    = res (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]; frame_out
  exact point5 m c t y

/-- What point `t` leaves in the normalised block is the reference's value at the place of the block. -/
theorem point6 (c : Dev nD) (t : Fin cfg0.N) (y) : k0_pay2 (iblk m c 0 t) (iblk m c 1 t) (iblk m c 2 t) (iblk m c 3 t) (iblk m c 4 t) y
    = normed (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 6).blk t).view.emb y) := by
  pointwise [k0_pay2, k0_pay1, normed, res, rms, prod]
  blk_point [iblk, V, idx t]

/-- After the run the normalised array is the reference's. -/
theorem final6 (c : Dev nD) : (dats m 0 c).arrAt 6 (cfgs 0).N
    = normed (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]; frame_out
  exact point6 m c t y

end Cert.WoutSIdeal.Value

end
-- ==== Proof.DownSValue.lean ====
module

public import proofs.«01_k».proof.Proof.Gen.DownSIdeal.Frame
public import proofs.«01_k».proof.Proof.Gen.DownSRefIdeal.Run
public import Idealize.ShloMosaic.Lib.Pipeline.ValueKit
public import Idealize.ShloMosaic.Lib.Pointwise
public import Idealize.ShloMosaic.Lib.Claim

/-! # The feed-forward block's down projection with its residual, for the sample batch

Blocks of 256 rows: each is multiplied by the whole down matrix, normalised, scaled and added to the residual stream.
The result is the reference's, row by row. -/

@[expose] public section

set_option maxRecDepth 16384

noncomputable section

open Idealize.ShloMosaic Idealize.ShloMosaic.TcCoe Idealize.SL.Sem
open Idealize.ShloMosaic.Pipeline (Dat)

namespace Cert.DownSRefIdeal.Spec
open Cert.DownSRefIdeal Cert.DownSRefIdeal.Gen

/-- The reference's product of the rows `X` with the weights `W`. -/
def prod (X : FVec Ideal S1024x5632 .bf16) (W : FVec Ideal S5632x2048 .bf16) : FVec Ideal S1024x2048 .f32 :=
  Host.dotGeneral dot_S1024x5632_S5632x2048_S1024x2048_1_0_0_1_n_n none (extf .f32 X bitsLt_bf16_f32) (extf .f32 W bitsLt_bf16_f32)

/-- The reference's root-mean-square normalisation of the rows of `X`, scaled by `g`. -/
def rms (X : FVec Ideal S1024x2048 .f32) (g : FVec Ideal S2048 .f32) : FVec Ideal S1024x2048 .f32 :=
  mulf (mulf X (broadcastInDim S1024x2048 ![0, 1] bcast_S1024x1_S1024x2048_0_1 (Host.rsqrt (addf (Host.divf (broadcastInDim S1024x1 ![0] bcast_S1024_S1024x1_0
    (Host.reduceAdd (mulf X X) (constant S_ .f32 0x00000000#32) reducesTo_S1024x2048_S1024_d1 h_S_)) (broadcastInDim S1024x1 ![] bcast_S_S1024x1 (constant S_ .f32 0x45000000#32)))
    (broadcastInDim S1024x1 ![] bcast_S_S1024x1 (constant S_ .f32 0x358637BD#32))))))
    (broadcastInDim S1024x2048 ![0, 1] bcast_S1x2048_S1024x2048_0_1 (broadcastInDim S1x2048 ![1] bcast_S2048_S1x2048_1 g))

/-- The residual sum: `H` plus the normalised product. -/
def res (X : FVec Ideal S1024x5632 .bf16) (W : FVec Ideal S5632x2048 .bf16) (H : FVec Ideal S1024x2048 .f32) (g : FVec Ideal S2048 .f32) :
    FVec Ideal S1024x2048 .f32 := addf H (rms (prod X W) g)

end Cert.DownSRefIdeal.Spec

namespace Cert.DownSIdeal.Value
open Cert.DownSIdeal Cert.DownSIdeal.Gen
open Cert.DownSRefIdeal.Spec

variable (m : (ℓ : Loc nD τ sig) → Buf (Elt Ideal) ℓ)

/-- Where the blocks lie: the row operands and the results at row block `t`, the weights and the scales whole. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- What point `t` leaves in the residual block is the reference's value at the place of the block. -/
theorem point5 (c : Dev nD) (t : Fin cfg0.N) (y) : k0_pay1 (iblk m c 0 t) (iblk m c 1 t) (iblk m c 2 t) (iblk m c 3 t) y
    = res (m ((c : Thread nD τ).loc main_arg0)) (m ((c : Thread nD τ).loc main_arg1)) (m ((c : Thread nD τ).loc main_arg2))
      (m ((c : Thread nD τ).loc main_arg3)) (((cfg0.win 5).blk t).view.emb y) := by
  pointwise [k0_pay1, res, rms, prod]
  blk_point [iblk, V, idx t]

/-- After the run the residual array is the reference's. -/
theorem final5 (c : Dev nD) : (dats m 0 c).arrAt 5 (cfgs 0).N
    = res (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]; frame_out
  exact point5 m c t y

end Cert.DownSIdeal.Value

end
-- ==== Proof.SguSValue.lean ====
module

public import proofs.«01_k».proof.Proof.Gen.SguSIdeal.Frame
public import proofs.«01_k».proof.Proof.Gen.SguSRefIdeal.Run
public import Idealize.ShloMosaic.Lib.Pipeline.ValueKit
public import Idealize.ShloMosaic.Lib.Pointwise
public import Idealize.ShloMosaic.Lib.Claim

/-! # The spatial gating's value rows for the sample batch

All 1024 rows are one block: the gate's second half of the projection goes through the activation, and each row of the outcome
is centred, divided by its deviation, scaled and shifted. -/

@[expose] public section

set_option maxRecDepth 16384

noncomputable section

open Idealize.ShloMosaic Idealize.ShloMosaic.TcCoe Idealize.SL.Sem
open Idealize.ShloMosaic.Pipeline (Dat)

namespace Cert.SguSRefIdeal.Spec
open Cert.SguSRefIdeal Cert.SguSRefIdeal.Gen

/-- The second half of the gate's columns of the projection. -/
def half (P : FVec Ideal S1024x6400 .f32) : FVec Ideal S1024x1024 .f32 :=
  extractStridedSlice S1024x1024 ![0, 4352] P slices_S1024x6400_S1024x1024_0_4352

/-- A constant at every place of an array. -/
def full (b : BitVec 32) : FVec Ideal S1024x1024 .f32 := broadcastInDim S1024x1024 ![] bcast_S_S1024x1024 (constant S_ .f32 b)

/-- A constant at every place of a column. -/
def fullc (b : BitVec 32) : FVec Ideal S1024x1 .f32 := broadcastInDim S1024x1 ![] bcast_S_S1024x1 (constant S_ .f32 b)

/-- The activation. -/
def gelu (X : FVec Ideal S1024x1024 .f32) : FVec Ideal S1024x1024 .f32 :=
  mulf X (mulf (full 0x3F000000#32) (addf (full 0x3F800000#32) (Host.tanh (mulf (full 0x3F4C422A#32) (addf X (mulf (full 0x3D372713#32) (mulf (mulf X X) X)))))))

/-- The mean of each row. -/
def mean (X : FVec Ideal S1024x1024 .f32) : FVec Ideal S1024x1 .f32 :=
  Host.divf (broadcastInDim S1024x1 ![0] bcast_S1024_S1024x1_0 (Host.reduceAdd X (constant S_ .f32 0x00000000#32) reducesTo_S1024x1024_S1024_d1 h_S_)) (fullc 0x44800000#32)

/-- Each row less its mean. -/
def centred (X : FVec Ideal S1024x1024 .f32) : FVec Ideal S1024x1024 .f32 :=
  subf X (broadcastInDim S1024x1024 ![0, 1] bcast_S1024x1_S1024x1024_0_1 (mean X))

/-- The reciprocal deviation of each row, of the rows less their means. -/
def rdev (D : FVec Ideal S1024x1024 .f32) : FVec Ideal S1024x1 .f32 :=
  Host.rsqrt (addf (mean (mulf D D)) (fullc 0x3727C5AC#32))

/-- The centred rows divided by their deviations, scaled and shifted. -/
def scaled (D : FVec Ideal S1024x1024 .f32) (r : FVec Ideal S1024x1 .f32) (g b : FVec Ideal S1024 .f32) : FVec Ideal S1024x1024 .f32 :=
  addf (mulf (mulf D (broadcastInDim S1024x1024 ![0, 1] bcast_S1024x1_S1024x1024_0_1 r))
    (broadcastInDim S1024x1024 ![0, 1] bcast_S1x1024_S1024x1024_0_1 (broadcastInDim S1x1024 ![1] bcast_S1024_S1x1024_1 g)))
    (broadcastInDim S1024x1024 ![0, 1] bcast_S1x1024_S1024x1024_0_1 (broadcastInDim S1x1024 ![1] bcast_S1024_S1x1024_1 b))

/-- The value rows. -/
def rows (P : FVec Ideal S1024x6400 .f32) (g b : FVec Ideal S1024 .f32) : FVec Ideal S1024x1024 .f32 :=
  scaled (centred (gelu (half P))) (rdev (centred (gelu (half P)))) g b

end Cert.SguSRefIdeal.Spec

namespace Cert.SguSIdeal.Value
open Cert.SguSIdeal Cert.SguSIdeal.Gen
open Cert.SguSRefIdeal.Spec

variable (m : (ℓ : Loc nD τ sig) → Buf (Elt Ideal) ℓ)

/-- Where the blocks lie: the gate's second half from column 4352, the gain, the shift and the result whole. -/
theorem idx : ∀ t : Fin cfg0.N, win0_1.index t = ![0, 4352] ∧ win0_2.index t = ![0, 0] ∧ win0_3.index t = ![0, 0]
    ∧ win0_7.index t = ![0, 0] :=
  (by decide +kernel : ∀ t : Fin grid0.N, _)

/-- The block of the gate's second half is the projection's columns from 4352. -/
theorem iblk1 (c : Dev nD) (t : Fin cfg0.N) : (show FVec Ideal S1024x1024 .f32 from iblk m c 1 t) = half (m ((c : Thread nD τ).loc main_arg0)) := by
  funext y
  unfold half
  pointwise []
  blk_ext [iblk, V, idx t]
  · show ((win0_1.rect t).emb y 0 : ℕ) = _
    rw [Pipeline.Window.rect_emb_val_off, (idx t).1]
    show 0 + (y 0 : ℕ) = y 0; omega
  · show ((win0_1.rect t).emb y 1 : ℕ) = _
    rw [Pipeline.Window.rect_emb_val_off, (idx t).1]
    rfl

/-- The kernel's centred activation is the reference's. -/
theorem centred_eq (X : FVec Ideal S1024x1024 .f32) : k0_pay7 (F := Ideal) X = centred (gelu X) := by
  funext y
  have h : ∀ a : EReal, a * (a * a) = a * a * a := fun a => mul_comm _ _
  pointwise [k0_pay7, centred, gelu, mean, full, fullc]
  simp only [h]

/-- The kernel's reciprocal deviation is the reference's. -/
theorem rdev_eq (X : FVec Ideal S1024x1024 .f32) : k0_pay8 (F := Ideal) X = rdev (centred (gelu X)) := by
  unfold k0_pay8
  simp only [centred_eq]
  funext y
  pointwise [rdev, mean, fullc]

/-- What point `t` leaves in the value rows' block is the reference's at the place of the block. -/
theorem point7 (c : Dev nD) (t : Fin cfg0.N) (y) : k0_pay9 (k0_pay7 (iblk m c 1 t)) (k0_pay8 (iblk m c 1 t)) (iblk m c 2 t) (iblk m c 3 t) y
    = rows (m ((c : Thread nD τ).loc main_arg0)) (m ((c : Thread nD τ).loc main_arg1)) (m ((c : Thread nD τ).loc main_arg2)) (((cfg0.win 7).blk t).view.emb y) := by
  rw [show iblk m c 1 t = half (m ((c : Thread nD τ).loc main_arg0)) from iblk1 m c t, centred_eq, rdev_eq]
  unfold rows
  pointwise [k0_pay9, scaled]
  blk_point [iblk, V, idx t]

/-- What the body leaves in the value rows' block, of the blocks it reads. -/
theorem out7 (x0 x1 : Vec Ideal S1024x1024 .f32) (x2 x3 : Vec Ideal S1x1024 .f32) (x4 : Vec Ideal S8x128x128 .f32) (x5 : Vec Ideal S8x8x128 .f32) :
    out0_7 x0 x1 x2 x3 x4 x5 = k0_pay9 (k0_pay7 x1) (k0_pay8 x1) x2 x3 := by
  unfold out0_7 k0_pay63 k0_pay62
  rw [View.ld_unit_lit _ x1 (by decide), View.ld_unit_lit _ x2 (by decide), View.ld_unit_lit _ x3 (by decide)]
  exact View.canon_cons_unit_lit (Val := Elt Ideal) _ _ [] (by decide)

/-- After the run the value rows are the reference's. -/
theorem final7 (c : Dev nD) : (dats m 0 c).arrAt 7 (cfgs 0).N
    = rows (m ((c : Thread nD τ).loc main_arg0)) (m ((c : Thread nD τ).loc main_arg1)) (m ((c : Thread nD τ).loc main_arg2)) := by
  refine (dats m 0 c).arrAt_eq_of_covers 7 _ (by decide +kernel) fun t _ y => ?_
  refine Eq.trans (congrFun ((after0_7 m c t).trans (out7 _ _ _ _ _ _)) y) ?_
  exact point7 m c t y

end Cert.SguSIdeal.Value

end
-- ==== Proof.SguSpec.lean ====
module

public import proofs.«01_k».proof.Proof.Gen.SguRefIdeal.Run
public import Idealize.ShloMosaic.Lib.Pipeline.ValueKit
public import Idealize.ShloMosaic.Lib.Pointwise
public import Idealize.ShloMosaic.Lib.Claim

/-! # The prompt's spatial gating in the reference

The gate's first half goes through the activation. The second half goes through the activation, is normalised by row, and is
mixed along each chunk of 128 rows by causal weights, one set for each of eight groups of columns. -/

@[expose] public section

set_option maxRecDepth 16384

noncomputable section

open Idealize.ShloMosaic Idealize.ShloMosaic.TcCoe Idealize.SL.Sem
open Idealize.ShloMosaic.Pipeline (Dat)

namespace Cert.SguRefIdeal.Spec
open Cert.SguRefIdeal Cert.SguRefIdeal.Gen

/-- The first half of the gate's columns of the projection. -/
def left (P : FVec Ideal S8192x6400 .f32) : FVec Ideal S8192x1024 .f32 :=
  extractStridedSlice S8192x1024 ![0, 3328] P slices_S8192x6400_S8192x1024_0_3328

/-- The second half of the gate's columns of the projection. -/
def half (P : FVec Ideal S8192x6400 .f32) : FVec Ideal S8192x1024 .f32 :=
  extractStridedSlice S8192x1024 ![0, 4352] P slices_S8192x6400_S8192x1024_0_4352

/-- A constant at every place of an array. -/
def full (b : BitVec 32) : FVec Ideal S8192x1024 .f32 := broadcastInDim S8192x1024 ![] bcast_S_S8192x1024 (constant S_ .f32 b)

/-- A constant at every place of a column. -/
def fullc (b : BitVec 32) : FVec Ideal S8192x1 .f32 := broadcastInDim S8192x1 ![] bcast_S_S8192x1 (constant S_ .f32 b)

/-- The activation. -/
def gelu (X : FVec Ideal S8192x1024 .f32) : FVec Ideal S8192x1024 .f32 :=
  mulf X (mulf (full 0x3F000000#32) (addf (full 0x3F800000#32) (Host.tanh (mulf (full 0x3F4C422A#32) (addf X (mulf (full 0x3D372713#32) (mulf (mulf X X) X)))))))

/-- The mean of each row. -/
def mean (X : FVec Ideal S8192x1024 .f32) : FVec Ideal S8192x1 .f32 :=
  Host.divf (broadcastInDim S8192x1 ![0] bcast_S8192_S8192x1_0 (Host.reduceAdd X (constant S_ .f32 0x00000000#32) reducesTo_S8192x1024_S8192_d1 h_S_)) (fullc 0x44800000#32)

/-- Each row less its mean. -/
def centred (X : FVec Ideal S8192x1024 .f32) : FVec Ideal S8192x1024 .f32 :=
  subf X (broadcastInDim S8192x1024 ![0, 1] bcast_S8192x1_S8192x1024_0_1 (mean X))

/-- The reciprocal deviation of each row, of the rows less their means. -/
def rdev (D : FVec Ideal S8192x1024 .f32) : FVec Ideal S8192x1 .f32 :=
  Host.rsqrt (addf (mean (mulf D D)) (fullc 0x3727C5AC#32))

/-- The centred rows divided by their deviations, scaled and shifted. -/
def scaled (D : FVec Ideal S8192x1024 .f32) (r : FVec Ideal S8192x1 .f32) (g b : FVec Ideal S1024 .f32) : FVec Ideal S8192x1024 .f32 :=
  addf (mulf (mulf D (broadcastInDim S8192x1024 ![0, 1] bcast_S8192x1_S8192x1024_0_1 r))
    (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (broadcastInDim S1x1024 ![1] bcast_S1024_S1x1024_1 b))

/-- The value rows. -/
def rows (P : FVec Ideal S8192x6400 .f32) (g b : FVec Ideal S1024 .f32) : FVec Ideal S8192x1024 .f32 :=
  scaled (centred (gelu (half P))) (rdev (centred (gelu (half P)))) g b

/-- The weights of the rows up to each row. -/
def causal (w : FVec Ideal S8x128x128 .f32) : FVec Ideal S8x128x128 .f32 :=
  select (broadcastInDim S8x128x128 ![1, 2] bcast_S128x128_S8x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) w (broadcastInDim S8x128x128 ![] bcast_S_S8x128x128 (constant S_ .f32 0x00000000#32))

/-- The value rows mixed along each chunk, in chunks and groups. -/
def mix (V : FVec Ideal S8192x1024 .f32) (w : FVec Ideal S8x128x128 .f32) : FVec Ideal S4x16x128x8x128 .f32 :=
  transpose S4x16x128x8x128 [1, 2, 4, 0, 3] (Host.dotGeneral dot_S4x16x128x8x128_S8x128x128_S8x4x16x128x128_2_2_014_1_3_0 none (shapeCast S4x16x128x8x128 V shapeCasts_S8192x1024_S4x16x128x8x128) w) transposes_S8x4x16x128x128_S4x16x128x8x128_1_2_4_0_3

/-- The shift of each group, at every place. -/
def shift (b : FVec Ideal S8x128 .f32) : FVec Ideal S4x16x128x8x128 .f32 :=
  broadcastInDim S4x16x128x8x128 ![0, 1, 2, 3, 4] bcast_S1x1x128x8x1_S4x16x128x8x128_0_1_2_3_4 (broadcastInDim S1x1x128x8x1 ![2, 3] bcast_S128x8_S1x1x128x8x1_2_3 (transpose S128x8 [1, 0] b transposes_S8x128_S128x8_1_0))

/-- The gated rows of a gate and of value rows. -/
def gateWith (U : FVec Ideal S8192x1024 .f32) (T : FVec Ideal S4x16x128x8x128 .f32) : FVec Ideal S8192x1024 .bf16 :=
  truncf .bf16 (mulf U (shapeCast S8192x1024 T shapeCasts_S4x16x128x8x128_S8192x1024)) bitsLt_bf16_f32

/-- The gated rows. -/
def gated (P : FVec Ideal S8192x6400 .f32) (g b : FVec Ideal S1024 .f32) (w : FVec Ideal S8x128x128 .f32) (sb : FVec Ideal S8x128 .f32) : FVec Ideal S8192x1024 .bf16 :=
  gateWith (gelu (left P)) (addf (mix (rows P g b) (causal w)) (shift sb))

/-- The activation of a number. -/
def ge (x : EReal) : EReal :=
  x * ((Scalar.ofBits (F := Ideal) .f32 0x3F000000#32 : EReal) * ((Scalar.ofBits (F := Ideal) .f32 0x3F800000#32 : EReal)
    + Ideal.tanh ((Scalar.ofBits (F := Ideal) .f32 0x3F4C422A#32 : EReal) * (x + (Scalar.ofBits (F := Ideal) .f32 0x3D372713#32 : EReal) * (x * (x * x))))))

/-- The activation at an index. -/
theorem gelu_at (X : FVec Ideal S8192x1024 .f32) (y : S8192x1024.Idx) : gelu X y = ge (X y) := by
  unfold ge
  rw [← mul_assoc (X y) (X y) (X y)]
  pointwise [gelu, full]

/-- A number at the rows up to a row, zero past them. -/
def pick (i k : ℕ) (x : EReal) : EReal := Scalar.select (IntOp.cmpi CmpIPredicate.sge (BitVec.ofNat 32 i) (BitVec.ofNat 32 k)) x 0

/-- The weights at an index. -/
theorem causal_at (w : FVec Ideal S8x128x128 .f32) (g : Fin 8) (i k : Fin 128) :
    causal w (ix3 g i k) = pick i k (w (ix3 g i k)) := by
  have h1 : ∀ b : BitVec 1, Scalar.select b 1#1 0#1 = b := by decide
  have h2 : ∀ a : BitVec 32, IntOp.addi a 0#32 = a := fun a => BitVec.add_zero a
  pointwise [causal, pick]
  rw [h1, h2]

/-- The shift at an index. -/
theorem shift_at (b : FVec Ideal S8x128 .f32) (n : Fin 4) (c : Fin 16) (t : Fin 128) (g : Fin 8) (j : Fin 128) :
    shift b (ix5 n c t g j) = b (ix2 g t) := by
  pointwise [shift]

/-- The mixed rows at an index. -/
theorem mix_at (V : FVec Ideal S8192x1024 .f32) (w : FVec Ideal S8x128x128 .f32) (n : Fin 4) (c : Fin 16) (t : Fin 128) (g : Fin 8) (j : Fin 128) :
    mix V w (ix5 n c t g j) = ∑ k : Fin 128, w (ix3 g t k) * V (ix2 (⟨(n * 16 + c) * 128 + k, by omega⟩ : Fin 8192) (⟨g * 128 + j, by omega⟩ : Fin 1024)) := by
  pointwise [mix]
  refine Finset.sum_congr rfl fun k _ => ?_
  rw [mul_comm]
  refine congrArg (fun r : Fin 8192 => w (ix3 g t k) * V (ix2 r _)) (Fin.ext ?_)
  show (n : ℕ) * 2048 + c * 128 + k = (n * 16 + c) * 128 + k
  omega

/-- The gated rows at an index. -/
theorem gateWith_at (U : FVec Ideal S8192x1024 .f32) (T : FVec Ideal S4x16x128x8x128 .f32) (n : Fin 4) (c : Fin 16) (t : Fin 128) (g : Fin 8) (j : Fin 128) :
    gateWith U T (ix2 (⟨(n * 16 + c) * 128 + t, by omega⟩ : Fin 8192) (⟨g * 128 + j, by omega⟩ : Fin 1024))
      = U (ix2 (⟨(n * 16 + c) * 128 + t, by omega⟩ : Fin 8192) (⟨g * 128 + j, by omega⟩ : Fin 1024)) * T (ix5 n c t g j) := by
  pointwise [gateWith]

/-- The mean of a row. -/
def mu (f : Fin 1024 → EReal) : EReal := Ideal.div (∑ k, f k) (Scalar.ofBits (F := Ideal) .f32 0x44800000#32 : EReal)

/-- A value of a row, normalised, scaled and shifted. -/
def normAt (f : Fin 1024 → EReal) (g b : EReal) (C : Fin 1024) : EReal :=
  ((f C - mu f) * Ideal.rsqrt (mu (fun k => (f k - mu f) * (f k - mu f)) + (Scalar.ofBits (F := Ideal) .f32 0x3727C5AC#32 : EReal))) * g + b

/-- The normalisation at an index. -/
theorem scaled_at (X : FVec Ideal S8192x1024 .f32) (g b : FVec Ideal S1024 .f32) (R : Fin 8192) (C : Fin 1024) :
    scaled (centred X) (rdev (centred X)) g b (ix2 R C) = normAt (fun k => X (ix2 R k)) (g (ix1 C)) (b (ix1 C)) C := by
  pointwise [scaled, centred, rdev, mean, fullc, normAt, mu]

/-- A gated value: the gate times the shifted sum of weighted value rows. -/
def gatedAt (u b : EReal) (w v : Fin 128 → EReal) : EReal := u * ((∑ k, w k * v k) + b)

/-- The gate's column of the projection. -/
theorem left_at (P : FVec Ideal S8192x6400 .f32) (R : Fin 8192) (C : Fin 1024) : left P (ix2 R C) = P (ix2 R (⟨3328 + C, by omega⟩ : Fin 6400)) := by
  pointwise [left]

/-- The value rows' column of the projection. -/
theorem half_at (P : FVec Ideal S8192x6400 .f32) (R : Fin 8192) (C : Fin 1024) : half P (ix2 R C) = P (ix2 R (⟨4352 + C, by omega⟩ : Fin 6400)) := by
  pointwise [half]

/-- The gated rows at an index. -/
theorem gated_at (P : FVec Ideal S8192x6400 .f32) (g b : FVec Ideal S1024 .f32) (w : FVec Ideal S8x128x128 .f32) (sb : FVec Ideal S8x128 .f32)
    (a : Fin 64) (i : Fin 128) (q : Fin 8) (j : Fin 128) :
    gated P g b w sb (ix2 (⟨a * 128 + i, by omega⟩ : Fin 8192) (⟨q * 128 + j, by omega⟩ : Fin 1024))
      = gatedAt (ge (P (ix2 (⟨a * 128 + i, by omega⟩ : Fin 8192) (⟨3328 + (q * 128 + j), by omega⟩ : Fin 6400)))) (sb (ix2 q i))
        (fun k => pick i k (w (ix3 q i k)))
        (fun k => normAt (fun C => ge (P (ix2 (⟨a * 128 + k, by omega⟩ : Fin 8192) (⟨4352 + C, by omega⟩ : Fin 6400))))
          (g (ix1 (⟨q * 128 + j, by omega⟩ : Fin 1024))) (b (ix1 (⟨q * 128 + j, by omega⟩ : Fin 1024))) (⟨q * 128 + j, by omega⟩ : Fin 1024)) := by
  obtain ⟨n, c, rfl⟩ : ∃ (n : Fin 4) (c : Fin 16), a = (⟨n * 16 + c, by omega⟩ : Fin 64) :=
    ⟨⟨a / 16, by omega⟩, ⟨a % 16, by omega⟩, Fin.ext (by show (a : ℕ) = a / 16 * 16 + a % 16; omega)⟩
  have ad : ∀ (x y : FVec Ideal S4x16x128x8x128 .f32) z, addf x y z = x z + y z := fun x y z => by pointwise
  refine (gateWith_at _ _ n c i q j).trans ?_
  rw [gelu_at, left_at, ad, mix_at, shift_at]
  unfold gatedAt
  refine congrArg (fun s : EReal => _ * (s + _)) (Finset.sum_congr rfl fun k _ => ?_)
  rw [causal_at]
  refine congrArg (fun s : EReal => pick i k (w (ix3 q i k)) * s) ?_
  unfold rows
  rw [scaled_at]
  refine congrArg (fun f => normAt f _ _ _) (funext fun C => ?_)
  rw [gelu_at, half_at]

end Cert.SguRefIdeal.Spec

end
-- ==== Proof.SguSGate.lean ====
module

public import proofs.«01_k».proof.Proof.SguSValue
public import proofs.«01_k».proof.Proof.SguSpec
public import Idealize.ShloMosaic.Lib.KernelVsHost

/-! # The spatial gating's gated rows for the sample batch

A batch has eight rows. The kernel mixes 256 rows at once, with a matrix of weights that repeats a group's first eight rows and
columns in blocks of eight along its diagonal and is zero outside them; the reference fills each batch's eight rows up with zeros
to a chunk of 128 rows, mixes the chunk, and keeps its first eight rows. -/

@[expose] public section

set_option maxRecDepth 16384

noncomputable section

open Idealize.ShloMosaic Idealize.ShloMosaic.TcCoe Idealize.SL.Sem
open Idealize.ShloMosaic.Pipeline (Dat)

namespace Cert.SguSRefIdeal.Spec
open Cert.SguSRefIdeal Cert.SguSRefIdeal.Gen
open Cert.SguRefIdeal.Spec (ge pick)

/-- The first half of the gate's columns of the projection. -/
def left (P : FVec Ideal S1024x6400 .f32) : FVec Ideal S1024x1024 .f32 :=
  extractStridedSlice S1024x1024 ![0, 3328] P slices_S1024x6400_S1024x1024_0_3328

/-- The weights of the rows up to each row of a chunk. -/
def causal (w : FVec Ideal S8x128x128 .f32) : FVec Ideal S8x128x128 .f32 :=
  select (broadcastInDim S8x128x128 ![1, 2] bcast_S128x128_S8x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) w (broadcastInDim S8x128x128 ![] bcast_S_S8x128x128 (constant S_ .f32 0x00000000#32))

/-- The value rows of each batch, filled up with zeros to a chunk of 128 rows. -/
def filled (V : FVec Ideal S1024x1024 .f32) : FVec Ideal S128x128x1024 .f32 :=
  pad S128x128x1024 ![0, 0, 0] ![0, 120, 0] ![0, 0, 0] (shapeCast S128x8x1024 V shapeCasts_S1024x1024_S128x8x1024) (sitofp .f32 (constantI S_ 32 0#32)) pads_S128x8x1024_S128x128x1024_000_01200_000 h_S_

/-- The rows of a chunk mixed within it, in chunks and groups. -/
def mix (X : FVec Ideal S128x128x1024 .f32) (w : FVec Ideal S8x128x128 .f32) : FVec Ideal S128x128x8x128 .f32 :=
  transpose S128x128x8x128 [1, 3, 0, 2] (Host.dotGeneral dot_S128x128x8x128_S8x128x128_S8x128x128x128_1_2_03_1_2_0 none (shapeCast S128x128x8x128 X shapeCasts_S128x128x1024_S128x128x8x128) w) transposes_S8x128x128x128_S128x128x8x128_1_3_0_2

/-- The shift of each group, at every place. -/
def shift (b : FVec Ideal S8x128 .f32) : FVec Ideal S128x128x8x128 .f32 :=
  broadcastInDim S128x128x8x128 ![0, 1, 2, 3] bcast_S1x128x8x1_S128x128x8x128_0_1_2_3 (broadcastInDim S1x128x8x1 ![1, 2] bcast_S128x8_S1x128x8x1_1_2 (transpose S128x8 [1, 0] b transposes_S8x128_S128x8_1_0))

/-- The gated rows of a gate and of mixed rows, of which the first eight of each chunk are kept. -/
def gateWith (U : FVec Ideal S1024x1024 .f32) (T : FVec Ideal S128x128x8x128 .f32) : FVec Ideal S1024x1024 .bf16 :=
  truncf .bf16 (mulf U (shapeCast S1024x1024 (extractStridedSlice S128x8x1024 ![0, 0, 0] (shapeCast S128x128x1024 T shapeCasts_S128x128x8x128_S128x128x1024) slices_S128x128x1024_S128x8x1024_0_0_0) shapeCasts_S128x8x1024_S1024x1024)) bitsLt_bf16_f32

/-- The gated rows. -/
def gated (P : FVec Ideal S1024x6400 .f32) (g b : FVec Ideal S1024 .f32) (w : FVec Ideal S8x128x128 .f32) (sb : FVec Ideal S8x128 .f32) : FVec Ideal S1024x1024 .bf16 :=
  gateWith (gelu (left P)) (addf (mix (filled (rows P g b)) (causal w)) (shift sb))

/-- The weights at an index. -/
theorem causal_at (w : FVec Ideal S8x128x128 .f32) (g : Fin 8) (i k : Fin 128) :
    causal w (ix3 g i k) = pick i k (w (ix3 g i k)) := by
  have h1 : ∀ b : BitVec 1, Scalar.select b 1#1 0#1 = b := by decide
  have h2 : ∀ a : BitVec 32, IntOp.addi a 0#32 = a := fun a => BitVec.add_zero a
  pointwise [causal, pick]
  rw [h1, h2]

/-- The shift at an index. -/
theorem shift_at (b : FVec Ideal S8x128 .f32) (n t : Fin 128) (g : Fin 8) (j : Fin 128) :
    shift b (ix4 n t g j) = b (ix2 g t) := by
  pointwise [shift]

/-- A filled chunk at one of its first eight rows is the batch's row. -/
theorem filled_row (V : FVec Ideal S1024x1024 .f32) (n : Fin 128) (k : Fin 8) (C : Fin 1024) :
    filled V (ix3 n (⟨k, by omega⟩ : Fin 128) C) = V (ix2 (⟨n * 8 + k, by omega⟩ : Fin 1024) C) := by
  unfold filled
  refine (pad_apply_of_inside _ _ _ _ _ _ _ _ (ix3 n k C) fun a => ?_).trans (by pointwise)
  match a with
  | 0 => show (n : ℕ) = 0 + n * 1; omega
  | 1 => show (k : ℕ) = 0 + k * 1; omega
  | 2 => show (C : ℕ) = 0 + C * 1; omega

/-- A filled chunk is zero at the others. -/
theorem filled_zero (V : FVec Ideal S1024x1024 .f32) (n k : Fin 128) (hk : 8 ≤ (k : ℕ)) (C : Fin 1024) : filled V (ix3 n k C) = 0 := by
  unfold filled
  refine (pad_apply_of_not_inside _ _ _ _ _ _ _ _ (1 : Fin 3) fun h => ?_).trans ?_
  · have h2 : ((k : ℕ) - 0) / (0 + 1) < 8 := h.2.2
    omega
  · show (((0#32 : BitVec 32).toInt : ℝ) : EReal) = 0
    rw [show (0#32 : BitVec 32).toInt = 0 from by decide]
    norm_num

/-- The mixed rows at an index. -/
theorem mix_at (X : FVec Ideal S128x128x1024 .f32) (w : FVec Ideal S8x128x128 .f32) (n t : Fin 128) (g : Fin 8) (j : Fin 128) :
    mix X w (ix4 n t g j) = ∑ k : Fin 128, w (ix3 g t k) * X (ix3 n k (⟨g * 128 + j, by omega⟩ : Fin 1024)) := by
  pointwise [mix]
  refine Finset.sum_congr rfl fun k _ => ?_
  rw [mul_comm]

/-- The gated rows at an index. -/
theorem gateWith_at (U : FVec Ideal S1024x1024 .f32) (T : FVec Ideal S128x128x8x128 .f32) (n : Fin 128) (t g : Fin 8) (j : Fin 128) :
    gateWith U T (ix2 (⟨n * 8 + t, by omega⟩ : Fin 1024) (⟨g * 128 + j, by omega⟩ : Fin 1024))
      = U (ix2 (⟨n * 8 + t, by omega⟩ : Fin 1024) (⟨g * 128 + j, by omega⟩ : Fin 1024)) * T (ix4 n (⟨t, by omega⟩ : Fin 128) g j) := by
  pointwise [gateWith]

/-- A sum over a chunk that is zero after its first eight rows is the sum over them. -/
theorem sum_chunk (f : Fin 128 → EReal) (h : ∀ k : Fin 128, 8 ≤ (k : ℕ) → f k = 0) : ∑ k, f k = ∑ k : Fin 8, f ⟨k, by omega⟩ := by
  have e := Fin.sum_univ_add (a := 8) (b := 120) f
  refine e.trans ?_
  rw [Finset.sum_eq_zero (s := (Finset.univ : Finset (Fin 120))) fun k _ => h _ (by show 8 ≤ 8 + (k : ℕ); omega), add_zero]
  rfl

/-- A gated value: the gate times the shifted sum of eight weighted value rows. -/
def gatedAt (u b : EReal) (w v : Fin 8 → EReal) : EReal := u * ((∑ k, w k * v k) + b)

/-- The gated rows at an index. -/
theorem gated_at (P : FVec Ideal S1024x6400 .f32) (g b : FVec Ideal S1024 .f32) (w : FVec Ideal S8x128x128 .f32) (sb : FVec Ideal S8x128 .f32)
    (n : Fin 128) (t q : Fin 8) (j : Fin 128) :
    gated P g b w sb (ix2 (⟨n * 8 + t, by omega⟩ : Fin 1024) (⟨q * 128 + j, by omega⟩ : Fin 1024))
      = gatedAt (gelu (left P) (ix2 (⟨n * 8 + t, by omega⟩ : Fin 1024) (⟨q * 128 + j, by omega⟩ : Fin 1024))) (sb (ix2 q (⟨t, by omega⟩ : Fin 128)))
        (fun k => pick t k (w (ix3 q (⟨t, by omega⟩ : Fin 128) (⟨k, by omega⟩ : Fin 128))))
        (fun k => rows P g b (ix2 (⟨n * 8 + k, by omega⟩ : Fin 1024) (⟨q * 128 + j, by omega⟩ : Fin 1024))) := by
  have ad : ∀ (x y : FVec Ideal S128x128x8x128 .f32) z, addf x y z = x z + y z := fun x y z => by pointwise
  refine (gateWith_at _ _ n t q j).trans ?_
  rw [ad, mix_at, shift_at, sum_chunk _ fun k hk => by rw [filled_zero _ n k hk, mul_zero]]
  unfold gatedAt
  refine congrArg (fun s : EReal => _ * (s + _)) (Finset.sum_congr rfl fun k _ => ?_)
  rw [causal_at, filled_row]

end Cert.SguSRefIdeal.Spec

namespace Cert.SguSIdeal.Value
open Cert.SguSIdeal Cert.SguSIdeal.Gen
open Cert.SguRefIdeal.Spec (pick)
open Cert.SguSRefIdeal.Spec (gatedAt)

/-- A tile: the gate's tile times the mixed and shifted tile of the value rows. -/
def tile (U V : FVec Ideal S1024x1024 .f32) (W : FVec Ideal S256x256 .bf16) (B : FVec Ideal S256x128 .f32) (off : Fin 2 → ℕ)
    (h : S1024x1024.Slices off S256x128) : FVec Ideal S256x128 .bf16 :=
  truncf .bf16 (mulf (extractStridedSlice S256x128 off U h)
    (addf (matmul dot_S256x256_S256x128_S256x128_1_0_0_1_n_n none W (truncf .bf16 (extractStridedSlice S256x128 off V h) bitsLt_bf16_f32)
      (constant S256x128 .f32 0x00000000#32)) B)) bitsLt_bf16_f32

/-- A tile at an index. -/
theorem tile_at (U V : FVec Ideal S1024x1024 .f32) (W : FVec Ideal S256x256 .bf16) (B : FVec Ideal S256x128 .f32) (a : Fin 4) (g : Fin 8)
    (h : S1024x1024.Slices ![(a : ℕ) * 256, (g : ℕ) * 128] S256x128) (i : Fin 256) (j : Fin 128) :
    tile U V W B ![(a : ℕ) * 256, (g : ℕ) * 128] h (ix2 i j)
      = U (ix2 (⟨a * 256 + i, by omega⟩ : Fin 1024) (⟨g * 128 + j, by omega⟩ : Fin 1024)) *
        ((∑ k : Fin 256, W (ix2 i k) * V (ix2 (⟨a * 256 + k, by omega⟩ : Fin 1024) (⟨g * 128 + j, by omega⟩ : Fin 1024))) + B (ix2 i j)) := by
  pointwise [tile]

/-- The place of a row among the eight of its batch, one at it and zero elsewhere. -/
theorem place_at (i : Fin 256) (p : Fin 8) : k0_pay11 (F := Ideal) (ix2 i p) = if p = (⟨i % 8, by omega⟩ : Fin 8) then 1 else 0 := by
  have hb : ∀ (i : Fin 256) (p : Fin 8), IntOp.cmpi CmpIPredicate.eq (IntOp.andi (BitVec.ofNat 32 i) 7#32) (BitVec.ofNat 32 p)
      = if p = (⟨i % 8, by omega⟩ : Fin 8) then 1#1 else 0#1 := by decide +kernel
  have h1 : (FloatOps.sitofp (F := Ideal) .f32 (BitVec.setWidth 32 1#1) : EReal) = 1 := by
    show (((BitVec.setWidth 32 1#1).toInt : ℝ) : EReal) = 1
    rw [show (BitVec.setWidth 32 1#1).toInt = 1 from by decide]
    norm_num
  have h0 : (FloatOps.sitofp (F := Ideal) .f32 (BitVec.setWidth 32 0#1) : EReal) = 0 := by
    show (((BitVec.setWidth 32 0#1).toInt : ℝ) : EReal) = 0
    rw [show (BitVec.setWidth 32 0#1).toInt = 0 from by decide]
    norm_num
  pointwise [k0_pay11]
  rw [hb]
  split
  · exact h1
  · exact h0

/-- The repeated shift at an index. -/
theorem bias_at (b : Vec Ideal S1x8x128 .f32) (i : Fin 256) (j : Fin 128) :
    k0_pay12 (F := Ideal) b (ix2 i j) = b (ix3 0 (⟨i % 8, by omega⟩ : Fin 8) j) := by
  have e : k0_pay12 (F := Ideal) b (ix2 i j) = ∑ p : Fin 8, k0_pay11 (F := Ideal) (ix2 i p) * b (ix3 0 p j) := by
    pointwise [k0_pay12]
  rw [e]
  simp only [place_at, ite_mul, one_mul, zero_mul, Finset.sum_ite_eq', Finset.mem_univ, if_true]

/-- The rows a row's mixing reads: those of its batch up to it. -/
theorem keep_at : ∀ i k : Fin 256, k0_pay10 (ix2 i k) = if (i : ℕ) / 8 = k / 8 then IntOp.cmpi CmpIPredicate.sge (BitVec.ofNat 32 (i % 8)) (BitVec.ofNat 32 (k % 8)) else 0#1 := by
  have hs : ∀ i : Fin 256, IntOp.shrsi ArithUnit.vector (BitVec.ofNat 32 i) 3#32 = BitVec.ofNat 32 (i / 8) := by decide +kernel
  have he : ∀ a b : Fin 32, IntOp.cmpi CmpIPredicate.eq (BitVec.ofNat 32 a) (BitVec.ofNat 32 b) = if (a : ℕ) = b then 1#1 else 0#1 := by decide +kernel
  have hg : ∀ (q : Fin 32) (s t : Fin 8), IntOp.cmpi CmpIPredicate.sge (BitVec.ofNat 32 (q * 8 + s)) (BitVec.ofNat 32 (q * 8 + t))
      = IntOp.cmpi CmpIPredicate.sge (BitVec.ofNat 32 s) (BitVec.ofNat 32 t) := by decide +kernel
  have h1 : ∀ b : BitVec 1, IntOp.andi b 1#1 = b := by decide
  have h0 : ∀ b : BitVec 1, IntOp.andi b 0#1 = 0#1 := by decide
  intro i k
  pointwise [k0_pay10]
  rw [hs, hs, he (⟨i / 8, by omega⟩ : Fin 32) (⟨k / 8, by omega⟩ : Fin 32)]
  by_cases h : (i : ℕ) / 8 = k / 8
  · rw [if_pos h, if_pos h, h1]
    refine Eq.trans ?_ (hg (⟨i / 8, by omega⟩ : Fin 32) (⟨i % 8, by omega⟩ : Fin 8) (⟨k % 8, by omega⟩ : Fin 8))
    show IntOp.cmpi CmpIPredicate.sge (BitVec.ofNat 32 i) (BitVec.ofNat 32 k)
      = IntOp.cmpi CmpIPredicate.sge (BitVec.ofNat 32 ((i : ℕ) / 8 * 8 + i % 8)) (BitVec.ofNat 32 ((i : ℕ) / 8 * 8 + k % 8))
    rw [show (i : ℕ) / 8 * 8 + i % 8 = i from by omega, show (i : ℕ) / 8 * 8 + k % 8 = k from by omega]
  · rw [if_neg h, if_neg h, h0]

/-- The repeated weights at an index. -/
theorem weights_at (w : Vec Ideal S1x128x128 .f32) (i k : Fin 256) :
    k0_pay13 (F := Ideal) w (ix2 i k) = if (i : ℕ) / 8 = k / 8 then pick (i % 8) (k % 8) (w (ix3 0 (⟨i % 8, by omega⟩ : Fin 128) (⟨k % 8, by omega⟩ : Fin 128))) else 0 := by
  have e : k0_pay13 (F := Ideal) w (ix2 i k) = Scalar.select (k0_pay10 (ix2 i k))
      (∑ q : Fin 8, (∑ p : Fin 8, k0_pay11 (F := Ideal) (ix2 i p) * w (ix3 0 (⟨p, by omega⟩ : Fin 128) (⟨q, by omega⟩ : Fin 128))) * k0_pay11 (F := Ideal) (ix2 k q)) 0 := by
    pointwise [k0_pay13]
  rw [e, keep_at]
  simp only [place_at, ite_mul, mul_ite, mul_one, mul_zero, one_mul, zero_mul, Finset.sum_ite_eq', Finset.mem_univ, if_true]
  have hz : ∀ x : EReal, Scalar.select 0#1 x 0 = 0 := fun x => rfl
  unfold pick
  by_cases h : (i : ℕ) / 8 = k / 8
  · rw [if_pos h, if_pos h]
  · rw [if_neg h, if_neg h, hz]

/-- A sum over 256 rows of terms that are zero outside the batch of row `i` is the sum over that batch. -/
theorem sum_batch (i : Fin 256) (f : Fin 256 → EReal) :
    (∑ k : Fin 256, (if (i : ℕ) / 8 = k / 8 then f k else 0)) = ∑ s : Fin 8, f (⟨i / 8 * 8 + s, by omega⟩ : Fin 256) := by
  rw [← Finset.sum_filter]
  refine (Finset.sum_bij (fun (s : Fin 8) _ => (⟨i / 8 * 8 + s, by omega⟩ : Fin 256)) ?_ ?_ ?_ ?_).symm
  · intro s _
    refine Finset.mem_filter.mpr ⟨Finset.mem_univ _, ?_⟩
    show (i : ℕ) / 8 = (i / 8 * 8 + s) / 8
    omega
  · intro s _ s' _ h
    have h' : (i : ℕ) / 8 * 8 + s = i / 8 * 8 + s' := congrArg Fin.val h
    exact Fin.ext (by omega)
  · intro k hk
    have h : (i : ℕ) / 8 = k / 8 := (Finset.mem_filter.mp hk).2
    refine ⟨⟨k % 8, by omega⟩, Finset.mem_univ _, Fin.ext ?_⟩
    show (i : ℕ) / 8 * 8 + k % 8 = k
    omega
  · intro s _
    rfl

end Cert.SguSIdeal.Value

end
-- ==== Proof.SguSTiles.lean ====
module

public import proofs.«01_k».proof.Proof.SguSGate

/-! # The sample batch's gated rows, from their tiles

The block is written as 32 tiles of 256 rows and 128 columns; together they are the reference's gated rows. -/

@[expose] public section

set_option maxRecDepth 16384

noncomputable section

open Idealize.ShloMosaic Idealize.ShloMosaic.TcCoe Idealize.SL.Sem
open Idealize.ShloMosaic.Pipeline (Dat)

namespace Cert.SguSIdeal.Value
open Cert.SguSIdeal Cert.SguSIdeal.Gen
open Cert.SguRefIdeal.Spec (pick)
open Cert.SguSRefIdeal.Spec (gatedAt gated gated_at gelu full left rows)

variable (m : (ℓ : Loc nD τ sig) → Buf (Elt Ideal) ℓ)

/-- One slice of the eight of the weights, at an index. -/
theorem slice4_at (X : Vec Ideal S8x128x128 .f32) (g : Fin 8) (inb : ∀ a, (![(g : ℕ), 0, 0] : Fin 3 → ℕ) a + S1x128x128.size a ≤ S8x128x128.size a) (i k : Fin 128) :
    (View.ld X (Rect.unit (s := S8x128x128) ![(g : ℕ), 0, 0] S1x128x128.size inb) : Vec Ideal S1x128x128 .f32) (ix3 0 i k) = X (ix3 g i k) := by
  refine congrArg X (funext fun a => Fin.ext ?_)
  match a with
  | 0 => show (g : ℕ) + 0 * 1 = g; omega
  | 1 => show 0 + 1 * (i : ℕ) = i; omega
  | 2 => show 0 + 1 * (k : ℕ) = k; omega

/-- One slice of the eight of the shifts, at an index. -/
theorem slice5_at (X : Vec Ideal S8x8x128 .f32) (g : Fin 8) (inb : ∀ a, (![(g : ℕ), 0, 0] : Fin 3 → ℕ) a + S1x8x128.size a ≤ S8x8x128.size a) (i : Fin 8) (k : Fin 128) :
    (View.ld X (Rect.unit (s := S8x8x128) ![(g : ℕ), 0, 0] S1x8x128.size inb) : Vec Ideal S1x8x128 .f32) (ix3 0 i k) = X (ix3 g i k) := by
  refine congrArg X (funext fun a => Fin.ext ?_)
  match a with
  | 0 => show (g : ℕ) + 0 * 1 = g; omega
  | 1 => show 0 + 1 * (i : ℕ) = i; omega
  | 2 => show 0 + 1 * (k : ℕ) = k; omega

/-- What the body leaves at a row and a column of the block, of the gate, the value rows, the weights and the shifts. -/
def madeAt (U V : FVec Ideal S1024x1024 .f32) (x4 : Vec Ideal S8x128x128 .f32) (x5 : Vec Ideal S8x8x128 .f32) (r C : Fin 1024) : EReal :=
  gatedAt (U (ix2 r C)) (x5 (ix3 (⟨C / 128, by omega⟩ : Fin 8) (⟨r % 8, by omega⟩ : Fin 8) (⟨C % 128, by omega⟩ : Fin 128)))
    (fun k => pick (r % 8) k (x4 (ix3 (⟨C / 128, by omega⟩ : Fin 8) (⟨r % 8, by omega⟩ : Fin 128) (⟨k, by omega⟩ : Fin 128))))
    (fun k => V (ix2 (⟨r / 8 * 8 + k, by omega⟩ : Fin 1024) C))

/-- What the body leaves in the block. -/
def made (U V : FVec Ideal S1024x1024 .f32) (x4 : Vec Ideal S8x128x128 .f32) (x5 : Vec Ideal S8x8x128 .f32) : Vec Ideal S1024x1024 .bf16 :=
  fun y => madeAt U V x4 x5 (y 0) (y 1)

/-- A tile of the block is what the body leaves there. -/
theorem piece_at (x0 x1 : Vec Ideal S1024x1024 .f32) (x2 x3 : Vec Ideal S1x1024 .f32) (x4 : Vec Ideal S8x128x128 .f32) (x5 : Vec Ideal S8x8x128 .f32)
    (a : Fin 4) (g : Fin 8) (oa og q : ℕ) (hoa : oa = a * 256) (hog : og = g * 128) (hq : q = g) (h : S1024x1024.Slices ![oa, og] S256x128)
    (inb : ∀ i, (![oa, og] : Fin 2 → ℕ) i + S256x128.size i ≤ S1024x1024.size i)
    (inb4 : ∀ i, (![q, 0, 0] : Fin 3 → ℕ) i + S1x128x128.size i ≤ S8x128x128.size i)
    (inb5 : ∀ i, (![q, 0, 0] : Fin 3 → ℕ) i + S1x8x128.size i ≤ S8x8x128.size i) (x : S256x128.Idx) :
    tile (k0_pay61 x0 x1 x2 x3 x4 x5) (k0_pay64 x0 x1 x2 x3 x4 x5)
      (k0_pay13 (View.ld x4 (Rect.unit (s := S8x128x128) ![q, 0, 0] S1x128x128.size inb4)))
      (k0_pay12 (View.ld x5 (Rect.unit (s := S8x8x128) ![q, 0, 0] S1x8x128.size inb5))) ![oa, og] h x
      = made (k0_pay6 x0) (k0_pay9 (k0_pay7 x1) (k0_pay8 x1) x2 x3) x4 x5 ((Rect.unit (s := S1024x1024) ![oa, og] S256x128.size inb).emb x) := by
  subst hoa hog hq
  have h0 : k0_pay61 x0 x1 x2 x3 x4 x5 = k0_pay6 x0 := by
    unfold k0_pay61
    rw [View.ld_unit_lit _ x0 (by decide)]
  have h1 : k0_pay64 x0 x1 x2 x3 x4 x5 = k0_pay9 (k0_pay7 x1) (k0_pay8 x1) x2 x3 := by
    unfold k0_pay64 k0_pay63 k0_pay62
    rw [View.ld_unit_lit _ x1 (by decide), View.ld_unit_lit _ x2 (by decide), View.ld_unit_lit _ x3 (by decide)]
  rw [h0, h1]
  generalize k0_pay6 (F := Ideal) x0 = U
  generalize k0_pay9 (F := Ideal) (k0_pay7 x1) (k0_pay8 x1) x2 x3 = V
  obtain ⟨i, j, rfl⟩ : ∃ (i : Fin 256) (j : Fin 128), x = ix2 i j := ⟨x 0, x 1, eq_ix2 x⟩
  have he : (Rect.unit (s := S1024x1024) ![(a : ℕ) * 256, (g : ℕ) * 128] S256x128.size inb).emb (ix2 i j)
      = ix2 (⟨a * 256 + i, by omega⟩ : Fin 1024) (⟨g * 128 + j, by omega⟩ : Fin 1024) := by
    refine funext fun b => Fin.ext ?_
    match b with
    | 0 => show (a : ℕ) * 256 + 1 * (i : ℕ) = a * 256 + i; omega
    | 1 => show (g : ℕ) * 128 + 1 * (j : ℕ) = g * 128 + j; omega
  have hs := slice4_at x4 g inb4
  revert hs
  generalize (View.ld x4 (Rect.unit (s := S8x128x128) ![(g : ℕ), 0, 0] S1x128x128.size inb4) : Vec Ideal S1x128x128 .f32) = w4
  intro hs
  rw [he, tile_at, bias_at, slice5_at]
  simp only [weights_at, hs, ite_mul, zero_mul]
  rw [sum_batch i (fun k => pick (i % 8) (k % 8) (x4 (ix3 g (⟨i % 8, by omega⟩ : Fin 128) (⟨k % 8, by omega⟩ : Fin 128)))
    * V (ix2 (⟨a * 256 + k, by omega⟩ : Fin 1024) (⟨g * 128 + j, by omega⟩ : Fin 1024)))]
  show _ = madeAt U V x4 x5 (⟨a * 256 + i, by omega⟩ : Fin 1024) (⟨g * 128 + j, by omega⟩ : Fin 1024)
  have e1 : ∀ p, (⟨((g : ℕ) * 128 + j) / 128, p⟩ : Fin 8) = g := fun p => Fin.ext (by show ((g : ℕ) * 128 + j) / 128 = g; omega)
  have e2 : ((a : ℕ) * 256 + i) % 8 = i % 8 := by omega
  have e3 : ∀ p, (⟨((g : ℕ) * 128 + j) % 128, p⟩ : Fin 128) = j := fun p => Fin.ext (by show ((g : ℕ) * 128 + j) % 128 = j; omega)
  have e4 : ∀ k : Fin 8, ((i : ℕ) / 8 * 8 + k) % 8 = k := fun k => by omega
  have e5 : ∀ k : Fin 8, ((a : ℕ) * 256 + i) / 8 * 8 + k = a * 256 + (i / 8 * 8 + k) := fun k => by omega
  unfold madeAt gatedAt
  simp only [e1, e2, e3, e4, e5]

/-- What the 32 tiles leave in the block, of the blocks the body reads. -/
theorem out6 (x0 x1 : Vec Ideal S1024x1024 .f32) (x2 x3 : Vec Ideal S1x1024 .f32) (x4 : Vec Ideal S8x128x128 .f32) (x5 : Vec Ideal S8x8x128 .f32) (y : S1024x1024.Idx) :
    out0_6 x0 x1 x2 x3 x4 x5 y = made (k0_pay6 x0) (k0_pay9 (k0_pay7 x1) (k0_pay8 x1) x2 x3) x4 x5 y := by
  refine View.canon_apply_of_pieces (Val := Elt Ideal) (made (k0_pay6 x0) (k0_pay9 (k0_pay7 x1) (k0_pay8 x1) x2 x3) x4 x5) _ ?_ y (cover0_6 _ _ _ _ _ _ _ _ _ _ _ _ _ _ _ _ _ _ _ _ _ _ _ _ _ _ _ _ _ _ _ _ y)
  refine List.forall_mem_cons.mpr ⟨piece_at x0 x1 x2 x3 x4 x5 3 7 768 896 7 rfl rfl rfl slices_S1024x1024_o768_896_S256x128 inb_S1024x1024_S256x128_768_896 inb_S8x128x128_S1x128x128_7_0_0 inb_S8x8x128_S1x8x128_7_0_0, ?_⟩
  refine List.forall_mem_cons.mpr ⟨piece_at x0 x1 x2 x3 x4 x5 2 7 512 896 7 rfl rfl rfl slices_S1024x1024_o512_896_S256x128 inb_S1024x1024_S256x128_512_896 inb_S8x128x128_S1x128x128_7_0_0 inb_S8x8x128_S1x8x128_7_0_0, ?_⟩
  refine List.forall_mem_cons.mpr ⟨piece_at x0 x1 x2 x3 x4 x5 1 7 256 896 7 rfl rfl rfl slices_S1024x1024_o256_896_S256x128 inb_S1024x1024_S256x128_256_896 inb_S8x128x128_S1x128x128_7_0_0 inb_S8x8x128_S1x8x128_7_0_0, ?_⟩
  refine List.forall_mem_cons.mpr ⟨piece_at x0 x1 x2 x3 x4 x5 0 7 0 896 7 rfl rfl rfl slices_S1024x1024_o0_896_S256x128 inb_S1024x1024_S256x128_0_896 inb_S8x128x128_S1x128x128_7_0_0 inb_S8x8x128_S1x8x128_7_0_0, ?_⟩
  refine List.forall_mem_cons.mpr ⟨piece_at x0 x1 x2 x3 x4 x5 3 6 768 768 6 rfl rfl rfl slices_S1024x1024_o768_768_S256x128 inb_S1024x1024_S256x128_768_768 inb_S8x128x128_S1x128x128_6_0_0 inb_S8x8x128_S1x8x128_6_0_0, ?_⟩
  refine List.forall_mem_cons.mpr ⟨piece_at x0 x1 x2 x3 x4 x5 2 6 512 768 6 rfl rfl rfl slices_S1024x1024_o512_768_S256x128 inb_S1024x1024_S256x128_512_768 inb_S8x128x128_S1x128x128_6_0_0 inb_S8x8x128_S1x8x128_6_0_0, ?_⟩
  refine List.forall_mem_cons.mpr ⟨piece_at x0 x1 x2 x3 x4 x5 1 6 256 768 6 rfl rfl rfl slices_S1024x1024_o256_768_S256x128 inb_S1024x1024_S256x128_256_768 inb_S8x128x128_S1x128x128_6_0_0 inb_S8x8x128_S1x8x128_6_0_0, ?_⟩
  refine List.forall_mem_cons.mpr ⟨piece_at x0 x1 x2 x3 x4 x5 0 6 0 768 6 rfl rfl rfl slices_S1024x1024_o0_768_S256x128 inb_S1024x1024_S256x128_0_768 inb_S8x128x128_S1x128x128_6_0_0 inb_S8x8x128_S1x8x128_6_0_0, ?_⟩
  refine List.forall_mem_cons.mpr ⟨piece_at x0 x1 x2 x3 x4 x5 3 5 768 640 5 rfl rfl rfl slices_S1024x1024_o768_640_S256x128 inb_S1024x1024_S256x128_768_640 inb_S8x128x128_S1x128x128_5_0_0 inb_S8x8x128_S1x8x128_5_0_0, ?_⟩
  refine List.forall_mem_cons.mpr ⟨piece_at x0 x1 x2 x3 x4 x5 2 5 512 640 5 rfl rfl rfl slices_S1024x1024_o512_640_S256x128 inb_S1024x1024_S256x128_512_640 inb_S8x128x128_S1x128x128_5_0_0 inb_S8x8x128_S1x8x128_5_0_0, ?_⟩
  refine List.forall_mem_cons.mpr ⟨piece_at x0 x1 x2 x3 x4 x5 1 5 256 640 5 rfl rfl rfl slices_S1024x1024_o256_640_S256x128 inb_S1024x1024_S256x128_256_640 inb_S8x128x128_S1x128x128_5_0_0 inb_S8x8x128_S1x8x128_5_0_0, ?_⟩
  refine List.forall_mem_cons.mpr ⟨piece_at x0 x1 x2 x3 x4 x5 0 5 0 640 5 rfl rfl rfl slices_S1024x1024_o0_640_S256x128 inb_S1024x1024_S256x128_0_640 inb_S8x128x128_S1x128x128_5_0_0 inb_S8x8x128_S1x8x128_5_0_0, ?_⟩
  refine List.forall_mem_cons.mpr ⟨piece_at x0 x1 x2 x3 x4 x5 3 4 768 512 4 rfl rfl rfl slices_S1024x1024_o768_512_S256x128 inb_S1024x1024_S256x128_768_512 inb_S8x128x128_S1x128x128_4_0_0 inb_S8x8x128_S1x8x128_4_0_0, ?_⟩
  refine List.forall_mem_cons.mpr ⟨piece_at x0 x1 x2 x3 x4 x5 2 4 512 512 4 rfl rfl rfl slices_S1024x1024_o512_512_S256x128 inb_S1024x1024_S256x128_512_512 inb_S8x128x128_S1x128x128_4_0_0 inb_S8x8x128_S1x8x128_4_0_0, ?_⟩
  refine List.forall_mem_cons.mpr ⟨piece_at x0 x1 x2 x3 x4 x5 1 4 256 512 4 rfl rfl rfl slices_S1024x1024_o256_512_S256x128 inb_S1024x1024_S256x128_256_512 inb_S8x128x128_S1x128x128_4_0_0 inb_S8x8x128_S1x8x128_4_0_0, ?_⟩
  refine List.forall_mem_cons.mpr ⟨piece_at x0 x1 x2 x3 x4 x5 0 4 0 512 4 rfl rfl rfl slices_S1024x1024_o0_512_S256x128 inb_S1024x1024_S256x128_0_512 inb_S8x128x128_S1x128x128_4_0_0 inb_S8x8x128_S1x8x128_4_0_0, ?_⟩
  refine List.forall_mem_cons.mpr ⟨piece_at x0 x1 x2 x3 x4 x5 3 3 768 384 3 rfl rfl rfl slices_S1024x1024_o768_384_S256x128 inb_S1024x1024_S256x128_768_384 inb_S8x128x128_S1x128x128_3_0_0 inb_S8x8x128_S1x8x128_3_0_0, ?_⟩
  refine List.forall_mem_cons.mpr ⟨piece_at x0 x1 x2 x3 x4 x5 2 3 512 384 3 rfl rfl rfl slices_S1024x1024_o512_384_S256x128 inb_S1024x1024_S256x128_512_384 inb_S8x128x128_S1x128x128_3_0_0 inb_S8x8x128_S1x8x128_3_0_0, ?_⟩
  refine List.forall_mem_cons.mpr ⟨piece_at x0 x1 x2 x3 x4 x5 1 3 256 384 3 rfl rfl rfl slices_S1024x1024_o256_384_S256x128 inb_S1024x1024_S256x128_256_384 inb_S8x128x128_S1x128x128_3_0_0 inb_S8x8x128_S1x8x128_3_0_0, ?_⟩
  refine List.forall_mem_cons.mpr ⟨piece_at x0 x1 x2 x3 x4 x5 0 3 0 384 3 rfl rfl rfl slices_S1024x1024_o0_384_S256x128 inb_S1024x1024_S256x128_0_384 inb_S8x128x128_S1x128x128_3_0_0 inb_S8x8x128_S1x8x128_3_0_0, ?_⟩
  refine List.forall_mem_cons.mpr ⟨piece_at x0 x1 x2 x3 x4 x5 3 2 768 256 2 rfl rfl rfl slices_S1024x1024_o768_256_S256x128 inb_S1024x1024_S256x128_768_256 inb_S8x128x128_S1x128x128_2_0_0 inb_S8x8x128_S1x8x128_2_0_0, ?_⟩
  refine List.forall_mem_cons.mpr ⟨piece_at x0 x1 x2 x3 x4 x5 2 2 512 256 2 rfl rfl rfl slices_S1024x1024_o512_256_S256x128 inb_S1024x1024_S256x128_512_256 inb_S8x128x128_S1x128x128_2_0_0 inb_S8x8x128_S1x8x128_2_0_0, ?_⟩
  refine List.forall_mem_cons.mpr ⟨piece_at x0 x1 x2 x3 x4 x5 1 2 256 256 2 rfl rfl rfl slices_S1024x1024_o256_256_S256x128 inb_S1024x1024_S256x128_256_256 inb_S8x128x128_S1x128x128_2_0_0 inb_S8x8x128_S1x8x128_2_0_0, ?_⟩
  refine List.forall_mem_cons.mpr ⟨piece_at x0 x1 x2 x3 x4 x5 0 2 0 256 2 rfl rfl rfl slices_S1024x1024_o0_256_S256x128 inb_S1024x1024_S256x128_0_256 inb_S8x128x128_S1x128x128_2_0_0 inb_S8x8x128_S1x8x128_2_0_0, ?_⟩
  refine List.forall_mem_cons.mpr ⟨piece_at x0 x1 x2 x3 x4 x5 3 1 768 128 1 rfl rfl rfl slices_S1024x1024_o768_128_S256x128 inb_S1024x1024_S256x128_768_128 inb_S8x128x128_S1x128x128_1_0_0 inb_S8x8x128_S1x8x128_1_0_0, ?_⟩
  refine List.forall_mem_cons.mpr ⟨piece_at x0 x1 x2 x3 x4 x5 2 1 512 128 1 rfl rfl rfl slices_S1024x1024_o512_128_S256x128 inb_S1024x1024_S256x128_512_128 inb_S8x128x128_S1x128x128_1_0_0 inb_S8x8x128_S1x8x128_1_0_0, ?_⟩
  refine List.forall_mem_cons.mpr ⟨piece_at x0 x1 x2 x3 x4 x5 1 1 256 128 1 rfl rfl rfl slices_S1024x1024_o256_128_S256x128 inb_S1024x1024_S256x128_256_128 inb_S8x128x128_S1x128x128_1_0_0 inb_S8x8x128_S1x8x128_1_0_0, ?_⟩
  refine List.forall_mem_cons.mpr ⟨piece_at x0 x1 x2 x3 x4 x5 0 1 0 128 1 rfl rfl rfl slices_S1024x1024_o0_128_S256x128 inb_S1024x1024_S256x128_0_128 inb_S8x128x128_S1x128x128_1_0_0 inb_S8x8x128_S1x8x128_1_0_0, ?_⟩
  refine List.forall_mem_cons.mpr ⟨piece_at x0 x1 x2 x3 x4 x5 3 0 768 0 0 rfl rfl rfl slices_S1024x1024_o768_0_S256x128 inb_S1024x1024_S256x128_768_0 inb_S8x128x128_S1x128x128_0_0_0 inb_S8x8x128_S1x8x128_0_0_0, ?_⟩
  refine List.forall_mem_cons.mpr ⟨piece_at x0 x1 x2 x3 x4 x5 2 0 512 0 0 rfl rfl rfl slices_S1024x1024_o512_0_S256x128 inb_S1024x1024_S256x128_512_0 inb_S8x128x128_S1x128x128_0_0_0 inb_S8x8x128_S1x8x128_0_0_0, ?_⟩
  refine List.forall_mem_cons.mpr ⟨piece_at x0 x1 x2 x3 x4 x5 1 0 256 0 0 rfl rfl rfl slices_S1024x1024_o256_0_S256x128 inb_S1024x1024_S256x128_256_0 inb_S8x128x128_S1x128x128_0_0_0 inb_S8x8x128_S1x8x128_0_0_0, ?_⟩
  refine List.forall_mem_cons.mpr ⟨piece_at x0 x1 x2 x3 x4 x5 0 0 0 0 0 rfl rfl rfl slices_S1024x1024_o0_0_S256x128 inb_S1024x1024_S256x128_0_0 inb_S8x128x128_S1x128x128_0_0_0 inb_S8x8x128_S1x8x128_0_0_0, ?_⟩
  intro p hp
  exact absurd hp List.not_mem_nil

/-- Where the other blocks lie: the gate's first half from column 3328, the weights, the shifts and the result whole. -/
theorem idx' : ∀ t : Fin cfg0.N, win0_0.index t = ![0, 3328] ∧ win0_4.index t = ![0, 0, 0] ∧ win0_5.index t = ![0, 0, 0] ∧ win0_6.index t = ![0, 0] :=
  (by decide +kernel : ∀ t : Fin grid0.N, _)

/-- The block of the gate's first half is the projection's columns from 3328. -/
theorem iblk0 (c : Dev nD) (t : Fin cfg0.N) : (show FVec Ideal S1024x1024 .f32 from iblk m c 0 t) = left (m ((c : Thread nD τ).loc main_arg0)) := by
  funext y
  unfold left
  pointwise []
  blk_ext [iblk, V, idx' t]
  · show ((win0_0.rect t).emb y 0 : ℕ) = _
    rw [Pipeline.Window.rect_emb_val_off, (idx' t).1]
    show 0 + (y 0 : ℕ) = y 0; omega
  · show ((win0_0.rect t).emb y 1 : ℕ) = _
    rw [Pipeline.Window.rect_emb_val_off, (idx' t).1]
    rfl

/-- The kernel's activation is the reference's. -/
theorem gate_eq (X : FVec Ideal S1024x1024 .f32) : k0_pay6 (F := Ideal) X = gelu X := by
  funext y
  have h : ∀ a : EReal, a * (a * a) = a * a * a := fun a => mul_comm _ _
  pointwise [k0_pay6, gelu, full]
  simp only [h]

/-- The weights' block. -/
theorem blk4 (c : Dev nD) (t : Fin cfg0.N) (g : Fin 8) (i k : Fin 128) :
    (show FVec Ideal S8x128x128 .f32 from iblk m c 4 t) (ix3 g i k) = (m ((c.tc : Thread nD τ).loc main_arg3) : FVec Ideal S8x128x128 .f32) (ix3 g i k) := by
  blk_point [iblk, V, idx' t]

/-- The shifts' block. -/
theorem blk5 (c : Dev nD) (t : Fin cfg0.N) (g i : Fin 8) (j : Fin 128) :
    (show FVec Ideal S8x8x128 .f32 from iblk m c 5 t) (ix3 g i j) = (m ((c.tc : Thread nD τ).loc main_arg4) : FVec Ideal S8x128 .f32) (ix2 g (⟨i, by omega⟩ : Fin 128)) := by
  blk_point [iblk, V, idx' t]

/-- The value rows' block is the whole array. -/
theorem emb7 (t : Fin cfg0.N) (y : S1024x1024.Idx) : (show S1024x1024.Idx from ((cfg0.win 7).blk t).view.emb y) = y := by
  refine funext fun b => Fin.ext ?_
  match b with
  | 0 =>
    show ((win0_7.rect t).emb y 0 : ℕ) = y 0
    rw [Pipeline.Window.rect_emb_val (w := win0_7) (hk := rfl), (idx t).2.2.2]
    show 0 * 1024 + (y 0 : ℕ) = y 0
    omega
  | 1 =>
    show ((win0_7.rect t).emb y 1 : ℕ) = y 1
    rw [Pipeline.Window.rect_emb_val (w := win0_7) (hk := rfl), (idx t).2.2.2]
    show 0 * 1024 + (y 1 : ℕ) = y 1
    omega

/-- So is the gated rows' block. -/
theorem emb6 (t : Fin cfg0.N) (y : S1024x1024.Idx) : (show S1024x1024.Idx from ((cfg0.win 6).blk t).view.emb y) = y := by
  refine funext fun b => Fin.ext ?_
  match b with
  | 0 =>
    show ((win0_6.rect t).emb y 0 : ℕ) = y 0
    rw [Pipeline.Window.rect_emb_val (w := win0_6) (hk := rfl), (idx' t).2.2.2]
    show 0 * 1024 + (y 0 : ℕ) = y 0
    omega
  | 1 =>
    show ((win0_6.rect t).emb y 1 : ℕ) = y 1
    rw [Pipeline.Window.rect_emb_val (w := win0_6) (hk := rfl), (idx' t).2.2.2]
    show 0 * 1024 + (y 1 : ℕ) = y 1
    omega

/-- The value rows of the blocks are the reference's. -/
theorem value_eq (c : Dev nD) (t : Fin cfg0.N) : k0_pay9 (k0_pay7 (iblk m c 1 t)) (k0_pay8 (iblk m c 1 t)) (iblk m c 2 t) (iblk m c 3 t)
    = rows (m ((c : Thread nD τ).loc main_arg0)) (m ((c : Thread nD τ).loc main_arg1)) (m ((c : Thread nD τ).loc main_arg2)) :=
  funext fun y => (point7 m c t y).trans (congrArg (rows (m ((c : Thread nD τ).loc main_arg0)) (m ((c : Thread nD τ).loc main_arg1)) (m ((c : Thread nD τ).loc main_arg2))) (emb7 t y))

/-- What point `t` leaves in the gated rows' block is the reference's. -/
theorem point6 (c : Dev nD) (t : Fin cfg0.N) (y : S1024x1024.Idx) :
    made (k0_pay6 (iblk m c 0 t)) (k0_pay9 (k0_pay7 (iblk m c 1 t)) (k0_pay8 (iblk m c 1 t)) (iblk m c 2 t) (iblk m c 3 t)) (iblk m c 4 t) (iblk m c 5 t) y
    = gated (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) y := by
  rw [value_eq, show iblk m c 0 t = left (m ((c : Thread nD τ).loc main_arg0)) from iblk0 m c t, gate_eq]
  obtain ⟨n, s, g, j, rfl⟩ : ∃ (n : Fin 128) (s g : Fin 8) (j : Fin 128), y = ix2 (⟨n * 8 + s, by omega⟩ : Fin 1024) (⟨g * 128 + j, by omega⟩ : Fin 1024) := by
    obtain ⟨r, C, rfl⟩ : ∃ (r C : Fin 1024), y = ix2 r C := ⟨y 0, y 1, eq_ix2 y⟩
    exact ⟨⟨r / 8, by omega⟩, ⟨r % 8, by omega⟩, ⟨C / 128, by omega⟩, ⟨C % 128, by omega⟩,
      congrArg₂ ix2 (Fin.ext (by show (r : ℕ) = r / 8 * 8 + r % 8; omega)) (Fin.ext (by show (C : ℕ) = C / 128 * 128 + C % 128; omega))⟩
  rw [gated_at]
  show madeAt _ _ _ _ (⟨n * 8 + s, by omega⟩ : Fin 1024) (⟨g * 128 + j, by omega⟩ : Fin 1024) = _
  have e1 : ∀ p, (⟨((g : ℕ) * 128 + j) / 128, p⟩ : Fin 8) = g := fun p => Fin.ext (by show ((g : ℕ) * 128 + j) / 128 = g; omega)
  have e2 : ∀ p, (⟨((n : ℕ) * 8 + s) % 8, p⟩ : Fin 8) = s := fun p => Fin.ext (by show ((n : ℕ) * 8 + s) % 8 = s; omega)
  have e2' : ((n : ℕ) * 8 + s) % 8 = s := by omega
  have e3 : ∀ p, (⟨((g : ℕ) * 128 + j) % 128, p⟩ : Fin 128) = j := fun p => Fin.ext (by show ((g : ℕ) * 128 + j) % 128 = j; omega)
  have e4 : ((n : ℕ) * 8 + s) / 8 = n := by omega
  unfold madeAt
  simp only [e1, e2, e2', e3, e4]
  refine congr (congr (congrArg (gatedAt _) ?_) (funext fun k => congrArg (pick s k) ?_)) rfl
  · exact blk5 m c t g s j
  · exact blk4 m c t g _ _

/-- After the run the gated rows are the reference's. -/
theorem final6 (c : Dev nD) : (dats m 0 c).arrAt 6 (cfgs 0).N
    = gated (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 6 _ (by decide +kernel) fun t _ y => ?_
  refine Eq.trans (congrFun (after0_6 m c t) y) ?_
  refine (out6 _ _ _ _ _ _ y).trans ((point6 m c t y).trans ?_)
  exact (congrArg (gated (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) (emb6 t y)).symm

end Cert.SguSIdeal.Value

end
-- ==== Proof.SguTile.lean ====
module

public import proofs.«01_k».proof.Proof.Gen.SguIdeal.Frame
public import proofs.«01_k».proof.Proof.SguSpec
public import Idealize.ShloMosaic.Lib.Pipeline.ValueKit
public import Idealize.ShloMosaic.Lib.Pointwise
public import Idealize.ShloMosaic.Lib.Claim

/-! # The tiles of the prompt's spatial gating

A block of 1024 rows and 1024 columns is written as 64 tiles of 128 rows and 128 columns. A tile's value rows are mixed along
the rows by the causal weights of its group of columns, shifted, and multiplied into the gate's rows. -/

@[expose] public section

set_option maxRecDepth 16384

noncomputable section

open Idealize.ShloMosaic Idealize.ShloMosaic.TcCoe Idealize.SL.Sem
open Idealize.ShloMosaic.Pipeline (Dat)

namespace Cert.SguIdeal.Value
open Cert.SguIdeal Cert.SguIdeal.Gen
open Cert.SguRefIdeal.Spec (ge pick mu normAt gatedAt)

/-- A tile: the gate's tile times the mixed and shifted tile of the value rows. -/
def tile (U V : FVec Ideal S1024x1024 .f32) (W : FVec Ideal S128x128 .bf16) (B : FVec Ideal S128x128 .f32) (off : Fin 2 → ℕ)
    (h : S1024x1024.Slices off S128x128) : FVec Ideal S128x128 .bf16 :=
  truncf .bf16 (mulf (extractStridedSlice S128x128 off U h)
    (addf (matmul dot_S128x128_S128x128_S128x128_1_0_0_1_n_n none W (truncf .bf16 (extractStridedSlice S128x128 off V h) bitsLt_bf16_f32)
      (constant S128x128 .f32 0x00000000#32)) B)) bitsLt_bf16_f32

/-- A tile at an index. -/
theorem tile_at (U V : FVec Ideal S1024x1024 .f32) (W : FVec Ideal S128x128 .bf16) (B : FVec Ideal S128x128 .f32) (a g : Fin 8)
    (h : S1024x1024.Slices ![(a : ℕ) * 128, (g : ℕ) * 128] S128x128) (i j : Fin 128) :
    tile U V W B ![(a : ℕ) * 128, (g : ℕ) * 128] h (ix2 i j)
      = gatedAt (U (ix2 (⟨a * 128 + i, by omega⟩ : Fin 1024) (⟨g * 128 + j, by omega⟩ : Fin 1024))) (B (ix2 i j)) (fun k => W (ix2 i k))
        (fun k => V (ix2 (⟨a * 128 + k, by omega⟩ : Fin 1024) (⟨g * 128 + j, by omega⟩ : Fin 1024))) := by
  pointwise [tile, gatedAt]

/-- The causal weights at an index. -/
theorem weights_at (w : Vec Ideal S1x128x128 .f32) (i k : Fin 128) :
    k0_pay20 (F := Ideal) k0_pay6 w (ix2 i k) = pick i k (w (ix3 0 i k)) := by
  pointwise [k0_pay20, k0_pay6, pick]

/-- The shift at an index. -/
theorem shift_at (w : Vec Ideal S1x128x128 .f32) (i k : Fin 128) : k0_pay7 (F := Ideal) w (ix2 i k) = w (ix3 0 i k) := by
  pointwise [k0_pay7]

/-- The gate at an index. -/
theorem gate_at (X : Vec Ideal S1024x1024 .f32) (y : S1024x1024.Idx) : k0_pay2 (F := Ideal) X y = ge (X y) := by
  pointwise [k0_pay2, ge]

/-- The value rows at an index. -/
theorem value_at (X : Vec Ideal S1024x1024 .f32) (x2 x3 : Vec Ideal S1x1024 .f32) (r : Fin 1024) (C : Fin 1024) :
    k0_pay5 (F := Ideal) (k0_pay3 X) (k0_pay4 X) x2 x3 (ix2 r C) = normAt (fun k => ge (X (ix2 r k))) (x2 (ix2 0 C)) (x3 (ix2 0 C)) C := by
  pointwise [k0_pay5, k0_pay3, k0_pay4, normAt, ge, mu]

/-- One slice of eight, at an index. -/
theorem slice_at (X : Vec Ideal S8x128x128 .f32) (g : Fin 8) (inb : ∀ a, (![(g : ℕ), 0, 0] : Fin 3 → ℕ) a + S1x128x128.size a ≤ S8x128x128.size a) (i k : Fin 128) :
    (View.ld X (Rect.unit (s := S8x128x128) ![(g : ℕ), 0, 0] S1x128x128.size inb) : Vec Ideal S1x128x128 .f32) (ix3 0 i k) = X (ix3 g i k) := by
  refine congrArg X (funext fun a => Fin.ext ?_)
  match a with
  | 0 => show (g : ℕ) + 0 * 1 = g; omega
  | 1 => show 0 + 1 * (i : ℕ) = i; omega
  | 2 => show 0 + 1 * (k : ℕ) = k; omega

/-- What the body leaves at a row and a column of the block, of the blocks it reads. -/
def madeAt (x0 x1 : Vec Ideal S1024x1024 .f32) (x2 x3 : Vec Ideal S1x1024 .f32) (x4 x5 : Vec Ideal S8x128x128 .f32) (r C : Fin 1024) : EReal :=
  gatedAt (ge (x0 (ix2 r C))) (x5 (ix3 (⟨C / 128, by omega⟩ : Fin 8) (⟨r % 128, by omega⟩ : Fin 128) (⟨C % 128, by omega⟩ : Fin 128)))
    (fun k => pick (r % 128) k (x4 (ix3 (⟨C / 128, by omega⟩ : Fin 8) (⟨r % 128, by omega⟩ : Fin 128) k)))
    (fun k => normAt (fun D => ge (x1 (ix2 (⟨r / 128 * 128 + k, by omega⟩ : Fin 1024) D))) (x2 (ix2 0 C)) (x3 (ix2 0 C)) C)

/-- What the body leaves in the block, of the blocks it reads. -/
def made (x0 x1 : Vec Ideal S1024x1024 .f32) (x2 x3 : Vec Ideal S1x1024 .f32) (x4 x5 : Vec Ideal S8x128x128 .f32) : Vec Ideal S1024x1024 .bf16 :=
  fun y => madeAt x0 x1 x2 x3 x4 x5 (y 0) (y 1)

/-- The same at an index named by its tile. -/
theorem made_at (x0 x1 : Vec Ideal S1024x1024 .f32) (x2 x3 : Vec Ideal S1x1024 .f32) (x4 x5 : Vec Ideal S8x128x128 .f32) (a g : Fin 8) (i j : Fin 128) :
    made x0 x1 x2 x3 x4 x5 (ix2 (⟨a * 128 + i, by omega⟩ : Fin 1024) (⟨g * 128 + j, by omega⟩ : Fin 1024))
      = gatedAt (ge (x0 (ix2 (⟨a * 128 + i, by omega⟩ : Fin 1024) (⟨g * 128 + j, by omega⟩ : Fin 1024)))) (x5 (ix3 g i j)) (fun k => pick i k (x4 (ix3 g i k)))
        (fun k => normAt (fun C => ge (x1 (ix2 (⟨a * 128 + k, by omega⟩ : Fin 1024) C))) (x2 (ix2 0 (⟨g * 128 + j, by omega⟩ : Fin 1024)))
          (x3 (ix2 0 (⟨g * 128 + j, by omega⟩ : Fin 1024))) (⟨g * 128 + j, by omega⟩ : Fin 1024)) := by
  have e1 : ∀ p, (⟨((g : ℕ) * 128 + j) / 128, p⟩ : Fin 8) = g := fun p => Fin.ext (by show ((g : ℕ) * 128 + j) / 128 = g; omega)
  have e2 : ∀ p, (⟨((a : ℕ) * 128 + i) % 128, p⟩ : Fin 128) = i := fun p => Fin.ext (by show ((a : ℕ) * 128 + i) % 128 = i; omega)
  have e3 : ∀ p, (⟨((g : ℕ) * 128 + j) % 128, p⟩ : Fin 128) = j := fun p => Fin.ext (by show ((g : ℕ) * 128 + j) % 128 = j; omega)
  have e4 : ((a : ℕ) * 128 + i) % 128 = i := by omega
  have e5 : ∀ (k : Fin 128) p, (⟨((a : ℕ) * 128 + i) / 128 * 128 + k, p⟩ : Fin 1024) = ⟨a * 128 + k, by omega⟩ := fun k p => Fin.ext (by show ((a : ℕ) * 128 + i) / 128 * 128 + k = a * 128 + k; omega)
  show madeAt x0 x1 x2 x3 x4 x5 (⟨a * 128 + i, by omega⟩ : Fin 1024) (⟨g * 128 + j, by omega⟩ : Fin 1024) = _
  unfold madeAt
  simp only [e1, e2, e3, e4, e5]

/-- A tile of the block is what the body leaves there. -/
theorem piece_at (x0 x1 : Vec Ideal S1024x1024 .f32) (x2 x3 : Vec Ideal S1x1024 .f32) (x4 x5 : Vec Ideal S8x128x128 .f32) (a g : Fin 8) (oa og q : ℕ)
    (hoa : oa = a * 128) (hog : og = g * 128) (hq : q = g) (h : S1024x1024.Slices ![oa, og] S128x128)
    (inb : ∀ i, (![oa, og] : Fin 2 → ℕ) i + S128x128.size i ≤ S1024x1024.size i)
    (inb8 : ∀ i, (![q, 0, 0] : Fin 3 → ℕ) i + S1x128x128.size i ≤ S8x128x128.size i) (x : S128x128.Idx) :
    tile (k0_pay96 x0 x1 x2 x3 x4 x5) (k0_pay99 x0 x1 x2 x3 x4 x5)
      (k0_pay20 k0_pay6 (View.ld x4 (Rect.unit (s := S8x128x128) ![q, 0, 0] S1x128x128.size inb8)))
      (k0_pay7 (View.ld x5 (Rect.unit (s := S8x128x128) ![q, 0, 0] S1x128x128.size inb8))) ![oa, og] h x
      = made x0 x1 x2 x3 x4 x5 ((Rect.unit (s := S1024x1024) ![oa, og] S128x128.size inb).emb x) := by
  subst hoa hog hq
  have h0 : k0_pay96 x0 x1 x2 x3 x4 x5 = k0_pay2 x0 := by
    unfold k0_pay96
    rw [View.ld_unit_lit _ x0 (by decide)]
  have h1 : k0_pay99 x0 x1 x2 x3 x4 x5 = k0_pay5 (k0_pay3 x1) (k0_pay4 x1) x2 x3 := by
    unfold k0_pay99 k0_pay98 k0_pay97
    rw [View.ld_unit_lit _ x1 (by decide), View.ld_unit_lit _ x2 (by decide), View.ld_unit_lit _ x3 (by decide)]
  obtain ⟨i, j, rfl⟩ : ∃ (i j : Fin 128), x = ix2 i j := ⟨x 0, x 1, eq_ix2 x⟩
  have he : (Rect.unit (s := S1024x1024) ![(a : ℕ) * 128, (g : ℕ) * 128] S128x128.size inb).emb (ix2 i j)
      = ix2 (⟨a * 128 + i, by omega⟩ : Fin 1024) (⟨g * 128 + j, by omega⟩ : Fin 1024) := by
    refine funext fun b => Fin.ext ?_
    match b with
    | 0 => show (a : ℕ) * 128 + 1 * (i : ℕ) = a * 128 + i; omega
    | 1 => show (g : ℕ) * 128 + 1 * (j : ℕ) = g * 128 + j; omega
  rw [he, made_at, tile_at, h0, h1, gate_at, shift_at, slice_at]
  refine congrArg₂ (fun w v => gatedAt _ _ w v) (funext fun k => ?_) (funext fun k => ?_)
  · rw [weights_at, slice_at]
  · rw [value_at]

end Cert.SguIdeal.Value

end
-- ==== Proof.SguValue.lean ====
module

public import proofs.«01_k».proof.Proof.SguTile

/-! # The prompt's spatial gating

Each block of 1024 rows is what its 64 tiles say, and that is the reference's gated rows at the place of the block. -/

@[expose] public section

set_option maxRecDepth 16384

noncomputable section

open Idealize.ShloMosaic Idealize.ShloMosaic.TcCoe Idealize.SL.Sem
open Idealize.ShloMosaic.Pipeline (Dat)

namespace Cert.SguIdeal.Value
open Cert.SguIdeal Cert.SguIdeal.Gen
open Cert.SguRefIdeal.Spec (ge pick mu normAt gatedAt gated gated_at)

variable (m : (ℓ : Loc nD τ sig) → Buf (Elt Ideal) ℓ)

/-- What the 64 tiles leave in the block, of the blocks the body reads. -/
theorem out6 (x0 x1 : Vec Ideal S1024x1024 .f32) (x2 x3 : Vec Ideal S1x1024 .f32) (x4 x5 : Vec Ideal S8x128x128 .f32) (y : S1024x1024.Idx) :
    out0_6 x0 x1 x2 x3 x4 x5 y = made x0 x1 x2 x3 x4 x5 y := by
  refine View.canon_apply_of_pieces (Val := Elt Ideal) (made x0 x1 x2 x3 x4 x5) _ ?_ y (cover0_6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine List.forall_mem_cons.mpr ⟨piece_at x0 x1 x2 x3 x4 x5 7 7 896 896 7 rfl rfl rfl slices_S1024x1024_o896_896_S128x128 inb_S1024x1024_S128x128_896_896 inb_S8x128x128_S1x128x128_7_0_0, ?_⟩
  refine List.forall_mem_cons.mpr ⟨piece_at x0 x1 x2 x3 x4 x5 6 7 768 896 7 rfl rfl rfl slices_S1024x1024_o768_896_S128x128 inb_S1024x1024_S128x128_768_896 inb_S8x128x128_S1x128x128_7_0_0, ?_⟩
  refine List.forall_mem_cons.mpr ⟨piece_at x0 x1 x2 x3 x4 x5 5 7 640 896 7 rfl rfl rfl slices_S1024x1024_o640_896_S128x128 inb_S1024x1024_S128x128_640_896 inb_S8x128x128_S1x128x128_7_0_0, ?_⟩
  refine List.forall_mem_cons.mpr ⟨piece_at x0 x1 x2 x3 x4 x5 4 7 512 896 7 rfl rfl rfl slices_S1024x1024_o512_896_S128x128 inb_S1024x1024_S128x128_512_896 inb_S8x128x128_S1x128x128_7_0_0, ?_⟩
  refine List.forall_mem_cons.mpr ⟨piece_at x0 x1 x2 x3 x4 x5 3 7 384 896 7 rfl rfl rfl slices_S1024x1024_o384_896_S128x128 inb_S1024x1024_S128x128_384_896 inb_S8x128x128_S1x128x128_7_0_0, ?_⟩
  refine List.forall_mem_cons.mpr ⟨piece_at x0 x1 x2 x3 x4 x5 2 7 256 896 7 rfl rfl rfl slices_S1024x1024_o256_896_S128x128 inb_S1024x1024_S128x128_256_896 inb_S8x128x128_S1x128x128_7_0_0, ?_⟩
  refine List.forall_mem_cons.mpr ⟨piece_at x0 x1 x2 x3 x4 x5 1 7 128 896 7 rfl rfl rfl slices_S1024x1024_o128_896_S128x128 inb_S1024x1024_S128x128_128_896 inb_S8x128x128_S1x128x128_7_0_0, ?_⟩
  refine List.forall_mem_cons.mpr ⟨piece_at x0 x1 x2 x3 x4 x5 0 7 0 896 7 rfl rfl rfl slices_S1024x1024_o0_896_S128x128 inb_S1024x1024_S128x128_0_896 inb_S8x128x128_S1x128x128_7_0_0, ?_⟩
  refine List.forall_mem_cons.mpr ⟨piece_at x0 x1 x2 x3 x4 x5 7 6 896 768 6 rfl rfl rfl slices_S1024x1024_o896_768_S128x128 inb_S1024x1024_S128x128_896_768 inb_S8x128x128_S1x128x128_6_0_0, ?_⟩
  refine List.forall_mem_cons.mpr ⟨piece_at x0 x1 x2 x3 x4 x5 6 6 768 768 6 rfl rfl rfl slices_S1024x1024_o768_768_S128x128 inb_S1024x1024_S128x128_768_768 inb_S8x128x128_S1x128x128_6_0_0, ?_⟩
  refine List.forall_mem_cons.mpr ⟨piece_at x0 x1 x2 x3 x4 x5 5 6 640 768 6 rfl rfl rfl slices_S1024x1024_o640_768_S128x128 inb_S1024x1024_S128x128_640_768 inb_S8x128x128_S1x128x128_6_0_0, ?_⟩
  refine List.forall_mem_cons.mpr ⟨piece_at x0 x1 x2 x3 x4 x5 4 6 512 768 6 rfl rfl rfl slices_S1024x1024_o512_768_S128x128 inb_S1024x1024_S128x128_512_768 inb_S8x128x128_S1x128x128_6_0_0, ?_⟩
  refine List.forall_mem_cons.mpr ⟨piece_at x0 x1 x2 x3 x4 x5 3 6 384 768 6 rfl rfl rfl slices_S1024x1024_o384_768_S128x128 inb_S1024x1024_S128x128_384_768 inb_S8x128x128_S1x128x128_6_0_0, ?_⟩
  refine List.forall_mem_cons.mpr ⟨piece_at x0 x1 x2 x3 x4 x5 2 6 256 768 6 rfl rfl rfl slices_S1024x1024_o256_768_S128x128 inb_S1024x1024_S128x128_256_768 inb_S8x128x128_S1x128x128_6_0_0, ?_⟩
  refine List.forall_mem_cons.mpr ⟨piece_at x0 x1 x2 x3 x4 x5 1 6 128 768 6 rfl rfl rfl slices_S1024x1024_o128_768_S128x128 inb_S1024x1024_S128x128_128_768 inb_S8x128x128_S1x128x128_6_0_0, ?_⟩
  refine List.forall_mem_cons.mpr ⟨piece_at x0 x1 x2 x3 x4 x5 0 6 0 768 6 rfl rfl rfl slices_S1024x1024_o0_768_S128x128 inb_S1024x1024_S128x128_0_768 inb_S8x128x128_S1x128x128_6_0_0, ?_⟩
  refine List.forall_mem_cons.mpr ⟨piece_at x0 x1 x2 x3 x4 x5 7 5 896 640 5 rfl rfl rfl slices_S1024x1024_o896_640_S128x128 inb_S1024x1024_S128x128_896_640 inb_S8x128x128_S1x128x128_5_0_0, ?_⟩
  refine List.forall_mem_cons.mpr ⟨piece_at x0 x1 x2 x3 x4 x5 6 5 768 640 5 rfl rfl rfl slices_S1024x1024_o768_640_S128x128 inb_S1024x1024_S128x128_768_640 inb_S8x128x128_S1x128x128_5_0_0, ?_⟩
  refine List.forall_mem_cons.mpr ⟨piece_at x0 x1 x2 x3 x4 x5 5 5 640 640 5 rfl rfl rfl slices_S1024x1024_o640_640_S128x128 inb_S1024x1024_S128x128_640_640 inb_S8x128x128_S1x128x128_5_0_0, ?_⟩
  refine List.forall_mem_cons.mpr ⟨piece_at x0 x1 x2 x3 x4 x5 4 5 512 640 5 rfl rfl rfl slices_S1024x1024_o512_640_S128x128 inb_S1024x1024_S128x128_512_640 inb_S8x128x128_S1x128x128_5_0_0, ?_⟩
  refine List.forall_mem_cons.mpr ⟨piece_at x0 x1 x2 x3 x4 x5 3 5 384 640 5 rfl rfl rfl slices_S1024x1024_o384_640_S128x128 inb_S1024x1024_S128x128_384_640 inb_S8x128x128_S1x128x128_5_0_0, ?_⟩
  refine List.forall_mem_cons.mpr ⟨piece_at x0 x1 x2 x3 x4 x5 2 5 256 640 5 rfl rfl rfl slices_S1024x1024_o256_640_S128x128 inb_S1024x1024_S128x128_256_640 inb_S8x128x128_S1x128x128_5_0_0, ?_⟩
  refine List.forall_mem_cons.mpr ⟨piece_at x0 x1 x2 x3 x4 x5 1 5 128 640 5 rfl rfl rfl slices_S1024x1024_o128_640_S128x128 inb_S1024x1024_S128x128_128_640 inb_S8x128x128_S1x128x128_5_0_0, ?_⟩
  refine List.forall_mem_cons.mpr ⟨piece_at x0 x1 x2 x3 x4 x5 0 5 0 640 5 rfl rfl rfl slices_S1024x1024_o0_640_S128x128 inb_S1024x1024_S128x128_0_640 inb_S8x128x128_S1x128x128_5_0_0, ?_⟩
  refine List.forall_mem_cons.mpr ⟨piece_at x0 x1 x2 x3 x4 x5 7 4 896 512 4 rfl rfl rfl slices_S1024x1024_o896_512_S128x128 inb_S1024x1024_S128x128_896_512 inb_S8x128x128_S1x128x128_4_0_0, ?_⟩
  refine List.forall_mem_cons.mpr ⟨piece_at x0 x1 x2 x3 x4 x5 6 4 768 512 4 rfl rfl rfl slices_S1024x1024_o768_512_S128x128 inb_S1024x1024_S128x128_768_512 inb_S8x128x128_S1x128x128_4_0_0, ?_⟩
  refine List.forall_mem_cons.mpr ⟨piece_at x0 x1 x2 x3 x4 x5 5 4 640 512 4 rfl rfl rfl slices_S1024x1024_o640_512_S128x128 inb_S1024x1024_S128x128_640_512 inb_S8x128x128_S1x128x128_4_0_0, ?_⟩
  refine List.forall_mem_cons.mpr ⟨piece_at x0 x1 x2 x3 x4 x5 4 4 512 512 4 rfl rfl rfl slices_S1024x1024_o512_512_S128x128 inb_S1024x1024_S128x128_512_512 inb_S8x128x128_S1x128x128_4_0_0, ?_⟩
  refine List.forall_mem_cons.mpr ⟨piece_at x0 x1 x2 x3 x4 x5 3 4 384 512 4 rfl rfl rfl slices_S1024x1024_o384_512_S128x128 inb_S1024x1024_S128x128_384_512 inb_S8x128x128_S1x128x128_4_0_0, ?_⟩
  refine List.forall_mem_cons.mpr ⟨piece_at x0 x1 x2 x3 x4 x5 2 4 256 512 4 rfl rfl rfl slices_S1024x1024_o256_512_S128x128 inb_S1024x1024_S128x128_256_512 inb_S8x128x128_S1x128x128_4_0_0, ?_⟩
  refine List.forall_mem_cons.mpr ⟨piece_at x0 x1 x2 x3 x4 x5 1 4 128 512 4 rfl rfl rfl slices_S1024x1024_o128_512_S128x128 inb_S1024x1024_S128x128_128_512 inb_S8x128x128_S1x128x128_4_0_0, ?_⟩
  refine List.forall_mem_cons.mpr ⟨piece_at x0 x1 x2 x3 x4 x5 0 4 0 512 4 rfl rfl rfl slices_S1024x1024_o0_512_S128x128 inb_S1024x1024_S128x128_0_512 inb_S8x128x128_S1x128x128_4_0_0, ?_⟩
  refine List.forall_mem_cons.mpr ⟨piece_at x0 x1 x2 x3 x4 x5 7 3 896 384 3 rfl rfl rfl slices_S1024x1024_o896_384_S128x128 inb_S1024x1024_S128x128_896_384 inb_S8x128x128_S1x128x128_3_0_0, ?_⟩
  refine List.forall_mem_cons.mpr ⟨piece_at x0 x1 x2 x3 x4 x5 6 3 768 384 3 rfl rfl rfl slices_S1024x1024_o768_384_S128x128 inb_S1024x1024_S128x128_768_384 inb_S8x128x128_S1x128x128_3_0_0, ?_⟩
  refine List.forall_mem_cons.mpr ⟨piece_at x0 x1 x2 x3 x4 x5 5 3 640 384 3 rfl rfl rfl slices_S1024x1024_o640_384_S128x128 inb_S1024x1024_S128x128_640_384 inb_S8x128x128_S1x128x128_3_0_0, ?_⟩
  refine List.forall_mem_cons.mpr ⟨piece_at x0 x1 x2 x3 x4 x5 4 3 512 384 3 rfl rfl rfl slices_S1024x1024_o512_384_S128x128 inb_S1024x1024_S128x128_512_384 inb_S8x128x128_S1x128x128_3_0_0, ?_⟩
  refine List.forall_mem_cons.mpr ⟨piece_at x0 x1 x2 x3 x4 x5 3 3 384 384 3 rfl rfl rfl slices_S1024x1024_o384_384_S128x128 inb_S1024x1024_S128x128_384_384 inb_S8x128x128_S1x128x128_3_0_0, ?_⟩
  refine List.forall_mem_cons.mpr ⟨piece_at x0 x1 x2 x3 x4 x5 2 3 256 384 3 rfl rfl rfl slices_S1024x1024_o256_384_S128x128 inb_S1024x1024_S128x128_256_384 inb_S8x128x128_S1x128x128_3_0_0, ?_⟩
  refine List.forall_mem_cons.mpr ⟨piece_at x0 x1 x2 x3 x4 x5 1 3 128 384 3 rfl rfl rfl slices_S1024x1024_o128_384_S128x128 inb_S1024x1024_S128x128_128_384 inb_S8x128x128_S1x128x128_3_0_0, ?_⟩
  refine List.forall_mem_cons.mpr ⟨piece_at x0 x1 x2 x3 x4 x5 0 3 0 384 3 rfl rfl rfl slices_S1024x1024_o0_384_S128x128 inb_S1024x1024_S128x128_0_384 inb_S8x128x128_S1x128x128_3_0_0, ?_⟩
  refine List.forall_mem_cons.mpr ⟨piece_at x0 x1 x2 x3 x4 x5 7 2 896 256 2 rfl rfl rfl slices_S1024x1024_o896_256_S128x128 inb_S1024x1024_S128x128_896_256 inb_S8x128x128_S1x128x128_2_0_0, ?_⟩
  refine List.forall_mem_cons.mpr ⟨piece_at x0 x1 x2 x3 x4 x5 6 2 768 256 2 rfl rfl rfl slices_S1024x1024_o768_256_S128x128 inb_S1024x1024_S128x128_768_256 inb_S8x128x128_S1x128x128_2_0_0, ?_⟩
  refine List.forall_mem_cons.mpr ⟨piece_at x0 x1 x2 x3 x4 x5 5 2 640 256 2 rfl rfl rfl slices_S1024x1024_o640_256_S128x128 inb_S1024x1024_S128x128_640_256 inb_S8x128x128_S1x128x128_2_0_0, ?_⟩
  refine List.forall_mem_cons.mpr ⟨piece_at x0 x1 x2 x3 x4 x5 4 2 512 256 2 rfl rfl rfl slices_S1024x1024_o512_256_S128x128 inb_S1024x1024_S128x128_512_256 inb_S8x128x128_S1x128x128_2_0_0, ?_⟩
  refine List.forall_mem_cons.mpr ⟨piece_at x0 x1 x2 x3 x4 x5 3 2 384 256 2 rfl rfl rfl slices_S1024x1024_o384_256_S128x128 inb_S1024x1024_S128x128_384_256 inb_S8x128x128_S1x128x128_2_0_0, ?_⟩
  refine List.forall_mem_cons.mpr ⟨piece_at x0 x1 x2 x3 x4 x5 2 2 256 256 2 rfl rfl rfl slices_S1024x1024_o256_256_S128x128 inb_S1024x1024_S128x128_256_256 inb_S8x128x128_S1x128x128_2_0_0, ?_⟩
  refine List.forall_mem_cons.mpr ⟨piece_at x0 x1 x2 x3 x4 x5 1 2 128 256 2 rfl rfl rfl slices_S1024x1024_o128_256_S128x128 inb_S1024x1024_S128x128_128_256 inb_S8x128x128_S1x128x128_2_0_0, ?_⟩
  refine List.forall_mem_cons.mpr ⟨piece_at x0 x1 x2 x3 x4 x5 0 2 0 256 2 rfl rfl rfl slices_S1024x1024_o0_256_S128x128 inb_S1024x1024_S128x128_0_256 inb_S8x128x128_S1x128x128_2_0_0, ?_⟩
  refine List.forall_mem_cons.mpr ⟨piece_at x0 x1 x2 x3 x4 x5 7 1 896 128 1 rfl rfl rfl slices_S1024x1024_o896_128_S128x128 inb_S1024x1024_S128x128_896_128 inb_S8x128x128_S1x128x128_1_0_0, ?_⟩
  refine List.forall_mem_cons.mpr ⟨piece_at x0 x1 x2 x3 x4 x5 6 1 768 128 1 rfl rfl rfl slices_S1024x1024_o768_128_S128x128 inb_S1024x1024_S128x128_768_128 inb_S8x128x128_S1x128x128_1_0_0, ?_⟩
  refine List.forall_mem_cons.mpr ⟨piece_at x0 x1 x2 x3 x4 x5 5 1 640 128 1 rfl rfl rfl slices_S1024x1024_o640_128_S128x128 inb_S1024x1024_S128x128_640_128 inb_S8x128x128_S1x128x128_1_0_0, ?_⟩
  refine List.forall_mem_cons.mpr ⟨piece_at x0 x1 x2 x3 x4 x5 4 1 512 128 1 rfl rfl rfl slices_S1024x1024_o512_128_S128x128 inb_S1024x1024_S128x128_512_128 inb_S8x128x128_S1x128x128_1_0_0, ?_⟩
  refine List.forall_mem_cons.mpr ⟨piece_at x0 x1 x2 x3 x4 x5 3 1 384 128 1 rfl rfl rfl slices_S1024x1024_o384_128_S128x128 inb_S1024x1024_S128x128_384_128 inb_S8x128x128_S1x128x128_1_0_0, ?_⟩
  refine List.forall_mem_cons.mpr ⟨piece_at x0 x1 x2 x3 x4 x5 2 1 256 128 1 rfl rfl rfl slices_S1024x1024_o256_128_S128x128 inb_S1024x1024_S128x128_256_128 inb_S8x128x128_S1x128x128_1_0_0, ?_⟩
  refine List.forall_mem_cons.mpr ⟨piece_at x0 x1 x2 x3 x4 x5 1 1 128 128 1 rfl rfl rfl slices_S1024x1024_o128_128_S128x128 inb_S1024x1024_S128x128_128_128 inb_S8x128x128_S1x128x128_1_0_0, ?_⟩
  refine List.forall_mem_cons.mpr ⟨piece_at x0 x1 x2 x3 x4 x5 0 1 0 128 1 rfl rfl rfl slices_S1024x1024_o0_128_S128x128 inb_S1024x1024_S128x128_0_128 inb_S8x128x128_S1x128x128_1_0_0, ?_⟩
  refine List.forall_mem_cons.mpr ⟨piece_at x0 x1 x2 x3 x4 x5 7 0 896 0 0 rfl rfl rfl slices_S1024x1024_o896_0_S128x128 inb_S1024x1024_S128x128_896_0 inb_S8x128x128_S1x128x128_0_0_0, ?_⟩
  refine List.forall_mem_cons.mpr ⟨piece_at x0 x1 x2 x3 x4 x5 6 0 768 0 0 rfl rfl rfl slices_S1024x1024_o768_0_S128x128 inb_S1024x1024_S128x128_768_0 inb_S8x128x128_S1x128x128_0_0_0, ?_⟩
  refine List.forall_mem_cons.mpr ⟨piece_at x0 x1 x2 x3 x4 x5 5 0 640 0 0 rfl rfl rfl slices_S1024x1024_o640_0_S128x128 inb_S1024x1024_S128x128_640_0 inb_S8x128x128_S1x128x128_0_0_0, ?_⟩
  refine List.forall_mem_cons.mpr ⟨piece_at x0 x1 x2 x3 x4 x5 4 0 512 0 0 rfl rfl rfl slices_S1024x1024_o512_0_S128x128 inb_S1024x1024_S128x128_512_0 inb_S8x128x128_S1x128x128_0_0_0, ?_⟩
  refine List.forall_mem_cons.mpr ⟨piece_at x0 x1 x2 x3 x4 x5 3 0 384 0 0 rfl rfl rfl slices_S1024x1024_o384_0_S128x128 inb_S1024x1024_S128x128_384_0 inb_S8x128x128_S1x128x128_0_0_0, ?_⟩
  refine List.forall_mem_cons.mpr ⟨piece_at x0 x1 x2 x3 x4 x5 2 0 256 0 0 rfl rfl rfl slices_S1024x1024_o256_0_S128x128 inb_S1024x1024_S128x128_256_0 inb_S8x128x128_S1x128x128_0_0_0, ?_⟩
  refine List.forall_mem_cons.mpr ⟨piece_at x0 x1 x2 x3 x4 x5 1 0 128 0 0 rfl rfl rfl slices_S1024x1024_o128_0_S128x128 inb_S1024x1024_S128x128_128_0 inb_S8x128x128_S1x128x128_0_0_0, ?_⟩
  refine List.forall_mem_cons.mpr ⟨piece_at x0 x1 x2 x3 x4 x5 0 0 0 0 0 rfl rfl rfl slices_S1024x1024_o0_0_S128x128 inb_S1024x1024_S128x128_0_0 inb_S8x128x128_S1x128x128_0_0_0, ?_⟩
  intro p hp
  exact absurd hp List.not_mem_nil

/-- Where the blocks lie: the gate's halves from columns 3328 and 4352 of row block `t`, the result at row block `t`, the others whole. -/
theorem idx : ∀ t : Fin cfg0.N, win0_0.index t = ![1024 * t.val, 3328] ∧ win0_1.index t = ![1024 * t.val, 4352] ∧ win0_2.index t = ![0, 0]
    ∧ win0_3.index t = ![0, 0] ∧ win0_4.index t = ![0, 0, 0] ∧ win0_5.index t = ![0, 0, 0] ∧ win0_6.index t = ![t.val, 0] :=
  (by decide +kernel : ∀ t : Fin grid0.N, _)

/-- The gate's block. -/
theorem blk0 (c : Dev nD) (t : Fin cfg0.N) (r C : Fin 1024) (R : Fin 8192) (D : Fin 6400) (hR : (R : ℕ) = 1024 * t.val + r) (hD : (D : ℕ) = 3328 + C) :
    (show FVec Ideal S1024x1024 .f32 from iblk m c 0 t) (ix2 r C) = (m ((c.tc : Thread nD τ).loc main_arg0) : FVec Ideal S8192x6400 .f32) (ix2 R D) := by
  blk_ext [iblk, V, idx t]
  · show ((win0_0.rect t).emb (ix2 r C) 0 : ℕ) = R
    rw [Pipeline.Window.rect_emb_val_off, (idx t).1]
    exact hR.symm
  · show ((win0_0.rect t).emb (ix2 r C) 1 : ℕ) = D
    rw [Pipeline.Window.rect_emb_val_off, (idx t).1]
    exact hD.symm

/-- The value rows' block. -/
theorem blk1 (c : Dev nD) (t : Fin cfg0.N) (r C : Fin 1024) (R : Fin 8192) (D : Fin 6400) (hR : (R : ℕ) = 1024 * t.val + r) (hD : (D : ℕ) = 4352 + C) :
    (show FVec Ideal S1024x1024 .f32 from iblk m c 1 t) (ix2 r C) = (m ((c.tc : Thread nD τ).loc main_arg0) : FVec Ideal S8192x6400 .f32) (ix2 R D) := by
  blk_ext [iblk, V, idx t]
  · show ((win0_1.rect t).emb (ix2 r C) 0 : ℕ) = R
    rw [Pipeline.Window.rect_emb_val_off, (idx t).2.1]
    exact hR.symm
  · show ((win0_1.rect t).emb (ix2 r C) 1 : ℕ) = D
    rw [Pipeline.Window.rect_emb_val_off, (idx t).2.1]
    exact hD.symm

/-- The gain's block. -/
theorem blk2 (c : Dev nD) (t : Fin cfg0.N) (C : Fin 1024) :
    (show FVec Ideal S1x1024 .f32 from iblk m c 2 t) (ix2 0 C) = (m ((c.tc : Thread nD τ).loc main_arg1) : FVec Ideal S1024 .f32) (ix1 C) := by
  blk_point [iblk, V, idx t]

/-- The shift's block. -/
theorem blk3 (c : Dev nD) (t : Fin cfg0.N) (C : Fin 1024) :
    (show FVec Ideal S1x1024 .f32 from iblk m c 3 t) (ix2 0 C) = (m ((c.tc : Thread nD τ).loc main_arg2) : FVec Ideal S1024 .f32) (ix1 C) := by
  blk_point [iblk, V, idx t]

/-- The weights' block. -/
theorem blk4 (c : Dev nD) (t : Fin cfg0.N) (g : Fin 8) (i k : Fin 128) :
    (show FVec Ideal S8x128x128 .f32 from iblk m c 4 t) (ix3 g i k) = (m ((c.tc : Thread nD τ).loc main_arg3) : FVec Ideal S8x128x128 .f32) (ix3 g i k) := by
  blk_point [iblk, V, idx t]

/-- The groups' shifts' block. -/
theorem blk5 (c : Dev nD) (t : Fin cfg0.N) (g : Fin 8) (i j : Fin 128) :
    (show FVec Ideal S8x128x128 .f32 from iblk m c 5 t) (ix3 g i j) = (m ((c.tc : Thread nD τ).loc main_arg4) : FVec Ideal S8x128 .f32) (ix2 g i) := by
  blk_point [iblk, V, idx t]

/-- The result's block. -/
theorem blk6 (t : Fin cfg0.N) (a g : Fin 8) (i j : Fin 128) (A : Fin 64) (hA : (A : ℕ) = t.val * 8 + a) :
    (show S8192x1024.Idx from ((cfg0.win 6).blk t).view.emb (ix2 (⟨a * 128 + i, by omega⟩ : Fin 1024) (⟨g * 128 + j, by omega⟩ : Fin 1024)))
      = ix2 (⟨A * 128 + i, by omega⟩ : Fin 8192) (⟨g * 128 + j, by omega⟩ : Fin 1024) := by
  refine funext fun b => Fin.ext ?_
  match b with
  | 0 =>
    show ((win0_6.rect t).emb (ix2 (⟨a * 128 + i, by omega⟩ : Fin 1024) (⟨g * 128 + j, by omega⟩ : Fin 1024)) 0 : ℕ) = A * 128 + i
    rw [Pipeline.Window.rect_emb_val (w := win0_6) (hk := rfl), (idx t).2.2.2.2.2.2]
    show t.val * 1024 + ((a : ℕ) * 128 + i) = A * 128 + i
    omega
  | 1 =>
    show ((win0_6.rect t).emb (ix2 (⟨a * 128 + i, by omega⟩ : Fin 1024) (⟨g * 128 + j, by omega⟩ : Fin 1024)) 1 : ℕ) = g * 128 + j
    rw [Pipeline.Window.rect_emb_val (w := win0_6) (hk := rfl), (idx t).2.2.2.2.2.2]
    show 0 * 1024 + ((g : ℕ) * 128 + j) = (g : ℕ) * 128 + j
    omega

/-- What point `t` leaves in the result's block is the reference's value at the place of the block. -/
theorem point6 (c : Dev nD) (t : Fin cfg0.N) (y : S1024x1024.Idx) :
    made (iblk m c 0 t) (iblk m c 1 t) (iblk m c 2 t) (iblk m c 3 t) (iblk m c 4 t) (iblk m c 5 t) y
    = gated (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (((cfg0.win 6).blk t).view.emb y) := by
  obtain ⟨a, g, i, j, rfl⟩ : ∃ (a g : Fin 8) (i j : Fin 128), y = ix2 (⟨a * 128 + i, by omega⟩ : Fin 1024) (⟨g * 128 + j, by omega⟩ : Fin 1024) := by
    obtain ⟨r, C, rfl⟩ : ∃ (r C : Fin 1024), y = ix2 r C := ⟨y 0, y 1, eq_ix2 y⟩
    exact ⟨⟨r / 128, by omega⟩, ⟨C / 128, by omega⟩, ⟨r % 128, by omega⟩, ⟨C % 128, by omega⟩,
      congrArg₂ ix2 (Fin.ext (by show (r : ℕ) = r / 128 * 128 + r % 128; omega)) (Fin.ext (by show (C : ℕ) = C / 128 * 128 + C % 128; omega))⟩
  have ht : t.val < 8 := lt_of_lt_of_eq t.isLt N_0
  rw [made_at]
  refine Eq.trans ?_ (congrArg (gated _ _ _ _ _) (blk6 t a g i j ⟨t.val * 8 + a, by omega⟩ rfl)).symm
  rw [gated_at]
  refine congr (congr (congrArg₂ gatedAt (congrArg ge ?_) ?_) (funext fun k => congrArg (pick i k) ?_)) (funext fun k => ?_)
  · exact blk0 m c t _ _ _ _ (by show (t.val * 8 + a) * 128 + i = 1024 * t.val + (a * 128 + i); omega) rfl
  · exact blk5 m c t g i j
  · exact blk4 m c t g i k
  · refine congr (congr (congrArg₂ normAt (funext fun C => congrArg ge ?_) ?_) ?_) rfl
    · exact blk1 m c t _ _ _ _ (by show (t.val * 8 + a) * 128 + k = 1024 * t.val + (a * 128 + k); omega) rfl
    · exact blk2 m c t _
    · exact blk3 m c t _

/-- After the run the gated rows are the reference's. -/
theorem final6 (c : Dev nD) : (dats m 0 c).arrAt 6 (cfgs 0).N
    = gated (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 6 _ (by decide +kernel) fun t _ y => ?_
  refine Eq.trans (congrFun (after0_6 m c t) y) ?_
  exact (out6 _ _ _ _ _ _ y).trans (point6 m c t y)

end Cert.SguIdeal.Value

end
-- ==== Proof.UpSSpec.lean ====
module

public import proofs.«01_k».proof.Proof.Gen.UpSRefIdeal.Run
public import Idealize.ShloMosaic.Lib.Pipeline.ValueKit
public import Idealize.ShloMosaic.Lib.Pointwise

/-! # The up projection of the sampled rows, with its causal convolution and gate: the reference's values

Along a batch the convolution takes three taps of the projection: the row itself and the two before it, where the two rows
before a batch's first are the carried ones. The activation is the gelu of the gate's half times the value's half. -/

@[expose] public section

set_option maxRecDepth 16384

noncomputable section

open Idealize.ShloMosaic Idealize.ShloMosaic.TcCoe Idealize.SL.Sem

namespace Cert.UpSRefIdeal.Spec
open Cert.UpSRefIdeal Cert.UpSRefIdeal.Gen

/-- The projection, by batch, row and column. -/
def up (X : FVec Ideal S1024x2048 .bf16) (W : FVec Ideal S2048x11264 .bf16) : FVec Ideal S128x8x11264 .f32 :=
  shapeCast _ (Host.dotGeneral dot_S1024x2048_S2048x11264_S1024x11264_1_0_0_1_n_n none (extf .f32 X bitsLt_bf16_f32) (extf .f32 W bitsLt_bf16_f32)) shapeCasts_S1024x11264_S128x8x11264

/-- The carried rows and the projection's, one after the other. -/
def ext (P : FVec Ideal S128x2x11264 .f32) (U : FVec Ideal S128x8x11264 .f32) : FVec Ideal S128x10x11264 .f32 :=
  concatenate S128x10x11264 1 [⟨S128x2x11264, P⟩, ⟨S128x8x11264, U⟩] concatenates_S128x2x11264_S128x8x11264_S128x10x11264_d1

/-- A row of the convolution's weights, over every batch and row. -/
def over (w : FVec Ideal S1x11264 .f32) : FVec Ideal S128x8x11264 .f32 :=
  broadcastInDim S128x8x11264 ![0, 1, 2] bcast_S1x1x11264_S128x8x11264_0_1_2 (broadcastInDim S1x1x11264 ![2] bcast_S11264_S1x1x11264_2 (shapeCast _ w shapeCasts_S1x11264_S11264))

/-- The convolution. -/
def conv (T : FVec Ideal S128x10x11264 .f32) (cw : FVec Ideal S3x11264 .f32) (cb : FVec Ideal S11264 .f32) : FVec Ideal S128x8x11264 .f32 :=
  addf (broadcastInDim S128x8x11264 ![0, 1, 2] bcast_S1x1x11264_S128x8x11264_0_1_2 (broadcastInDim S1x1x11264 ![2] bcast_S11264_S1x1x11264_2 cb))
    (addf (addf (addf (broadcastInDim S128x8x11264 ![] bcast_S_S128x8x11264 (constant S_ .f32 0x00000000#32))
      (mulf (over (extractStridedSlice S1x11264 ![0, 0] cw slices_S3x11264_S1x11264_0_0)) (extractStridedSlice S128x8x11264 ![0, 0, 0] T slices_S128x10x11264_S128x8x11264_0_0_0)))
      (mulf (over (extractStridedSlice S1x11264 ![1, 0] cw slices_S3x11264_S1x11264_1_0)) (extractStridedSlice S128x8x11264 ![0, 1, 0] T slices_S128x10x11264_S128x8x11264_0_1_0)))
      (mulf (over (extractStridedSlice S1x11264 ![2, 0] cw slices_S3x11264_S1x11264_2_0)) (extractStridedSlice S128x8x11264 ![0, 2, 0] T slices_S128x10x11264_S128x8x11264_0_2_0)))

/-- The gelu, as the reference spells it. -/
def gl (G : FVec Ideal S128x8x5632 .f32) : FVec Ideal S128x8x5632 .f32 :=
  mulf G (mulf (broadcastInDim S128x8x5632 ![] bcast_S_S128x8x5632 (constant S_ .f32 0x3F000000#32)) (addf (broadcastInDim S128x8x5632 ![] bcast_S_S128x8x5632 (constant S_ .f32 0x3F800000#32)) (Host.tanh (mulf (broadcastInDim S128x8x5632 ![] bcast_S_S128x8x5632 (constant S_ .f32 0x3F4C422A#32)) (addf G (mulf (broadcastInDim S128x8x5632 ![] bcast_S_S128x8x5632 (constant S_ .f32 0x3D372713#32)) (mulf (mulf G G) G)))))))

/-- The gate's half of the convolution, -/
def gateOf (Y : FVec Ideal S128x8x11264 .f32) : FVec Ideal S128x8x5632 .f32 := extractStridedSlice S128x8x5632 ![0, 0, 0] Y slices_S128x8x11264_S128x8x5632_0_0_0

/-- and the value's. -/
def valOf (Y : FVec Ideal S128x8x11264 .f32) : FVec Ideal S128x8x5632 .f32 := extractStridedSlice S128x8x5632 ![0, 0, 5632] Y slices_S128x8x11264_S128x8x5632_0_0_5632

/-- The activation of a convolution. -/
def actOn (Y : FVec Ideal S128x8x11264 .f32) : FVec Ideal S1024x5632 .bf16 :=
  truncf .bf16 (shapeCast _ (mulf (gl (gateOf Y)) (valOf Y)) shapeCasts_S128x8x5632_S1024x5632) bitsLt_bf16_f32

/-- The reference's activation. -/
def acts (X : FVec Ideal S1024x2048 .bf16) (W : FVec Ideal S2048x11264 .bf16) (P : FVec Ideal S128x2x11264 .f32) (cw : FVec Ideal S3x11264 .f32) (cb : FVec Ideal S11264 .f32) :
    FVec Ideal S1024x5632 .bf16 := actOn (conv (ext P (up X W)) cw cb)

/-- The reference's last two rows of every batch. -/
def tails (X : FVec Ideal S1024x2048 .bf16) (W : FVec Ideal S2048x11264 .bf16) (P : FVec Ideal S128x2x11264 .f32) : FVec Ideal S128x2x11264 .f32 :=
  extractStridedSlice S128x2x11264 ![0, 8, 0] (ext P (up X W)) slices_S128x10x11264_S128x2x11264_0_8_0

/-- The gate's and the value's weights, side by side. -/
def weights (G V : FVec Ideal S2048x5632 .bf16) : FVec Ideal S2048x11264 .bf16 :=
  concatenate S2048x11264 1 [⟨S2048x5632, G⟩, ⟨S2048x5632, V⟩] concatenates_S2048x5632_S2048x5632_S2048x11264_d1

/-- The reference's run, its results in the words above. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = acts (m ((c.tc : Thread nD τ).loc main_arg0)) (weights (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5))
      ∧ r.2.mem ((c.tc : Thread nD τ).loc main_v49) = tails (m ((c.tc : Thread nD τ).loc main_arg0)) (weights (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r hr c => ?_) (Cert.UpSRefIdeal.Value.run m ρ)
  have h := hr c
  refine ⟨h.1.trans ?_, h.2.1.trans ?_, h.2.2⟩
  · unfold acts actOn gl gateOf valOf conv over ext up weights Cert.UpSRefIdeal.Value.res_main_v48
    rfl
  · unfold tails ext up weights
    with_reducible rfl

/-- The gate's weights are the first columns, -/
theorem weights_lo (G V : FVec Ideal S2048x5632 .bf16) (k : Fin 2048) (C : Fin 5632) :
    weights G V (ix2 k (⟨C, by omega⟩ : Fin 11264)) = G (ix2 k C) := by
  refine concatenate_pair_apply_left (t := S2048x11264) (s₁ := S2048x5632) (s₂ := S2048x5632) (1 : Fin 2) G V
    concatenates_S2048x5632_S2048x5632_S2048x11264_d1 (ix2 k (⟨C, by omega⟩ : Fin 11264)) rfl (ix2 k C) fun a => ?_
  fin_cases a
  · rfl
  · rfl

/-- and the value's weights the ones after. -/
theorem weights_hi (G V : FVec Ideal S2048x5632 .bf16) (k : Fin 2048) (C : Fin 5632) :
    weights G V (ix2 k (⟨5632 + C, by omega⟩ : Fin 11264)) = V (ix2 k C) := by
  refine concatenate_pair_apply_right (t := S2048x11264) (s₁ := S2048x5632) (s₂ := S2048x5632) (1 : Fin 2) G V
    concatenates_S2048x5632_S2048x5632_S2048x11264_d1 (ix2 k (⟨5632 + C, by omega⟩ : Fin 11264)) rfl rfl (ix2 k C) (fun a ha => ?_) ?_
  · fin_cases a
    · rfl
    · exact absurd rfl ha
  · show (C : ℕ) + 5632 = 5632 + C
    omega

/-! ## The values at an index -/

/-- The projection of a row onto a column. -/
def upAt (x w : Fin 2048 → EReal) : EReal := ∑ k, x k * w k

/-- The projection at an index. -/
theorem up_at (X : FVec Ideal S1024x2048 .bf16) (W : FVec Ideal S2048x11264 .bf16) (b : Fin 128) (p : Fin 8) (C : Fin 11264) (R : Fin 1024) (hR : (R : ℕ) = b * 8 + p) :
    up X W (ix3 b p C) = upAt (fun k => X (ix2 R k)) (fun k => W (ix2 k C)) := by
  have e : up X W (ix3 b p C) = upAt (fun k => X (ix2 (⟨b * 8 + p, by omega⟩ : Fin 1024) k)) (fun k => W (ix2 k C)) := by
    pointwise [up, upAt]
  exact e.trans (congrArg (fun r : Fin 1024 => upAt (fun k => X (ix2 r k)) (fun k => W (ix2 k C))) (Fin.ext hR.symm))

/-- A carried row in its place before the batch's, -/
theorem ext_lo (P : FVec Ideal S128x2x11264 .f32) (U : FVec Ideal S128x8x11264 .f32) (b : Fin 128) (s : Fin 10) (q : Fin 2) (C : Fin 11264) (h : (s : ℕ) = q) :
    ext P U (ix3 b s C) = P (ix3 b q C) := by
  refine concatenate_pair_apply_left (t := S128x10x11264) (s₁ := S128x2x11264) (s₂ := S128x8x11264) (1 : Fin 3) P U
    concatenates_S128x2x11264_S128x8x11264_S128x10x11264_d1 (ix3 b s C) rfl (ix3 b q C) fun a => ?_
  fin_cases a
  · rfl
  · exact h.symm
  · rfl

/-- and the projection's rows after them. -/
theorem ext_hi (P : FVec Ideal S128x2x11264 .f32) (U : FVec Ideal S128x8x11264 .f32) (b : Fin 128) (s : Fin 10) (p : Fin 8) (C : Fin 11264) (h : (s : ℕ) = p + 2) :
    ext P U (ix3 b s C) = U (ix3 b p C) := by
  refine concatenate_pair_apply_right (t := S128x10x11264) (s₁ := S128x2x11264) (s₂ := S128x8x11264) (1 : Fin 3) P U
    concatenates_S128x2x11264_S128x8x11264_S128x10x11264_d1 (ix3 b s C) rfl rfl (ix3 b p C) (fun a ha => ?_) ?_
  · fin_cases a
    · rfl
    · exact absurd rfl ha
    · rfl
  · exact h.symm

/-- The convolution's three taps and its bias. -/
def conv3 (cb w0 w1 w2 a0 a1 a2 : EReal) : EReal := ((cb + w2 * a2) + w1 * a1) + w0 * a0

/-- The convolution at an index. -/
theorem conv_at (T : FVec Ideal S128x10x11264 .f32) (cw : FVec Ideal S3x11264 .f32) (cb : FVec Ideal S11264 .f32) (b : Fin 128) (p : Fin 8) (C : Fin 11264) :
    conv T cw cb (ix3 b p C) = conv3 (cb (ix1 C)) (cw (ix2 0 C)) (cw (ix2 1 C)) (cw (ix2 2 C))
      (T (ix3 b (⟨p, by omega⟩ : Fin 10) C)) (T (ix3 b (⟨p + 1, by omega⟩ : Fin 10) C)) (T (ix3 b (⟨p + 2, by omega⟩ : Fin 10) C)) := by
  have h1 : (⟨p + 1, by omega⟩ : Fin 10) = ⟨1 + p, by omega⟩ := Fin.ext (Nat.add_comm _ _)
  have h2 : (⟨p + 2, by omega⟩ : Fin 10) = ⟨2 + p, by omega⟩ := Fin.ext (Nat.add_comm _ _)
  rw [h1, h2]
  have e : conv T cw cb (ix3 b p C) = cb (ix1 C) + (((0 + cw (ix2 0 C) * T (ix3 b (⟨p, by omega⟩ : Fin 10) C))
      + cw (ix2 1 C) * T (ix3 b (⟨1 + p, by omega⟩ : Fin 10) C)) + cw (ix2 2 C) * T (ix3 b (⟨2 + p, by omega⟩ : Fin 10) C)) := by
    pointwise [conv, over]
  rw [e]; unfold conv3
  rw [zero_add]
  ac_rfl

/-- The gelu of one number. -/
def ge (x : EReal) : EReal :=
  x * ((Scalar.ofBits (F := Ideal) .f32 0x3F000000#32 : EReal) * ((Scalar.ofBits (F := Ideal) .f32 0x3F800000#32 : EReal)
    + Ideal.tanh ((Scalar.ofBits (F := Ideal) .f32 0x3F4C422A#32 : EReal) * (x + (Scalar.ofBits (F := Ideal) .f32 0x3D372713#32 : EReal) * (x * (x * x))))))

/-- The gelu at an index. -/
theorem gl_at (G : FVec Ideal S128x8x5632 .f32) (y : S128x8x5632.Idx) : gl G y = ge (G y) := by
  unfold ge
  rw [← mul_assoc (G y) (G y) (G y)]
  pointwise [gl]

/-- The activation at an index. -/
theorem actOn_at (Y : FVec Ideal S128x8x11264 .f32) (b : Fin 128) (p : Fin 8) (C : Fin 5632) (R : Fin 1024) (hR : (R : ℕ) = b * 8 + p) :
    actOn Y (ix2 R C) = ge (Y (ix3 b p (⟨C, by omega⟩ : Fin 11264))) * Y (ix3 b p (⟨5632 + C, by omega⟩ : Fin 11264)) := by
  have ft : ∀ (v : FVec Ideal S1024x5632 .f32) (y : S1024x5632.Idx), (truncf (F := Ideal) .bf16 v bitsLt_bf16_f32) y = v y := fun v y => by pointwise
  have fs : ∀ (v : FVec Ideal S128x8x5632 .f32), (shapeCast S1024x5632 v shapeCasts_S128x8x5632_S1024x5632) (ix2 R C) = v (ix3 b p C) := fun v => by
    have e : (shapeCast S1024x5632 v shapeCasts_S128x8x5632_S1024x5632) (ix2 R C) = v (ix3 (⟨R / 8, by omega⟩ : Fin 128) (⟨R % 8, by omega⟩ : Fin 8) C) := by
      pointwise
    exact e.trans (congrArg₂ (fun (i : Fin 128) (j : Fin 8) => v (ix3 i j C)) (Fin.ext (by show (R : ℕ) / 8 = b; omega)) (Fin.ext (by show (R : ℕ) % 8 = p; omega)))
  have fm : ∀ (u v : FVec Ideal S128x8x5632 .f32) (y : S128x8x5632.Idx), mulf u v y = u y * v y := fun u v y => by pointwise
  have fg : gateOf Y (ix3 b p C) = Y (ix3 b p (⟨C, by omega⟩ : Fin 11264)) := by pointwise [gateOf]
  have fv : valOf Y (ix3 b p C) = Y (ix3 b p (⟨5632 + C, by omega⟩ : Fin 11264)) := by pointwise [valOf]
  unfold actOn
  rw [ft, fs, fm, gl_at, fg, fv]

end Cert.UpSRefIdeal.Spec
-- ==== Proof.UpSValue.lean ====
module

public import proofs.«01_k».proof.Proof.Gen.UpSIdeal.Frame
public import proofs.«01_k».proof.Proof.UpSSpec
public import Idealize.ShloMosaic.Lib.Pipeline.ValueKit
public import Idealize.ShloMosaic.Lib.Pointwise
public import Idealize.ShloMosaic.Lib.KernelVsHost
public import Idealize.ShloMosaic.Lib.WholeRead

/-! # The up projection of the sampled rows, with its causal convolution and gate: its values

A batch is eight rows. Its two carried rows are scattered to the first two of its eight in a scratch buffer of four
planes, a plane to 128 columns, and read back as one array. With them in place the body's rolled rows are the
convolution's three taps. The projection then goes to the same buffer and the last two of every eight rows come back. -/

@[expose] public section

set_option maxRecDepth 16384

noncomputable section

open Idealize.ShloMosaic Idealize.ShloMosaic.TcCoe Idealize.SL.Sem
open Idealize.ShloMosaic.Pipeline (Dat)

namespace Cert.UpSIdeal.Value
open Cert.UpSIdeal Cert.UpSIdeal.Gen
open Cert.UpSRefIdeal.Spec (upAt up ext conv conv3 ge gl actOn acts tails weights weights_lo weights_hi up_at ext_lo ext_hi conv_at actOn_at)

/-! ## What the scratch buffer holds -/

/-- A strided write to every eighth row of a plane, seen at an index. -/
theorem canon_stride (a q : ℕ) (hq : q < 8) (inb) (pos)
    (w : FVec Ideal S1x128x128 .f32) (L : List (View.Piece (Elt Ideal) S4x1024x128 .f32)) (p : Fin 4) (s : Fin 1024) (k : Fin 128) :
    View.canon (Val := Elt Ideal) (⟨({ off := ![a, q, 0], size := S1x128x128.size, stride := ![1, 8, 1], inb := inb, stride_pos := pos } : Rect S4x1024x128), w⟩ :: L) (ix3 p s k)
      = if (p : ℕ) = a ∧ (s : ℕ) % 8 = q then w (ix3 0 (⟨(s : ℕ) / 8, by omega⟩ : Fin 128) k) else View.canon (Val := Elt Ideal) L (ix3 p s k) := by
  split
  · rename_i h
    have e : (ix3 p s k : S4x1024x128.Idx) = ({ off := ![a, q, 0], size := S1x128x128.size, stride := ![1, 8, 1], inb := inb, stride_pos := pos } : Rect S4x1024x128).emb
        (ix3 0 (⟨(s : ℕ) / 8, by omega⟩ : Fin 128) k : S1x128x128.Idx) := by
      funext d
      apply Fin.ext
      fin_cases d
      · show (p : ℕ) = a + 1 * 0; omega
      · show (s : ℕ) = q + 8 * ((s : ℕ) / 8); omega
      · show (k : ℕ) = 0 + 1 * (k : ℕ); omega
    rw [e]
    exact View.canon_cons_emb (Val := Elt Ideal) ({ off := ![a, q, 0], size := S1x128x128.size, stride := ![1, 8, 1], inb := inb, stride_pos := pos } : Rect S4x1024x128) w L _
  · rename_i h
    refine View.canon_cons_of_not_mem _ L ?_
    intro hm
    obtain ⟨i, hi, he⟩ := (LoadRect.mem_set _).mp hm (0 : Fin 3)
    obtain ⟨j, hj, hf⟩ := (LoadRect.mem_set _).mp hm (1 : Fin 3)
    have hi1 : i < 1 := hi
    have he' : (p : ℕ) = a + 1 * i := he
    have hf' : (s : ℕ) = q + 8 * j := hf
    omega

/-- A write of a whole plane, seen at an index. -/
theorem canon_plane (a : ℕ) (inb) (w : FVec Ideal S1x1024x128 .f32) (L : List (View.Piece (Elt Ideal) S4x1024x128 .f32)) (p : Fin 4) (s : Fin 1024) (k : Fin 128) :
    View.canon (Val := Elt Ideal) (⟨(Rect.unit ![a, 0, 0] S1x1024x128.size inb : Rect S4x1024x128), w⟩ :: L) (ix3 p s k)
      = if (p : ℕ) = a then w (ix3 0 s k) else View.canon (Val := Elt Ideal) L (ix3 p s k) := by
  split
  · rename_i h
    have e : (ix3 p s k : S4x1024x128.Idx) = (Rect.unit ![a, 0, 0] S1x1024x128.size inb : Rect S4x1024x128).emb (ix3 0 s k : S1x1024x128.Idx) := by
      funext d
      apply Fin.ext
      fin_cases d
      · show (p : ℕ) = a + 1 * 0; omega
      · show (s : ℕ) = 0 + 1 * (s : ℕ); omega
      · show (k : ℕ) = 0 + 1 * (k : ℕ); omega
    rw [e]
    exact View.canon_cons_emb (Val := Elt Ideal) (Rect.unit ![a, 0, 0] S1x1024x128.size inb : Rect S4x1024x128) w L _
  · rename_i h
    refine View.canon_cons_of_not_mem _ L ?_
    intro hm
    obtain ⟨i, hi, he⟩ := (LoadRect.mem_set _).mp hm (0 : Fin 3)
    have hi1 : i < 1 := hi
    have he' : (p : ℕ) = a + 1 * i := he
    omega

/-- One of the eight writes of carried rows: its value at an index. -/
theorem carried_pay (A : Memref sig .tc .vmem S128x2x512 .f32) (hA : A.IsWhole) (x : Vec Ideal S128x2x512 .f32) (q o : ℕ) (inb) (b : Fin 128) (k : Fin 128) (Q : Fin 2) (K : Fin 512)
    (hQ : (Q : ℕ) = q) (hK : (K : ℕ) = o + k) :
    k0_pay8 (F := Ideal) (View.readAt (Elt Ideal) A.view (Rect.unit (s := S128x2x512) ![0, q, o] S128x1x128.size inb).toLoadRect (hA.unread x)) (ix3 0 b k) = x (ix3 b Q K) := by
  have e : ∀ v : Vec Ideal S128x1x128 .f32, k0_pay8 (F := Ideal) v (ix3 0 b k) = v (ix3 b 0 k) := fun v => by pointwise [k0_pay8]
  rw [e]
  refine (hA.readAt_unread x _ _).trans (congrArg x (funext fun d => Fin.ext ?_))
  fin_cases d
  · show 0 + 1 * (b : ℕ) = b; omega
  · show q + 1 * 0 = (Q : ℕ); omega
  · show o + 1 * (k : ℕ) = K; omega

/-- Row `q` of a batch's eight holds the batch's carried row `q`, -/
theorem carried (c : Dev nD) (A : Memref sig .tc .vmem S128x2x512 .f32) (hA : A.IsWhole) (x : Vec Ideal S128x2x512 .f32)
    (p : Fin 4) (s : Fin 1024) (k : Fin 128) (b : Fin 128) (q : Fin 2) (K : Fin 512) (hs : (s : ℕ) = b * 8 + q) (hK : (K : ℕ) = p * 128 + k) :
    View.canon (Val := Elt Ideal) (kernelRun0_A.sl.HS0_9 (F := Ideal) c A hA x) (ix3 p s k) = x (ix3 b q K) := by
  have hb : (⟨(s : ℕ) / 8, by omega⟩ : Fin 128) = b := Fin.ext (by show (s : ℕ) / 8 = b; omega)
  have hm : (s : ℕ) % 8 = q := by omega
  unfold kernelRun0_A.sl.HS0_9
  rw [canon_stride 3 1 (by omega), canon_stride 2 1 (by omega), canon_stride 1 1 (by omega), canon_stride 0 1 (by omega),
    canon_stride 3 0 (by omega), canon_stride 2 0 (by omega), canon_stride 1 0 (by omega), canon_stride 0 0 (by omega), hb, hm]
  have hp := p.isLt
  have hq := q.isLt
  by_cases q1 : (q : ℕ) = 1
  · by_cases p3 : (p : ℕ) = 3
    · rw [if_pos ⟨p3, q1⟩]
      exact carried_pay A hA x 1 384 _ b k q K q1 (by omega)
    rw [if_neg (fun h => p3 h.1)]
    by_cases p2 : (p : ℕ) = 2
    · rw [if_pos ⟨p2, q1⟩]
      exact carried_pay A hA x 1 256 _ b k q K q1 (by omega)
    rw [if_neg (fun h => p2 h.1)]
    by_cases p1 : (p : ℕ) = 1
    · rw [if_pos ⟨p1, q1⟩]
      exact carried_pay A hA x 1 128 _ b k q K q1 (by omega)
    rw [if_neg (fun h => p1 h.1), if_pos ⟨by omega, q1⟩]
    exact carried_pay A hA x 1 0 _ b k q K q1 (by omega)
  · rw [if_neg (fun h => q1 h.2), if_neg (fun h => q1 h.2), if_neg (fun h => q1 h.2), if_neg (fun h => q1 h.2)]
    have q0 : (q : ℕ) = 0 := by omega
    by_cases p3 : (p : ℕ) = 3
    · rw [if_pos ⟨p3, q0⟩]
      exact carried_pay A hA x 0 384 _ b k q K q0 (by omega)
    rw [if_neg (fun h => p3 h.1)]
    by_cases p2 : (p : ℕ) = 2
    · rw [if_pos ⟨p2, q0⟩]
      exact carried_pay A hA x 0 256 _ b k q K q0 (by omega)
    rw [if_neg (fun h => p2 h.1)]
    by_cases p1 : (p : ℕ) = 1
    · rw [if_pos ⟨p1, q0⟩]
      exact carried_pay A hA x 0 128 _ b k q K q0 (by omega)
    rw [if_neg (fun h => p1 h.1), if_pos ⟨by omega, q0⟩]
    exact carried_pay A hA x 0 0 _ b k q K q0 (by omega)

/-- A whole read of a whole buffer is what it holds. -/
theorem read2 {m n : ℕ} {t : EltTy} (A : Memref sig .tc .vmem (⟨2, ![m, n]⟩ : Shape) t) (hA : A.IsWhole) (x : (⟨2, ![m, n]⟩ : Shape).Idx → Elt Ideal t) (inb) :
    View.readAt (Elt Ideal) A.view (Rect.unit (s := (⟨2, ![m, n]⟩ : Shape)) ![0, 0] (⟨2, ![m, n]⟩ : Shape).size inb).toLoadRect (hA.unread x) = x := by
  funext y
  refine (hA.readAt_unread x _ _).trans (congrArg x (funext fun d => Fin.ext ?_))
  fin_cases d
  · show 0 + 1 * (y 0 : ℕ) = y 0; omega
  · show 0 + 1 * (y 1 : ℕ) = y 1; omega

/-- The projection of a block, -/
theorem prod_eq (c : Dev nD) (A : Memref sig .tc .vmem S1024x2048 .bf16) (hA : A.IsWhole) (B : Memref sig .tc .vmem S2048x512 .bf16) (hB : B.IsWhole)
    (x : Vec Ideal S1024x2048 .bf16) (w : Vec Ideal S2048x512 .bf16) : kernelRun0_A.sl.r_1 (F := Ideal) c A hA B hB x w = k0_pay5 x w := by
  unfold kernelRun0_A.sl.r_1
  exact congrArg₂ (k0_pay5 (F := Ideal)) (read2 A hA x _) (read2 B hB w _)

/-- and at an index. -/
theorem prod_at (x : Vec Ideal S1024x2048 .bf16) (w : Vec Ideal S2048x512 .bf16) (s : Fin 1024) (K : Fin 512) :
    k0_pay5 (F := Ideal) x w (ix2 s K) = upAt (fun a => x (ix2 s a)) (fun a => w (ix2 a K)) := by
  pointwise [k0_pay5, upAt]

/-- and once the projection is kept there, the planes hold it. -/
theorem kept (c : Dev nD) (A : Memref sig .tc .vmem S1024x2048 .bf16) (hA : A.IsWhole) (B : Memref sig .tc .vmem S2048x512 .bf16) (hB : B.IsWhole)
    (D : Memref sig .tc .vmem S128x2x512 .f32) (hD : D.IsWhole) (x : Vec Ideal S1024x2048 .bf16) (w : Vec Ideal S2048x512 .bf16) (e : Vec Ideal S128x2x512 .f32)
    (p : Fin 4) (s : Fin 1024) (k : Fin 128) (K : Fin 512) (hK : (K : ℕ) = p * 128 + k) :
    View.canon (Val := Elt Ideal) (kernelRun0_A.sl.HS0_13 (F := Ideal) c A hA B hB D hD x w e) (ix3 p s k) = kernelRun0_A.sl.r_1 (F := Ideal) c A hA B hB x w (ix2 s K) := by
  have g0 : ∀ v : FVec Ideal S1024x512 .f32, k0_pay17 (F := Ideal) v (ix3 0 s k) = v (ix2 s ⟨k, by omega⟩) := fun v => by pointwise [k0_pay17]
  have g1 : ∀ v : FVec Ideal S1024x512 .f32, k0_pay19 (F := Ideal) (k0_pay18 v) (ix3 0 s k) = v (ix2 s ⟨128 + k, by omega⟩) := fun v => by pointwise [k0_pay19, k0_pay18]
  have g2 : ∀ v : FVec Ideal S1024x512 .f32, k0_pay20 (F := Ideal) v (ix3 0 s k) = v (ix2 s ⟨256 + k, by omega⟩) := fun v => by pointwise [k0_pay20]
  have g3 : ∀ v : FVec Ideal S1024x512 .f32, k0_pay21 (F := Ideal) v (ix3 0 s k) = v (ix2 s ⟨384 + k, by omega⟩) := fun v => by pointwise [k0_pay21]
  unfold kernelRun0_A.sl.HS0_13
  rw [canon_plane 3, canon_plane 2, canon_plane 1, canon_plane 0]
  have hp := p.isLt
  by_cases p3 : (p : ℕ) = 3
  · rw [if_pos p3, g3]
    exact congrArg (fun K : Fin 512 => kernelRun0_A.sl.r_1 (F := Ideal) c A hA B hB x w (ix2 s K)) (Fin.ext (by show 384 + (k : ℕ) = K; omega))
  rw [if_neg p3]
  by_cases p2 : (p : ℕ) = 2
  · rw [if_pos p2, g2]
    exact congrArg (fun K : Fin 512 => kernelRun0_A.sl.r_1 (F := Ideal) c A hA B hB x w (ix2 s K)) (Fin.ext (by show 256 + (k : ℕ) = K; omega))
  rw [if_neg p2]
  by_cases p1 : (p : ℕ) = 1
  · rw [if_pos p1]
    exact (g1 _).trans (congrArg (fun K : Fin 512 => kernelRun0_A.sl.r_1 (F := Ideal) c A hA B hB x w (ix2 s K)) (Fin.ext (by show 128 + (k : ℕ) = K; omega)))
  rw [if_neg p1, if_pos (by omega), g0]
  exact congrArg (fun K : Fin 512 => kernelRun0_A.sl.r_1 (F := Ideal) c A hA B hB x w (ix2 s K)) (Fin.ext (by show (k : ℕ) = K; omega))

/-! ## The convolution -/

/-- Four pieces of 128 columns side by side, at an index. -/
theorem four1024 (f : Fin 4 → FVec Ideal S1024x128 .f32) (s : Fin 1024) (K : Fin 512) :
    concatenate S1024x512 1 [⟨S1024x128, f 0⟩, ⟨S1024x128, f 1⟩, ⟨S1024x128, f 2⟩, ⟨S1024x128, f 3⟩] concatenates_S1024x128_S1024x128_S1024x128_S1024x128_S1024x512_d1 (ix2 s K)
      = f (⟨K / 128, by omega⟩ : Fin 4) (ix2 s (⟨K % 128, by omega⟩ : Fin 128)) := by
  refine concatenate_ofFn_apply (t := S1024x512) (s₁ := S1024x128) (1 : Fin 2) f concatenates_S1024x128_S1024x128_S1024x128_S1024x128_S1024x512_d1 rfl 128 rfl
    (ix2 s K) (⟨K / 128, by omega⟩ : Fin 4) rfl (ix2 s (⟨K % 128, by omega⟩ : Fin 128)) rfl fun a ha => ?_
  fin_cases a
  · rfl
  · exact absurd rfl ha

/-- The same of 128 rows. -/
theorem four128 (f : Fin 4 → FVec Ideal S128x128 .f32) (s : Fin 128) (K : Fin 512) :
    concatenate S128x512 1 [⟨S128x128, f 0⟩, ⟨S128x128, f 1⟩, ⟨S128x128, f 2⟩, ⟨S128x128, f 3⟩] concatenates_S128x128_S128x128_S128x128_S128x128_S128x512_d1 (ix2 s K)
      = f (⟨K / 128, by omega⟩ : Fin 4) (ix2 s (⟨K % 128, by omega⟩ : Fin 128)) := by
  refine concatenate_ofFn_apply (t := S128x512) (s₁ := S128x128) (1 : Fin 2) f concatenates_S128x128_S128x128_S128x128_S128x128_S128x512_d1 rfl 128 rfl
    (ix2 s K) (⟨K / 128, by omega⟩ : Fin 4) rfl (ix2 s (⟨K % 128, by omega⟩ : Fin 128)) rfl fun a ha => ?_
  fin_cases a
  · rfl
  · exact absurd rfl ha

/-- The four planes as one array. -/
def planes (f : Fin 4 → Vec Ideal S1x1024x128 .f32) : FVec Ideal S1024x512 .f32 :=
  concatenate S1024x512 1 [⟨S1024x128, shapeCast S1024x128 (f 0) shapeCasts_S1x1024x128_S1024x128⟩, ⟨S1024x128, shapeCast S1024x128 (f 1) shapeCasts_S1x1024x128_S1024x128⟩,
    ⟨S1024x128, shapeCast S1024x128 (f 2) shapeCasts_S1x1024x128_S1024x128⟩, ⟨S1024x128, shapeCast S1024x128 (f 3) shapeCasts_S1x1024x128_S1024x128⟩]
    concatenates_S1024x128_S1024x128_S1024x128_S1024x128_S1024x512_d1

/-- They are so at an index. -/
theorem planes_at (f : Fin 4 → Vec Ideal S1x1024x128 .f32) (s : Fin 1024) (K : Fin 512) :
    planes f (ix2 s K) = f (⟨K / 128, by omega⟩ : Fin 4) (ix3 0 s (⟨K % 128, by omega⟩ : Fin 128)) := by
  have e : ∀ v : Vec Ideal S1x1024x128 .f32, ∀ k : Fin 128, shapeCast S1024x128 v shapeCasts_S1x1024x128_S1024x128 (ix2 s k) = v (ix3 0 s k) := fun v k => by pointwise
  exact (four1024 (fun p => shapeCast S1024x128 (f p) shapeCasts_S1x1024x128_S1024x128) s K).trans (e _ _)

/-- The row before: of the planes where a batch begins, else the projection's. -/
def tap1 (u : FVec Ideal S1024x512 .f32) (g : FVec Ideal S1024x512 .f32) : FVec Ideal S1024x512 .f32 :=
  select (cmpi .slt k0_pay7 (broadcast S1024x512 1#32)) (dynamicRotate 0 1023#32 none g rotates_S1024x512_d0) (dynamicRotate 0 1#32 none u rotates_S1024x512_d0)

/-- The row two before: of the planes in a batch's first two rows, else the projection's. -/
def tap2 (u : FVec Ideal S1024x512 .f32) (g : FVec Ideal S1024x512 .f32) : FVec Ideal S1024x512 .f32 :=
  select (cmpi .slt k0_pay7 (broadcast S1024x512 2#32)) g (dynamicRotate 0 2#32 none u rotates_S1024x512_d0)

/-- A choice at an index. -/
theorem sel_at (c : IVec S1024x512 1) (a b : FVec Ideal S1024x512 .f32) (y : S1024x512.Idx) : select c a b y = Scalar.select (c y) (a y) (b y) := by
  pointwise

/-- A row's place in its batch of eight, against a bound. -/
theorem place_at (n : BitVec 32) (s : Fin 1024) (K : Fin 512) :
    cmpi .slt k0_pay7 (broadcast S1024x512 n) (ix2 s K) = Scalar.cmpi .slt (BitVec.ofNat 32 s.val &&& 7#32) n := by
  unfold k0_pay7
  pointwise
  rfl

theorem place1 : ∀ s : Fin 1024, Scalar.cmpi .slt (BitVec.ofNat 32 s.val &&& 7#32) 1#32 = if s.val % 8 = 0 then 1#1 else 0#1 := by decide +kernel
theorem place2 : ∀ s : Fin 1024, Scalar.cmpi .slt (BitVec.ofNat 32 s.val &&& 7#32) 2#32 = if s.val % 8 < 2 then 1#1 else 0#1 := by decide +kernel

/-- With a batch's rows in place the two choices are its taps. -/
theorem taps (u g : FVec Ideal S1024x512 .f32) (b : Fin 128) (K : Fin 512) (T : ℕ → EReal)
    (hu : ∀ s : Fin 1024, (s : ℕ) / 8 = b → u (ix2 s K) = T ((s : ℕ) % 8 + 2)) (hg : ∀ s : Fin 1024, (s : ℕ) / 8 = b → (s : ℕ) % 8 < 2 → g (ix2 s K) = T ((s : ℕ) % 8))
    (s : Fin 1024) (hs : (s : ℕ) / 8 = b) : tap1 u g (ix2 s K) = T ((s : ℕ) % 8 + 1) ∧ tap2 u g (ix2 s K) = T ((s : ℕ) % 8) := by
  have hsl := s.isLt
  constructor
  · unfold tap1
    rw [sel_at, place_at, place1]
    by_cases z : (s : ℕ) % 8 = 0
    · rw [if_pos z]
      have rot : dynamicRotate 0 1023#32 none g rotates_S1024x512_d0 (ix2 s K) = g (ix2 (⟨s + 1, by omega⟩ : Fin 1024) K) := by
        refine dynamicRotate_apply (s := S1024x512) 0 1023#32 g rotates_S1024x512_d0 (ix2 s K) (ix2 (⟨s + 1, by omega⟩ : Fin 1024) K) fun b => ?_
        fin_cases b
        · show (s : ℕ) + 1 = ((s : ℕ) + 1024 - 1023 % 1024) % 1024; omega
        · rfl
      refine Eq.trans (show _ = dynamicRotate 0 1023#32 none g rotates_S1024x512_d0 (ix2 s K) from rfl) (rot.trans ((hg _ (by show ((s : ℕ) + 1) / 8 = b; omega) (by show ((s : ℕ) + 1) % 8 < 2; omega)).trans (congrArg T ?_)))
      show ((s : ℕ) + 1) % 8 = (s : ℕ) % 8 + 1
      omega
    · rw [if_neg z]
      have rot : dynamicRotate 0 1#32 none u rotates_S1024x512_d0 (ix2 s K) = u (ix2 (⟨s - 1, by omega⟩ : Fin 1024) K) := by
        refine dynamicRotate_apply (s := S1024x512) 0 1#32 u rotates_S1024x512_d0 (ix2 s K) (ix2 (⟨s - 1, by omega⟩ : Fin 1024) K) fun b => ?_
        fin_cases b
        · show (s : ℕ) - 1 = ((s : ℕ) + 1024 - 1 % 1024) % 1024; omega
        · rfl
      refine Eq.trans (show _ = dynamicRotate 0 1#32 none u rotates_S1024x512_d0 (ix2 s K) from rfl) (rot.trans ((hu _ (by show ((s : ℕ) - 1) / 8 = b; omega)).trans (congrArg T ?_)))
      show ((s : ℕ) - 1) % 8 + 2 = (s : ℕ) % 8 + 1
      omega
  · unfold tap2
    rw [sel_at, place_at, place2]
    by_cases z : (s : ℕ) % 8 < 2
    · rw [if_pos z]
      exact Eq.trans (show _ = g (ix2 s K) from rfl) (hg s hs z)
    · rw [if_neg z]
      have rot : dynamicRotate 0 2#32 none u rotates_S1024x512_d0 (ix2 s K) = u (ix2 (⟨s - 2, by omega⟩ : Fin 1024) K) := by
        refine dynamicRotate_apply (s := S1024x512) 0 2#32 u rotates_S1024x512_d0 (ix2 s K) (ix2 (⟨s - 2, by omega⟩ : Fin 1024) K) fun b => ?_
        fin_cases b
        · show (s : ℕ) - 2 = ((s : ℕ) + 1024 - 2 % 1024) % 1024; omega
        · rfl
      refine Eq.trans (show _ = dynamicRotate 0 2#32 none u rotates_S1024x512_d0 (ix2 s K) from rfl) (rot.trans ((hu _ (by show ((s : ℕ) - 2) / 8 = b; omega)).trans (congrArg T ?_)))
      show ((s : ℕ) - 2) % 8 + 2 = (s : ℕ) % 8
      omega

/-- The body's convolution at an index. -/
theorem conv_body (x : Vec Ideal S1024x2048 .bf16) (w : Vec Ideal S2048x512 .bf16) (cw : Vec Ideal S3x512 .f32) (cb : Vec Ideal S1x512 .f32) (f : Fin 4 → Vec Ideal S1x1024x128 .f32)
    (s : Fin 1024) (K : Fin 512) :
    k0_pay16 (F := Ideal) (k0_pay5 x w) cw (k0_pay6 x w cw cb) k0_pay7 (f 0) (f 1) (f 2) (f 3) (ix2 s K)
      = conv3 (cb (ix2 0 K)) (cw (ix2 0 K)) (cw (ix2 1 K)) (cw (ix2 2 K)) (tap2 (k0_pay5 x w) (planes f) (ix2 s K)) (tap1 (k0_pay5 x w) (planes f) (ix2 s K)) (k0_pay5 x w (ix2 s K)) := by
  unfold conv3 k0_pay16 k0_pay6
  show addf (addf _ (mulf _ (tap1 (k0_pay5 x w) (planes f)))) (mulf _ (tap2 (k0_pay5 x w) (planes f))) (ix2 s K) = _
  generalize tap1 (k0_pay5 x w) (planes f) = t1
  generalize tap2 (k0_pay5 x w) (planes f) = t2
  generalize k0_pay5 (F := Ideal) x w = u
  pointwise

/-- A plane read back whole. -/
theorem plane_read (A : Memref sig .tc .vmem S4x1024x128 .f32) (L : List (View.Piece (Elt Ideal) S4x1024x128 .f32)) (a : ℕ) (inb) (p : Fin 4) (hp : (p : ℕ) = a) (s : Fin 1024) (k : Fin 128) :
    View.readCov (Val := Elt Ideal) A.view L (Rect.unit (s := S4x1024x128) ![a, 0, 0] S1x1024x128.size inb).toLoadRect (ix3 0 s k) = View.canon (Val := Elt Ideal) L (ix3 p s k) := by
  rw [View.readCov_eq_canon']
  refine congrArg (View.canon (Val := Elt Ideal) L) (funext fun d => Fin.ext ?_)
  fin_cases d
  · show a + 1 * 0 = (p : ℕ); omega
  · show 0 + 1 * (s : ℕ) = s; omega
  · show 0 + 1 * (k : ℕ) = k; omega

/-- Every eighth row of a plane read back. -/
theorem rows_read (A : Memref sig .tc .vmem S4x1024x128 .f32) (L : List (View.Piece (Elt Ideal) S4x1024x128 .f32)) (a q : ℕ) (inb) (pos) (p : Fin 4) (hp : (p : ℕ) = a) (b : Fin 128) (k : Fin 128)
    (s : Fin 1024) (hs : (s : ℕ) = b * 8 + q) :
    View.readCov (Val := Elt Ideal) A.view L ({ off := ![a, q, 0], size := S1x128x128.size, stride := ![1, 8, 1], inb := inb, stride_pos := pos } : Rect S4x1024x128).toLoadRect (ix3 0 b k)
      = View.canon (Val := Elt Ideal) L (ix3 p s k) := by
  rw [View.readCov_eq_canon']
  refine congrArg (View.canon (Val := Elt Ideal) L) (funext fun d => Fin.ext ?_)
  fin_cases d
  · show a + 1 * 0 = (p : ℕ); omega
  · show q + 8 * (b : ℕ) = s; omega
  · show 0 + 1 * (k : ℕ) = k; omega

/-- The body's convolution of a half. -/
def convOf (c : Dev nD) (A : Memref sig .tc .vmem S1024x2048 .bf16) (hA : A.IsWhole) (B : Memref sig .tc .vmem S2048x512 .bf16) (hB : B.IsWhole)
    (D : Memref sig .tc .vmem S128x2x512 .f32) (hD : D.IsWhole) (E : Memref sig .tc .vmem S3x512 .f32) (hE : E.IsWhole) (G : Memref sig .tc .vmem S1x512 .f32) (hG : G.IsWhole)
    (Z : Memref sig .tc .vmem S4x1024x128 .f32)
    (x : Vec Ideal S1024x2048 .bf16) (w : Vec Ideal S2048x512 .bf16) (e : Vec Ideal S128x2x512 .f32) (cw : Vec Ideal S3x512 .f32) (cb : Vec Ideal S1x512 .f32) : FVec Ideal S1024x512 .f32 :=
  kernelRun0_A.sl.r_6 (F := Ideal) c A hA B hB D hD E hE G hG Z x w e cw cb

/-- The four planes of carried rows, as the body reads them back, -/
def gathered (c : Dev nD) (D : Memref sig .tc .vmem S128x2x512 .f32) (hD : D.IsWhole) (Z : Memref sig .tc .vmem S4x1024x128 .f32) (e : Vec Ideal S128x2x512 .f32) :
    Fin 4 → Vec Ideal S1x1024x128 .f32
  | 0 => kernelRun0_A.sl.v57 (F := Ideal) c D hD Z e
  | 1 => kernelRun0_A.sl.v59 (F := Ideal) c D hD Z e
  | 2 => kernelRun0_A.sl.v61 (F := Ideal) c D hD Z e
  | 3 => kernelRun0_A.sl.v63 (F := Ideal) c D hD Z e

/-- at an index. -/
theorem gathered_at (c : Dev nD) (D : Memref sig .tc .vmem S128x2x512 .f32) (hD : D.IsWhole) (Z : Memref sig .tc .vmem S4x1024x128 .f32) (e : Vec Ideal S128x2x512 .f32)
    (p : Fin 4) (s : Fin 1024) (k : Fin 128) : gathered c D hD Z e p (ix3 0 s k) = View.canon (Val := Elt Ideal) (kernelRun0_A.sl.HS0_9 (F := Ideal) c D hD e) (ix3 p s k) := by
  match p with
  | 0 => exact plane_read Z _ 0 _ 0 rfl s k
  | 1 => exact plane_read Z _ 1 _ 1 rfl s k
  | 2 => exact plane_read Z _ 2 _ 2 rfl s k
  | 3 => exact plane_read Z _ 3 _ 3 rfl s k

/-- It is the reference's convolution of the row, once the row, its column of weights and the carried rows are in place. -/
theorem convOf_at (c : Dev nD) (A : Memref sig .tc .vmem S1024x2048 .bf16) (hA : A.IsWhole) (B : Memref sig .tc .vmem S2048x512 .bf16) (hB : B.IsWhole)
    (D : Memref sig .tc .vmem S128x2x512 .f32) (hD : D.IsWhole) (E : Memref sig .tc .vmem S3x512 .f32) (hE : E.IsWhole) (G : Memref sig .tc .vmem S1x512 .f32) (hG : G.IsWhole)
    (Z : Memref sig .tc .vmem S4x1024x128 .f32)
    (x : Vec Ideal S1024x2048 .bf16) (w : Vec Ideal S2048x512 .bf16) (e : Vec Ideal S128x2x512 .f32) (cw : Vec Ideal S3x512 .f32) (cb : Vec Ideal S1x512 .f32)
    (b : Fin 128) (K : Fin 512) (T : ℕ → EReal)
    (hu : ∀ s : Fin 1024, (s : ℕ) / 8 = b → upAt (fun a => x (ix2 s a)) (fun a => w (ix2 a K)) = T ((s : ℕ) % 8 + 2)) (he : ∀ q : Fin 2, e (ix3 b q K) = T q)
    (s : Fin 1024) (hs : (s : ℕ) / 8 = b) :
    convOf c A hA B hB D hD E hE G hG Z x w e cw cb (ix2 s K)
      = conv3 (cb (ix2 0 K)) (cw (ix2 0 K)) (cw (ix2 1 K)) (cw (ix2 2 K)) (T ((s : ℕ) % 8)) (T ((s : ℕ) % 8 + 1)) (T ((s : ℕ) % 8 + 2)) := by
  have h2 : kernelRun0_A.sl.r_2 (F := Ideal) c E hE cw = cw := by
    unfold kernelRun0_A.sl.r_2
    exact read2 E hE cw _
  have h3 : kernelRun0_A.sl.r_3 (F := Ideal) c A hA B hB E hE G hG x w cw cb = k0_pay6 x w cw cb := by
    unfold kernelRun0_A.sl.r_3
    rw [read2 A hA x, read2 B hB w, read2 E hE cw, read2 G hG cb]
  have f := conv_body x w cw cb (gathered c D hD Z e) s K
  have tp := taps (k0_pay5 x w) (planes (gathered c D hD Z e)) b K T (fun s hs => (prod_at x w s K).trans (hu s hs)) (fun s hs hq => by
    refine (planes_at _ s K).trans ((gathered_at c D hD Z e _ s _).trans ?_)
    refine Eq.trans ?_ (he ⟨(s : ℕ) % 8, hq⟩)
    exact carried c D hD e _ s _ b ⟨(s : ℕ) % 8, hq⟩ K (by show (s : ℕ) = b * 8 + (s : ℕ) % 8; omega)
      (by show (K : ℕ) = (K : ℕ) / 128 * 128 + (K : ℕ) % 128; omega)) s hs
  unfold convOf kernelRun0_A.sl.r_6
  rw [prod_eq, h2, h3]
  refine f.trans ?_
  rw [tp.1, tp.2, prod_at, hu s hs]

/-- The last rows of every batch from the four planes, where the planes hold the projection. -/
theorem tail_row (c : Dev nD) (A : Memref sig .tc .vmem S1024x2048 .bf16) (hA : A.IsWhole) (B : Memref sig .tc .vmem S2048x512 .bf16) (hB : B.IsWhole)
    (D : Memref sig .tc .vmem S128x2x512 .f32) (hD : D.IsWhole) (x : Vec Ideal S1024x2048 .bf16) (w : Vec Ideal S2048x512 .bf16) (e : Vec Ideal S128x2x512 .f32)
    (q : ℕ) (f : Fin 4 → Vec Ideal S1x128x128 .f32) (b : Fin 128) (s : Fin 1024) (hs : (s : ℕ) = b * 8 + q)
    (hf : ∀ (p : Fin 4) (k : Fin 128), f p (ix3 0 b k) = View.canon (Val := Elt Ideal) (kernelRun0_A.sl.HS0_13 (F := Ideal) c A hA B hB D hD x w e) (ix3 p s k)) (K : Fin 512) :
    k0_pay22 (F := Ideal) (f 0) (f 1) (f 2) (f 3) (ix3 0 b K) = upAt (fun a => x (ix2 s a)) (fun a => w (ix2 a K)) := by
  have e1 : ∀ v : Vec Ideal S1x128x128 .f32, ∀ k : Fin 128, shapeCast S128x128 v shapeCasts_S1x128x128_S128x128 (ix2 b k) = v (ix3 0 b k) := fun v k => by pointwise
  have e2 : ∀ v : FVec Ideal S128x512 .f32, shapeCast S1x128x512 v shapeCasts_S128x512_S1x128x512 (ix3 0 b K) = v (ix2 b K) := fun v => by pointwise
  unfold k0_pay22
  refine (e2 _).trans ((four128 (fun p => shapeCast S128x128 (f p) shapeCasts_S1x128x128_S128x128) b K).trans ((e1 _ _).trans ((hf _ _).trans ?_)))
  rw [kept c A hA B hB D hD x w e _ s _ K (by show (K : ℕ) = (K : ℕ) / 128 * 128 + (K : ℕ) % 128; omega), prod_eq, prod_at]

/-- A write of one of the two arrays of last rows, seen at an index. -/
theorem canon_half (a : ℕ) (inb) (w : FVec Ideal S1x128x512 .f32) (L : List (View.Piece (Elt Ideal) S2x128x512 .f32)) (q : Fin 2) (b : Fin 128) (k : Fin 512) :
    View.canon (Val := Elt Ideal) (⟨(Rect.unit ![a, 0, 0] S1x128x512.size inb : Rect S2x128x512), w⟩ :: L) (ix3 q b k)
      = if (q : ℕ) = a then w (ix3 0 b k) else View.canon (Val := Elt Ideal) L (ix3 q b k) := by
  split
  · rename_i h
    have e : (ix3 q b k : S2x128x512.Idx) = (Rect.unit ![a, 0, 0] S1x128x512.size inb : Rect S2x128x512).emb (ix3 0 b k : S1x128x512.Idx) := by
      funext d
      apply Fin.ext
      fin_cases d
      · show (q : ℕ) = a + 1 * 0; omega
      · show (b : ℕ) = 0 + 1 * (b : ℕ); omega
      · show (k : ℕ) = 0 + 1 * (k : ℕ); omega
    rw [e]
    exact View.canon_cons_emb (Val := Elt Ideal) (Rect.unit ![a, 0, 0] S1x128x512.size inb : Rect S2x128x512) w L _
  · rename_i h
    refine View.canon_cons_of_not_mem _ L ?_
    intro hm
    obtain ⟨i, hi, he⟩ := (LoadRect.mem_set _).mp hm (0 : Fin 3)
    have hi1 : i < 1 := hi
    have he' : (q : ℕ) = a + 1 * i := he
    omega

section Body

variable (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S128x2x512 .f32) (harg5 : arg5.IsWhole) (arg6 : Memref sig .tc .vmem S128x2x512 .f32) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S2x128x512 .f32) (harg12 : arg12.IsWhole) (arg13 : Memref sig .tc .vmem S2x128x512 .f32) (harg13 : arg13.IsWhole) (arg14 : Memref sig .tc .vmem S4x1024x128 .f32) (harg14 : arg14.IsWhole) (arg15 : Memref sig .tc .vmem S4x1024x128 .f32) (harg15 : arg15.IsWhole) (hc0 : cond0_0 i) (x0 : Vec Ideal S1024x2048 .bf16) (x1 : Vec Ideal S2048x512 .bf16) (x2 : Vec Ideal S2048x512 .bf16) (x3 : Vec Ideal S128x2x512 .f32) (x4 : Vec Ideal S128x2x512 .f32) (x5 : Vec Ideal S3x512 .f32) (x6 : Vec Ideal S3x512 .f32) (x7 : Vec Ideal S1x512 .f32) (x8 : Vec Ideal S1x512 .f32)

/-- What a run of the body leaves in the first result's block, -/
theorem out9 : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
    = k0_pay2 (convOf c arg2 harg2 arg3 harg3 arg5 harg5 arg7 harg7 arg9 harg9 arg14 x0 x1 x3 x5 x7) (convOf c arg2 harg2 arg4 harg4 arg6 harg6 arg8 harg8 arg10 harg10 arg15 x0 x2 x4 x6 x8) := by
  unfold out0_A_9
  rw [View.read_writes_junk_eq_canon]
  unfold kernelRun0_A
  dsimp only
  exact View.canon_cons_unit_lit (Val := Elt Ideal) _ _ [] (by decide)

/-- in the second's, -/
theorem out10 (q : Fin 2) (b : Fin 128) (K : Fin 512) (s : Fin 1024) (hs : (s : ℕ) = b * 8 + (6 + q)) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix3 q b K)
    = upAt (fun a => x0 (ix2 s a)) (fun a => x1 (ix2 a K)) := by
  unfold out0_A_10
  rw [View.read_writes_junk_eq_canon]
  unfold kernelRun0_A
  dsimp only
  refine (canon_half 1 _ _ _ q b K).trans ?_
  have hq := q.isLt
  split
  · rename_i h
    exact tail_row c arg2 harg2 arg3 harg3 arg5 harg5 x0 x1 x3 7 (fun p => match p with
        | 0 => kernelRun0_A.sl.v111 (F := Ideal) c arg2 harg2 arg3 harg3 arg5 harg5 arg14 x0 x1 x3 | 1 => kernelRun0_A.sl.v113 (F := Ideal) c arg2 harg2 arg3 harg3 arg5 harg5 arg14 x0 x1 x3
        | 2 => kernelRun0_A.sl.v115 (F := Ideal) c arg2 harg2 arg3 harg3 arg5 harg5 arg14 x0 x1 x3 | 3 => kernelRun0_A.sl.v117 (F := Ideal) c arg2 harg2 arg3 harg3 arg5 harg5 arg14 x0 x1 x3)
      b s (by omega) (fun p k => match p with
        | 0 => rows_read arg14 _ 0 7 _ spos_1_8_1 0 rfl b k s (by omega) | 1 => rows_read arg14 _ 1 7 _ spos_1_8_1 1 rfl b k s (by omega)
        | 2 => rows_read arg14 _ 2 7 _ spos_1_8_1 2 rfl b k s (by omega) | 3 => rows_read arg14 _ 3 7 _ spos_1_8_1 3 rfl b k s (by omega)) K
  · rename_i h
    refine (canon_half 0 _ _ _ q b K).trans ?_
    rw [if_pos (by omega)]
    exact tail_row c arg2 harg2 arg3 harg3 arg5 harg5 x0 x1 x3 6 (fun p => match p with
        | 0 => kernelRun0_A.sl.v99 (F := Ideal) c arg2 harg2 arg3 harg3 arg5 harg5 arg14 x0 x1 x3 | 1 => kernelRun0_A.sl.v101 (F := Ideal) c arg2 harg2 arg3 harg3 arg5 harg5 arg14 x0 x1 x3
        | 2 => kernelRun0_A.sl.v103 (F := Ideal) c arg2 harg2 arg3 harg3 arg5 harg5 arg14 x0 x1 x3 | 3 => kernelRun0_A.sl.v105 (F := Ideal) c arg2 harg2 arg3 harg3 arg5 harg5 arg14 x0 x1 x3)
      b s (by omega) (fun p k => match p with
        | 0 => rows_read arg14 _ 0 6 _ spos_1_8_1 0 rfl b k s (by omega) | 1 => rows_read arg14 _ 1 6 _ spos_1_8_1 1 rfl b k s (by omega)
        | 2 => rows_read arg14 _ 2 6 _ spos_1_8_1 2 rfl b k s (by omega) | 3 => rows_read arg14 _ 3 6 _ spos_1_8_1 3 rfl b k s (by omega)) K

/-- The value's half keeps its projection as the gate's does. -/
theorem kept_same : kernelRun0_A.sl.HS1_13 (F := Ideal) c arg2 harg2 arg4 harg4 arg6 harg6 x0 x2 x4 = kernelRun0_A.sl.HS0_13 (F := Ideal) c arg2 harg2 arg4 harg4 arg6 harg6 x0 x2 x4 := rfl

/-- and in the third's. -/
theorem out11 (q : Fin 2) (b : Fin 128) (K : Fin 512) (s : Fin 1024) (hs : (s : ℕ) = b * 8 + (6 + q)) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix3 q b K)
    = upAt (fun a => x0 (ix2 s a)) (fun a => x2 (ix2 a K)) := by
  unfold out0_A_11
  rw [View.read_writes_junk_eq_canon]
  unfold kernelRun0_A
  dsimp only
  refine (canon_half 1 _ _ _ q b K).trans ?_
  have hq := q.isLt
  have z : ∀ y, View.canon (Val := Elt Ideal) (kernelRun0_A.sl.HS1_13 (F := Ideal) c arg2 harg2 arg4 harg4 arg6 harg6 x0 x2 x4) y
      = View.canon (Val := Elt Ideal) (kernelRun0_A.sl.HS0_13 (F := Ideal) c arg2 harg2 arg4 harg4 arg6 harg6 x0 x2 x4) y := fun y => by
    rw [kept_same]
  split
  · rename_i h
    exact tail_row c arg2 harg2 arg4 harg4 arg6 harg6 x0 x2 x4 7 (fun p => match p with
        | 0 => kernelRun0_A.sl.v230 (F := Ideal) c arg2 harg2 arg4 harg4 arg6 harg6 arg15 x0 x2 x4 | 1 => kernelRun0_A.sl.v232 (F := Ideal) c arg2 harg2 arg4 harg4 arg6 harg6 arg15 x0 x2 x4
        | 2 => kernelRun0_A.sl.v234 (F := Ideal) c arg2 harg2 arg4 harg4 arg6 harg6 arg15 x0 x2 x4 | 3 => kernelRun0_A.sl.v236 (F := Ideal) c arg2 harg2 arg4 harg4 arg6 harg6 arg15 x0 x2 x4)
      b s (by omega) (fun p k => match p with
        | 0 => (rows_read arg15 _ 0 7 _ spos_1_8_1 0 rfl b k s (by omega)).trans (z _) | 1 => (rows_read arg15 _ 1 7 _ spos_1_8_1 1 rfl b k s (by omega)).trans (z _)
        | 2 => (rows_read arg15 _ 2 7 _ spos_1_8_1 2 rfl b k s (by omega)).trans (z _) | 3 => (rows_read arg15 _ 3 7 _ spos_1_8_1 3 rfl b k s (by omega)).trans (z _)) K
  · rename_i h
    refine (canon_half 0 _ _ _ q b K).trans ?_
    rw [if_pos (by omega)]
    exact tail_row c arg2 harg2 arg4 harg4 arg6 harg6 x0 x2 x4 6 (fun p => match p with
        | 0 => kernelRun0_A.sl.v218 (F := Ideal) c arg2 harg2 arg4 harg4 arg6 harg6 arg15 x0 x2 x4 | 1 => kernelRun0_A.sl.v220 (F := Ideal) c arg2 harg2 arg4 harg4 arg6 harg6 arg15 x0 x2 x4
        | 2 => kernelRun0_A.sl.v222 (F := Ideal) c arg2 harg2 arg4 harg4 arg6 harg6 arg15 x0 x2 x4 | 3 => kernelRun0_A.sl.v224 (F := Ideal) c arg2 harg2 arg4 harg4 arg6 harg6 arg15 x0 x2 x4)
      b s (by omega) (fun p k => match p with
        | 0 => (rows_read arg15 _ 0 6 _ spos_1_8_1 0 rfl b k s (by omega)).trans (z _) | 1 => (rows_read arg15 _ 1 6 _ spos_1_8_1 1 rfl b k s (by omega)).trans (z _)
        | 2 => (rows_read arg15 _ 2 6 _ spos_1_8_1 2 rfl b k s (by omega)).trans (z _) | 3 => (rows_read arg15 _ 3 6 _ spos_1_8_1 3 rfl b k s (by omega)).trans (z _)) K

end Body

/-! ## The values -/

/-- The body's activation at an index. -/
theorem act_body (G V : FVec Ideal S1024x512 .f32) (y : S1024x512.Idx) : k0_pay2 (F := Ideal) G V y = ge (G y) * V y := by
  unfold ge
  pointwise [k0_pay2]

/-- The body's convolution of one half is the reference's. -/
theorem half (c : Dev nD) (A : Memref sig .tc .vmem S1024x2048 .bf16) (hA : A.IsWhole) (B : Memref sig .tc .vmem S2048x512 .bf16) (hB : B.IsWhole)
    (D : Memref sig .tc .vmem S128x2x512 .f32) (hD : D.IsWhole) (E : Memref sig .tc .vmem S3x512 .f32) (hE : E.IsWhole) (G : Memref sig .tc .vmem S1x512 .f32) (hG : G.IsWhole)
    (Z : Memref sig .tc .vmem S4x1024x128 .f32)
    (x : Vec Ideal S1024x2048 .bf16) (w : Vec Ideal S2048x512 .bf16) (e : Vec Ideal S128x2x512 .f32) (cw : Vec Ideal S3x512 .f32) (cb : Vec Ideal S1x512 .f32)
    (X : FVec Ideal S1024x2048 .bf16) (W : FVec Ideal Cert.UpSRefIdeal.S2048x11264 .bf16) (P : FVec Ideal S128x2x11264 .f32) (CW : FVec Ideal S3x11264 .f32) (CB : FVec Ideal S11264 .f32)
    (b : Fin 128) (p : Fin 8) (K : Fin 512) (C : Fin 11264)
    (hx : ∀ (s : Fin 1024) (a : Fin 2048), x (ix2 s a) = X (ix2 s a)) (hw : ∀ a : Fin 2048, w (ix2 a K) = W (ix2 a C)) (he : ∀ q : Fin 2, e (ix3 b q K) = P (ix3 b q C))
    (hcw : ∀ n : Fin 3, cw (ix2 n K) = CW (ix2 n C)) (hcb : cb (ix2 0 K) = CB (ix1 C)) (s : Fin 1024) (hs : (s : ℕ) = b * 8 + p) :
    convOf c A hA B hB D hD E hE G hG Z x w e cw cb (ix2 s K) = conv (ext P (up X W)) CW CB (ix3 b p C) := by
  obtain ⟨T, hcol⟩ : ∃ T : ℕ → EReal, ∀ (n : ℕ) (hn : n < 10), T n = ext P (up X W) (ix3 b (⟨n, hn⟩ : Fin 10) C) :=
    ⟨fun n => if hn : n < 10 then ext P (up X W) (ix3 b (⟨n, hn⟩ : Fin 10) C) else 0, fun n hn => dif_pos hn⟩
  have k := convOf_at c A hA B hB D hD E hE G hG Z x w e cw cb b K T
    (fun s hs => by
      refine Eq.trans ?_ (hcol ((s : ℕ) % 8 + 2) (by omega)).symm
      refine Eq.trans ?_ (ext_hi P (up X W) b _ (⟨(s : ℕ) % 8, by omega⟩ : Fin 8) C rfl).symm
      refine Eq.trans ?_ (up_at X W b _ C s (by show (s : ℕ) = b * 8 + (s : ℕ) % 8; omega)).symm
      exact congrArg₂ upAt (funext fun a => hx s a) (funext hw))
    (fun q => (he q).trans ((ext_lo P (up X W) b (⟨(q : ℕ), by omega⟩ : Fin 10) q C rfl).symm.trans (hcol q (by omega)).symm)) s (by omega)
  have hm : (s : ℕ) % 8 = p := by omega
  rw [hm] at k
  rw [hcw 0, hcw 1, hcw 2, hcb, hcol p (by omega), hcol (p + 1) (by omega), hcol (p + 2) (by omega)] at k
  exact k.trans (conv_at _ CW CB b p C).symm

variable (m : (ℓ : Loc nD τ sig) → Buf (Elt Ideal) ℓ)

/-- The windows' blocks in order: a point's block is its 512 columns of each half. -/
theorem idx : ∀ t : Fin cfg0.N, win0_0.index t = ![0, 0] ∧ win0_1.index t = ![0, t.val] ∧ win0_2.index t = ![0, t.val]
    ∧ win0_3.index t = ![0, 0, t.val] ∧ win0_4.index t = ![0, 0, t.val + 11] ∧ win0_5.index t = ![0, t.val] ∧ win0_6.index t = ![0, t.val + 11]
    ∧ win0_7.index t = ![0, t.val] ∧ win0_8.index t = ![0, t.val + 11] ∧ win0_9.index t = ![0, t.val] ∧ win0_10.index t = ![0, 0, t.val]
    ∧ win0_11.index t = ![0, 0, t.val] ∧ t.val < 11 :=
  (by decide +kernel : ∀ t : Fin grid0.N, _)

/-- The rows, read whole, -/
theorem iblk0 (c : Dev nD) (t : Fin cfg0.N) (r : Fin 1024) (k : Fin 2048) :
    (show EReal from iblk m c 0 t (ix2 r k)) = (show EReal from m ((c : Thread nD τ).loc main_arg0) (ix2 r k)) := by
  have e : (show EReal from iblk m c 0 t (ix2 r k)) = (show EReal from V m c main_arg0 (ix2 r k)) := by
    blk_ext [iblk, idx t]
  exact e.trans (congrFun (V_main_arg0 m c) (ix2 r k))

/-- the two halves' weights, -/
theorem iblk1 (c : Dev nD) (t : Fin cfg0.N) (r : Fin 2048) (k : Fin 512) (C : Fin 5632) (hC : (C : ℕ) = t.val * 512 + k) :
    (show EReal from iblk m c 1 t (ix2 r k)) = (show EReal from m ((c : Thread nD τ).loc main_arg1) (ix2 r C)) := by
  have e : (show EReal from iblk m c 1 t (ix2 r k)) = (show EReal from V m c main_arg1 (ix2 r C)) := by
    blk_ext [iblk, idx t]
  exact e.trans (congrFun (V_main_arg1 m c) (ix2 r C))
theorem iblk2 (c : Dev nD) (t : Fin cfg0.N) (r : Fin 2048) (k : Fin 512) (C : Fin 5632) (hC : (C : ℕ) = t.val * 512 + k) :
    (show EReal from iblk m c 2 t (ix2 r k)) = (show EReal from m ((c : Thread nD τ).loc main_arg2) (ix2 r C)) := by
  have e : (show EReal from iblk m c 2 t (ix2 r k)) = (show EReal from V m c main_arg2 (ix2 r C)) := by
    blk_ext [iblk, idx t]
  exact e.trans (congrFun (V_main_arg2 m c) (ix2 r C))

/-- the two halves of the carried rows, -/
theorem iblk3 (c : Dev nD) (t : Fin cfg0.N) (b : Fin 128) (q : Fin 2) (k : Fin 512) (C : Fin 11264) (hC : (C : ℕ) = t.val * 512 + k) :
    (show EReal from iblk m c 3 t (ix3 b q k)) = (show EReal from m ((c : Thread nD τ).loc main_arg3) (ix3 b q C)) := by
  have e : (show EReal from iblk m c 3 t (ix3 b q k)) = (show EReal from V m c main_arg3 (ix3 b q C)) := by
    blk_ext [iblk, idx t]
  exact e.trans (congrFun (V_main_arg3 m c) (ix3 b q C))
theorem iblk4 (c : Dev nD) (t : Fin cfg0.N) (b : Fin 128) (q : Fin 2) (k : Fin 512) (C : Fin 11264) (hC : (C : ℕ) = 5632 + (t.val * 512 + k)) :
    (show EReal from iblk m c 4 t (ix3 b q k)) = (show EReal from m ((c : Thread nD τ).loc main_arg3) (ix3 b q C)) := by
  have e : (show EReal from iblk m c 4 t (ix3 b q k)) = (show EReal from V m c main_arg3 (ix3 b q C)) := by
    blk_ext [iblk, idx t]
  exact e.trans (congrFun (V_main_arg3 m c) (ix3 b q C))

/-- the two halves of the convolution's weights, -/
theorem iblk5 (c : Dev nD) (t : Fin cfg0.N) (n : Fin 3) (k : Fin 512) (C : Fin 11264) (hC : (C : ℕ) = t.val * 512 + k) :
    (show EReal from iblk m c 5 t (ix2 n k)) = (show EReal from m ((c : Thread nD τ).loc main_arg4) (ix2 n C)) := by
  have e : (show EReal from iblk m c 5 t (ix2 n k)) = (show EReal from V m c main_arg4 (ix2 n C)) := by
    blk_ext [iblk, idx t]
  exact e.trans (congrFun (V_main_arg4 m c) (ix2 n C))
theorem iblk6 (c : Dev nD) (t : Fin cfg0.N) (n : Fin 3) (k : Fin 512) (C : Fin 11264) (hC : (C : ℕ) = 5632 + (t.val * 512 + k)) :
    (show EReal from iblk m c 6 t (ix2 n k)) = (show EReal from m ((c : Thread nD τ).loc main_arg4) (ix2 n C)) := by
  have e : (show EReal from iblk m c 6 t (ix2 n k)) = (show EReal from V m c main_arg4 (ix2 n C)) := by
    blk_ext [iblk, idx t]
  exact e.trans (congrFun (V_main_arg4 m c) (ix2 n C))

/-- The bias laid out as one row. -/
theorem flat_at (v : FVec Ideal S11264 .f32) (C : Fin 11264) : shapeCast S1x11264 v shapeCasts_S11264_S1x11264 (ix2 0 C) = v (ix1 C) := by
  pointwise

/-- and the two halves of its bias. -/
theorem iblk7 (c : Dev nD) (t : Fin cfg0.N) (k : Fin 512) (C : Fin 11264) (hC : (C : ℕ) = t.val * 512 + k) :
    (show EReal from iblk m c 7 t (ix2 0 k)) = (show EReal from m ((c : Thread nD τ).loc main_arg5) (ix1 C)) := by
  have e : (show EReal from iblk m c 7 t (ix2 0 k)) = (show EReal from V m c main_v0 (ix2 0 C)) := by
    blk_ext [iblk, idx t]
  have v : V m c main_v0 = shapeCast S1x11264 (m ((c : Thread nD τ).loc main_arg5)) shapeCasts_S11264_S1x11264 := by
    show StableHlo.after (hostOps0 (F := Ideal)) (fun b => m (c, b)) (Proc.devRef .tc main_v0) = _
    after_results <;> rfl
  exact e.trans ((congrFun v (ix2 0 C)).trans (flat_at _ C))
theorem iblk8 (c : Dev nD) (t : Fin cfg0.N) (k : Fin 512) (C : Fin 11264) (hC : (C : ℕ) = 5632 + (t.val * 512 + k)) :
    (show EReal from iblk m c 8 t (ix2 0 k)) = (show EReal from m ((c : Thread nD τ).loc main_arg5) (ix1 C)) := by
  have e : (show EReal from iblk m c 8 t (ix2 0 k)) = (show EReal from V m c main_v1 (ix2 0 C)) := by
    blk_ext [iblk, idx t]
  have v : V m c main_v1 = shapeCast S1x11264 (m ((c : Thread nD τ).loc main_arg5)) shapeCasts_S11264_S1x11264 := by
    show StableHlo.after (hostOps0 (F := Ideal)) (fun b => m (c, b)) (Proc.devRef .tc main_v1) = _
    after_results <;> rfl
  exact e.trans ((congrFun v (ix2 0 C)).trans (flat_at _ C))

/-- What a point leaves in the first result's block is the reference's activation at the place of the block. -/
theorem point9 (c : Dev nD) (t : Fin cfg0.N) (r : Fin 1024) (k : Fin 512) (R : Fin 1024) (C : Fin 5632) (hR : (R : ℕ) = r) (hC : (C : ℕ) = t.val * 512 + k) :
    (outsAt0 m c t).1 (ix2 r k) = acts (m ((c : Thread nD τ).loc main_arg0)) (weights (m ((c : Thread nD τ).loc main_arg1)) (m ((c : Thread nD τ).loc main_arg2)))
      (m ((c : Thread nD τ).loc main_arg3)) (m ((c : Thread nD τ).loc main_arg4)) (m ((c : Thread nD τ).loc main_arg5)) (ix2 R C) := by
  obtain rfl : R = r := Fin.ext hR
  unfold outsAt0 acts
  dsimp only
  rw [out9, act_body]
  refine Eq.trans ?_ (actOn_at _ (⟨(R : ℕ) / 8, by omega⟩ : Fin 128) (⟨(R : ℕ) % 8, by omega⟩ : Fin 8) C R (by show (R : ℕ) = (R : ℕ) / 8 * 8 + (R : ℕ) % 8; omega)).symm
  refine congrArg₂ (· * ·) (congrArg ge ?_) ?_
  · exact half c _ _ _ _ _ _ _ _ _ _ _ _ _ _ _ _ _ _ _ _ _ _ _ k _ (fun s a => iblk0 m c t s a)
      (fun a => (iblk1 m c t a k C hC).trans (weights_lo _ _ a C).symm) (fun q => iblk3 m c t _ q k _ hC) (fun n => iblk5 m c t n k _ hC) (iblk7 m c t k _ hC)
      R (by show (R : ℕ) = (R : ℕ) / 8 * 8 + (R : ℕ) % 8; omega)
  · have hV : ((⟨5632 + C, by omega⟩ : Fin 11264) : ℕ) = 5632 + (t.val * 512 + k) := by show 5632 + (C : ℕ) = _; omega
    exact half c _ _ _ _ _ _ _ _ _ _ _ _ _ _ _ _ _ _ _ _ _ _ _ k _ (fun s a => iblk0 m c t s a)
      (fun a => (iblk2 m c t a k C hC).trans (weights_hi _ _ a C).symm) (fun q => iblk4 m c t _ q k _ hV) (fun n => iblk6 m c t n k _ hV) (iblk8 m c t k _ hV)
      R (by show (R : ℕ) = (R : ℕ) / 8 * 8 + (R : ℕ) % 8; omega)

/-- The last two rows of each batch's projection onto one half's weights, the row first. -/
def lastRows (X : FVec Ideal S1024x2048 .bf16) (W : FVec Ideal S2048x5632 .bf16) : FVec Ideal S2x128x5632 .f32 := fun y =>
  upAt (fun a => X (ix2 (⟨(y 1).val * 8 + (6 + (y 0).val), by have h : (y 0).val < 2 := (y 0).isLt; have h : (y 1).val < 128 := (y 1).isLt; omega⟩ : Fin 1024) a))
    (fun a => W (ix2 a (⟨(y 2).val, (y 2).isLt⟩ : Fin 5632)))

/-- What a point leaves in the second result's block is those rows at the place of the block, -/
theorem point10 (c : Dev nD) (t : Fin cfg0.N) (q : Fin 2) (b : Fin 128) (k : Fin 512) (Q : Fin 2) (B : Fin 128) (C : Fin 5632) (hQ : (Q : ℕ) = q) (hB : (B : ℕ) = b) (hC : (C : ℕ) = t.val * 512 + k) :
    (outsAt0 m c t).2.1 (ix3 q b k) = lastRows (m ((c : Thread nD τ).loc main_arg0)) (m ((c : Thread nD τ).loc main_arg1)) (ix3 Q B C) := by
  obtain rfl : Q = q := Fin.ext hQ
  obtain rfl : B = b := Fin.ext hB
  have hq := Q.isLt
  have hb := B.isLt
  unfold outsAt0
  dsimp only
  refine (out10 c _ _ _ _ _ _ _ _ _ _ _ _ _ _ _ _ _ _ _ _ _ _ _ _ _ _ _ _ _ _ _ _ _ _ _ _ _ _ _ Q B k (⟨(B : ℕ) * 8 + (6 + Q), by omega⟩ : Fin 1024) rfl).trans ?_
  exact congrArg₂ upAt (funext fun a => iblk0 m c t _ a) (funext fun a => iblk1 m c t a k C hC)

/-- and in the third's. -/
theorem point11 (c : Dev nD) (t : Fin cfg0.N) (q : Fin 2) (b : Fin 128) (k : Fin 512) (Q : Fin 2) (B : Fin 128) (C : Fin 5632) (hQ : (Q : ℕ) = q) (hB : (B : ℕ) = b) (hC : (C : ℕ) = t.val * 512 + k) :
    (outsAt0 m c t).2.2 (ix3 q b k) = lastRows (m ((c : Thread nD τ).loc main_arg0)) (m ((c : Thread nD τ).loc main_arg2)) (ix3 Q B C) := by
  obtain rfl : Q = q := Fin.ext hQ
  obtain rfl : B = b := Fin.ext hB
  have hq := Q.isLt
  have hb := B.isLt
  unfold outsAt0
  dsimp only
  refine (out11 c _ _ _ _ _ _ _ _ _ _ _ _ _ _ _ _ _ _ _ _ _ _ _ _ _ _ _ _ _ _ _ _ _ _ _ _ _ _ _ Q B k (⟨(B : ℕ) * 8 + (6 + Q), by omega⟩ : Fin 1024) rfl).trans ?_
  exact congrArg₂ upAt (funext fun a => iblk0 m c t _ a) (funext fun a => iblk2 m c t a k C hC)

/-- After the run the first result is the reference's activation. -/
theorem final9 (c : Dev nD) : (dats m 0 c).arrAt 9 (cfgs 0).N
    = acts (m ((c : Thread nD τ).loc main_arg0)) (weights (m ((c : Thread nD τ).loc main_arg1)) (m ((c : Thread nD τ).loc main_arg2)))
      (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  refine ((congrArg _ (eq_ix2 (y : S1024x512.Idx))).trans (point9 m c t _ _ ((win0_9.rect t).emb y 0) ((win0_9.rect t).emb y 1) ?_ ?_)).trans
    (congrArg (acts _ _ _ _ _) (eq_ix2 ((win0_9.rect t).emb y)).symm)
  · rw [Pipeline.Window.rect_emb_val_off, (idx t).2.2.2.2.2.2.2.2.2.1]; show 0 * 1024 + (y 0 : ℕ) = _; omega
  · rw [Pipeline.Window.rect_emb_val_off, (idx t).2.2.2.2.2.2.2.2.2.1]; rfl

/-- After the run the second and third results are the last two rows of each batch. -/
theorem final10 (c : Dev nD) : (dats m 0 c).arrAt 10 (cfgs 0).N
    = lastRows (m ((c : Thread nD τ).loc main_arg0)) (m ((c : Thread nD τ).loc main_arg1)) := by
  refine (dats m 0 c).arrAt_eq_of_covers 10 _ (by decide +kernel) fun t _ y => ?_
  blk_simp
  rw [after0_10]
  refine ((congrArg _ (eq_ix3 (y : S2x128x512.Idx))).trans (point10 m c t _ _ _ ((win0_10.rect t).emb y 0) ((win0_10.rect t).emb y 1) ((win0_10.rect t).emb y 2) ?_ ?_ ?_)).trans
    (congrArg (lastRows _ _) (eq_ix3 ((win0_10.rect t).emb y)).symm)
  · rw [Pipeline.Window.rect_emb_val_off, (idx t).2.2.2.2.2.2.2.2.2.2.1]; show 0 * 2 + (y 0 : ℕ) = _; omega
  · rw [Pipeline.Window.rect_emb_val_off, (idx t).2.2.2.2.2.2.2.2.2.2.1]; show 0 * 128 + (y 1 : ℕ) = _; omega
  · rw [Pipeline.Window.rect_emb_val_off, (idx t).2.2.2.2.2.2.2.2.2.2.1]; rfl
theorem final11 (c : Dev nD) : (dats m 0 c).arrAt 11 (cfgs 0).N
    = lastRows (m ((c : Thread nD τ).loc main_arg0)) (m ((c : Thread nD τ).loc main_arg2)) := by
  refine (dats m 0 c).arrAt_eq_of_covers 11 _ (by decide +kernel) fun t _ y => ?_
  blk_simp
  rw [after0_11]
  refine ((congrArg _ (eq_ix3 (y : S2x128x512.Idx))).trans (point11 m c t _ _ _ ((win0_11.rect t).emb y 0) ((win0_11.rect t).emb y 1) ((win0_11.rect t).emb y 2) ?_ ?_ ?_)).trans
    (congrArg (lastRows _ _) (eq_ix3 ((win0_11.rect t).emb y)).symm)
  · rw [Pipeline.Window.rect_emb_val_off, (idx t).2.2.2.2.2.2.2.2.2.2.2.1]; show 0 * 2 + (y 0 : ℕ) = _; omega
  · rw [Pipeline.Window.rect_emb_val_off, (idx t).2.2.2.2.2.2.2.2.2.2.2.1]; show 0 * 128 + (y 1 : ℕ) = _; omega
  · rw [Pipeline.Window.rect_emb_val_off, (idx t).2.2.2.2.2.2.2.2.2.2.2.1]; rfl

/-- The two arrays of last rows side by side, the batch first. -/
def sides (a b : FVec Ideal S2x128x5632 .f32) : FVec Ideal S128x2x11264 .f32 :=
  transpose S128x2x11264 [1, 0, 2] (concatenate S2x128x11264 2 [⟨S2x128x5632, a⟩, ⟨S2x128x5632, b⟩] concatenates_S2x128x5632_S2x128x5632_S2x128x11264_d2) transposes_S2x128x11264_S128x2x11264_1_0_2

/-- They are the reference's last two rows of each batch, at an index, -/
theorem sides_at (X : FVec Ideal S1024x2048 .bf16) (G V : FVec Ideal S2048x5632 .bf16) (P : FVec Ideal S128x2x11264 .f32) (b : Fin 128) (q : Fin 2) (C : Fin 11264) :
    sides (lastRows X G) (lastRows X V) (ix3 b q C) = tails X (weights G V) P (ix3 b q C) := by
  have hq := q.isLt
  have hb := b.isLt
  have hc := C.isLt
  have e : ∀ v : FVec Ideal S2x128x11264 .f32, transpose S128x2x11264 [1, 0, 2] v transposes_S2x128x11264_S128x2x11264_1_0_2 (ix3 b q C) = v (ix3 q b C) := fun v => by pointwise
  have f : tails X (weights G V) P (ix3 b q C) = ext P (up X (weights G V)) (ix3 b (⟨8 + q, by omega⟩ : Fin 10) C) := by pointwise [tails]
  rw [f, ext_hi P _ b (⟨8 + q, by omega⟩ : Fin 10) (⟨6 + q, by omega⟩ : Fin 8) C (by show 8 + (q : ℕ) = 6 + q + 2; omega),
    up_at X _ b (⟨6 + q, by omega⟩ : Fin 8) C (⟨(b : ℕ) * 8 + (6 + q), by omega⟩ : Fin 1024) rfl]
  unfold sides
  rw [e]
  by_cases h : (C : ℕ) < 5632
  · refine (concatenate_pair_apply_left (t := S2x128x11264) (s₁ := S2x128x5632) (s₂ := S2x128x5632) (2 : Fin 3) (lastRows X G) (lastRows X V)
      concatenates_S2x128x5632_S2x128x5632_S2x128x11264_d2 (ix3 q b C) rfl (ix3 q b (⟨C, h⟩ : Fin 5632)) fun a => ?_).trans ?_
    · fin_cases a
      · rfl
      · rfl
      · rfl
    · exact congrArg (upAt _) (funext fun a => (weights_lo G V a (⟨C, h⟩ : Fin 5632)).symm)
  · refine (concatenate_pair_apply_right (t := S2x128x11264) (s₁ := S2x128x5632) (s₂ := S2x128x5632) (2 : Fin 3) (lastRows X G) (lastRows X V)
      concatenates_S2x128x5632_S2x128x5632_S2x128x11264_d2 (ix3 q b C) rfl rfl (ix3 q b (⟨C - 5632, by omega⟩ : Fin 5632)) (fun a ha => ?_) ?_).trans ?_
    · fin_cases a
      · rfl
      · rfl
      · exact absurd rfl ha
    · show (C : ℕ) - 5632 + 5632 = (C : ℕ); omega
    · refine congrArg (upAt _) (funext fun a => (weights_hi G V a (⟨C - 5632, by omega⟩ : Fin 5632)).symm.trans ?_)
      exact congrArg (fun D : Fin 11264 => weights G V (ix2 a D)) (Fin.ext (by show 5632 + ((C : ℕ) - 5632) = (C : ℕ); omega))

/-- and everywhere. -/
theorem sides_eq (X : FVec Ideal S1024x2048 .bf16) (G V : FVec Ideal S2048x5632 .bf16) (P : FVec Ideal S128x2x11264 .f32) :
    sides (lastRows X G) (lastRows X V) = tails X (weights G V) P := funext fun y =>
  (congrArg _ (eq_ix3 y)).trans ((sides_at X G V P (y 0) (y 1) (y 2)).trans (congrArg (tails X (weights G V) P) (eq_ix3 y).symm))

/-- The operations after the kernel's put the two arrays side by side, the batch first. -/
theorem after_kernel (W : Valuation τ sig (Elt Ideal)) :
    StableHlo.after (hostOps1 (F := Ideal)) W (Proc.devRef .tc main_v4) = sides (W (Proc.devRef .tc main_v2_1)) (W (Proc.devRef .tc main_v2_2)) := by
  after_results
  unfold sides
  rfl

/-- After the run the second result is the reference's last two rows of each batch. -/
theorem finalTail (c : Dev nD) : Pipeline.afterTail₀ cfgs (dats m) 0 (V0 m) [hostOps1] c main_v4
    = tails (m ((c : Thread nD τ).loc main_arg0)) (weights (m ((c : Thread nD τ).loc main_arg1)) (m ((c : Thread nD τ).loc main_arg2))) (m ((c : Thread nD τ).loc main_arg3)) := by
  have w1 : Pipeline.withArrays spec0 c (V0 m c) (fun w => (dats m 0 c).arrAt w (cfgs 0).N) (Proc.devRef .tc main_v2_1)
      = lastRows (m ((c : Thread nD τ).loc main_arg0)) (m ((c : Thread nD τ).loc main_arg1)) :=
    ((dats m 0 c).withArrays_arrAt sharedIn0 (V0 m c) (A_eq m c) 10).trans (final10 m c)
  have w2 : Pipeline.withArrays spec0 c (V0 m c) (fun w => (dats m 0 c).arrAt w (cfgs 0).N) (Proc.devRef .tc main_v2_2)
      = lastRows (m ((c : Thread nD τ).loc main_arg0)) (m ((c : Thread nD τ).loc main_arg2)) :=
    ((dats m 0 c).withArrays_arrAt sharedIn0 (V0 m c) (A_eq m c) 11).trans (final11 m c)
  have a := after_kernel (Pipeline.withArrays spec0 c (V0 m c) fun w => (dats m 0 c).arrAt w (cfgs 0).N)
  rw [w1, w2, sides_eq _ _ _ (m ((c : Thread nD τ).loc main_arg3))] at a
  unfold Pipeline.afterTail₀
  simp only [List.flatten_cons, List.flatten_nil, List.append_nil]
  exact a

end Cert.UpSIdeal.Value

end
-- ==== Proof.GateSValue.lean ====
module

public import proofs.«01_k».proof.Proof.Gen.GateSIdeal.Frame
public import proofs.«01_k».proof.Proof.Gen.GateSRefIdeal.Run
public import Idealize.ShloMosaic.Lib.Pipeline.ValueKit
public import Idealize.ShloMosaic.Lib.Pointwise
public import Idealize.ShloMosaic.Lib.Claim

/-! # The gated mix of the sample batch's branches

At an index the mix is the sum over the three branches of the gate, the logistic function of the rows against the gate's
weights, times the branch against its own weights. -/

@[expose] public section

set_option maxRecDepth 16384

noncomputable section

open Idealize.ShloMosaic Idealize.ShloMosaic.TcCoe Idealize.SL.Sem
open Idealize.ShloMosaic.Pipeline (Dat)

namespace Cert.GateSRefIdeal.Spec
open Cert.GateSRefIdeal Cert.GateSRefIdeal.Gen

/-- The reference's gate columns, by row, gate and column. -/
def cols (X : FVec Ideal S1024x2048 .bf16) (W : FVec Ideal S3x2048x2048 .bf16) : FVec Ideal S1024x3x2048 .f32 :=
  Host.dotGeneral dot_S1024x2048_S3x2048x2048_S1024x3x2048_1_1_0_02_n_n none (extf .f32 X bitsLt_bf16_f32) (extf .f32 W bitsLt_bf16_f32)

/-- The logistic function, as the reference spells it. -/
def sigm (G : FVec Ideal S1024x3x2048 .f32) : FVec Ideal S1024x3x2048 .f32 :=
  Host.divf (broadcastInDim S1024x3x2048 ![] bcast_S_S1024x3x2048 (constant S_ .f32 0x3F800000#32))
    (addf (broadcastInDim S1024x3x2048 ![] bcast_S_S1024x3x2048 (constant S_ .f32 0x3F800000#32)) (Host.exp (Host.negf G)))

/-- The three branches side by side, by row, branch and lane. -/
def stack (A B C : FVec Ideal S1024x1024 .bf16) : FVec Ideal S1024x3x1024 .f32 :=
  concatenate S1024x3x1024 1 [⟨S1024x1x1024, ((broadcastInDim S1024x1x1024 ![0, 2] bcast_S1024x1024_S1024x1x1024_0_2 (extf .f32 A bitsLt_bf16_f32)) : (⟨S1024x1x1024, .f32⟩ : BufTy).Contents (Elt Ideal))⟩,
    ⟨S1024x1x1024, ((broadcastInDim S1024x1x1024 ![0, 2] bcast_S1024x1024_S1024x1x1024_0_2 (extf .f32 B bitsLt_bf16_f32)) : (⟨S1024x1x1024, .f32⟩ : BufTy).Contents (Elt Ideal))⟩,
    ⟨S1024x1x1024, ((broadcastInDim S1024x1x1024 ![0, 2] bcast_S1024x1024_S1024x1x1024_0_2 (extf .f32 C bitsLt_bf16_f32)) : (⟨S1024x1x1024, .f32⟩ : BufTy).Contents (Elt Ideal))⟩] concatenates_S1024x1x1024_S1024x1x1024_S1024x1x1024_S1024x3x1024_d1

/-- The branches against their weights, by row, branch and column. -/
def brs (W : FVec Ideal S3x1024x2048 .f32) (T : FVec Ideal S1024x3x1024 .f32) : FVec Ideal S1024x3x2048 .f32 :=
  transpose S1024x3x2048 [2, 0, 1] (Host.dotGeneral dot_S3x1024x2048_S1024x3x1024_S3x2048x1024_1_2_2_0_0_1 none W T) transposes_S3x2048x1024_S1024x3x2048_2_0_1

/-- The reference's mix: the gates times the branches, summed over the branches. -/
def mixed (X : FVec Ideal S1024x2048 .bf16) (A B C : FVec Ideal S1024x1024 .bf16) (W : FVec Ideal S3x2048x2048 .bf16) (U : FVec Ideal S3x1024x2048 .bf16) :
    FVec Ideal S1024x2048 .bf16 :=
  truncf .bf16 (Host.reduceAdd (mulf (sigm (cols X W)) (brs (extf .f32 U bitsLt_bf16_f32) (stack A B C))) (constant S_ .f32 0x00000000#32) reducesTo_S1024x3x2048_S1024x2048_d1 h_S_) bitsLt_bf16_f32

/-- A gate's column at an index. -/
theorem cols_at (X : FVec Ideal S1024x2048 .bf16) (W : FVec Ideal S3x2048x2048 .bf16) (R : Fin 1024) (n : Fin 3) (C : Fin 2048) :
    cols X W (ix3 R n C) = ∑ k : Fin 2048, X (ix2 R k) * W (ix3 n k C) := by
  pointwise [cols]

/-- The logistic function of one number. -/
def lg (x : EReal) : EReal := Ideal.div 1 (1 + Ideal.exp (-x))

/-- The logistic function at an index. -/
theorem sigm_at (G : FVec Ideal S1024x3x2048 .f32) (R : Fin 1024) (n : Fin 3) (C : Fin 2048) :
    sigm G (ix3 R n C) = lg (G (ix3 R n C)) := by
  pointwise [sigm, lg]

/-- The stack of the branches at an index. -/
theorem stack_at (A B C : FVec Ideal S1024x1024 .bf16) (R : Fin 1024) (k : Fin 1024) :
    stack A B C (ix3 R 0 k) = A (ix2 R k) ∧ stack A B C (ix3 R 1 k) = B (ix2 R k) ∧ stack A B C (ix3 R 2 k) = C (ix2 R k) := by
  refine ⟨?_, ?_, ?_⟩ <;> pointwise [stack]

/-- A branch against its weights at an index. -/
theorem brs_at (U : FVec Ideal S3x1024x2048 .f32) (T : FVec Ideal S1024x3x1024 .f32) (R : Fin 1024) (n : Fin 3) (C : Fin 2048) :
    brs U T (ix3 R n C) = ∑ k : Fin 1024, U (ix3 n k C) * T (ix3 R n k) := by
  pointwise [brs]

/-- The sum over the branches at an index. -/
theorem sum_at (G T : FVec Ideal S1024x3x2048 .f32) (R : Fin 1024) (C : Fin 2048) :
    Host.reduceAdd (mulf G T) (constant S_ .f32 0x00000000#32) reducesTo_S1024x3x2048_S1024x2048_d1 h_S_ (ix2 R C)
      = G (ix3 R 0 C) * T (ix3 R 0 C) + G (ix3 R 1 C) * T (ix3 R 1 C) + G (ix3 R 2 C) * T (ix3 R 2 C) := by
  pointwise
  exact Fin.sum_univ_three _

/-- One branch's term of the mix: the gate of a row and a column of weights, times the branch of a row and a column. -/
def term (x w : Fin 2048 → EReal) (a u : Fin 1024 → EReal) : EReal := lg (∑ k, x k * w k) * ∑ k, a k * u k

/-- A term is settled by its rows and columns. -/
theorem term_congr {x x' w w' : Fin 2048 → EReal} {a a' u u' : Fin 1024 → EReal} (hx : ∀ k, x k = x' k) (hw : ∀ k, w k = w' k)
    (ha : ∀ k, a k = a' k) (hu : ∀ k, u k = u' k) : term x w a u = term x' w' a' u' := by
  rw [funext hx, funext hw, funext ha, funext hu]

/-- The reference's mix at an index: the three branches' terms. -/
theorem mixed_at (X : FVec Ideal S1024x2048 .bf16) (A B C : FVec Ideal S1024x1024 .bf16) (W : FVec Ideal S3x2048x2048 .bf16) (U : FVec Ideal S3x1024x2048 .bf16)
    (r : Fin 1024) (c : Fin 2048) :
    mixed X A B C W U (ix2 r c)
      = term (fun k => X (ix2 r k)) (fun k => W (ix3 0 k c)) (fun k => A (ix2 r k)) (fun k => U (ix3 0 k c))
      + term (fun k => X (ix2 r k)) (fun k => W (ix3 1 k c)) (fun k => B (ix2 r k)) (fun k => U (ix3 1 k c))
      + term (fun k => X (ix2 r k)) (fun k => W (ix3 2 k c)) (fun k => C (ix2 r k)) (fun k => U (ix3 2 k c)) := by
  have ft : ∀ (v : FVec Ideal S1024x2048 .f32) (y : S1024x2048.Idx), (truncf (F := Ideal) .bf16 v bitsLt_bf16_f32) y = v y := fun v y => by pointwise
  unfold mixed
  refine (ft _ _).trans ((sum_at _ _ r c).trans ?_)
  simp only [sigm_at, cols_at, brs_at]
  unfold term
  refine congrArg₂ (· + ·) (congrArg₂ (· + ·) (congrArg₂ (· * ·) rfl (Finset.sum_congr rfl fun k _ => ?_))
    (congrArg₂ (· * ·) rfl (Finset.sum_congr rfl fun k _ => ?_))) (congrArg₂ (· * ·) rfl (Finset.sum_congr rfl fun k _ => ?_))
  · rw [(stack_at A B C r k).1]; exact mul_comm _ _
  · rw [(stack_at A B C r k).2.1]; exact mul_comm _ _
  · rw [(stack_at A B C r k).2.2]; exact mul_comm _ _

end Cert.GateSRefIdeal.Spec

namespace Cert.GateSIdeal.Value
open Cert.GateSIdeal Cert.GateSIdeal.Gen
open Cert.GateSRefIdeal.Spec

variable (m : (ℓ : Loc nD τ sig) → Buf (Elt Ideal) ℓ)

/-- Where the blocks lie: the rows and the branches whole, the weights' columns and the result's at column block `t`. -/
theorem idx : ∀ t : Fin cfg0.N, win0_0.index t = ![0, 0] ∧ win0_1.index t = ![0, 0] ∧ win0_2.index t = ![0, 0] ∧ win0_3.index t = ![0, 0]
    ∧ win0_4.index t = ![0, 0, t.val] ∧ win0_5.index t = ![0, 0, t.val] ∧ win0_6.index t = ![0, t.val] :=
  (by decide +kernel : ∀ t : Fin grid0.N, _)

/-- The kernel's gated sum of its blocks. -/
def mixOf (x0 : FVec Ideal S1024x2048 .bf16) (x1 x2 x3 : FVec Ideal S1024x1024 .bf16) (G : FVec Ideal S3x2048x512 .bf16) (B : FVec Ideal S3x1024x512 .bf16) :
    FVec Ideal S1024x512 .bf16 :=
  k0_pay1 (F := Ideal) (k0_pay2 x0 (View.ld (Val := Elt Ideal) G r0_1) x1 (View.ld (Val := Elt Ideal) B r0_3) (View.ld (Val := Elt Ideal) G r0_4) x2 (View.ld (Val := Elt Ideal) B r0_5))
    (k0_pay3 x0 (View.ld (Val := Elt Ideal) G r0_6)) x3 (k0_pay4 (View.ld (Val := Elt Ideal) B r0_7))

/-- A gate's plane of the weights at an index, -/
theorem g_at (G : FVec Ideal S3x2048x512 .bf16) (a : Fin 2048) (k : Fin 512) :
    View.ld (Val := Elt Ideal) (e' := .bf16) G r0_1 (ix3 (0 : Fin 1) a k) = G (ix3 0 a k)
    ∧ View.ld (Val := Elt Ideal) (e' := .bf16) G r0_4 (ix3 (0 : Fin 1) a k) = G (ix3 1 a k)
    ∧ View.ld (Val := Elt Ideal) (e' := .bf16) G r0_6 (ix3 (0 : Fin 1) a k) = G (ix3 2 a k) := by
  refine ⟨?_, ?_, ?_⟩ <;>
  · refine (View.ld_apply _ _ _).trans (congrArg G (funext fun d => Fin.ext ?_))
    fin_cases d
    · rfl
    · show 0 + 1 * (a : ℕ) = a; omega
    · show 0 + 1 * (k : ℕ) = k; omega

/-- and a branch's. -/
theorem b_at (B : FVec Ideal S3x1024x512 .bf16) (a : Fin 1024) (k : Fin 512) :
    View.ld (Val := Elt Ideal) (e' := .bf16) B r0_3 (ix3 (0 : Fin 1) a k) = B (ix3 0 a k)
    ∧ View.ld (Val := Elt Ideal) (e' := .bf16) B r0_5 (ix3 (0 : Fin 1) a k) = B (ix3 1 a k)
    ∧ View.ld (Val := Elt Ideal) (e' := .bf16) B r0_7 (ix3 (0 : Fin 1) a k) = B (ix3 2 a k) := by
  refine ⟨?_, ?_, ?_⟩ <;>
  · refine (View.ld_apply _ _ _).trans (congrArg B (funext fun d => Fin.ext ?_))
    fin_cases d
    · rfl
    · show 0 + 1 * (a : ℕ) = a; omega
    · show 0 + 1 * (k : ℕ) = k; omega

/-- The stored sum at an index, of any planes. -/
theorem sum3_at (x0 : FVec Ideal S1024x2048 .bf16) (x1 x2 x3 : FVec Ideal S1024x1024 .bf16) (g0 g1 g2 : FVec Ideal S1x2048x512 .bf16) (b0 b1 b2 : FVec Ideal S1x1024x512 .bf16)
    (r : Fin 1024) (k : Fin 512) :
    k0_pay1 (F := Ideal) (k0_pay2 x0 g0 x1 b0 g1 x2 b1) (k0_pay3 x0 g2) x3 (k0_pay4 b2) (ix2 r k)
      = term (fun a => x0 (ix2 r a)) (fun a => g0 (ix3 0 a k)) (fun a => x1 (ix2 r a)) (fun a => b0 (ix3 0 a k))
      + term (fun a => x0 (ix2 r a)) (fun a => g1 (ix3 0 a k)) (fun a => x2 (ix2 r a)) (fun a => b1 (ix3 0 a k))
      + term (fun a => x0 (ix2 r a)) (fun a => g2 (ix3 0 a k)) (fun a => x3 (ix2 r a)) (fun a => b2 (ix3 0 a k)) := by
  pointwise [k0_pay1, k0_pay2, k0_pay3, k0_pay4, term, lg]
  rfl

/-- The kernel's gated sum at an index: the three branches' terms. -/
theorem mixOf_at (x0 : FVec Ideal S1024x2048 .bf16) (x1 x2 x3 : FVec Ideal S1024x1024 .bf16) (G : FVec Ideal S3x2048x512 .bf16) (B : FVec Ideal S3x1024x512 .bf16)
    (r : Fin 1024) (k : Fin 512) :
    mixOf x0 x1 x2 x3 G B (ix2 r k)
      = term (fun a => x0 (ix2 r a)) (fun a => G (ix3 0 a k)) (fun a => x1 (ix2 r a)) (fun a => B (ix3 0 a k))
      + term (fun a => x0 (ix2 r a)) (fun a => G (ix3 1 a k)) (fun a => x2 (ix2 r a)) (fun a => B (ix3 1 a k))
      + term (fun a => x0 (ix2 r a)) (fun a => G (ix3 2 a k)) (fun a => x3 (ix2 r a)) (fun a => B (ix3 2 a k)) := by
  refine (sum3_at x0 x1 x2 x3 _ _ _ _ _ _ r k).trans ?_
  exact congrArg₂ (· + ·) (congrArg₂ (· + ·)
    (term_congr (fun _ => rfl) (fun a => (g_at G a k).1) (fun _ => rfl) (fun a => (b_at B a k).1))
    (term_congr (fun _ => rfl) (fun a => (g_at G a k).2.1) (fun _ => rfl) (fun a => (b_at B a k).2.1)))
    (term_congr (fun _ => rfl) (fun a => (g_at G a k).2.2) (fun _ => rfl) (fun a => (b_at B a k).2.2))

/-- The rows and the branches, read whole, -/
theorem iblk0 (c : Dev nD) (t : Fin cfg0.N) (r : Fin 1024) (k : Fin 2048) (R : Fin 1024) (hR : (R : ℕ) = r) :
    (show EReal from iblk m c 0 t (ix2 r k)) = (show EReal from m ((c : Thread nD τ).loc main_arg0) (ix2 R k)) := by
  blk_ext [iblk, V, idx t]
theorem iblk1 (c : Dev nD) (t : Fin cfg0.N) (r : Fin 1024) (k : Fin 1024) (R : Fin 1024) (hR : (R : ℕ) = r) :
    (show EReal from iblk m c 1 t (ix2 r k)) = (show EReal from m ((c : Thread nD τ).loc main_arg1) (ix2 R k)) := by
  blk_ext [iblk, V, idx t]
theorem iblk2 (c : Dev nD) (t : Fin cfg0.N) (r : Fin 1024) (k : Fin 1024) (R : Fin 1024) (hR : (R : ℕ) = r) :
    (show EReal from iblk m c 2 t (ix2 r k)) = (show EReal from m ((c : Thread nD τ).loc main_arg2) (ix2 R k)) := by
  blk_ext [iblk, V, idx t]
theorem iblk3 (c : Dev nD) (t : Fin cfg0.N) (r : Fin 1024) (k : Fin 1024) (R : Fin 1024) (hR : (R : ℕ) = r) :
    (show EReal from iblk m c 3 t (ix2 r k)) = (show EReal from m ((c : Thread nD τ).loc main_arg3) (ix2 R k)) := by
  blk_ext [iblk, V, idx t]

/-- and the columns of the weights. -/
theorem iblk4 (c : Dev nD) (t : Fin cfg0.N) (n : Fin 3) (r : Fin 2048) (k : Fin 512) (C : Fin 2048) (hC : (C : ℕ) = t.val * 512 + k) :
    (show EReal from iblk m c 4 t (ix3 n r k)) = (show EReal from m ((c : Thread nD τ).loc main_arg4) (ix3 n r C)) := by
  blk_ext [iblk, V, idx t]
theorem iblk5 (c : Dev nD) (t : Fin cfg0.N) (n : Fin 3) (r : Fin 1024) (k : Fin 512) (C : Fin 2048) (hC : (C : ℕ) = t.val * 512 + k) :
    (show EReal from iblk m c 5 t (ix3 n r k)) = (show EReal from m ((c : Thread nD τ).loc main_arg5) (ix3 n r C)) := by
  blk_ext [iblk, V, idx t]

/-- What point `t` leaves in the result's block is the reference's mix at the place of the block. -/
theorem point6 (c : Dev nD) (t : Fin cfg0.N) (r : Fin 1024) (k : Fin 512) (R : Fin 1024) (C : Fin 2048)
    (hR : (R : ℕ) = r) (hC : (C : ℕ) = t.val * 512 + k) :
    mixOf (iblk m c 0 t) (iblk m c 1 t) (iblk m c 2 t) (iblk m c 3 t) (iblk m c 4 t) (iblk m c 5 t) (ix2 r k)
      = mixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 R C) := by
  refine (mixOf_at _ _ _ _ _ _ r k).trans (Eq.trans ?_ (mixed_at _ _ _ _ _ _ R C).symm)
  exact congrArg₂ (· + ·) (congrArg₂ (· + ·)
    (term_congr (fun a => iblk0 m c t r a R hR) (fun a => iblk4 m c t 0 a k C hC) (fun a => iblk1 m c t r a R hR) (fun a => iblk5 m c t 0 a k C hC))
    (term_congr (fun a => iblk0 m c t r a R hR) (fun a => iblk4 m c t 1 a k C hC) (fun a => iblk2 m c t r a R hR) (fun a => iblk5 m c t 1 a k C hC)))
    (term_congr (fun a => iblk0 m c t r a R hR) (fun a => iblk4 m c t 2 a k C hC) (fun a => iblk3 m c t r a R hR) (fun a => iblk5 m c t 2 a k C hC))

/-- The block a point leaves: the gated sum of its blocks. -/
theorem out6 (x0 : Vec Ideal S1024x2048 .bf16) (x1 x2 x3 : Vec Ideal S1024x1024 .bf16) (x4 : Vec Ideal S3x2048x512 .bf16) (x5 : Vec Ideal S3x1024x512 .bf16) :
    out0_6 x0 x1 x2 x3 x4 x5 = mixOf x0 x1 x2 x3 x4 x5 := by
  unfold out0_6 mixOf
  rw [View.ld_unit_lit _ x0 (by decide), View.ld_unit_lit _ x1 (by decide), View.ld_unit_lit _ x2 (by decide), View.ld_unit_lit _ x3 (by decide)]
  exact View.canon_cons_unit_lit (Val := Elt Ideal) _ _ [] (by decide)

/-- After the run the result is the reference's mix. -/
theorem final6 (c : Dev nD) : (dats m 0 c).arrAt 6 (cfgs 0).N
    = mixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  refine Eq.trans (congrFun ((after0_6 m c t).trans (out6 _ _ _ _ _ _)) y) ?_
  refine ((congrArg _ (eq_ix2 (y : S1024x512.Idx))).trans (point6 m c t _ _ ((win0_6.rect t).emb y 0) ((win0_6.rect t).emb y 1) ?_ ?_)).trans
    (congrArg (mixed _ _ _ _ _ _) (eq_ix2 ((win0_6.rect t).emb y)).symm)
  · rw [Pipeline.Window.rect_emb_val_off, (idx t).2.2.2.2.2.2]; show 0 * 1024 + (y 0 : ℕ) = _; omega
  · rw [Pipeline.Window.rect_emb_val_off, (idx t).2.2.2.2.2.2]; rfl

end Cert.GateSIdeal.Value

end
-- ==== Proof.lean ====
/- Every claim about the calls: each kernel, in floating point and at exact values, and each reference runs, ends, and
   leaves its arguments and every semaphore as they were; at exact values each kernel ends with its reference's results. -/
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnRefIdeal
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Run
public import proofs.«01_k».proof.Proof.Gen.NormIdeal.Value
public import proofs.«01_k».proof.Proof.Gen.NormS
public import proofs.«01_k».proof.Proof.Gen.NormS.Skeleton
public import proofs.«01_k».proof.Proof.Gen.NormS.Launch
public import proofs.«01_k».proof.Proof.Gen.NormS.Points
public import proofs.«01_k».proof.Proof.Gen.NormS.Frame
public import proofs.«01_k».proof.Proof.Gen.NormSIdeal
public import proofs.«01_k».proof.Proof.Gen.NormSIdeal.Skeleton
public import proofs.«01_k».proof.Proof.Gen.NormSIdeal.Launch
public import proofs.«01_k».proof.Proof.Gen.NormSIdeal.Points
public import proofs.«01_k».proof.Proof.Gen.NormSIdeal.Frame
public import proofs.«01_k».proof.Proof.Gen.NormSRefIdeal
public import proofs.«01_k».proof.Proof.Gen.NormSRefIdeal.Run
public import proofs.«01_k».proof.Proof.Gen.NormSIdeal.Value
public import proofs.«01_k».proof.Proof.Gen.WinS
public import proofs.«01_k».proof.Proof.Gen.WinS.Skeleton
public import proofs.«01_k».proof.Proof.Gen.WinS.Launch
public import proofs.«01_k».proof.Proof.Gen.WinS.Points
public import proofs.«01_k».proof.Proof.Gen.WinS.Frame
public import proofs.«01_k».proof.Proof.Gen.WinSIdeal
public import proofs.«01_k».proof.Proof.Gen.WinSIdeal.Skeleton
public import proofs.«01_k».proof.Proof.Gen.WinSIdeal.Launch
public import proofs.«01_k».proof.Proof.Gen.WinSIdeal.Points
public import proofs.«01_k».proof.Proof.Gen.WinSIdeal.Frame
public import proofs.«01_k».proof.Proof.Gen.WinSRefIdeal
public import proofs.«01_k».proof.Proof.Gen.WinSRefIdeal.Run
public import proofs.«01_k».proof.Proof.Gen.WinSIdeal.Value
public import proofs.«01_k».proof.Proof.Gen.WoutS
public import proofs.«01_k».proof.Proof.Gen.WoutS.Skeleton
public import proofs.«01_k».proof.Proof.Gen.WoutS.Launch
public import proofs.«01_k».proof.Proof.Gen.WoutS.Points
public import proofs.«01_k».proof.Proof.Gen.WoutS.Frame
public import proofs.«01_k».proof.Proof.Gen.WoutSIdeal
public import proofs.«01_k».proof.Proof.Gen.WoutSIdeal.Skeleton
public import proofs.«01_k».proof.Proof.Gen.WoutSIdeal.Launch
public import proofs.«01_k».proof.Proof.Gen.WoutSIdeal.Points
public import proofs.«01_k».proof.Proof.Gen.WoutSIdeal.Frame
public import proofs.«01_k».proof.Proof.Gen.WoutSRefIdeal
public import proofs.«01_k».proof.Proof.Gen.WoutSRefIdeal.Run
public import proofs.«01_k».proof.Proof.Gen.WoutSIdeal.Value
public import proofs.«01_k».proof.Proof.Gen.DownS
public import proofs.«01_k».proof.Proof.Gen.DownS.Skeleton
public import proofs.«01_k».proof.Proof.Gen.DownS.Launch
public import proofs.«01_k».proof.Proof.Gen.DownS.Points
public import proofs.«01_k».proof.Proof.Gen.DownS.Frame
public import proofs.«01_k».proof.Proof.Gen.DownSIdeal
public import proofs.«01_k».proof.Proof.Gen.DownSIdeal.Skeleton
public import proofs.«01_k».proof.Proof.Gen.DownSIdeal.Launch
public import proofs.«01_k».proof.Proof.Gen.DownSIdeal.Points
public import proofs.«01_k».proof.Proof.Gen.DownSIdeal.Frame
public import proofs.«01_k».proof.Proof.Gen.DownSRefIdeal
public import proofs.«01_k».proof.Proof.Gen.DownSRefIdeal.Run
public import proofs.«01_k».proof.Proof.Gen.DownSIdeal.Value
public import proofs.«01_k».proof.Proof.Gen.SguS
public import proofs.«01_k».proof.Proof.Gen.SguS.Skeleton
public import proofs.«01_k».proof.Proof.Gen.SguS.Launch
public import proofs.«01_k».proof.Proof.Gen.SguS.Points
public import proofs.«01_k».proof.Proof.Gen.SguS.Frame
public import proofs.«01_k».proof.Proof.Gen.SguSIdeal
public import proofs.«01_k».proof.Proof.Gen.SguSIdeal.Skeleton
public import proofs.«01_k».proof.Proof.Gen.SguSIdeal.Launch
public import proofs.«01_k».proof.Proof.Gen.SguSIdeal.Points
public import proofs.«01_k».proof.Proof.Gen.SguSIdeal.Frame
public import proofs.«01_k».proof.Proof.Gen.SguSRefIdeal
public import proofs.«01_k».proof.Proof.Gen.SguSRefIdeal.Run
public import proofs.«01_k».proof.Proof.Gen.SguSIdeal.Value
public import proofs.«01_k».proof.Proof.Gen.UpS
public import proofs.«01_k».proof.Proof.Gen.UpS.Skeleton
public import proofs.«01_k».proof.Proof.Gen.UpS.Launch
public import proofs.«01_k».proof.Proof.Gen.UpS.Points
public import proofs.«01_k».proof.Proof.Gen.UpS.Frame
public import proofs.«01_k».proof.Proof.Gen.UpSIdeal
public import proofs.«01_k».proof.Proof.Gen.UpSIdeal.Skeleton
public import proofs.«01_k».proof.Proof.Gen.UpSIdeal.Launch
public import proofs.«01_k».proof.Proof.Gen.UpSIdeal.Points
public import proofs.«01_k».proof.Proof.Gen.UpSIdeal.Frame
public import proofs.«01_k».proof.Proof.Gen.UpSRefIdeal
public import proofs.«01_k».proof.Proof.Gen.UpSRefIdeal.Run
public import proofs.«01_k».proof.Proof.Gen.GateS
public import proofs.«01_k».proof.Proof.Gen.GateS.Skeleton
public import proofs.«01_k».proof.Proof.Gen.GateS.Launch
public import proofs.«01_k».proof.Proof.Gen.GateS.Points
public import proofs.«01_k».proof.Proof.Gen.GateS.Frame
public import proofs.«01_k».proof.Proof.Gen.GateSIdeal
public import proofs.«01_k».proof.Proof.Gen.GateSIdeal.Skeleton
public import proofs.«01_k».proof.Proof.Gen.GateSIdeal.Launch
public import proofs.«01_k».proof.Proof.Gen.GateSIdeal.Points
public import proofs.«01_k».proof.Proof.Gen.GateSIdeal.Frame
public import proofs.«01_k».proof.Proof.Gen.GateSRefIdeal
public import proofs.«01_k».proof.Proof.Gen.GateSRefIdeal.Run
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.SguRefIdeal.Run
public import proofs.«01_k».proof.Proof.Gen.SguIdeal.Value
public import proofs.«01_k».proof.Proof.Gen.GateSIdeal.Value
public import Idealize.ShloMosaic.Lib.Claim
public import proofs.«01_k».proof.Proof.XattnValue
public import proofs.«01_k».proof.Proof.WinFloatRun
public import proofs.«01_k».proof.Proof.WinValue
public import proofs.«01_k».proof.Proof.WoutValue
public import proofs.«01_k».proof.Proof.DownValue
public import proofs.«01_k».proof.Proof.MemkvValue
public import proofs.«01_k».proof.Proof.GateFloatRun
public import proofs.«01_k».proof.Proof.UpFloatRun
public import proofs.«01_k».proof.Proof.UpValue
public import proofs.«01_k».proof.Proof.GateValue
public import proofs.«01_k».proof.Proof.Gen.GateRefIdeal.Run
public import proofs.«01_k».proof.Proof.Gen.XattnRefIdeal.Run
public import proofs.«01_k».proof.Proof.Gen.WinRefIdeal.Run
public import proofs.«01_k».proof.Proof.Gen.WoutRefIdeal.Run
public import proofs.«01_k».proof.Proof.Gen.DownRefIdeal.Run
public import proofs.«01_k».proof.Proof.Gen.MemkvRefIdeal.Run
public import proofs.«01_k».proof.Proof.Gen.XattnIdeal.Value
public import proofs.«01_k».proof.Proof.Gen.WoutIdeal.Value
public import proofs.«01_k».proof.Proof.Gen.DownIdeal.Value
public import proofs.«01_k».proof.Proof.Gen.MemkvIdeal.Value
public import proofs.«01_k».proof.Proof.NormValue
public import proofs.«01_k».proof.Proof.NormSValue
public import proofs.«01_k».proof.Proof.WinSValue
public import proofs.«01_k».proof.Proof.WoutSValue
public import proofs.«01_k».proof.Proof.DownSValue
public import proofs.«01_k».proof.Proof.SguSValue
public import proofs.«01_k».proof.Proof.SguSGate
public import proofs.«01_k».proof.Proof.SguSTiles
public import proofs.«01_k».proof.Proof.SguValue
public import proofs.«01_k».proof.Proof.UpSValue
public import proofs.«01_k».proof.Proof.GateSValue
public import Idealize.ShloMosaic.Adequacy
public import Idealize.ShloMosaic.Init

@[expose] public section

set_option maxRecDepth 16384

noncomputable section

namespace Cert.Proof

open Idealize.ShloMosaic Idealize.SL.Sem Cert.Gate

set_option maxHeartbeats 4000000 in
/-- The gated mix of the branches: the kernel and the reference end with the same results at exact values. -/
theorem gate_value : @Cert.algebraic_GateIdeal_GateRefIdeal Cert.GateIdeal.Gen.facts Cert.GateRefIdeal.Gen.facts := by
  pair_intro
  · run_from Cert.GateIdeal.Hand.run_main m g
  · refine θ_run_mono (Cert.GateRefIdeal.Spec.run_spec m' g') fun r hr c => ?_
    obtain ⟨h0, h1, h2, h3, ha⟩ := hr c
    obtain ⟨e0, e1, e2, e3, e4, e5, e6⟩ := hagree c
    refine ⟨?_, ?_, ?_, ?_, ha⟩
    · refine h0.trans ?_
      rw [e0, e1, e2, e3, e4, e5]
      exact (Cert.GateIdeal.Value.final9 m c).symm
    · refine h1.trans ?_
      rw [e4]
      exact (Cert.GateIdeal.Value.final10 m c).symm
    · refine h2.trans ?_
      rw [e5]
      exact (Cert.GateIdeal.Value.final11 m c).symm
    · refine h3.trans ?_
      rw [e6]
      exact (Cert.GateIdeal.Value.final12 m c).symm

/-- The gated mix of the branches: the kernel in floating point runs and leaves its arguments and every semaphore as they were. -/
theorem gate_frame : @Cert.quiescent_Gate Cert.Gate.Gen.facts := fun m g _ => Cert.Gate.Hand.frame m g

/-- The gated mix of the branches: so does the kernel at exact values, -/
theorem gate_ideal_frame : @Cert.quiescent_GateIdeal Cert.GateIdeal.Gen.facts := fun m g _ => Cert.GateIdeal.Hand.frame m g

/-- and so does the reference. -/
theorem gate_ref_frame : @Cert.quiescent_GateRefIdeal Cert.GateRefIdeal.Gen.facts := by
  intro m g _
  exact θ_run_mono (Cert.GateRefIdeal.Value.run m g) fun r h =>
    ⟨fun c => (h c).2.2.2.2, sem_eq_zero_of_no_sems (by decide) r.2⟩

/-- The attention over the memory: the kernel and the reference end with the same results at exact values. -/
theorem xattn_value : @Cert.algebraic_XattnIdeal_XattnRefIdeal Cert.XattnIdeal.Gen.facts Cert.XattnRefIdeal.Gen.facts := by
  pair_intro
  · run_from Cert.XattnIdeal.Gen.run_main m g
  · run_from Cert.XattnRefIdeal.Value.run m' g'
    exact (Cert.XattnIdeal.Value.final3 m c).symm

/-- The attention over the memory: the kernel in floating point runs and leaves its arguments and every semaphore as they were. -/
theorem xattn_frame : @Cert.quiescent_Xattn Cert.Xattn.Gen.facts := fun m g _ => Cert.Xattn.Gen.frame m g

/-- The attention over the memory: so does the kernel at exact values, -/
theorem xattn_ideal_frame : @Cert.quiescent_XattnIdeal Cert.XattnIdeal.Gen.facts := fun m g _ => Cert.XattnIdeal.Gen.frame m g

/-- and so does the reference. -/
theorem xattn_ref_frame : @Cert.quiescent_XattnRefIdeal Cert.XattnRefIdeal.Gen.facts := by
  intro m g _
  exact θ_run_mono (Cert.XattnRefIdeal.Value.run m g) fun r h =>
    ⟨fun c => (h c).2, sem_eq_zero_of_no_sems (by decide) r.2⟩

/-- The input projection: the kernel and the reference end with the same results at exact values. -/
theorem win_value : @Cert.algebraic_WinIdeal_WinRefIdeal Cert.WinIdeal.Gen.facts Cert.WinRefIdeal.Gen.facts := by
  pair_intro
  · run_from Cert.WinIdeal.Hand.run_main m g
  · run_from Cert.WinRefIdeal.Value.run m' g'
    · exact (Cert.WinIdeal.Value.final2 m c).symm
    · exact (Cert.WinIdeal.Value.final3 m c).symm

/-- The input projection: the kernel in floating point runs and leaves its arguments and every semaphore as they were. -/
theorem win_frame : @Cert.quiescent_Win Cert.Win.Gen.facts := fun m g _ => Cert.Win.Hand.frame m g

/-- The input projection: so does the kernel at exact values, -/
theorem win_ideal_frame : @Cert.quiescent_WinIdeal Cert.WinIdeal.Gen.facts := fun m g _ => Cert.WinIdeal.Hand.frame m g

/-- and so does the reference. -/
theorem win_ref_frame : @Cert.quiescent_WinRefIdeal Cert.WinRefIdeal.Gen.facts := by
  intro m g _
  exact θ_run_mono (Cert.WinRefIdeal.Value.run m g) fun r h =>
    ⟨fun c => (h c).2.2, sem_eq_zero_of_no_sems (by decide) r.2⟩

/-- The output projection with its residual and its normalisation: the kernel and the reference end with the same results at exact values. -/
theorem wout_value : @Cert.algebraic_WoutIdeal_WoutRefIdeal Cert.WoutIdeal.Gen.facts Cert.WoutRefIdeal.Gen.facts := by
  pair_intro
  · run_from Cert.WoutIdeal.Gen.run_main m g
  · run_from Cert.WoutRefIdeal.Value.run m' g'
    · exact (Cert.WoutIdeal.Value.final5 m c).symm
    · unfold Cert.WoutRefIdeal.Value.res_main_v30
      rw [(hagree c).1, (hagree c).2.1, (hagree c).2.2.1, (hagree c).2.2.2.1, (hagree c).2.2.2.2]
      exact (Cert.WoutIdeal.Value.final6 m c).symm

/-- The output projection with its residual and its normalisation: the kernel in floating point runs and leaves its arguments and every semaphore as they were. -/
theorem wout_frame : @Cert.quiescent_Wout Cert.Wout.Gen.facts := fun m g _ => Cert.Wout.Gen.frame m g

/-- The output projection with its residual and its normalisation: so does the kernel at exact values, -/
theorem wout_ideal_frame : @Cert.quiescent_WoutIdeal Cert.WoutIdeal.Gen.facts := fun m g _ => Cert.WoutIdeal.Gen.frame m g

/-- and so does the reference. -/
theorem wout_ref_frame : @Cert.quiescent_WoutRefIdeal Cert.WoutRefIdeal.Gen.facts := by
  intro m g _
  exact θ_run_mono (Cert.WoutRefIdeal.Value.run m g) fun r h =>
    ⟨fun c => (h c).2.2, sem_eq_zero_of_no_sems (by decide) r.2⟩

/-- The down projection with its residual: the kernel and the reference end with the same results at exact values. -/
theorem down_value : @Cert.algebraic_DownIdeal_DownRefIdeal Cert.DownIdeal.Gen.facts Cert.DownRefIdeal.Gen.facts := by
  pair_intro
  · run_from Cert.DownIdeal.Gen.run_main m g
  · run_from Cert.DownRefIdeal.Value.run m' g'
    exact (Cert.DownIdeal.Value.final5 m c).symm

/-- The down projection with its residual: the kernel in floating point runs and leaves its arguments and every semaphore as they were. -/
theorem down_frame : @Cert.quiescent_Down Cert.Down.Gen.facts := fun m g _ => Cert.Down.Gen.frame m g

/-- The down projection with its residual: so does the kernel at exact values, -/
theorem down_ideal_frame : @Cert.quiescent_DownIdeal Cert.DownIdeal.Gen.facts := fun m g _ => Cert.DownIdeal.Gen.frame m g

/-- and so does the reference. -/
theorem down_ref_frame : @Cert.quiescent_DownRefIdeal Cert.DownRefIdeal.Gen.facts := by
  intro m g _
  exact θ_run_mono (Cert.DownRefIdeal.Value.run m g) fun r h =>
    ⟨fun c => (h c).2, sem_eq_zero_of_no_sems (by decide) r.2⟩

/-- The keys and values of the memory: the kernel and the reference end with the same results at exact values. -/
theorem memkv_value : @Cert.algebraic_MemkvIdeal_MemkvRefIdeal Cert.MemkvIdeal.Gen.facts Cert.MemkvRefIdeal.Gen.facts := by
  pair_intro
  · run_from Cert.MemkvIdeal.Gen.run_main m g
  · run_from Cert.MemkvRefIdeal.Value.run m' g'
    · exact (Cert.MemkvIdeal.Value.final3 m c).symm
    · exact (Cert.MemkvIdeal.Value.final4 m c).symm

/-- The keys and values of the memory: the kernel in floating point runs and leaves its arguments and every semaphore as they were. -/
theorem memkv_frame : @Cert.quiescent_Memkv Cert.Memkv.Gen.facts := fun m g _ => Cert.Memkv.Gen.frame m g

/-- The keys and values of the memory: so does the kernel at exact values, -/
theorem memkv_ideal_frame : @Cert.quiescent_MemkvIdeal Cert.MemkvIdeal.Gen.facts := fun m g _ => Cert.MemkvIdeal.Gen.frame m g

/-- and so does the reference. -/
theorem memkv_ref_frame : @Cert.quiescent_MemkvRefIdeal Cert.MemkvRefIdeal.Gen.facts := by
  intro m g _
  exact θ_run_mono (Cert.MemkvRefIdeal.Value.run m g) fun r h =>
    ⟨fun c => (h c).2.2, sem_eq_zero_of_no_sems (by decide) r.2⟩

set_option maxHeartbeats 4000000 in
/-- The up projection with its convolution and gate: the kernel and the reference end with the same results at exact values. -/
theorem up_value : @Cert.algebraic_UpIdeal_UpRefIdeal Cert.UpIdeal.Gen.facts Cert.UpRefIdeal.Gen.facts := by
  pair_intro
  · run_from Cert.UpIdeal.Hand.run_main m g
    exact Cert.UpIdeal.Gen.W_main_arg4 m _ c
  · refine θ_run_mono (Cert.UpRefIdeal.Spec.run_spec m' g') fun r hr c => ?_
    obtain ⟨h0, h1, h2, h3, h4, ha⟩ := hr c
    obtain ⟨e0, e1, e2, e3, e4, e5⟩ := hagree c
    refine ⟨?_, ?_, ?_, ?_, ?_, ha⟩
    · refine h0.trans ?_
      rw [e0, e1, e2, e3, e4]
      exact (Cert.UpIdeal.Value.final10 m c).symm
    · refine h1.trans ?_
      rw [e0, e1, e2]
      exact (Cert.UpIdeal.Value.finalTail m c).symm
    · refine h2.trans ?_
      rw [e1]
      exact (Cert.UpIdeal.Value.final13 m c).symm
    · refine h3.trans ?_
      rw [e1]
      exact (Cert.UpIdeal.Value.final14 m c).symm
    · refine h4.trans ?_
      rw [e5]
      exact (Cert.UpIdeal.Value.final15 m c).symm

/-- The up projection with its convolution and gate: the kernel in floating point runs and leaves its arguments and every semaphore as they were. -/
theorem up_frame : @Cert.quiescent_Up Cert.Up.Gen.facts := fun m g _ => Cert.Up.Hand.frame m g

/-- The up projection with its convolution and gate: so does the kernel at exact values, -/
theorem up_ideal_frame : @Cert.quiescent_UpIdeal Cert.UpIdeal.Gen.facts := fun m g _ => Cert.UpIdeal.Hand.frame m g

/-- and so does the reference. -/
theorem up_ref_frame : @Cert.quiescent_UpRefIdeal Cert.UpRefIdeal.Gen.facts := by
  intro m g _
  exact θ_run_mono (Cert.UpRefIdeal.Value.run m g) fun r h =>
    ⟨fun c => (h c).2.2.2.2.2, sem_eq_zero_of_no_sems (by decide) r.2⟩

/-- The normalisation of the prompt's rows: the kernel and the reference end with the same results at exact values. -/
theorem norm_value : @Cert.algebraic_NormIdeal_NormRefIdeal Cert.NormIdeal.Gen.facts Cert.NormRefIdeal.Gen.facts := by
  pair_intro
  · run_from Cert.NormIdeal.Gen.run_main m g
  · run_from Cert.NormRefIdeal.Value.run m' g'
    exact (Cert.NormIdeal.Value.final2 m c).symm

/-- The normalisation of the prompt's rows: the kernel in floating point runs and leaves its arguments and every semaphore as they were. -/
theorem norm_frame : @Cert.quiescent_Norm Cert.Norm.Gen.facts := fun m g _ => Cert.Norm.Gen.frame m g

/-- The normalisation of the prompt's rows: so does the kernel at exact values, -/
theorem norm_ideal_frame : @Cert.quiescent_NormIdeal Cert.NormIdeal.Gen.facts := fun m g _ => Cert.NormIdeal.Gen.frame m g

/-- and so does the reference. -/
theorem norm_ref_frame : @Cert.quiescent_NormRefIdeal Cert.NormRefIdeal.Gen.facts := by
  intro m g _
  exact θ_run_mono (Cert.NormRefIdeal.Value.run m g) fun r h =>
    ⟨fun c => (h c).2, sem_eq_zero_of_no_sems (by decide) r.2⟩

/-- The normalisation of 1024 rows: the kernel and the reference end with the same results at exact values. -/
theorem norm_s_value : @Cert.algebraic_NormSIdeal_NormSRefIdeal Cert.NormSIdeal.Gen.facts Cert.NormSRefIdeal.Gen.facts := by
  pair_intro
  · run_from Cert.NormSIdeal.Gen.run_main m g
  · run_from Cert.NormSRefIdeal.Value.run m' g'
    exact (Cert.NormSIdeal.Value.final2 m c).symm

/-- The normalisation of 1024 rows: the kernel in floating point runs and leaves its arguments and every semaphore as they were. -/
theorem norm_s_frame : @Cert.quiescent_NormS Cert.NormS.Gen.facts := fun m g _ => Cert.NormS.Gen.frame m g

/-- The normalisation of 1024 rows: so does the kernel at exact values, -/
theorem norm_s_ideal_frame : @Cert.quiescent_NormSIdeal Cert.NormSIdeal.Gen.facts := fun m g _ => Cert.NormSIdeal.Gen.frame m g

/-- and so does the reference. -/
theorem norm_s_ref_frame : @Cert.quiescent_NormSRefIdeal Cert.NormSRefIdeal.Gen.facts := by
  intro m g _
  exact θ_run_mono (Cert.NormSRefIdeal.Value.run m g) fun r h =>
    ⟨fun c => (h c).2, sem_eq_zero_of_no_sems (by decide) r.2⟩

/-- The sample batch's input projection: the kernel and the reference end with the same results at exact values. -/
theorem win_s_value : @Cert.algebraic_WinSIdeal_WinSRefIdeal Cert.WinSIdeal.Gen.facts Cert.WinSRefIdeal.Gen.facts := by
  pair_intro
  · run_from Cert.WinSIdeal.Gen.run_main m g
  · run_from Cert.WinSRefIdeal.Value.run m' g'
    exact (Cert.WinSIdeal.Value.final2 m c).symm

/-- The sample batch's input projection: the kernel in floating point runs and leaves its arguments and every semaphore as they were. -/
theorem win_s_frame : @Cert.quiescent_WinS Cert.WinS.Gen.facts := fun m g _ => Cert.WinS.Gen.frame m g

/-- The sample batch's input projection: so does the kernel at exact values, -/
theorem win_s_ideal_frame : @Cert.quiescent_WinSIdeal Cert.WinSIdeal.Gen.facts := fun m g _ => Cert.WinSIdeal.Gen.frame m g

/-- and so does the reference. -/
theorem win_s_ref_frame : @Cert.quiescent_WinSRefIdeal Cert.WinSRefIdeal.Gen.facts := by
  intro m g _
  exact θ_run_mono (Cert.WinSRefIdeal.Value.run m g) fun r h =>
    ⟨fun c => (h c).2, sem_eq_zero_of_no_sems (by decide) r.2⟩

/-- The sample batch's output projection with its residual and its normalisation: the kernel and the reference end with the same results at exact values. -/
theorem wout_s_value : @Cert.algebraic_WoutSIdeal_WoutSRefIdeal Cert.WoutSIdeal.Gen.facts Cert.WoutSRefIdeal.Gen.facts := by
  pair_intro
  · run_from Cert.WoutSIdeal.Gen.run_main m g
  · run_from Cert.WoutSRefIdeal.Value.run m' g'
    · exact (Cert.WoutSIdeal.Value.final5 m c).symm
    · unfold Cert.WoutSRefIdeal.Value.res_main_v30
      rw [(hagree c).1, (hagree c).2.1, (hagree c).2.2.1, (hagree c).2.2.2.1, (hagree c).2.2.2.2]
      exact (Cert.WoutSIdeal.Value.final6 m c).symm

/-- The sample batch's output projection with its residual and its normalisation: the kernel in floating point runs and leaves its arguments and every semaphore as they were. -/
theorem wout_s_frame : @Cert.quiescent_WoutS Cert.WoutS.Gen.facts := fun m g _ => Cert.WoutS.Gen.frame m g

/-- The sample batch's output projection with its residual and its normalisation: so does the kernel at exact values, -/
theorem wout_s_ideal_frame : @Cert.quiescent_WoutSIdeal Cert.WoutSIdeal.Gen.facts := fun m g _ => Cert.WoutSIdeal.Gen.frame m g

/-- and so does the reference. -/
theorem wout_s_ref_frame : @Cert.quiescent_WoutSRefIdeal Cert.WoutSRefIdeal.Gen.facts := by
  intro m g _
  exact θ_run_mono (Cert.WoutSRefIdeal.Value.run m g) fun r h =>
    ⟨fun c => (h c).2.2, sem_eq_zero_of_no_sems (by decide) r.2⟩

/-- The sample batch's down projection with its residual: the kernel and the reference end with the same results at exact values. -/
theorem down_s_value : @Cert.algebraic_DownSIdeal_DownSRefIdeal Cert.DownSIdeal.Gen.facts Cert.DownSRefIdeal.Gen.facts := by
  pair_intro
  · run_from Cert.DownSIdeal.Gen.run_main m g
  · run_from Cert.DownSRefIdeal.Value.run m' g'
    exact (Cert.DownSIdeal.Value.final5 m c).symm

/-- The sample batch's down projection with its residual: the kernel in floating point runs and leaves its arguments and every semaphore as they were. -/
theorem down_s_frame : @Cert.quiescent_DownS Cert.DownS.Gen.facts := fun m g _ => Cert.DownS.Gen.frame m g

/-- The sample batch's down projection with its residual: so does the kernel at exact values, -/
theorem down_s_ideal_frame : @Cert.quiescent_DownSIdeal Cert.DownSIdeal.Gen.facts := fun m g _ => Cert.DownSIdeal.Gen.frame m g

/-- and so does the reference. -/
theorem down_s_ref_frame : @Cert.quiescent_DownSRefIdeal Cert.DownSRefIdeal.Gen.facts := by
  intro m g _
  exact θ_run_mono (Cert.DownSRefIdeal.Value.run m g) fun r h =>
    ⟨fun c => (h c).2, sem_eq_zero_of_no_sems (by decide) r.2⟩

/-- The sample batch's gated rows and value rows of the spatial gating: the kernel and the reference end with the same results at exact values. -/
theorem sgu_s_value : @Cert.algebraic_SguSIdeal_SguSRefIdeal Cert.SguSIdeal.Gen.facts Cert.SguSRefIdeal.Gen.facts := by
  pair_intro
  · run_from Cert.SguSIdeal.Gen.run_main m g
  · refine θ_run_mono (Cert.SguSRefIdeal.Value.run m' g') fun r hr c => ?_
    obtain ⟨h0, h1, ha⟩ := hr c
    obtain ⟨e0, e1, e2, e3, e4⟩ := hagree c
    refine ⟨?_, ?_, ha⟩
    · have f : r.2.mem ((c.tc : Thread Cert.SguSRefIdeal.nD Cert.SguSRefIdeal.τ).loc Cert.SguSRefIdeal.main_v69)
          = Cert.SguSRefIdeal.Spec.gated (m' ((c.tc : Thread Cert.SguSRefIdeal.nD Cert.SguSRefIdeal.τ).loc Cert.SguSRefIdeal.main_arg0)) (m' ((c.tc : Thread Cert.SguSRefIdeal.nD Cert.SguSRefIdeal.τ).loc Cert.SguSRefIdeal.main_arg1))
              (m' ((c.tc : Thread Cert.SguSRefIdeal.nD Cert.SguSRefIdeal.τ).loc Cert.SguSRefIdeal.main_arg2)) (m' ((c.tc : Thread Cert.SguSRefIdeal.nD Cert.SguSRefIdeal.τ).loc Cert.SguSRefIdeal.main_arg3)) (m' ((c.tc : Thread Cert.SguSRefIdeal.nD Cert.SguSRefIdeal.τ).loc Cert.SguSRefIdeal.main_arg4)) := h0
      refine f.trans ?_
      rw [e0, e1, e2, e3, e4]
      exact (Cert.SguSIdeal.Value.final6 m c).symm
    · have f : r.2.mem ((c.tc : Thread Cert.SguSRefIdeal.nD Cert.SguSRefIdeal.τ).loc Cert.SguSRefIdeal.main_v51)
          = Cert.SguSRefIdeal.Spec.rows (m' ((c.tc : Thread Cert.SguSRefIdeal.nD Cert.SguSRefIdeal.τ).loc Cert.SguSRefIdeal.main_arg0)) (m' ((c.tc : Thread Cert.SguSRefIdeal.nD Cert.SguSRefIdeal.τ).loc Cert.SguSRefIdeal.main_arg1)) (m' ((c.tc : Thread Cert.SguSRefIdeal.nD Cert.SguSRefIdeal.τ).loc Cert.SguSRefIdeal.main_arg2)) := h1
      refine f.trans ?_
      rw [e0, e1, e2]
      exact (Cert.SguSIdeal.Value.final7 m c).symm

/-- The sample batch's gated rows and value rows of the spatial gating: the kernel in floating point runs and leaves its arguments and every semaphore as they were. -/
theorem sgu_s_frame : @Cert.quiescent_SguS Cert.SguS.Gen.facts := fun m g _ => Cert.SguS.Gen.frame m g

/-- The sample batch's value rows of the spatial gating: so does the kernel at exact values, -/
theorem sgu_s_ideal_frame : @Cert.quiescent_SguSIdeal Cert.SguSIdeal.Gen.facts := fun m g _ => Cert.SguSIdeal.Gen.frame m g

/-- and so does the reference. -/
theorem sgu_s_ref_frame : @Cert.quiescent_SguSRefIdeal Cert.SguSRefIdeal.Gen.facts := by
  intro m g _
  exact θ_run_mono (Cert.SguSRefIdeal.Value.run m g) fun r h =>
    ⟨fun c => (h c).2.2, sem_eq_zero_of_no_sems (by decide) r.2⟩

/-- The sample batch's up projection with its convolution and gate: the kernel and the reference end with the same results at exact values. -/
theorem up_s_value : @Cert.algebraic_UpSIdeal_UpSRefIdeal Cert.UpSIdeal.Gen.facts Cert.UpSRefIdeal.Gen.facts := by
  pair_intro
  · run_from Cert.UpSIdeal.Gen.run_main m g
    · exact Cert.UpSIdeal.Gen.W_main_arg5 m _ c
    · exact Cert.UpSIdeal.Gen.W_main_arg6 m _ c
  · refine θ_run_mono (Cert.UpSRefIdeal.Spec.run_spec m' g') fun r hr c => ?_
    obtain ⟨h0, h1, ha⟩ := hr c
    obtain ⟨e0, e1, e2, e3, e4, e5, e6⟩ := hagree c
    refine ⟨?_, ?_, ha⟩
    · refine h0.trans ?_
      rw [e0, e1, e2, e3, e4, e5]
      exact (Cert.UpSIdeal.Value.final9 m c).symm
    · refine h1.trans ?_
      rw [e0, e1, e2, e3]
      exact (Cert.UpSIdeal.Value.finalTail m c).symm

/-- The sample batch's up projection with its convolution and gate: the kernel in floating point runs and leaves its arguments and every semaphore as they were. -/
theorem up_s_frame : @Cert.quiescent_UpS Cert.UpS.Gen.facts := fun m g _ => Cert.UpS.Gen.frame m g

/-- The sample batch's up projection with its convolution and gate: so does the kernel at exact values, -/
theorem up_s_ideal_frame : @Cert.quiescent_UpSIdeal Cert.UpSIdeal.Gen.facts := fun m g _ => Cert.UpSIdeal.Gen.frame m g

/-- and so does the reference. -/
theorem up_s_ref_frame : @Cert.quiescent_UpSRefIdeal Cert.UpSRefIdeal.Gen.facts := by
  intro m g _
  exact θ_run_mono (Cert.UpSRefIdeal.Value.run m g) fun r h =>
    ⟨fun c => (h c).2.2, sem_eq_zero_of_no_sems (by decide) r.2⟩

/-- The sample batch's gated mix: the kernel and the reference end with the same results at exact values. -/
theorem gate_s_value : @Cert.algebraic_GateSIdeal_GateSRefIdeal Cert.GateSIdeal.Gen.facts Cert.GateSRefIdeal.Gen.facts := by
  pair_intro
  · run_from Cert.GateSIdeal.Gen.run_main m g
  · refine θ_run_mono (Cert.GateSRefIdeal.Value.run m' g') fun r hr c => ?_
    obtain ⟨h0, ha⟩ := hr c
    obtain ⟨e0, e1, e2, e3, e4, e5, e6⟩ := hagree c
    refine ⟨?_, ha⟩
    have f : r.2.mem ((c.tc : Thread Cert.GateSRefIdeal.nD Cert.GateSRefIdeal.τ).loc Cert.GateSRefIdeal.main_v21) = Cert.GateSRefIdeal.Spec.mixed (m' ((c.tc : Thread Cert.GateSRefIdeal.nD Cert.GateSRefIdeal.τ).loc Cert.GateSRefIdeal.main_arg0)) (m' ((c.tc : Thread Cert.GateSRefIdeal.nD Cert.GateSRefIdeal.τ).loc Cert.GateSRefIdeal.main_arg1)) (m' ((c.tc : Thread Cert.GateSRefIdeal.nD Cert.GateSRefIdeal.τ).loc Cert.GateSRefIdeal.main_arg2)) (m' ((c.tc : Thread Cert.GateSRefIdeal.nD Cert.GateSRefIdeal.τ).loc Cert.GateSRefIdeal.main_arg3)) (m' ((c.tc : Thread Cert.GateSRefIdeal.nD Cert.GateSRefIdeal.τ).loc Cert.GateSRefIdeal.main_arg4)) (m' ((c.tc : Thread Cert.GateSRefIdeal.nD Cert.GateSRefIdeal.τ).loc Cert.GateSRefIdeal.main_arg5)) := by
      unfold Cert.GateSRefIdeal.Spec.mixed Cert.GateSRefIdeal.Spec.sigm Cert.GateSRefIdeal.Spec.cols Cert.GateSRefIdeal.Spec.brs Cert.GateSRefIdeal.Spec.stack
      exact h0
    refine f.trans ?_
    rw [e0, e1, e2, e3, e4, e5]
    exact (Cert.GateSIdeal.Value.final6 m c).symm

/-- The sample batch's gated mix: the kernel in floating point runs and leaves its arguments and every semaphore as they were. -/
theorem gate_s_frame : @Cert.quiescent_GateS Cert.GateS.Gen.facts := fun m g _ => Cert.GateS.Gen.frame m g

/-- The sample batch's gated mix: so does the kernel at exact values, -/
theorem gate_s_ideal_frame : @Cert.quiescent_GateSIdeal Cert.GateSIdeal.Gen.facts := fun m g _ => Cert.GateSIdeal.Gen.frame m g

/-- and so does the reference. -/
theorem gate_s_ref_frame : @Cert.quiescent_GateSRefIdeal Cert.GateSRefIdeal.Gen.facts := by
  intro m g _
  exact θ_run_mono (Cert.GateSRefIdeal.Value.run m g) fun r h =>
    ⟨fun c => (h c).2, sem_eq_zero_of_no_sems (by decide) r.2⟩

/-- The prompt's spatial gating: the kernel and the reference end with the same results at exact values. -/
theorem sgu_value : @Cert.algebraic_SguIdeal_SguRefIdeal Cert.SguIdeal.Gen.facts Cert.SguRefIdeal.Gen.facts := by
  pair_intro
  · run_from Cert.SguIdeal.Gen.run_main m g
  · refine θ_run_mono (Cert.SguRefIdeal.Value.run m' g') fun r hr c => ?_
    obtain ⟨h0, ha⟩ := hr c
    obtain ⟨e0, e1, e2, e3, e4⟩ := hagree c
    refine ⟨?_, ha⟩
    have f : r.2.mem ((c.tc : Thread Cert.SguRefIdeal.nD Cert.SguRefIdeal.τ).loc Cert.SguRefIdeal.main_v65) = Cert.SguRefIdeal.Spec.gated (m' ((c.tc : Thread Cert.SguRefIdeal.nD Cert.SguRefIdeal.τ).loc Cert.SguRefIdeal.main_arg0)) (m' ((c.tc : Thread Cert.SguRefIdeal.nD Cert.SguRefIdeal.τ).loc Cert.SguRefIdeal.main_arg1)) (m' ((c.tc : Thread Cert.SguRefIdeal.nD Cert.SguRefIdeal.τ).loc Cert.SguRefIdeal.main_arg2)) (m' ((c.tc : Thread Cert.SguRefIdeal.nD Cert.SguRefIdeal.τ).loc Cert.SguRefIdeal.main_arg3)) (m' ((c.tc : Thread Cert.SguRefIdeal.nD Cert.SguRefIdeal.τ).loc Cert.SguRefIdeal.main_arg4)) := h0
    refine f.trans ?_
    rw [e0, e1, e2, e3, e4]
    exact (Cert.SguIdeal.Value.final6 m c).symm

/-- The prompt's spatial gating: the kernel in floating point runs and leaves its arguments and every semaphore as they were. -/
theorem sgu_frame : @Cert.quiescent_Sgu Cert.Sgu.Gen.facts := fun m g _ => Cert.Sgu.Gen.frame m g

/-- The prompt's spatial gating: so does the kernel at exact values, -/
theorem sgu_ideal_frame : @Cert.quiescent_SguIdeal Cert.SguIdeal.Gen.facts := fun m g _ => Cert.SguIdeal.Gen.frame m g

/-- and so does the reference. -/
theorem sgu_ref_frame : @Cert.quiescent_SguRefIdeal Cert.SguRefIdeal.Gen.facts := by
  intro m g _
  exact θ_run_mono (Cert.SguRefIdeal.Value.run m g) fun r h =>
    ⟨fun c => (h c).2, sem_eq_zero_of_no_sems (by decide) r.2⟩

/-- Every claim. -/
theorem claim : Cert.Claim := ⟨Cert.Gate.Gen.facts, Cert.GateIdeal.Gen.facts, Cert.GateRefIdeal.Gen.facts, Cert.Xattn.Gen.facts, Cert.XattnIdeal.Gen.facts, Cert.XattnRefIdeal.Gen.facts, Cert.Win.Gen.facts, Cert.WinIdeal.Gen.facts, Cert.WinRefIdeal.Gen.facts, Cert.Wout.Gen.facts, Cert.WoutIdeal.Gen.facts, Cert.WoutRefIdeal.Gen.facts, Cert.Up.Gen.facts, Cert.UpIdeal.Gen.facts, Cert.UpRefIdeal.Gen.facts, Cert.Down.Gen.facts, Cert.DownIdeal.Gen.facts, Cert.DownRefIdeal.Gen.facts, Cert.Memkv.Gen.facts, Cert.MemkvIdeal.Gen.facts, Cert.MemkvRefIdeal.Gen.facts, Cert.Norm.Gen.facts, Cert.NormIdeal.Gen.facts, Cert.NormRefIdeal.Gen.facts, Cert.NormS.Gen.facts, Cert.NormSIdeal.Gen.facts, Cert.NormSRefIdeal.Gen.facts, Cert.WinS.Gen.facts, Cert.WinSIdeal.Gen.facts, Cert.WinSRefIdeal.Gen.facts, Cert.WoutS.Gen.facts, Cert.WoutSIdeal.Gen.facts, Cert.WoutSRefIdeal.Gen.facts, Cert.DownS.Gen.facts, Cert.DownSIdeal.Gen.facts, Cert.DownSRefIdeal.Gen.facts, Cert.SguS.Gen.facts, Cert.SguSIdeal.Gen.facts, Cert.SguSRefIdeal.Gen.facts, Cert.UpS.Gen.facts, Cert.UpSIdeal.Gen.facts, Cert.UpSRefIdeal.Gen.facts, Cert.GateS.Gen.facts, Cert.GateSIdeal.Gen.facts, Cert.GateSRefIdeal.Gen.facts, Cert.Sgu.Gen.facts, Cert.SguIdeal.Gen.facts, Cert.SguRefIdeal.Gen.facts,
  gate_frame, gate_ideal_frame, gate_ref_frame, xattn_frame, xattn_ideal_frame, xattn_ref_frame, win_frame, win_ideal_frame, win_ref_frame, wout_frame, wout_ideal_frame, wout_ref_frame, up_frame, up_ideal_frame, up_ref_frame, down_frame, down_ideal_frame, down_ref_frame, memkv_frame, memkv_ideal_frame, memkv_ref_frame, norm_frame, norm_ideal_frame, norm_ref_frame, norm_s_frame, norm_s_ideal_frame, norm_s_ref_frame, win_s_frame, win_s_ideal_frame, win_s_ref_frame, wout_s_frame, wout_s_ideal_frame, wout_s_ref_frame, down_s_frame, down_s_ideal_frame, down_s_ref_frame, sgu_s_frame, sgu_s_ideal_frame, sgu_s_ref_frame, up_s_frame, up_s_ideal_frame, up_s_ref_frame, gate_s_frame, gate_s_ideal_frame, gate_s_ref_frame, sgu_frame, sgu_ideal_frame, sgu_ref_frame,
  trivial, gate_value, trivial, xattn_value, trivial, win_value, trivial, wout_value, trivial, up_value, trivial, down_value, trivial, memkv_value, trivial, norm_value, trivial, norm_s_value, trivial, win_s_value, trivial, wout_s_value, trivial, down_s_value, trivial, sgu_s_value, trivial, up_s_value, trivial, gate_s_value, trivial, sgu_value⟩

end Cert.Proof

end
